-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "unset" .f32 0x7149F2CA#32 ⊤
  ∧ IdealRules.named_const.Statement Cert.KernelIdeal.κ "masked" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2x1024x1024 : Shape := ⟨3, ![2, 1024, 1024]⟩
abbrev S1024x1024 : Shape := ⟨2, ![1024, 1024]⟩
abbrev S1024x64 : Shape := ⟨2, ![1024, 64]⟩
abbrev S64x1024 : Shape := ⟨2, ![64, 1024]⟩
abbrev S1024x16 : Shape := ⟨2, ![1024, 16]⟩
abbrev S16 : Shape := ⟨1, ![16]⟩
abbrev S_ : Shape := ⟨0, ![]⟩

class Facts : Prop where
  bcast_S_S2x1024x1024 : S_.BroadcastsInDim S2x1024x1024 (![] : Fin 0 → Fin S2x1024x1024.rank)
  bcast_S_S1024x1024 : S_.BroadcastsInDim S1024x1024 (![] : Fin 0 → Fin S1024x1024.rank)
  bcast_S_S1024x64 : S_.BroadcastsInDim S1024x64 (![] : Fin 0 → Fin S1024x64.rank)
  bcast_S_S64x1024 : S_.BroadcastsInDim S64x1024 (![] : Fin 0 → Fin S64x1024.rank)
  bcast_S_S1024x16 : S_.BroadcastsInDim S1024x16 (![] : Fin 0 → Fin S1024x16.rank)
  bcast_S_S16 : S_.BroadcastsInDim S16 (![] : Fin 0 → Fin S16.rank)

variable [Facts]

def fn_part1 {F : FTy → Type} [FloatOps F] (main_arg6 : FVec F S64x1024 .f32) (main_arg7 : FVec F S1024x16 .f32) (main_arg8 : FVec F S1024x16 .f32) (main_arg9 : FVec F S16 .f32) (main_v2 : IVec S2x1024x1024 1) (main_v5 : IVec S1024x1024 1) (main_v8 : IVec S1024x1024 1) (main_v11 : IVec S1024x1024 1) (main_v14 : IVec S1024x1024 1) (main_v17 : IVec S1024x64 1) : IVec S2x1024x1024 1 × IVec S1024x1024 1 × IVec S1024x1024 1 × IVec S1024x1024 1 × IVec S1024x1024 1 × IVec S1024x64 1 × IVec S64x1024 1 × IVec S1024x16 1 × IVec S1024x16 1 × IVec S16 1 :=
  let main_v18 : FVec F S64x1024 .f32 := Host.absf main_arg6
  let main_cst_5 : FVec F S_ .f32 := constant S_ .f32 0x7F800000#32
  let main_v19 : FVec F S64x1024 .f32 := broadcastInDim S64x1024 ![] bcast_S_S64x1024 main_cst_5
  let main_v20 : IVec S64x1024 1 := cmpf .olt main_v18 main_v19
  let main_v21 : FVec F S1024x16 .f32 := Host.absf main_arg7
  let main_cst_6 : FVec F S_ .f32 := constant S_ .f32 0x7F800000#32
  let main_v22 : FVec F S1024x16 .f32 := broadcastInDim S1024x16 ![] bcast_S_S1024x16 main_cst_6
  let main_v23 : IVec S1024x16 1 := cmpf .olt main_v21 main_v22
  let main_v24 : FVec F S1024x16 .f32 := Host.absf main_arg8
  let main_cst_7 : FVec F S_ .f32 := constant S_ .f32 0x7F800000#32
  let main_v25 : FVec F S1024x16 .f32 := broadcastInDim S1024x16 ![] bcast_S_S1024x16 main_cst_7
  let main_v26 : IVec S1024x16 1 := cmpf .olt main_v24 main_v25
  let main_v27 : FVec F S16 .f32 := Host.absf main_arg9
  let main_cst_8 : FVec F S_ .f32 := constant S_ .f32 0x7F800000#32
  let main_v28 : FVec F S16 .f32 := broadcastInDim S16 ![] bcast_S_S16 main_cst_8
  let main_v29 : IVec S16 1 := cmpf .olt main_v27 main_v28
  (main_v2, main_v5, main_v8, main_v11, main_v14, main_v17, main_v20, main_v23, main_v26, main_v29)

def fn {F : FTy → Type} [FloatOps F] (main_arg0 : FVec F S2x1024x1024 .f32) (main_arg1 : FVec F S1024x1024 .f32) (main_arg2 : FVec F S1024x1024 .f32) (main_arg3 : FVec F S1024x1024 .f32) (main_arg4 : FVec F S1024x1024 .f32) (main_arg5 : FVec F S1024x64 .f32) (main_arg6 : FVec F S64x1024 .f32) (main_arg7 : FVec F S1024x16 .f32) (main_arg8 : FVec F S1024x16 .f32) (main_arg9 : FVec F S16 .f32) : IVec S2x1024x1024 1 × IVec S1024x1024 1 × IVec S1024x1024 1 × IVec S1024x1024 1 × IVec S1024x1024 1 × IVec S1024x64 1 × IVec S64x1024 1 × IVec S1024x16 1 × IVec S1024x16 1 × IVec S16 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024x1024 .f32 := Host.absf main_arg4
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1024x64 .f32 := Host.absf main_arg5
  let main_cst_4 : FVec F S_ .f32 := constant S_ .f32 0x7F800000#32
  let main_v16 : FVec F S1024x64 .f32 := broadcastInDim S1024x64 ![] bcast_S_S1024x64 main_cst_4
  let main_v17 : IVec S1024x64 1 := cmpf .olt main_v15 main_v16
  fn_part1 (F := F) main_arg6 main_arg7 main_arg8 main_arg9 main_v2 main_v5 main_v8 main_v11 main_v14 main_v17
-- ==== Kernel.lean ====
abbrev S2x1024x1024 : Shape := ⟨3, ![2, 1024, 1024]⟩
abbrev S1024x1024 : Shape := ⟨2, ![1024, 1024]⟩
abbrev S1024x64 : Shape := ⟨2, ![1024, 64]⟩
abbrev S64x1024 : Shape := ⟨2, ![64, 1024]⟩
abbrev S1024x16 : Shape := ⟨2, ![1024, 16]⟩
abbrev S16 : Shape := ⟨1, ![16]⟩
abbrev S1024x3072 : Shape := ⟨2, ![1024, 3072]⟩
abbrev S1x16 : Shape := ⟨2, ![1, 16]⟩
abbrev S32x1024x64 : Shape := ⟨3, ![32, 1024, 64]⟩
abbrev S32x1024x65 : Shape := ⟨3, ![32, 1024, 65]⟩
abbrev S2x16x1x1024 : Shape := ⟨4, ![2, 16, 1, 1024]⟩
abbrev S1x128x1024 : Shape := ⟨3, ![1, 128, 1024]⟩
abbrev S16x128x64 : Shape := ⟨3, ![16, 128, 64]⟩
abbrev S16x128x65 : Shape := ⟨3, ![16, 128, 65]⟩
abbrev S1x16x1x128 : Shape := ⟨4, ![1, 16, 1, 128]⟩
abbrev S128x1024 : Shape := ⟨2, ![128, 1024]⟩
abbrev S128x3072 : Shape := ⟨2, ![128, 3072]⟩
abbrev S128x64 : Shape := ⟨2, ![128, 64]⟩
abbrev S128x16 : Shape := ⟨2, ![128, 16]⟩
abbrev S16x128 : Shape := ⟨2, ![16, 128]⟩
abbrev S1x128x64 : Shape := ⟨3, ![1, 128, 64]⟩
abbrev S128x1 : Shape := ⟨2, ![128, 1]⟩
abbrev S128x65 : Shape := ⟨2, ![128, 65]⟩
abbrev S1x128x65 : Shape := ⟨3, ![1, 128, 65]⟩
abbrev S128 : Shape := ⟨1, ![128]⟩
abbrev S32x8x128x128 : Shape := ⟨4, ![32, 8, 128, 128]⟩
abbrev S32x8x64x64 : Shape := ⟨4, ![32, 8, 64, 64]⟩
abbrev S8x128x64 : Shape := ⟨3, ![8, 128, 64]⟩
abbrev S1x8x1x128 : Shape := ⟨4, ![1, 8, 1, 128]⟩
abbrev S8x1x128x128 : Shape := ⟨4, ![8, 1, 128, 128]⟩
abbrev S8x1x64x64 : Shape := ⟨4, ![8, 1, 64, 64]⟩
abbrev S128x128 : Shape := ⟨2, ![128, 128]⟩
abbrev S64x64 : Shape := ⟨2, ![64, 64]⟩
abbrev S1x1x1x128 : Shape := ⟨4, ![1, 1, 1, 128]⟩
abbrev S1x128 : Shape := ⟨2, ![1, 128]⟩
abbrev S64x128 : Shape := ⟨2, ![64, 128]⟩
abbrev S1x1x128x128 : Shape := ⟨4, ![1, 1, 128, 128]⟩
abbrev S1x1x64x64 : Shape := ⟨4, ![1, 1, 64, 64]⟩
abbrev S2x16x8x128 : Shape := ⟨4, ![2, 16, 8, 128]⟩
abbrev S16x1x128x128 : Shape := ⟨4, ![16, 1, 128, 128]⟩
abbrev S16x1024x65 : Shape := ⟨3, ![16, 1024, 65]⟩
abbrev S16x1x64x64 : Shape := ⟨4, ![16, 1, 64, 64]⟩
abbrev S1x16x8x128 : Shape := ⟨4, ![1, 16, 8, 128]⟩
abbrev S16x8x128 : Shape := ⟨3, ![16, 8, 128]⟩
abbrev S16x1024x64 : Shape := ⟨3, ![16, 1024, 64]⟩
abbrev S8x8 : Shape := ⟨2, ![8, 8]⟩
abbrev S1x1x8x128 : Shape := ⟨4, ![1, 1, 8, 128]⟩
abbrev S8x128 : Shape := ⟨2, ![8, 128]⟩
abbrev S8x1 : Shape := ⟨2, ![8, 1]⟩
abbrev S1x8x128 : Shape := ⟨3, ![1, 8, 128]⟩
abbrev S1x1x128 : Shape := ⟨3, ![1, 1, 128]⟩
abbrev S1x1024x64 : Shape := ⟨3, ![1, 1024, 64]⟩
abbrev S1x1024x65 : Shape := ⟨3, ![1, 1024, 65]⟩
abbrev S1024x65 : Shape := ⟨2, ![1024, 65]⟩
abbrev S16x256x64 : Shape := ⟨3, ![16, 256, 64]⟩
abbrev S1x256x1024 : Shape := ⟨3, ![1, 256, 1024]⟩
abbrev S1x256x64 : Shape := ⟨3, ![1, 256, 64]⟩
abbrev S256x64 : Shape := ⟨2, ![256, 64]⟩
abbrev S256x1024 : Shape := ⟨2, ![256, 1024]⟩

abbrev nBuf : Space → Nat
  | .hbm => 25
  | .vmem => 58
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x64, .f32⟩
  | .hbm, ⟨6, _⟩ => ⟨S64x1024, .f32⟩
  | .hbm, ⟨7, _⟩ => ⟨S1024x16, .f32⟩
  | .hbm, ⟨8, _⟩ => ⟨S1024x16, .f32⟩
  | .hbm, ⟨9, _⟩ => ⟨S16, .f32⟩
  | .hbm, ⟨10, _⟩ => ⟨S1024x3072, .f32⟩
  | .hbm, ⟨11, _⟩ => ⟨S1x16, .f32⟩
  | .hbm, ⟨12, _⟩ => ⟨S32x1024x64, .f32⟩
  | .hbm, ⟨13, _⟩ => ⟨S32x1024x64, .f32⟩
  | .hbm, ⟨14, _⟩ => ⟨S32x1024x65, .f32⟩
  | .hbm, ⟨15, _⟩ => ⟨S32x1024x64, .f32⟩
  | .hbm, ⟨16, _⟩ => ⟨S2x16x1x1024, .f32⟩
  | .hbm, ⟨17, _⟩ => ⟨S2x16x1x1024, .f32⟩
  | .hbm, ⟨18, _⟩ => ⟨S32x1024x64, .f32⟩
  | .hbm, ⟨19, _⟩ => ⟨S32x1024x64, .f32⟩
  | .hbm, ⟨20, _⟩ => ⟨S32x8x128x128, .f32⟩
  | .hbm, ⟨21, _⟩ => ⟨S32x8x64x64, .f32⟩
  | .hbm, ⟨22, _⟩ => ⟨S2x16x8x128, .f32⟩
  | .hbm, ⟨23, _⟩ => ⟨S32x1024x64, .f32⟩
  | .hbm, ⟨24, _⟩ => ⟨S2x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S1024x3072, .f32⟩
  | .local _ .vmem, ⟨3, _⟩ => ⟨S1024x64, .f32⟩
  | .local _ .vmem, ⟨4, _⟩ => ⟨S64x1024, .f32⟩
  | .local _ .vmem, ⟨5, _⟩ => ⟨S1024x16, .f32⟩
  | .local _ .vmem, ⟨6, _⟩ => ⟨S1024x16, .f32⟩
  | .local _ .vmem, ⟨7, _⟩ => ⟨S1x16, .f32⟩
  | .local _ .vmem, ⟨8, _⟩ => ⟨S16x128x64, .f32⟩
  | .local _ .vmem, ⟨9, _⟩ => ⟨S16x128x64, .f32⟩
  | .local _ .vmem, ⟨10, _⟩ => ⟨S16x128x64, .f32⟩
  | .local _ .vmem, ⟨11, _⟩ => ⟨S16x128x64, .f32⟩
  | .local _ .vmem, ⟨12, _⟩ => ⟨S16x128x65, .f32⟩
  | .local _ .vmem, ⟨13, _⟩ => ⟨S16x128x65, .f32⟩
  | .local _ .vmem, ⟨14, _⟩ => ⟨S16x128x64, .f32⟩
  | .local _ .vmem, ⟨15, _⟩ => ⟨S16x128x64, .f32⟩
  | .local _ .vmem, ⟨16, _⟩ => ⟨S1x16x1x128, .f32⟩
  | .local _ .vmem, ⟨17, _⟩ => ⟨S1x16x1x128, .f32⟩
  | .local _ .vmem, ⟨18, _⟩ => ⟨S1x16x1x128, .f32⟩
  | .local _ .vmem, ⟨19, _⟩ => ⟨S1x16x1x128, .f32⟩
  | .local _ .vmem, ⟨20, _⟩ => ⟨S8x128x64, .f32⟩
  | .local _ .vmem, ⟨21, _⟩ => ⟨S8x128x64, .f32⟩
  | .local _ .vmem, ⟨22, _⟩ => ⟨S8x128x64, .f32⟩
  | .local _ .vmem, ⟨23, _⟩ => ⟨S8x128x64, .f32⟩
  | .local _ .vmem, ⟨24, _⟩ => ⟨S8x128x64, .f32⟩
  | .local _ .vmem, ⟨25, _⟩ => ⟨S8x128x64, .f32⟩
  | .local _ .vmem, ⟨26, _⟩ => ⟨S1x8x1x128, .f32⟩
  | .local _ .vmem, ⟨27, _⟩ => ⟨S1x8x1x128, .f32⟩
  | .local _ .vmem, ⟨28, _⟩ => ⟨S8x128x64, .f32⟩
  | .local _ .vmem, ⟨29, _⟩ => ⟨S8x128x64, .f32⟩
  | .local _ .vmem, ⟨30, _⟩ => ⟨S8x128x64, .f32⟩
  | .local _ .vmem, ⟨31, _⟩ => ⟨S8x128x64, .f32⟩
  | .local _ .vmem, ⟨32, _⟩ => ⟨S8x1x128x128, .f32⟩
  | .local _ .vmem, ⟨33, _⟩ => ⟨S8x1x128x128, .f32⟩
  | .local _ .vmem, ⟨34, _⟩ => ⟨S8x1x64x64, .f32⟩
  | .local _ .vmem, ⟨35, _⟩ => ⟨S8x1x64x64, .f32⟩
  | .local _ .vmem, ⟨36, _⟩ => ⟨S16x128x64, .f32⟩
  | .local _ .vmem, ⟨37, _⟩ => ⟨S16x128x64, .f32⟩
  | .local _ .vmem, ⟨38, _⟩ => ⟨S16x1x128x128, .f32⟩
  | .local _ .vmem, ⟨39, _⟩ => ⟨S16x1x128x128, .f32⟩
  | .local _ .vmem, ⟨40, _⟩ => ⟨S16x128x64, .f32⟩
  | .local _ .vmem, ⟨41, _⟩ => ⟨S16x128x64, .f32⟩
  | .local _ .vmem, ⟨42, _⟩ => ⟨S16x1024x65, .f32⟩
  | .local _ .vmem, ⟨43, _⟩ => ⟨S16x1024x65, .f32⟩
  | .local _ .vmem, ⟨44, _⟩ => ⟨S16x1x64x64, .f32⟩
  | .local _ .vmem, ⟨45, _⟩ => ⟨S16x1x64x64, .f32⟩
  | .local _ .vmem, ⟨46, _⟩ => ⟨S1x16x8x128, .f32⟩
  | .local _ .vmem, ⟨47, _⟩ => ⟨S1x16x8x128, .f32⟩
  | .local _ .vmem, ⟨48, _⟩ => ⟨S16x128x64, .f32⟩
  | .local _ .vmem, ⟨49, _⟩ => ⟨S16x128x64, .f32⟩
  | .local _ .vmem, ⟨50, _⟩ => ⟨S16x8x128, .f32⟩
  | .local _ .vmem, ⟨51, _⟩ => ⟨S16x8x128, .f32⟩
  | .local _ .vmem, ⟨52, _⟩ => ⟨S16x1024x64, .f32⟩
  | .local _ .vmem, ⟨53, _⟩ => ⟨S16x256x64, .f32⟩
  | .local _ .vmem, ⟨54, _⟩ => ⟨S16x256x64, .f32⟩
  | .local _ .vmem, ⟨55, _⟩ => ⟨S1024x1024, .f32⟩
  | .local _ .vmem, ⟨56, _⟩ => ⟨S1x256x1024, .f32⟩
  | .local _ .vmem, ⟨57, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v3_0 : Ref sig .tc := ⟨.hbm, 18, rfl⟩
abbrev main_v3_1 : Ref sig .tc := ⟨.hbm, 19, rfl⟩
abbrev main_v3_2 : Ref sig .tc := ⟨.hbm, 20, rfl⟩
abbrev main_v3_3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_scratch0 : Ref sig .tc := ⟨.vmem, 50, rfl⟩
abbrev cc2_scratch1 : Ref sig .tc := ⟨.vmem, 51, rfl⟩
abbrev cc2_scratch2 : Ref sig .tc := ⟨.vmem, 52, rfl⟩
abbrev cc3_stg0_0 : Ref sig .tc := ⟨.vmem, 53, rfl⟩
abbrev cc3_stg0_1 : Ref sig .tc := ⟨.vmem, 54, rfl⟩
abbrev cc3_stg1_0 : Ref sig .tc := ⟨.vmem, 55, rfl⟩
abbrev cc3_stg2_0 : Ref sig .tc := ⟨.vmem, 56, rfl⟩
abbrev cc3_stg2_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc3_sem0_0 : DmaSem sig := 50
abbrev cc3_sem0_1 : DmaSem sig := 51
abbrev cc3_sem1_0 : DmaSem sig := 52
abbrev cc3_sem2_0 : DmaSem sig := 53
abbrev cc3_sem2_1 : DmaSem sig := 54

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S16x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x128x65 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x16x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S8x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x8x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x1x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x1x64x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![2, 8], ![false, false]⟩

def k2_off1 (i : grid2.Coords) : Fin 3 → Nat :=
  let c0 : Index := 0#32
  let arg1 : BitVec 32 := BitVec.ofNat 32 (i 1).val
  let v6 : Index := Scalar.indexCast arg1
  let c0_1 : Index := 0#32
  ![0, v6.toNat, 0]
def k2_off2 (i : grid2.Coords) : Fin 3 → Nat :=
  let c1 : Index := 1#32
  let arg1 : BitVec 32 := BitVec.ofNat 32 (i 1).val
  let v9 : Index := Scalar.indexCast arg1
  let c0_2 : Index := 0#32
  ![1, v9.toNat, 0]
def k2_off3 (i : grid2.Coords) : Fin 3 → Nat :=
  let c2 : Index := 2#32
  let arg1 : BitVec 32 := BitVec.ofNat 32 (i 1).val
  let v12 : Index := Scalar.indexCast arg1
  let c0_3 : Index := 0#32
  ![2, v12.toNat, 0]
def k2_off4 (i : grid2.Coords) : Fin 3 → Nat :=
  let c3 : Index := 3#32
  let arg1 : BitVec 32 := BitVec.ofNat 32 (i 1).val
  let v15 : Index := Scalar.indexCast arg1
  let c0_4 : Index := 0#32
  ![3, v15.toNat, 0]
def k2_off5 (i : grid2.Coords) : Fin 3 → Nat :=
  let c4 : Index := 4#32
  let arg1 : BitVec 32 := BitVec.ofNat 32 (i 1).val
  let v18 : Index := Scalar.indexCast arg1
  let c0_5 : Index := 0#32
  ![4, v18.toNat, 0]
def k2_off6 (i : grid2.Coords) : Fin 3 → Nat :=
  let c5 : Index := 5#32
  let arg1 : BitVec 32 := BitVec.ofNat 32 (i 1).val
  let v21 : Index := Scalar.indexCast arg1
  let c0_6 : Index := 0#32
  ![5, v21.toNat, 0]
def k2_off7 (i : grid2.Coords) : Fin 3 → Nat :=
  let c6 : Index := 6#32
  let arg1 : BitVec 32 := BitVec.ofNat 32 (i 1).val
  let v24 : Index := Scalar.indexCast arg1
  let c0_7 : Index := 0#32
  ![6, v24.toNat, 0]
def k2_off8 (i : grid2.Coords) : Fin 3 → Nat :=
  let c7 : Index := 7#32
  let arg1 : BitVec 32 := BitVec.ofNat 32 (i 1).val
  let v27 : Index := Scalar.indexCast arg1
  let c0_8 : Index := 0#32
  ![7, v27.toNat, 0]
def k2_off9 (i : grid2.Coords) : Fin 3 → Nat :=
  let c8 : Index := 8#32
  let arg1 : BitVec 32 := BitVec.ofNat 32 (i 1).val
  let v30 : Index := Scalar.indexCast arg1
  let c0_9 : Index := 0#32
  ![8, v30.toNat, 0]
def k2_off10 (i : grid2.Coords) : Fin 3 → Nat :=
  let c9 : Index := 9#32
  let arg1 : BitVec 32 := BitVec.ofNat 32 (i 1).val
  let v33 : Index := Scalar.indexCast arg1
  let c0_10 : Index := 0#32
  ![9, v33.toNat, 0]
def k2_off11 (i : grid2.Coords) : Fin 3 → Nat :=
  let c10 : Index := 10#32
  let arg1 : BitVec 32 := BitVec.ofNat 32 (i 1).val
  let v36 : Index := Scalar.indexCast arg1
  let c0_11 : Index := 0#32
  ![10, v36.toNat, 0]
def k2_off12 (i : grid2.Coords) : Fin 3 → Nat :=
  let c11 : Index := 11#32
  let arg1 : BitVec 32 := BitVec.ofNat 32 (i 1).val
  let v39 : Index := Scalar.indexCast arg1
  let c0_12 : Index := 0#32
  ![11, v39.toNat, 0]
def k2_off13 (i : grid2.Coords) : Fin 3 → Nat :=
  let c12 : Index := 12#32
  let arg1 : BitVec 32 := BitVec.ofNat 32 (i 1).val
  let v42 : Index := Scalar.indexCast arg1
  let c0_13 : Index := 0#32
  ![12, v42.toNat, 0]
def k2_off14 (i : grid2.Coords) : Fin 3 → Nat :=
  let c13 : Index := 13#32
  let arg1 : BitVec 32 := BitVec.ofNat 32 (i 1).val
  let v45 : Index := Scalar.indexCast arg1
  let c0_14 : Index := 0#32
  ![13, v45.toNat, 0]
def k2_off15 (i : grid2.Coords) : Fin 3 → Nat :=
  let c14 : Index := 14#32
  let arg1 : BitVec 32 := BitVec.ofNat 32 (i 1).val
  let v48 : Index := Scalar.indexCast arg1
  let c0_15 : Index := 0#32
  ![14, v48.toNat, 0]
def k2_off16 (i : grid2.Coords) : Fin 3 → Nat :=
  let c15 : Index := 15#32
  let arg1 : BitVec 32 := BitVec.ofNat 32 (i 1).val
  let v51 : Index := Scalar.indexCast arg1
  let c0_16 : Index := 0#32
  ![15, v51.toNat, 0]
def k2_off17 (i : grid2.Coords) : Fin 3 → Nat :=
  let c0_736 : Index := 0#32
  let arg1 : BitVec 32 := BitVec.ofNat 32 (i 1).val
  let c128_i32 : BitVec 32 := 128#32
  let v2038 : BitVec 32 := Scalar.muli arg1 c128_i32
  let v2039 : Index := Scalar.indexCast v2038
  let c0_737 : Index := 0#32
  ![0, v2039.toNat, 0]
def k2_off18 (i : grid2.Coords) : Fin 3 → Nat :=
  let c1_739 : Index := 1#32
  let arg1 : BitVec 32 := BitVec.ofNat 32 (i 1).val
  let c128_i32_738 : BitVec 32 := 128#32
  let v2042 : BitVec 32 := Scalar.muli arg1 c128_i32_738
  let v2043 : Index := Scalar.indexCast v2042
  let c0_740 : Index := 0#32
  ![1, v2043.toNat, 0]
def k2_off19 (i : grid2.Coords) : Fin 3 → Nat :=
  let c2_742 : Index := 2#32
  let arg1 : BitVec 32 := BitVec.ofNat 32 (i 1).val
  let c128_i32_741 : BitVec 32 := 128#32
  let v2046 : BitVec 32 := Scalar.muli arg1 c128_i32_741
  let v2047 : Index := Scalar.indexCast v2046
  let c0_743 : Index := 0#32
  ![2, v2047.toNat, 0]
def k2_off20 (i : grid2.Coords) : Fin 3 → Nat :=
  let c3_745 : Index := 3#32
  let arg1 : BitVec 32 := BitVec.ofNat 32 (i 1).val
  let c128_i32_744 : BitVec 32 := 128#32
  let v2050 : BitVec 32 := Scalar.muli arg1 c128_i32_744
  let v2051 : Index := Scalar.indexCast v2050
  let c0_746 : Index := 0#32
  ![3, v2051.toNat, 0]
def k2_off21 (i : grid2.Coords) : Fin 3 → Nat :=
  let c4_748 : Index := 4#32
  let arg1 : BitVec 32 := BitVec.ofNat 32 (i 1).val
  let c128_i32_747 : BitVec 32 := 128#32
  let v2054 : BitVec 32 := Scalar.muli arg1 c128_i32_747
  let v2055 : Index := Scalar.indexCast v2054
  let c0_749 : Index := 0#32
  ![4, v2055.toNat, 0]
def k2_off22 (i : grid2.Coords) : Fin 3 → Nat :=
  let c5_751 : Index := 5#32
  let arg1 : BitVec 32 := BitVec.ofNat 32 (i 1).val
  let c128_i32_750 : BitVec 32 := 128#32
  let v2058 : BitVec 32 := Scalar.muli arg1 c128_i32_750
  let v2059 : Index := Scalar.indexCast v2058
  let c0_752 : Index := 0#32
  ![5, v2059.toNat, 0]
def k2_off23 (i : grid2.Coords) : Fin 3 → Nat :=
  let c6_754 : Index := 6#32
  let arg1 : BitVec 32 := BitVec.ofNat 32 (i 1).val
  let c128_i32_753 : BitVec 32 := 128#32
  let v2062 : BitVec 32 := Scalar.muli arg1 c128_i32_753
  let v2063 : Index := Scalar.indexCast v2062
  let c0_755 : Index := 0#32
  ![6, v2063.toNat, 0]
def k2_off24 (i : grid2.Coords) : Fin 3 → Nat :=
  let c7_757 : Index := 7#32
  let arg1 : BitVec 32 := BitVec.ofNat 32 (i 1).val
  let c128_i32_756 : BitVec 32 := 128#32
  let v2066 : BitVec 32 := Scalar.muli arg1 c128_i32_756
  let v2067 : Index := Scalar.indexCast v2066
  let c0_758 : Index := 0#32
  ![7, v2067.toNat, 0]
def k2_off25 (i : grid2.Coords) : Fin 3 → Nat :=
  let c8_760 : Index := 8#32
  let arg1 : BitVec 32 := BitVec.ofNat 32 (i 1).val
  let c128_i32_759 : BitVec 32 := 128#32
  let v2070 : BitVec 32 := Scalar.muli arg1 c128_i32_759
  let v2071 : Index := Scalar.indexCast v2070
  let c0_761 : Index := 0#32
  ![8, v2071.toNat, 0]
def k2_off26 (i : grid2.Coords) : Fin 3 → Nat :=
  let c9_763 : Index := 9#32
  let arg1 : BitVec 32 := BitVec.ofNat 32 (i 1).val
  let c128_i32_762 : BitVec 32 := 128#32
  let v2074 : BitVec 32 := Scalar.muli arg1 c128_i32_762
  let v2075 : Index := Scalar.indexCast v2074
  let c0_764 : Index := 0#32
  ![9, v2075.toNat, 0]
def k2_off27 (i : grid2.Coords) : Fin 3 → Nat :=
  let c10_766 : Index := 10#32
  let arg1 : BitVec 32 := BitVec.ofNat 32 (i 1).val
  let c128_i32_765 : BitVec 32 := 128#32
  let v2078 : BitVec 32 := Scalar.muli arg1 c128_i32_765
  let v2079 : Index := Scalar.indexCast v2078
  let c0_767 : Index := 0#32
  ![10, v2079.toNat, 0]
def k2_off28 (i : grid2.Coords) : Fin 3 → Nat :=
  let c11_769 : Index := 11#32
  let arg1 : BitVec 32 := BitVec.ofNat 32 (i 1).val
  let c128_i32_768 : BitVec 32 := 128#32
  let v2082 : BitVec 32 := Scalar.muli arg1 c128_i32_768
  let v2083 : Index := Scalar.indexCast v2082
  let c0_770 : Index := 0#32
  ![11, v2083.toNat, 0]
def k2_off29 (i : grid2.Coords) : Fin 3 → Nat :=
  let c12_772 : Index := 12#32
  let arg1 : BitVec 32 := BitVec.ofNat 32 (i 1).val
  let c128_i32_771 : BitVec 32 := 128#32
  let v2086 : BitVec 32 := Scalar.muli arg1 c128_i32_771
  let v2087 : Index := Scalar.indexCast v2086
  let c0_773 : Index := 0#32
  ![12, v2087.toNat, 0]
def k2_off30 (i : grid2.Coords) : Fin 3 → Nat :=
  let c13_775 : Index := 13#32
  let arg1 : BitVec 32 := BitVec.ofNat 32 (i 1).val
  let c128_i32_774 : BitVec 32 := 128#32
  let v2090 : BitVec 32 := Scalar.muli arg1 c128_i32_774
  let v2091 : Index := Scalar.indexCast v2090
  let c0_776 : Index := 0#32
  ![13, v2091.toNat, 0]
def k2_off31 (i : grid2.Coords) : Fin 3 → Nat :=
  let c14_778 : Index := 14#32
  let arg1 : BitVec 32 := BitVec.ofNat 32 (i 1).val
  let c128_i32_777 : BitVec 32 := 128#32
  let v2094 : BitVec 32 := Scalar.muli arg1 c128_i32_777
  let v2095 : Index := Scalar.indexCast v2094
  let c0_779 : Index := 0#32
  ![14, v2095.toNat, 0]
def k2_off32 (i : grid2.Coords) : Fin 3 → Nat :=
  let c15_781 : Index := 15#32
  let arg1 : BitVec 32 := BitVec.ofNat 32 (i 1).val
  let c128_i32_780 : BitVec 32 := 128#32
  let v2098 : BitVec 32 := Scalar.muli arg1 c128_i32_780
  let v2099 : Index := Scalar.indexCast v2098
  let c0_782 : Index := 0#32
  ![15, v2099.toNat, 0]
def k2_off33 (i : grid2.Coords) : Fin 3 → Nat :=
  let c0_1091 : Index := 0#32
  let arg1 : BitVec 32 := BitVec.ofNat 32 (i 1).val
  let c128_i32_1090 : BitVec 32 := 128#32
  let v2424 : BitVec 32 := Scalar.muli arg1 c128_i32_1090
  let v2425 : Index := Scalar.indexCast v2424
  let c0_1092 : Index := 0#32
  ![0, v2425.toNat, 0]
def k2_off34 (i : grid2.Coords) : Fin 3 → Nat :=
  let c1_1097 : Index := 1#32
  let arg1 : BitVec 32 := BitVec.ofNat 32 (i 1).val
  let c128_i32_1096 : BitVec 32 := 128#32
  let v2431 : BitVec 32 := Scalar.muli arg1 c128_i32_1096
  let v2432 : Index := Scalar.indexCast v2431
  let c0_1098 : Index := 0#32
  ![1, v2432.toNat, 0]
def k2_off35 (i : grid2.Coords) : Fin 3 → Nat :=
  let c2_1103 : Index := 2#32
  let arg1 : BitVec 32 := BitVec.ofNat 32 (i 1).val
  let c128_i32_1102 : BitVec 32 := 128#32
  let v2438 : BitVec 32 := Scalar.muli arg1 c128_i32_1102
  let v2439 : Index := Scalar.indexCast v2438
  let c0_1104 : Index := 0#32
  ![2, v2439.toNat, 0]
def k2_off36 (i : grid2.Coords) : Fin 3 → Nat :=
  let c3_1109 : Index := 3#32
  let arg1 : BitVec 32 := BitVec.ofNat 32 (i 1).val
  let c128_i32_1108 : BitVec 32 := 128#32
  let v2445 : BitVec 32 := Scalar.muli arg1 c128_i32_1108
  let v2446 : Index := Scalar.indexCast v2445
  let c0_1110 : Index := 0#32
  ![3, v2446.toNat, 0]
def k2_off37 (i : grid2.Coords) : Fin 3 → Nat :=
  let c4_1115 : Index := 4#32
  let arg1 : BitVec 32 := BitVec.ofNat 32 (i 1).val
  let c128_i32_1114 : BitVec 32 := 128#32
  let v2452 : BitVec 32 := Scalar.muli arg1 c128_i32_1114
  let v2453 : Index := Scalar.indexCast v2452
  let c0_1116 : Index := 0#32
  ![4, v2453.toNat, 0]
def k2_off38 (i : grid2.Coords) : Fin 3 → Nat :=
  let c5_1121 : Index := 5#32
  let arg1 : BitVec 32 := BitVec.ofNat 32 (i 1).val
  let c128_i32_1120 : BitVec 32 := 128#32
  let v2459 : BitVec 32 := Scalar.muli arg1 c128_i32_1120
  let v2460 : Index := Scalar.indexCast v2459
  let c0_1122 : Index := 0#32
  ![5, v2460.toNat, 0]
def k2_off39 (i : grid2.Coords) : Fin 3 → Nat :=
  let c6_1127 : Index := 6#32
  let arg1 : BitVec 32 := BitVec.ofNat 32 (i 1).val
  let c128_i32_1126 : BitVec 32 := 128#32
  let v2466 : BitVec 32 := Scalar.muli arg1 c128_i32_1126
  let v2467 : Index := Scalar.indexCast v2466
  let c0_1128 : Index := 0#32
  ![6, v2467.toNat, 0]
def k2_off40 (i : grid2.Coords) : Fin 3 → Nat :=
  let c7_1133 : Index := 7#32
  let arg1 : BitVec 32 := BitVec.ofNat 32 (i 1).val
  let c128_i32_1132 : BitVec 32 := 128#32
  let v2473 : BitVec 32 := Scalar.muli arg1 c128_i32_1132
  let v2474 : Index := Scalar.indexCast v2473
  let c0_1134 : Index := 0#32
  ![7, v2474.toNat, 0]
def k2_off41 (i : grid2.Coords) : Fin 3 → Nat :=
  let c8_1139 : Index := 8#32
  let arg1 : BitVec 32 := BitVec.ofNat 32 (i 1).val
  let c128_i32_1138 : BitVec 32 := 128#32
  let v2480 : BitVec 32 := Scalar.muli arg1 c128_i32_1138
  let v2481 : Index := Scalar.indexCast v2480
  let c0_1140 : Index := 0#32
  ![8, v2481.toNat, 0]
def k2_off42 (i : grid2.Coords) : Fin 3 → Nat :=
  let c9_1145 : Index := 9#32
  let arg1 : BitVec 32 := BitVec.ofNat 32 (i 1).val
  let c128_i32_1144 : BitVec 32 := 128#32
  let v2487 : BitVec 32 := Scalar.muli arg1 c128_i32_1144
  let v2488 : Index := Scalar.indexCast v2487
  let c0_1146 : Index := 0#32
  ![9, v2488.toNat, 0]
def k2_off43 (i : grid2.Coords) : Fin 3 → Nat :=
  let c10_1151 : Index := 10#32
  let arg1 : BitVec 32 := BitVec.ofNat 32 (i 1).val
  let c128_i32_1150 : BitVec 32 := 128#32
  let v2494 : BitVec 32 := Scalar.muli arg1 c128_i32_1150
  let v2495 : Index := Scalar.indexCast v2494
  let c0_1152 : Index := 0#32
  ![10, v2495.toNat, 0]
def k2_off44 (i : grid2.Coords) : Fin 3 → Nat :=
  let c11_1157 : Index := 11#32
  let arg1 : BitVec 32 := BitVec.ofNat 32 (i 1).val
  let c128_i32_1156 : BitVec 32 := 128#32
  let v2501 : BitVec 32 := Scalar.muli arg1 c128_i32_1156
  let v2502 : Index := Scalar.indexCast v2501
  let c0_1158 : Index := 0#32
  ![11, v2502.toNat, 0]
def k2_off45 (i : grid2.Coords) : Fin 3 → Nat :=
  let c12_1163 : Index := 12#32
  let arg1 : BitVec 32 := BitVec.ofNat 32 (i 1).val
  let c128_i32_1162 : BitVec 32 := 128#32
  let v2508 : BitVec 32 := Scalar.muli arg1 c128_i32_1162
  let v2509 : Index := Scalar.indexCast v2508
  let c0_1164 : Index := 0#32
  ![12, v2509.toNat, 0]
def k2_off46 (i : grid2.Coords) : Fin 3 → Nat :=
  let c13_1169 : Index := 13#32
  let arg1 : BitVec 32 := BitVec.ofNat 32 (i 1).val
  let c128_i32_1168 : BitVec 32 := 128#32
  let v2515 : BitVec 32 := Scalar.muli arg1 c128_i32_1168
  let v2516 : Index := Scalar.indexCast v2515
  let c0_1170 : Index := 0#32
  ![13, v2516.toNat, 0]
def k2_off47 (i : grid2.Coords) : Fin 3 → Nat :=
  let c14_1175 : Index := 14#32
  let arg1 : BitVec 32 := BitVec.ofNat 32 (i 1).val
  let c128_i32_1174 : BitVec 32 := 128#32
  let v2522 : BitVec 32 := Scalar.muli arg1 c128_i32_1174
  let v2523 : Index := Scalar.indexCast v2522
  let c0_1176 : Index := 0#32
  ![14, v2523.toNat, 0]
def k2_off48 (i : grid2.Coords) : Fin 3 → Nat :=
  let c15_1181 : Index := 15#32
  let arg1 : BitVec 32 := BitVec.ofNat 32 (i 1).val
  let c128_i32_1180 : BitVec 32 := 128#32
  let v2529 : BitVec 32 := Scalar.muli arg1 c128_i32_1180
  let v2530 : Index := Scalar.indexCast v2529
  let c0_1182 : Index := 0#32
  ![15, v2530.toNat, 0]
def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S16x128x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S16x1x128x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S16x128x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S16x1024x65 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S16x1x64x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1x16x8x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S16x128x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![2, 4], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S16x256x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== KernelIdeal.lean ====
variable {F : FTy → Type} [FloatOps F] [Named F]
def κ : String → Option EReal := fun
  | "masked" => some ⊥
  | "unset" => some ⊤
  | _ => none
-- ==== ReferenceIdeal.lean ====
abbrev S2x1024x1024 : Shape := ⟨3, ![2, 1024, 1024]⟩
abbrev S1024x1024 : Shape := ⟨2, ![1024, 1024]⟩
abbrev S1024x64 : Shape := ⟨2, ![1024, 64]⟩
abbrev S64x1024 : Shape := ⟨2, ![64, 1024]⟩
abbrev S1024x16 : Shape := ⟨2, ![1024, 16]⟩
abbrev S16 : Shape := ⟨1, ![16]⟩
abbrev S2x1024x16x64 : Shape := ⟨4, ![2, 1024, 16, 64]⟩
abbrev S2x1024x64 : Shape := ⟨3, ![2, 1024, 64]⟩
abbrev S_ : Shape := ⟨0, ![]⟩
abbrev S2x1024x16 : Shape := ⟨3, ![2, 1024, 16]⟩
abbrev S2x1024x16x1 : Shape := ⟨4, ![2, 1024, 16, 1]⟩
abbrev S1x1x16 : Shape := ⟨3, ![1, 1, 16]⟩
abbrev S2x16x1024 : Shape := ⟨3, ![2, 16, 1024]⟩
abbrev S2x16x1024x1024 : Shape := ⟨4, ![2, 16, 1024, 1024]⟩
abbrev S2x16x1x1024 : Shape := ⟨4, ![2, 16, 1, 1024]⟩
abbrev S2x16x1024x1 : Shape := ⟨4, ![2, 16, 1024, 1]⟩
abbrev S2x16x64x1024 : Shape := ⟨4, ![2, 16, 64, 1024]⟩

abbrev nBuf : Space → Nat
  | .hbm => 198
  | .vmem => 0
  | .smem => 0
  | _ => 0

abbrev hbmTy0_0 (i : Nat) : BufTy := match i % 128 with
  | 0 => ⟨S2x1024x1024, .f32⟩
  | 1 => ⟨S1024x1024, .f32⟩
  | 2 => ⟨S1024x1024, .f32⟩
  | 3 => ⟨S1024x1024, .f32⟩
  | 4 => ⟨S1024x1024, .f32⟩
  | 5 => ⟨S1024x64, .f32⟩
  | 6 => ⟨S64x1024, .f32⟩
  | 7 => ⟨S1024x16, .f32⟩
  | 8 => ⟨S1024x16, .f32⟩
  | 9 => ⟨S16, .f32⟩
  | 10 => ⟨S2x1024x1024, .f32⟩
  | 11 => ⟨S2x1024x16x64, .f32⟩
  | 12 => ⟨S2x1024x1024, .f32⟩
  | 13 => ⟨S2x1024x16x64, .f32⟩
  | 14 => ⟨S2x1024x1024, .f32⟩
  | 15 => ⟨S2x1024x16x64, .f32⟩
  | 16 => ⟨S2x1024x64, .f32⟩
  | 17 => ⟨S2x1024x1024, .f32⟩
  | 18 => ⟨S2x1024x16x64, .f32⟩
  | 19 => ⟨S2x1024x16x64, .f32⟩
  | 20 => ⟨S_, .f32⟩
  | 21 => ⟨S2x1024x16, .f32⟩
  | 22 => ⟨S2x1024x16x1, .f32⟩
  | 23 => ⟨S_, .f32⟩
  | 24 => ⟨S2x1024x16x1, .f32⟩
  | 25 => ⟨S2x1024x16x1, .f32⟩
  | 26 => ⟨S2x1024x16x1, .f32⟩
  | 27 => ⟨S2x1024x16x64, .f32⟩
  | 28 => ⟨S2x1024x16x64, .f32⟩
  | 29 => ⟨S2x1024x16, .f32⟩
  | 30 => ⟨S2x1024x16, .f32⟩
  | 31 => ⟨S2x1024x16, .f32⟩
  | 32 => ⟨S_, .f32⟩
  | 33 => ⟨S2x1024x16, .f32⟩
  | 34 => ⟨S2x1024x16, .f32⟩
  | 35 => ⟨S_, .f32⟩
  | 36 => ⟨S2x1024x16, .f32⟩
  | 37 => ⟨S2x1024x16, .f32⟩
  | 38 => ⟨S_, .f32⟩
  | 39 => ⟨S2x1024x16, .f32⟩
  | 40 => ⟨S2x1024x16, .f32⟩
  | 41 => ⟨S2x1024x16, .f32⟩
  | 42 => ⟨S1x1x16, .f32⟩
  | 43 => ⟨S2x1024x16, .f32⟩
  | 44 => ⟨S2x1024x16, .f32⟩
  | 45 => ⟨S2x1024x16, .f32⟩
  | 46 => ⟨S_, .f32⟩
  | 47 => ⟨S2x1024x16, .f32⟩
  | 48 => ⟨S2x1024x16, .f32⟩
  | 49 => ⟨S2x1024x16, .f32⟩
  | 50 => ⟨S2x1024x16, .f32⟩
  | 51 => ⟨S2x1024x16, .i1⟩
  | 52 => ⟨S2x1024x16, .f32⟩
  | 53 => ⟨S2x1024x16, .f32⟩
  | 54 => ⟨S2x1024x16, .f32⟩
  | 55 => ⟨S2x1024x16, .f32⟩
  | 56 => ⟨S2x1024x16, .f32⟩
  | 57 => ⟨S2x1024x16, .f32⟩
  | 58 => ⟨S2x1024x16, .f32⟩
  | 59 => ⟨S2x1024x16, .f32⟩
  | 60 => ⟨S2x1024x16, .f32⟩
  | 61 => ⟨S2x16x1024, .f32⟩
  | 62 => ⟨S2x16x1024x1024, .f32⟩
  | 63 => ⟨S1024x1024, .i32⟩
  | 64 => ⟨S_, .i32⟩
  | 65 => ⟨S1024x1024, .i32⟩
  | 66 => ⟨S1024x1024, .i32⟩
  | 67 => ⟨S1024x1024, .i32⟩
  | 68 => ⟨S1024x1024, .i1⟩
  | 69 => ⟨S2x16x1024x1024, .i1⟩
  | 70 => ⟨S_, .f32⟩
  | 71 => ⟨S2x16x1024x1024, .f32⟩
  | 72 => ⟨S2x16x1024x1024, .f32⟩
  | 73 => ⟨S2x16x1x1024, .f32⟩
  | 74 => ⟨S2x16x1024x1024, .f32⟩
  | 75 => ⟨S2x16x1024x1024, .f32⟩
  | 76 => ⟨S2x16x1024x1024, .f32⟩
  | 77 => ⟨S1024x1024, .i32⟩
  | 78 => ⟨S_, .i32⟩
  | 79 => ⟨S1024x1024, .i32⟩
  | 80 => ⟨S1024x1024, .i32⟩
  | 81 => ⟨S1024x1024, .i32⟩
  | 82 => ⟨S1024x1024, .i1⟩
  | 83 => ⟨S2x16x1024x1024, .i1⟩
  | 84 => ⟨S_, .f32⟩
  | 85 => ⟨S2x16x1024x1024, .f32⟩
  | 86 => ⟨S2x16x1024x1024, .f32⟩
  | 87 => ⟨S_, .f32⟩
  | 88 => ⟨S2x16x1024x1024, .f32⟩
  | 89 => ⟨S_, .i32⟩
  | 90 => ⟨S_, .i32⟩
  | 91 => ⟨S2x16x1024x1024, .f32⟩
  | 92 => ⟨S2x16x1024x1024, .f32⟩
  | 93 => ⟨S_, .i32⟩
  | 94 => ⟨S_, .i32⟩
  | 95 => ⟨S2x16x1024x1024, .f32⟩
  | 96 => ⟨S_, .i32⟩
  | 97 => ⟨S_, .i1⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S2x16x1x1024, .f32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S2x16x1x1024, .f32⟩
  | 120 => ⟨S2x16x1x1024, .f32⟩
  | 121 => ⟨S2x16x1x1024, .f32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S2x1024x1024, .f32⟩

abbrev hbmTy0_1 (i : Nat) : BufTy := match i % 128 with
  | 0 => ⟨S_, .i32⟩
  | 1 => ⟨S_, .i32⟩
  | 2 => ⟨S_, .i32⟩
  | 3 => ⟨S2x16x1024x1024, .f32⟩
  | 4 => ⟨S_, .i32⟩
  | 5 => ⟨S_, .i32⟩
  | 6 => ⟨S2x16x1024x1024, .f32⟩
  | 7 => ⟨S2x16x1x1024, .f32⟩
  | 8 => ⟨S2x16x1024x1024, .f32⟩
  | 9 => ⟨S2x16x1024x1024, .f32⟩
  | 10 => ⟨S1024x1024, .i32⟩
  | 11 => ⟨S_, .i32⟩
  | 12 => ⟨S1024x1024, .i32⟩
  | 13 => ⟨S1024x1024, .i32⟩
  | 14 => ⟨S1024x1024, .i32⟩
  | 15 => ⟨S1024x1024, .i1⟩
  | 16 => ⟨S2x16x1024x1024, .i1⟩
  | 17 => ⟨S_, .f32⟩
  | 18 => ⟨S2x16x1024x1024, .f32⟩
  | 19 => ⟨S2x16x1024x1024, .f32⟩
  | 20 => ⟨S2x16x1024x1024, .f32⟩
  | 21 => ⟨S2x16x1024x1024, .f32⟩
  | 22 => ⟨S2x16x1024x1024, .f32⟩
  | 23 => ⟨S2x16x1024, .f32⟩
  | 24 => ⟨S_, .f32⟩
  | 25 => ⟨S_, .f32⟩
  | 26 => ⟨S2x16x1024, .f32⟩
  | 27 => ⟨S_, .f32⟩
  | 28 => ⟨S2x16x1024x1024, .f32⟩
  | 29 => ⟨S2x16x1024x1024, .f32⟩
  | 30 => ⟨S2x16x1024x1, .f32⟩
  | 31 => ⟨S2x16x1024x1024, .f32⟩
  | 32 => ⟨S2x16x1024x1024, .f32⟩
  | 33 => ⟨S2x16x1x1024, .f32⟩
  | 34 => ⟨S2x16x1024x1024, .f32⟩
  | 35 => ⟨S2x16x1024x1024, .f32⟩
  | 36 => ⟨S_, .i1⟩
  | 37 => ⟨S1024x1024, .i1⟩
  | 38 => ⟨S1024x1024, .i32⟩
  | 39 => ⟨S_, .i32⟩
  | 40 => ⟨S1024x1024, .i32⟩
  | 41 => ⟨S1024x1024, .i32⟩
  | 42 => ⟨S1024x1024, .i32⟩
  | 43 => ⟨S1024x1024, .i1⟩
  | 44 => ⟨S_, .i1⟩
  | 45 => ⟨S1024x1024, .i1⟩
  | 46 => ⟨S1024x1024, .i1⟩
  | 47 => ⟨S_, .f32⟩
  | 48 => ⟨S_, .f32⟩
  | 49 => ⟨S2x16x1024x1024, .i1⟩
  | 50 => ⟨S2x16x1024x1024, .f32⟩
  | 51 => ⟨S2x16x1024x1024, .f32⟩
  | 52 => ⟨S_, .f32⟩
  | 53 => ⟨S2x16x1024, .f32⟩
  | 54 => ⟨S_, .f32⟩
  | 55 => ⟨S2x16x1024, .f32⟩
  | 56 => ⟨S2x16x1024, .f32⟩
  | 57 => ⟨S2x16x1024x1, .f32⟩
  | 58 => ⟨S2x16x1024x1024, .f32⟩
  | 59 => ⟨S2x16x1024x1024, .f32⟩
  | 60 => ⟨S2x16x1024x1024, .f32⟩
  | 61 => ⟨S_, .f32⟩
  | 62 => ⟨S2x16x1024, .f32⟩
  | 63 => ⟨S2x16x1024x1, .f32⟩
  | 64 => ⟨S2x16x1024x1024, .f32⟩
  | 65 => ⟨S2x16x1024x1024, .f32⟩
  | 66 => ⟨S2x16x64x1024, .f32⟩
  | 67 => ⟨S2x1024x16x64, .f32⟩
  | 68 => ⟨S2x1024x1024, .f32⟩
  | 69 => ⟨S2x1024x1024, .f32⟩
  | _ => ⟨S2x1024x1024, .f32⟩

abbrev hbmTy (i : Nat) : BufTy := match i / 128 with
  | 0 => hbmTy0_0 i
  | 1 => hbmTy0_1 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_v0 : Ref sig .tc := ⟨.hbm, 45, rfl⟩
abbrev main_call0_call0_cst : Ref sig .tc := ⟨.hbm, 46, rfl⟩
abbrev main_call0_call0_v0 : Ref sig .tc := ⟨.hbm, 47, rfl⟩
abbrev main_call0_call0_v1 : Ref sig .tc := ⟨.hbm, 48, rfl⟩
abbrev main_call0_call0_v2 : Ref sig .tc := ⟨.hbm, 49, rfl⟩
abbrev main_call0_call0_v3 : Ref sig .tc := ⟨.hbm, 50, rfl⟩
abbrev main_call0_call0_v4 : Ref sig .tc := ⟨.hbm, 51, rfl⟩
abbrev main_call0_call0_v5 : Ref sig .tc := ⟨.hbm, 52, rfl⟩
abbrev main_call0_call0_v6 : Ref sig .tc := ⟨.hbm, 53, rfl⟩
abbrev main_call0_call0_v7 : Ref sig .tc := ⟨.hbm, 54, rfl⟩
abbrev main_call0_call0_v8 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_v1 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call1_v0 : Ref sig .tc := ⟨.hbm, 63, rfl⟩
abbrev main_call1_c : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_cst : Ref sig .tc := ⟨.hbm, 70, rfl⟩
abbrev main_call1_v6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_call2_v0 : Ref sig .tc := ⟨.hbm, 77, rfl⟩
abbrev main_call2_c : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_cst : Ref sig .tc := ⟨.hbm, 84, rfl⟩
abbrev main_call2_v6 : Ref sig .tc := ⟨.hbm, 85, rfl⟩
abbrev main_v38 : Ref sig .tc := ⟨.hbm, 86, rfl⟩
abbrev main_cst_4 : Ref sig .tc := ⟨.hbm, 87, rfl⟩
abbrev main_v39 : Ref sig .tc := ⟨.hbm, 88, rfl⟩
abbrev main_c : Ref sig .tc := ⟨.hbm, 89, rfl⟩
abbrev main_c_5 : Ref sig .tc := ⟨.hbm, 90, rfl⟩
abbrev main_v40_0 : Ref sig .tc := ⟨.hbm, 91, rfl⟩
abbrev main_v40_1 : Ref sig .tc := ⟨.hbm, 92, rfl⟩
abbrev main_v40_2 : Ref sig .tc := ⟨.hbm, 93, rfl⟩
abbrev main_v40_3 : Ref sig .tc := ⟨.hbm, 94, rfl⟩
abbrev main_v40_4 : Ref sig .tc := ⟨.hbm, 95, rfl⟩
abbrev main_while0c_c_16 : Ref sig .tc := ⟨.hbm, 96, rfl⟩
abbrev main_while0c_v77 : Ref sig .tc := ⟨.hbm, 97, rfl⟩
abbrev main_while0b_c_16 : Ref sig .tc := ⟨.hbm, 98, rfl⟩
abbrev main_while0b_v77 : Ref sig .tc := ⟨.hbm, 99, rfl⟩
abbrev main_while0b_c_17 : Ref sig .tc := ⟨.hbm, 100, rfl⟩
abbrev main_while0b_v78 : Ref sig .tc := ⟨.hbm, 101, rfl⟩
abbrev main_while0b_v79 : Ref sig .tc := ⟨.hbm, 102, rfl⟩
abbrev main_while0b_c_18 : Ref sig .tc := ⟨.hbm, 103, rfl⟩
abbrev main_while0b_v80 : Ref sig .tc := ⟨.hbm, 104, rfl⟩
abbrev main_while0b_v81 : Ref sig .tc := ⟨.hbm, 105, rfl⟩
abbrev main_while0b_c_19 : Ref sig .tc := ⟨.hbm, 106, rfl⟩
abbrev main_while0b_c_20 : Ref sig .tc := ⟨.hbm, 107, rfl⟩
abbrev main_while0b_c_21 : Ref sig .tc := ⟨.hbm, 108, rfl⟩
abbrev main_while0b_v82 : Ref sig .tc := ⟨.hbm, 109, rfl⟩
abbrev main_while0b_c_22 : Ref sig .tc := ⟨.hbm, 110, rfl⟩
abbrev main_while0b_v83 : Ref sig .tc := ⟨.hbm, 111, rfl⟩
abbrev main_while0b_v84 : Ref sig .tc := ⟨.hbm, 112, rfl⟩
abbrev main_while0b_c_23 : Ref sig .tc := ⟨.hbm, 113, rfl⟩
abbrev main_while0b_v85 : Ref sig .tc := ⟨.hbm, 114, rfl⟩
abbrev main_while0b_v86 : Ref sig .tc := ⟨.hbm, 115, rfl⟩
abbrev main_while0b_c_24 : Ref sig .tc := ⟨.hbm, 116, rfl⟩
abbrev main_while0b_c_25 : Ref sig .tc := ⟨.hbm, 117, rfl⟩
abbrev main_while0b_c_26 : Ref sig .tc := ⟨.hbm, 118, rfl⟩
abbrev main_while0b_v87 : Ref sig .tc := ⟨.hbm, 119, rfl⟩
abbrev main_while0b_v88 : Ref sig .tc := ⟨.hbm, 120, rfl⟩
abbrev main_while0b_v89 : Ref sig .tc := ⟨.hbm, 121, rfl⟩
abbrev main_while0b_c_27 : Ref sig .tc := ⟨.hbm, 122, rfl⟩
abbrev main_while0b_v90 : Ref sig .tc := ⟨.hbm, 123, rfl⟩
abbrev main_while0b_v91 : Ref sig .tc := ⟨.hbm, 124, rfl⟩
abbrev main_while0b_c_28 : Ref sig .tc := ⟨.hbm, 125, rfl⟩
abbrev main_while0b_v92 : Ref sig .tc := ⟨.hbm, 126, rfl⟩
abbrev main_while0b_v93 : Ref sig .tc := ⟨.hbm, 127, rfl⟩
abbrev main_while0b_c_29 : Ref sig .tc := ⟨.hbm, 128, rfl⟩
abbrev main_while0b_c_30 : Ref sig .tc := ⟨.hbm, 129, rfl⟩
abbrev main_while0b_c_31 : Ref sig .tc := ⟨.hbm, 130, rfl⟩
abbrev main_while0b_v94 : Ref sig .tc := ⟨.hbm, 131, rfl⟩
abbrev main_while0b_c_32 : Ref sig .tc := ⟨.hbm, 132, rfl⟩
abbrev main_while0b_v95 : Ref sig .tc := ⟨.hbm, 133, rfl⟩
abbrev main_v41 : Ref sig .tc := ⟨.hbm, 134, rfl⟩
abbrev main_v42 : Ref sig .tc := ⟨.hbm, 135, rfl⟩
abbrev main_v43 : Ref sig .tc := ⟨.hbm, 136, rfl⟩
abbrev main_v44 : Ref sig .tc := ⟨.hbm, 137, rfl⟩
abbrev main_call3_v0 : Ref sig .tc := ⟨.hbm, 138, rfl⟩
abbrev main_call3_c : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_cst : Ref sig .tc := ⟨.hbm, 145, rfl⟩
abbrev main_call3_v6 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_call4_call0_cst : Ref sig .tc := ⟨.hbm, 152, rfl⟩
abbrev main_call4_call0_v0 : Ref sig .tc := ⟨.hbm, 153, rfl⟩
abbrev main_v50 : Ref sig .tc := ⟨.hbm, 154, rfl⟩
abbrev main_cst_6 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_c_7 : Ref sig .tc := ⟨.hbm, 164, rfl⟩
abbrev main_v59 : Ref sig .tc := ⟨.hbm, 165, rfl⟩
abbrev main_call5_v0 : Ref sig .tc := ⟨.hbm, 166, rfl⟩
abbrev main_call5_c : Ref sig .tc := ⟨.hbm, 167, rfl⟩
abbrev main_call5_v1 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_c_0 : Ref sig .tc := ⟨.hbm, 172, rfl⟩
abbrev main_call5_v5 : Ref sig .tc := ⟨.hbm, 173, rfl⟩
abbrev main_v60 : Ref sig .tc := ⟨.hbm, 174, rfl⟩
abbrev main_cst_8 : Ref sig .tc := ⟨.hbm, 175, rfl⟩
abbrev main_call6_v0 : Ref sig .tc := ⟨.hbm, 176, rfl⟩
abbrev main_call6_v1 : Ref sig .tc := ⟨.hbm, 177, rfl⟩
abbrev main_call6_v2 : Ref sig .tc := ⟨.hbm, 178, rfl⟩
abbrev main_v61 : Ref sig .tc := ⟨.hbm, 179, rfl⟩
abbrev main_cst_9 : Ref sig .tc := ⟨.hbm, 180, rfl⟩
abbrev main_v62 : Ref sig .tc := ⟨.hbm, 181, rfl⟩
abbrev main_cst_10 : Ref sig .tc := ⟨.hbm, 182, rfl⟩
abbrev main_v63 : Ref sig .tc := ⟨.hbm, 183, rfl⟩
abbrev main_v64 : Ref sig .tc := ⟨.hbm, 184, rfl⟩
abbrev main_v65 : Ref sig .tc := ⟨.hbm, 185, rfl⟩
abbrev main_v66 : Ref sig .tc := ⟨.hbm, 186, rfl⟩
abbrev main_v67 : Ref sig .tc := ⟨.hbm, 187, rfl⟩
abbrev main_v68 : Ref sig .tc := ⟨.hbm, 188, rfl⟩
abbrev main_cst_11 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩

abbrev nD : Nat := 1
abbrev τ : Topo := Topo.v7x

variable {F : FTy → Type} [FloatOps F]

abbrev main_while0_count : Scf.Loop 32 := ⟨0#32, 1024#32, 1#32⟩
-- ==== Proof.KI.R0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! REGION 0 of @main: custom_call 0. -/

/-! The windows' blocks. -/

/-- Window `w`'s block at point `t`. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! The body's accesses. -/

abbrev r0_0 : Rect S1x128x1024 := Rect.unit (s := S1x128x1024) ![0, 0, 0] S1x128x1024.size inb_S1x128x1024_S1x128x1024_0_0_0
abbrev r0_1 : Rect S1024x3072 := Rect.unit (s := S1024x3072) ![0, 0] S1024x3072.size inb_S1024x3072_S1024x3072_0_0
abbrev r0_2 : Rect S1024x64 := Rect.unit (s := S1024x64) ![0, 0] S1024x64.size inb_S1024x64_S1024x64_0_0
abbrev r0_3 : Rect S64x1024 := Rect.unit (s := S64x1024) ![0, 0] S64x1024.size inb_S64x1024_S64x1024_0_0
abbrev r0_4 : Rect S1024x16 := Rect.unit (s := S1024x16) ![0, 0] S1024x16.size inb_S1024x16_S1024x16_0_0
abbrev r0_5 : Rect S1x16 := Rect.unit (s := S1x16) ![0, 0] S1x16.size inb_S1x16_S1x16_0_0
abbrev r0_6 : Rect S1x16x1x128 := Rect.unit (s := S1x16x1x128) ![0, 0, 0, 0] S1x16x1x128.size inb_S1x16x1x128_S1x16x1x128_0_0_0_0
abbrev r0_7 : Rect S16x128x64 := Rect.unit (s := S16x128x64) ![0, 0, 0] S1x128x64.size inb_S16x128x64_S1x128x64_0_0_0
abbrev r0_8 : Rect S16x128x65 := Rect.unit (s := S16x128x65) ![0, 0, 0] S1x128x65.size inb_S16x128x65_S1x128x65_0_0_0
abbrev r0_9 : Rect S16x128x64 := Rect.unit (s := S16x128x64) ![1, 0, 0] S1x128x64.size inb_S16x128x64_S1x128x64_1_0_0
abbrev r0_10 : Rect S16x128x65 := Rect.unit (s := S16x128x65) ![1, 0, 0] S1x128x65.size inb_S16x128x65_S1x128x65_1_0_0
abbrev r0_11 : Rect S16x128x64 := Rect.unit (s := S16x128x64) ![2, 0, 0] S1x128x64.size inb_S16x128x64_S1x128x64_2_0_0
abbrev r0_12 : Rect S16x128x65 := Rect.unit (s := S16x128x65) ![2, 0, 0] S1x128x65.size inb_S16x128x65_S1x128x65_2_0_0
abbrev r0_13 : Rect S16x128x64 := Rect.unit (s := S16x128x64) ![3, 0, 0] S1x128x64.size inb_S16x128x64_S1x128x64_3_0_0
abbrev r0_14 : Rect S16x128x65 := Rect.unit (s := S16x128x65) ![3, 0, 0] S1x128x65.size inb_S16x128x65_S1x128x65_3_0_0
abbrev r0_15 : Rect S16x128x64 := Rect.unit (s := S16x128x64) ![4, 0, 0] S1x128x64.size inb_S16x128x64_S1x128x64_4_0_0
abbrev r0_16 : Rect S16x128x65 := Rect.unit (s := S16x128x65) ![4, 0, 0] S1x128x65.size inb_S16x128x65_S1x128x65_4_0_0
abbrev r0_17 : Rect S16x128x64 := Rect.unit (s := S16x128x64) ![5, 0, 0] S1x128x64.size inb_S16x128x64_S1x128x64_5_0_0
abbrev r0_18 : Rect S16x128x65 := Rect.unit (s := S16x128x65) ![5, 0, 0] S1x128x65.size inb_S16x128x65_S1x128x65_5_0_0
abbrev r0_19 : Rect S16x128x64 := Rect.unit (s := S16x128x64) ![6, 0, 0] S1x128x64.size inb_S16x128x64_S1x128x64_6_0_0
abbrev r0_20 : Rect S16x128x65 := Rect.unit (s := S16x128x65) ![6, 0, 0] S1x128x65.size inb_S16x128x65_S1x128x65_6_0_0
abbrev r0_21 : Rect S16x128x64 := Rect.unit (s := S16x128x64) ![7, 0, 0] S1x128x64.size inb_S16x128x64_S1x128x64_7_0_0
abbrev r0_22 : Rect S16x128x65 := Rect.unit (s := S16x128x65) ![7, 0, 0] S1x128x65.size inb_S16x128x65_S1x128x65_7_0_0
abbrev r0_23 : Rect S16x128x64 := Rect.unit (s := S16x128x64) ![8, 0, 0] S1x128x64.size inb_S16x128x64_S1x128x64_8_0_0
abbrev r0_24 : Rect S16x128x65 := Rect.unit (s := S16x128x65) ![8, 0, 0] S1x128x65.size inb_S16x128x65_S1x128x65_8_0_0
abbrev r0_25 : Rect S16x128x64 := Rect.unit (s := S16x128x64) ![9, 0, 0] S1x128x64.size inb_S16x128x64_S1x128x64_9_0_0
abbrev r0_26 : Rect S16x128x65 := Rect.unit (s := S16x128x65) ![9, 0, 0] S1x128x65.size inb_S16x128x65_S1x128x65_9_0_0
abbrev r0_27 : Rect S16x128x64 := Rect.unit (s := S16x128x64) ![10, 0, 0] S1x128x64.size inb_S16x128x64_S1x128x64_10_0_0
abbrev r0_28 : Rect S16x128x65 := Rect.unit (s := S16x128x65) ![10, 0, 0] S1x128x65.size inb_S16x128x65_S1x128x65_10_0_0
abbrev r0_29 : Rect S16x128x64 := Rect.unit (s := S16x128x64) ![11, 0, 0] S1x128x64.size inb_S16x128x64_S1x128x64_11_0_0
abbrev r0_30 : Rect S16x128x65 := Rect.unit (s := S16x128x65) ![11, 0, 0] S1x128x65.size inb_S16x128x65_S1x128x65_11_0_0
abbrev r0_31 : Rect S16x128x64 := Rect.unit (s := S16x128x64) ![12, 0, 0] S1x128x64.size inb_S16x128x64_S1x128x64_12_0_0
abbrev r0_32 : Rect S16x128x65 := Rect.unit (s := S16x128x65) ![12, 0, 0] S1x128x65.size inb_S16x128x65_S1x128x65_12_0_0
abbrev r0_33 : Rect S16x128x64 := Rect.unit (s := S16x128x64) ![13, 0, 0] S1x128x64.size inb_S16x128x64_S1x128x64_13_0_0
abbrev r0_34 : Rect S16x128x65 := Rect.unit (s := S16x128x65) ![13, 0, 0] S1x128x65.size inb_S16x128x65_S1x128x65_13_0_0
abbrev r0_35 : Rect S16x128x64 := Rect.unit (s := S16x128x64) ![14, 0, 0] S1x128x64.size inb_S16x128x64_S1x128x64_14_0_0
abbrev r0_36 : Rect S16x128x65 := Rect.unit (s := S16x128x65) ![14, 0, 0] S1x128x65.size inb_S16x128x65_S1x128x65_14_0_0
abbrev r0_37 : Rect S16x128x64 := Rect.unit (s := S16x128x64) ![15, 0, 0] S1x128x64.size inb_S16x128x64_S1x128x64_15_0_0
abbrev r0_38 : Rect S16x128x65 := Rect.unit (s := S16x128x65) ![15, 0, 0] S1x128x65.size inb_S16x128x65_S1x128x65_15_0_0

/-! What the body leaves in each output window's buffer. -/

/-! Values of the body that the stores' payloads. -/

def k0_pay89 (x0 : Vec F S1x128x1024 .f32) (x1 : Vec F S1024x3072 .f32) (x2 : Vec F S1024x64 .f32) (x3 : Vec F S64x1024 .f32) (x4 x5 : Vec F S1024x16 .f32) (x6 : Vec F S1x16 .f32) : FVec F S128x3072 .f32 :=
  k0_pay4 (View.ld x0 r0_0) (View.ld x1 r0_1) -- `v4`
def k0_pay90 (x0 : Vec F S1x128x1024 .f32) (x1 : Vec F S1024x3072 .f32) (x2 : Vec F S1024x64 .f32) (x3 : Vec F S64x1024 .f32) (x4 x5 : Vec F S1024x16 .f32) (x6 : Vec F S1x16 .f32) : FVec F S128x1024 .f32 :=
  k0_pay5 (View.ld x0 r0_0) (View.ld x2 r0_2) (View.ld x3 r0_3) -- `v8`

/-- Window 7's staging buffer after the body. -/
def out0_7 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S16x128x64 .f32 :=
  View.canon [⟨r0_37, k0_pay86 (k0_pay89 x0 x1 x2 x3 x4 x5 x6)⟩,
    ⟨r0_35, k0_pay82 (k0_pay89 x0 x1 x2 x3 x4 x5 x6)⟩,
    ⟨r0_33, k0_pay78 (k0_pay89 x0 x1 x2 x3 x4 x5 x6)⟩,
    ⟨r0_31, k0_pay72 (k0_pay89 x0 x1 x2 x3 x4 x5 x6)⟩,
    ⟨r0_29, k0_pay67 (k0_pay89 x0 x1 x2 x3 x4 x5 x6)⟩,
    ⟨r0_27, k0_pay63 (k0_pay89 x0 x1 x2 x3 x4 x5 x6)⟩,
    ⟨r0_25, k0_pay59 (k0_pay89 x0 x1 x2 x3 x4 x5 x6)⟩,
    ⟨r0_23, k0_pay53 (k0_pay89 x0 x1 x2 x3 x4 x5 x6)⟩,
    ⟨r0_21, k0_pay48 (k0_pay89 x0 x1 x2 x3 x4 x5 x6)⟩,
    ⟨r0_19, k0_pay44 (k0_pay89 x0 x1 x2 x3 x4 x5 x6)⟩,
    ⟨r0_17, k0_pay40 (k0_pay89 x0 x1 x2 x3 x4 x5 x6)⟩,
    ⟨r0_15, k0_pay34 (k0_pay89 x0 x1 x2 x3 x4 x5 x6)⟩,
    ⟨r0_13, k0_pay29 (k0_pay89 x0 x1 x2 x3 x4 x5 x6)⟩,
    ⟨r0_11, k0_pay25 (k0_pay89 x0 x1 x2 x3 x4 x5 x6)⟩,
    ⟨r0_9, k0_pay21 (k0_pay89 x0 x1 x2 x3 x4 x5 x6)⟩,
    ⟨r0_7, k0_pay15 (k0_pay89 x0 x1 x2 x3 x4 x5 x6)⟩]

/-- Its stores tile the buffer (checked by evaluation). -/
theorem cover0_7 (p0 p1 : Vec F S1x128x64 .f32) (p2 p3 : Vec F S1x128x64 .f32) (p4 p5 : Vec F S1x128x64 .f32) (p6 p7 : Vec F S1x128x64 .f32) (p8 p9 : Vec F S1x128x64 .f32) (p10 p11 : Vec F S1x128x64 .f32) (p12 p13 : Vec F S1x128x64 .f32) (p14 p15 : Vec F S1x128x64 .f32) (y : S16x128x64.Idx) :
    ∃ pc ∈ ([⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] : List (View.Piece (Elt F) S16x128x64 .f32)), y ∈ pc.1.set :=
  View.cover_of_tiled [⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] S1x128x64.size (by rfl) y

/-- Window 8's staging buffer after the body. -/
def out0_8 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S16x128x64 .f32 :=
  View.canon [⟨r0_37, k0_pay87 (k0_pay89 x0 x1 x2 x3 x4 x5 x6)⟩,
    ⟨r0_35, k0_pay83 (k0_pay89 x0 x1 x2 x3 x4 x5 x6)⟩,
    ⟨r0_33, k0_pay79 (k0_pay89 x0 x1 x2 x3 x4 x5 x6)⟩,
    ⟨r0_31, k0_pay73 (k0_pay89 x0 x1 x2 x3 x4 x5 x6)⟩,
    ⟨r0_29, k0_pay68 (k0_pay89 x0 x1 x2 x3 x4 x5 x6)⟩,
    ⟨r0_27, k0_pay64 (k0_pay89 x0 x1 x2 x3 x4 x5 x6)⟩,
    ⟨r0_25, k0_pay60 (k0_pay89 x0 x1 x2 x3 x4 x5 x6)⟩,
    ⟨r0_23, k0_pay54 (k0_pay89 x0 x1 x2 x3 x4 x5 x6)⟩,
    ⟨r0_21, k0_pay49 (k0_pay89 x0 x1 x2 x3 x4 x5 x6)⟩,
    ⟨r0_19, k0_pay45 (k0_pay89 x0 x1 x2 x3 x4 x5 x6)⟩,
    ⟨r0_17, k0_pay41 (k0_pay89 x0 x1 x2 x3 x4 x5 x6)⟩,
    ⟨r0_15, k0_pay35 (k0_pay89 x0 x1 x2 x3 x4 x5 x6)⟩,
    ⟨r0_13, k0_pay30 (k0_pay89 x0 x1 x2 x3 x4 x5 x6)⟩,
    ⟨r0_11, k0_pay26 (k0_pay89 x0 x1 x2 x3 x4 x5 x6)⟩,
    ⟨r0_9, k0_pay22 (k0_pay89 x0 x1 x2 x3 x4 x5 x6)⟩,
    ⟨r0_7, k0_pay16 (k0_pay89 x0 x1 x2 x3 x4 x5 x6)⟩]

/-- Its stores tile the buffer (checked by evaluation). -/
theorem cover0_8 (p0 p1 : Vec F S1x128x64 .f32) (p2 p3 : Vec F S1x128x64 .f32) (p4 p5 : Vec F S1x128x64 .f32) (p6 p7 : Vec F S1x128x64 .f32) (p8 p9 : Vec F S1x128x64 .f32) (p10 p11 : Vec F S1x128x64 .f32) (p12 p13 : Vec F S1x128x64 .f32) (p14 p15 : Vec F S1x128x64 .f32) (y : S16x128x64.Idx) :
    ∃ pc ∈ ([⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] : List (View.Piece (Elt F) S16x128x64 .f32)), y ∈ pc.1.set :=
  View.cover_of_tiled [⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] S1x128x64.size (by rfl) y

/-- Window 9's staging buffer after the body. -/
def out0_9 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S16x128x65 .f32 :=
  View.canon [⟨r0_38, k0_pay1 (k0_pay88 (k0_pay89 x0 x1 x2 x3 x4 x5 x6))⟩,
    ⟨r0_36, k0_pay84 (k0_pay89 x0 x1 x2 x3 x4 x5 x6)⟩,
    ⟨r0_34, k0_pay80 (k0_pay89 x0 x1 x2 x3 x4 x5 x6)⟩,
    ⟨r0_32, k0_pay74 (k0_pay89 x0 x1 x2 x3 x4 x5 x6)⟩,
    ⟨r0_30, k0_pay70 (k0_pay69 (k0_pay89 x0 x1 x2 x3 x4 x5 x6))⟩,
    ⟨r0_28, k0_pay65 (k0_pay89 x0 x1 x2 x3 x4 x5 x6)⟩,
    ⟨r0_26, k0_pay61 (k0_pay89 x0 x1 x2 x3 x4 x5 x6)⟩,
    ⟨r0_24, k0_pay55 (k0_pay89 x0 x1 x2 x3 x4 x5 x6)⟩,
    ⟨r0_22, k0_pay51 (k0_pay50 (k0_pay89 x0 x1 x2 x3 x4 x5 x6))⟩,
    ⟨r0_20, k0_pay46 (k0_pay89 x0 x1 x2 x3 x4 x5 x6)⟩,
    ⟨r0_18, k0_pay42 (k0_pay89 x0 x1 x2 x3 x4 x5 x6)⟩,
    ⟨r0_16, k0_pay36 (k0_pay89 x0 x1 x2 x3 x4 x5 x6)⟩,
    ⟨r0_14, k0_pay32 (k0_pay31 (k0_pay89 x0 x1 x2 x3 x4 x5 x6))⟩,
    ⟨r0_12, k0_pay27 (k0_pay89 x0 x1 x2 x3 x4 x5 x6)⟩,
    ⟨r0_10, k0_pay23 (k0_pay89 x0 x1 x2 x3 x4 x5 x6)⟩,
    ⟨r0_8, k0_pay17 (k0_pay89 x0 x1 x2 x3 x4 x5 x6)⟩]

/-- Its stores tile the buffer (checked by evaluation). -/
theorem cover0_9 (p0 p1 : Vec F S1x128x65 .f32) (p2 p3 : Vec F S1x128x65 .f32) (p4 p5 : Vec F S1x128x65 .f32) (p6 p7 : Vec F S1x128x65 .f32) (p8 p9 : Vec F S1x128x65 .f32) (p10 p11 : Vec F S1x128x65 .f32) (p12 p13 : Vec F S1x128x65 .f32) (p14 p15 : Vec F S1x128x65 .f32) (y : S16x128x65.Idx) :
    ∃ pc ∈ ([⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] : List (View.Piece (Elt F) S16x128x65 .f32)), y ∈ pc.1.set :=
  View.cover_of_tiled [⟨r0_38, p0⟩, ⟨r0_36, p1⟩, ⟨r0_34, p2⟩, ⟨r0_32, p3⟩, ⟨r0_30, p4⟩, ⟨r0_28, p5⟩, ⟨r0_26, p6⟩, ⟨r0_24, p7⟩, ⟨r0_22, p8⟩, ⟨r0_20, p9⟩, ⟨r0_18, p10⟩, ⟨r0_16, p11⟩, ⟨r0_14, p12⟩, ⟨r0_12, p13⟩, ⟨r0_10, p14⟩, ⟨r0_8, p15⟩] S1x128x65.size (by rfl) y

/-- Window 10's staging buffer after the body. -/
def out0_10 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S16x128x64 .f32 :=
  View.canon [⟨r0_37, k0_pay2 (k0_pay90 x0 x1 x2 x3 x4 x5 x6)⟩,
    ⟨r0_35, k0_pay85 (k0_pay90 x0 x1 x2 x3 x4 x5 x6)⟩,
    ⟨r0_33, k0_pay81 (k0_pay90 x0 x1 x2 x3 x4 x5 x6)⟩,
    ⟨r0_31, k0_pay77 (k0_pay75 (k0_pay90 x0 x1 x2 x3 x4 x5 x6)) (k0_pay76 (k0_pay90 x0 x1 x2 x3 x4 x5 x6))⟩,
    ⟨r0_29, k0_pay71 (k0_pay90 x0 x1 x2 x3 x4 x5 x6)⟩,
    ⟨r0_27, k0_pay66 (k0_pay90 x0 x1 x2 x3 x4 x5 x6)⟩,
    ⟨r0_25, k0_pay62 (k0_pay90 x0 x1 x2 x3 x4 x5 x6)⟩,
    ⟨r0_23, k0_pay58 (k0_pay56 (k0_pay90 x0 x1 x2 x3 x4 x5 x6)) (k0_pay57 (k0_pay90 x0 x1 x2 x3 x4 x5 x6))⟩,
    ⟨r0_21, k0_pay52 (k0_pay90 x0 x1 x2 x3 x4 x5 x6)⟩,
    ⟨r0_19, k0_pay47 (k0_pay90 x0 x1 x2 x3 x4 x5 x6)⟩,
    ⟨r0_17, k0_pay43 (k0_pay90 x0 x1 x2 x3 x4 x5 x6)⟩,
    ⟨r0_15, k0_pay39 (k0_pay37 (k0_pay90 x0 x1 x2 x3 x4 x5 x6)) (k0_pay38 (k0_pay90 x0 x1 x2 x3 x4 x5 x6))⟩,
    ⟨r0_13, k0_pay33 (k0_pay90 x0 x1 x2 x3 x4 x5 x6)⟩,
    ⟨r0_11, k0_pay28 (k0_pay90 x0 x1 x2 x3 x4 x5 x6)⟩,
    ⟨r0_9, k0_pay24 (k0_pay90 x0 x1 x2 x3 x4 x5 x6)⟩,
    ⟨r0_7, k0_pay20 (k0_pay18 (k0_pay90 x0 x1 x2 x3 x4 x5 x6)) (k0_pay19 (k0_pay90 x0 x1 x2 x3 x4 x5 x6))⟩]

/-- Its stores tile the buffer (checked by evaluation). -/
theorem cover0_10 (p0 p1 : Vec F S1x128x64 .f32) (p2 p3 : Vec F S1x128x64 .f32) (p4 p5 : Vec F S1x128x64 .f32) (p6 p7 : Vec F S1x128x64 .f32) (p8 p9 : Vec F S1x128x64 .f32) (p10 p11 : Vec F S1x128x64 .f32) (p12 p13 : Vec F S1x128x64 .f32) (p14 p15 : Vec F S1x128x64 .f32) (y : S16x128x64.Idx) :
    ∃ pc ∈ ([⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] : List (View.Piece (Elt F) S16x128x64 .f32)), y ∈ pc.1.set :=
  View.cover_of_tiled [⟨r0_37, p0⟩, ⟨r0_35, p1⟩, ⟨r0_33, p2⟩, ⟨r0_31, p3⟩, ⟨r0_29, p4⟩, ⟨r0_27, p5⟩, ⟨r0_25, p6⟩, ⟨r0_23, p7⟩, ⟨r0_21, p8⟩, ⟨r0_19, p9⟩, ⟨r0_17, p10⟩, ⟨r0_15, p11⟩, ⟨r0_13, p12⟩, ⟨r0_11, p13⟩, ⟨r0_9, p14⟩, ⟨r0_7, p15⟩] S1x128x64.size (by rfl) y

/-- Window 11's staging buffer after the body. -/
def out0_11 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S1x16x1x128 .f32 :=
  View.canon [⟨r0_6, k0_pay13 (k0_pay6 (View.ld x0 r0_0) (View.ld x4 r0_4))⟩]

/-- Its stores tile the buffer (checked by evaluation). -/
theorem cover0_11 (p0 : Vec F S1x16x1x128 .f32) (y : S1x16x1x128.Idx) :
    ∃ pc ∈ ([⟨r0_6, p0⟩] : List (View.Piece (Elt F) S1x16x1x128 .f32)), y ∈ pc.1.set :=
  View.cover_of_tiled [⟨r0_6, p0⟩] S1x16x1x128.size (by rfl) y

/-- Window 12's staging buffer after the body. -/
def out0_12 (x0 : Vec F S1x128x1024 .f32) (x1 : Vec F S1024x3072 .f32) (x2 : Vec F S1024x64 .f32) (x3 : Vec F S64x1024 .f32) (x4 x5 : Vec F S1024x16 .f32) (x6 : Vec F S1x16 .f32) : Vec F S1x16x1x128 .f32 :=
  View.canon [⟨r0_6, k0_pay14 (k0_pay8 (View.ld x0 r0_0) (View.ld x5 r0_4) (View.ld x6 r0_5)) (k0_pay10 (View.ld x0 r0_0) (View.ld x5 r0_4) (View.ld x6 r0_5)) (k0_pay11 (View.ld x0 r0_0) (View.ld x5 r0_4) (View.ld x6 r0_5)) (k0_pay12 (View.ld x0 r0_0) (View.ld x5 r0_4) (View.ld x6 r0_5))⟩]

/-- Its stores tile the buffer (checked by evaluation). -/
theorem cover0_12 (p0 : Vec F S1x16x1x128 .f32) (y : S1x16x1x128.Idx) :
    ∃ pc ∈ ([⟨r0_6, p0⟩] : List (View.Piece (Elt F) S1x16x1x128 .f32)), y ∈ pc.1.set :=
  View.cover_of_tiled [⟨r0_6, p0⟩] S1x16x1x128.size (by rfl) y

/-! The body's triple. -/

set_option maxHeartbeats 1000000 in
/-- The kernel body on whole staging memrefs. -/
theorem sound_kernel0 (c : Dev nD) (E : Set ℕ) (i : grid0.Coords) (arg2 : Memref sig .tc .vmem S1x128x1024 .f32) (harg2 : arg2.IsWhole) (arg3 : Memref sig .tc .vmem S1024x3072 .f32) (harg3 : arg3.IsWhole) (arg4 : Memref sig .tc .vmem S1024x64 .f32) (harg4 : arg4.IsWhole) (arg5 : Memref sig .tc .vmem S64x1024 .f32) (harg5 : arg5.IsWhole) (arg6 : Memref sig .tc .vmem S1024x16 .f32) (harg6 : arg6.IsWhole) (arg7 : Memref sig .tc .vmem S1024x16 .f32) (harg7 : arg7.IsWhole) (arg8 : Memref sig .tc .vmem S1x16 .f32) (harg8 : arg8.IsWhole) (arg9 : Memref sig .tc .vmem S16x128x64 .f32) (harg9 : arg9.IsWhole) (arg10 : Memref sig .tc .vmem S16x128x64 .f32) (harg10 : arg10.IsWhole) (arg11 : Memref sig .tc .vmem S16x128x65 .f32) (harg11 : arg11.IsWhole) (arg12 : Memref sig .tc .vmem S16x128x64 .f32) (harg12 : arg12.IsWhole) (arg13 : Memref sig .tc .vmem S1x16x1x128 .f32) (harg13 : arg13.IsWhole) (arg14 : Memref sig .tc .vmem S1x16x1x128 .f32) (harg14 : arg14.IsWhole)
    (x0 : Vec F S1x128x1024 .f32) (x1 : Vec F S1024x3072 .f32) (x2 : Vec F S1024x64 .f32) (x3 : Vec F S64x1024 .f32) (x4 x5 : Vec F S1024x16 .f32) (x6 : Vec F S1x16 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out0_7 x0 x1 x2 x3 x4 x5 x6) ∗ owns (c : Thread nD τ) arg10 fullShare (out0_8 x0 x1 x2 x3 x4 x5 x6) ∗ owns (c : Thread nD τ) arg11 fullShare (out0_9 x0 x1 x2 x3 x4 x5 x6) ∗ owns (c : Thread nD τ) arg12 fullShare (out0_10 x0 x1 x2 x3 x4 x5 x6) ∗ owns (c : Thread nD τ) arg13 fullShare (out0_11 x0 x1 x2 x3 x4 x5 x6) ∗ owns (c : Thread nD τ) arg14 fullShare (out0_12 x0 x1 x2 x3 x4 x5 x6)) -∗ K ⟨⟩))
      ⊢ wp frame (wpE (defs₀ (F := F)) Variants.none c none) E (cc0_path_proj i arg2 harg2 arg3 harg3 arg4 harg4 arg5 harg5 arg6 harg6 arg7 harg7 arg8 harg8 arg9 harg9 arg10 harg10 arg11 harg11 arg12 harg12 arg13 harg13 arg14 harg14) K := by
  simp only [cc0_path_proj_eq_skeleton]; unfold cc0_path_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _ _ _ _ _ _ _ _ _ _ _ _ _)).trans ?_
    rfl
  isplitl [H8]
  · iexists _; isplitr
    swap; · iexact H8
    ipureintro
    refine (View.read_writes_eq_canon _ _ _ (cover0_8 _ _ _ _ _ _ _ _ _ _ _ _ _ _ _ _)).trans ?_
    rfl
  isplitl [H9]
  · iexists _; isplitr
    swap; · iexact H9
    ipureintro
    refine (View.read_writes_eq_canon _ _ _ (cover0_9 _ _ _ _ _ _ _ _ _ _ _ _ _ _ _ _)).trans ?_
    rfl
  isplitl [H10]
  · iexists _; isplitr
    swap; · iexact H10
    ipureintro
    refine (View.read_writes_eq_canon _ _ _ (cover0_10 _ _ _ _ _ _ _ _ _ _ _ _ _ _ _ _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

/-! The pipeline's proof data. -/

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
    | ⟨8, _⟩ => out0_8 (iblk0 V c 0 t) (iblk0 V c 1 t) (iblk0 V c 2 t) (iblk0 V c 3 t) (iblk0 V c 4 t) (iblk0 V c 5 t) (iblk0 V c 6 t)
    | ⟨9, _⟩ => out0_9 (iblk0 V c 0 t) (iblk0 V c 1 t) (iblk0 V c 2 t) (iblk0 V c 3 t) (iblk0 V c 4 t) (iblk0 V c 5 t) (iblk0 V c 6 t)
    | ⟨10, _⟩ => out0_10 (iblk0 V c 0 t) (iblk0 V c 1 t) (iblk0 V c 2 t) (iblk0 V c 3 t) (iblk0 V c 4 t) (iblk0 V c 5 t) (iblk0 V c 6 t)
    | ⟨11, _⟩ => out0_11 (iblk0 V c 0 t) (iblk0 V c 1 t) (iblk0 V c 2 t) (iblk0 V c 3 t) (iblk0 V c 4 t) (iblk0 V c 5 t) (iblk0 V c 6 t)
    | ⟨12, _⟩ => out0_12 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! The body obligation, at a generic point. -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns.. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Frm

end
-- ==== Proof.KI.R1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! REGION 1 of @main: custom_call 1. -/

/-! The windows' blocks. -/

/-- Window `w`'s block at point `t`. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! The body's accesses. -/

abbrev r1_0 : Rect S8x128x64 := Rect.unit (s := S8x128x64) ![0, 0, 0] S1x128x64.size inb_S8x128x64_S1x128x64_0_0_0
abbrev r1_1 : Rect S8x128x64 := Rect.unit (s := S8x128x64) ![1, 0, 0] S1x128x64.size inb_S8x128x64_S1x128x64_1_0_0
abbrev r1_2 : Rect S8x128x64 := Rect.unit (s := S8x128x64) ![2, 0, 0] S1x128x64.size inb_S8x128x64_S1x128x64_2_0_0
abbrev r1_3 : Rect S8x128x64 := Rect.unit (s := S8x128x64) ![3, 0, 0] S1x128x64.size inb_S8x128x64_S1x128x64_3_0_0
abbrev r1_4 : Rect S8x128x64 := Rect.unit (s := S8x128x64) ![4, 0, 0] S1x128x64.size inb_S8x128x64_S1x128x64_4_0_0
abbrev r1_5 : Rect S8x128x64 := Rect.unit (s := S8x128x64) ![5, 0, 0] S1x128x64.size inb_S8x128x64_S1x128x64_5_0_0
abbrev r1_6 : Rect S8x128x64 := Rect.unit (s := S8x128x64) ![6, 0, 0] S1x128x64.size inb_S8x128x64_S1x128x64_6_0_0
abbrev r1_7 : Rect S8x128x64 := Rect.unit (s := S8x128x64) ![7, 0, 0] S1x128x64.size inb_S8x128x64_S1x128x64_7_0_0
abbrev r1_8 : Rect S1x8x1x128 := Rect.unit (s := S1x8x1x128) ![0, 0, 0, 0] S1x1x1x128.size inb_S1x8x1x128_S1x1x1x128_0_0_0_0
abbrev r1_9 : Rect S1x8x1x128 := Rect.unit (s := S1x8x1x128) ![0, 1, 0, 0] S1x1x1x128.size inb_S1x8x1x128_S1x1x1x128_0_1_0_0
abbrev r1_10 : Rect S1x8x1x128 := Rect.unit (s := S1x8x1x128) ![0, 2, 0, 0] S1x1x1x128.size inb_S1x8x1x128_S1x1x1x128_0_2_0_0
abbrev r1_11 : Rect S1x8x1x128 := Rect.unit (s := S1x8x1x128) ![0, 3, 0, 0] S1x1x1x128.size inb_S1x8x1x128_S1x1x1x128_0_3_0_0
abbrev r1_12 : Rect S1x8x1x128 := Rect.unit (s := S1x8x1x128) ![0, 4, 0, 0] S1x1x1x128.size inb_S1x8x1x128_S1x1x1x128_0_4_0_0
abbrev r1_13 : Rect S1x8x1x128 := Rect.unit (s := S1x8x1x128) ![0, 5, 0, 0] S1x1x1x128.size inb_S1x8x1x128_S1x1x1x128_0_5_0_0
abbrev r1_14 : Rect S1x8x1x128 := Rect.unit (s := S1x8x1x128) ![0, 6, 0, 0] S1x1x1x128.size inb_S1x8x1x128_S1x1x1x128_0_6_0_0
abbrev r1_15 : Rect S1x8x1x128 := Rect.unit (s := S1x8x1x128) ![0, 7, 0, 0] S1x1x1x128.size inb_S1x8x1x128_S1x1x1x128_0_7_0_0
abbrev r1_16 : Rect S8x1x128x128 := Rect.unit (s := S8x1x128x128) ![0, 0, 0, 0] S1x1x128x128.size inb_S8x1x128x128_S1x1x128x128_0_0_0_0
abbrev r1_17 : Rect S8x1x64x64 := Rect.unit (s := S8x1x64x64) ![0, 0, 0, 0] S1x1x64x64.size inb_S8x1x64x64_S1x1x64x64_0_0_0_0
abbrev r1_18 : Rect S8x1x128x128 := Rect.unit (s := S8x1x128x128) ![1, 0, 0, 0] S1x1x128x128.size inb_S8x1x128x128_S1x1x128x128_1_0_0_0
abbrev r1_19 : Rect S8x1x64x64 := Rect.unit (s := S8x1x64x64) ![1, 0, 0, 0] S1x1x64x64.size inb_S8x1x64x64_S1x1x64x64_1_0_0_0
abbrev r1_20 : Rect S8x1x128x128 := Rect.unit (s := S8x1x128x128) ![2, 0, 0, 0] S1x1x128x128.size inb_S8x1x128x128_S1x1x128x128_2_0_0_0
abbrev r1_21 : Rect S8x1x64x64 := Rect.unit (s := S8x1x64x64) ![2, 0, 0, 0] S1x1x64x64.size inb_S8x1x64x64_S1x1x64x64_2_0_0_0
abbrev r1_22 : Rect S8x1x128x128 := Rect.unit (s := S8x1x128x128) ![3, 0, 0, 0] S1x1x128x128.size inb_S8x1x128x128_S1x1x128x128_3_0_0_0
abbrev r1_23 : Rect S8x1x64x64 := Rect.unit (s := S8x1x64x64) ![3, 0, 0, 0] S1x1x64x64.size inb_S8x1x64x64_S1x1x64x64_3_0_0_0
abbrev r1_24 : Rect S8x1x128x128 := Rect.unit (s := S8x1x128x128) ![4, 0, 0, 0] S1x1x128x128.size inb_S8x1x128x128_S1x1x128x128_4_0_0_0
abbrev r1_25 : Rect S8x1x64x64 := Rect.unit (s := S8x1x64x64) ![4, 0, 0, 0] S1x1x64x64.size inb_S8x1x64x64_S1x1x64x64_4_0_0_0
abbrev r1_26 : Rect S8x1x128x128 := Rect.unit (s := S8x1x128x128) ![5, 0, 0, 0] S1x1x128x128.size inb_S8x1x128x128_S1x1x128x128_5_0_0_0
abbrev r1_27 : Rect S8x1x64x64 := Rect.unit (s := S8x1x64x64) ![5, 0, 0, 0] S1x1x64x64.size inb_S8x1x64x64_S1x1x64x64_5_0_0_0
abbrev r1_28 : Rect S8x1x128x128 := Rect.unit (s := S8x1x128x128) ![6, 0, 0, 0] S1x1x128x128.size inb_S8x1x128x128_S1x1x128x128_6_0_0_0
abbrev r1_29 : Rect S8x1x64x64 := Rect.unit (s := S8x1x64x64) ![6, 0, 0, 0] S1x1x64x64.size inb_S8x1x64x64_S1x1x64x64_6_0_0_0
abbrev r1_30 : Rect S8x1x128x128 := Rect.unit (s := S8x1x128x128) ![7, 0, 0, 0] S1x1x128x128.size inb_S8x1x128x128_S1x1x128x128_7_0_0_0
abbrev r1_31 : Rect S8x1x64x64 := Rect.unit (s := S8x1x64x64) ![7, 0, 0, 0] S1x1x64x64.size inb_S8x1x64x64_S1x1x64x64_7_0_0_0

/-! What the body leaves in each output window's buffer. -/

/-! Values of the body that the stores' payloads. -/

section Payloads
variable (x0 x1 x2 : Vec F S8x128x64 .f32) (x3 : Vec F S1x8x1x128 .f32)

def k1_pay360 (x0 x1 x2 : Vec F S8x128x64 .f32) (x3 : Vec F S1x8x1x128 .f32) : IVec S128x128 1 :=
  k1_pay4
def k1_pay361 (x0 x1 x2 : Vec F S8x128x64 .f32) (x3 : Vec F S1x8x1x128 .f32) : IVec S128x128 1 :=
  k1_pay5
def k1_pay362 (x0 x1 x2 : Vec F S8x128x64 .f32) (x3 : Vec F S1x8x1x128 .f32) : FVec F S128x128 .f32 :=
  k1_pay6 (F := F)
def k1_pay363 (x0 x1 x2 : Vec F S8x128x64 .f32) (x3 : Vec F S1x8x1x128 .f32) : FVec F S64x64 .f32 :=
  k1_pay7 (F := F)
def k1_pay364 (x0 x1 x2 : Vec F S8x128x64 .f32) (x3 : Vec F S1x8x1x128 .f32) : FVec F S128x64 .f32 :=
  k1_pay8 (View.ld x2 r1_0)
def k1_pay365 (x0 x1 x2 : Vec F S8x128x64 .f32) (x3 : Vec F S1x8x1x128 .f32) : FVec F S128x64 .f32 :=
  k1_pay9 (View.ld x2 r1_1)
def k1_pay366 (x0 x1 x2 : Vec F S8x128x64 .f32) (x3 : Vec F S1x8x1x128 .f32) : FVec F S128x64 .f32 :=
  k1_pay10 (View.ld x2 r1_2)
def k1_pay367 (x0 x1 x2 : Vec F S8x128x64 .f32) (x3 : Vec F S1x8x1x128 .f32) : FVec F S128x64 .f32 :=
  k1_pay11 (View.ld x2 r1_3)
def k1_pay368 (x0 x1 x2 : Vec F S8x128x64 .f32) (x3 : Vec F S1x8x1x128 .f32) : FVec F S128x64 .f32 :=
  k1_pay12 (View.ld x2 r1_4)
def k1_pay369 (x0 x1 x2 : Vec F S8x128x64 .f32) (x3 : Vec F S1x8x1x128 .f32) : FVec F S128x64 .f32 :=
  k1_pay13 (View.ld x2 r1_5)
def k1_pay370 (x0 x1 x2 : Vec F S8x128x64 .f32) (x3 : Vec F S1x8x1x128 .f32) : FVec F S128x64 .f32 :=
  k1_pay14 (View.ld x2 r1_6)
def k1_pay371 (x0 x1 x2 : Vec F S8x128x64 .f32) (x3 : Vec F S1x8x1x128 .f32) : FVec F S128x64 .f32 :=
  k1_pay15 (View.ld x2 r1_7)
def k1_pay372 (x0 x1 x2 : Vec F S8x128x64 .f32) (x3 : Vec F S1x8x1x128 .f32) : FVec F S128x64 .f32 :=
  k1_pay16 (View.ld x1 r1_0)
def k1_pay373 (x0 x1 x2 : Vec F S8x128x64 .f32) (x3 : Vec F S1x8x1x128 .f32) : FVec F S128x64 .f32 :=
  k1_pay17 (View.ld x1 r1_1)
def k1_pay374 (x0 x1 x2 : Vec F S8x128x64 .f32) (x3 : Vec F S1x8x1x128 .f32) : FVec F S128x64 .f32 :=
  k1_pay18 (View.ld x1 r1_2)
def k1_pay375 (x0 x1 x2 : Vec F S8x128x64 .f32) (x3 : Vec F S1x8x1x128 .f32) : FVec F S128x64 .f32 :=
  k1_pay19 (View.ld x1 r1_3)
def k1_pay376 (x0 x1 x2 : Vec F S8x128x64 .f32) (x3 : Vec F S1x8x1x128 .f32) : FVec F S128x64 .f32 :=
  k1_pay20 (View.ld x1 r1_4)
def k1_pay377 (x0 x1 x2 : Vec F S8x128x64 .f32) (x3 : Vec F S1x8x1x128 .f32) : FVec F S128x64 .f32 :=
  k1_pay21 (View.ld x1 r1_5)
def k1_pay378 (x0 x1 x2 : Vec F S8x128x64 .f32) (x3 : Vec F S1x8x1x128 .f32) : FVec F S128x64 .f32 :=
  k1_pay22 (View.ld x1 r1_6)
def k1_pay379 (x0 x1 x2 : Vec F S8x128x64 .f32) (x3 : Vec F S1x8x1x128 .f32) : FVec F S128x64 .f32 :=
  k1_pay23 (View.ld x1 r1_7)
def k1_pay380 (x0 x1 x2 : Vec F S8x128x64 .f32) (x3 : Vec F S1x8x1x128 .f32) : FVec F S128x64 .f32 :=
  k1_pay24 (View.ld x0 r1_0)
def k1_pay381 (x0 x1 x2 : Vec F S8x128x64 .f32) (x3 : Vec F S1x8x1x128 .f32) : FVec F S128x64 .f32 :=
  k1_pay25 (View.ld x0 r1_1)
def k1_pay382 (x0 x1 x2 : Vec F S8x128x64 .f32) (x3 : Vec F S1x8x1x128 .f32) : FVec F S128x64 .f32 :=
  k1_pay26 (View.ld x0 r1_2)
def k1_pay383 (x0 x1 x2 : Vec F S8x128x64 .f32) (x3 : Vec F S1x8x1x128 .f32) : FVec F S128x64 .f32 :=
  k1_pay27 (View.ld x0 r1_3)
def k1_pay384 (x0 x1 x2 : Vec F S8x128x64 .f32) (x3 : Vec F S1x8x1x128 .f32) : FVec F S128x64 .f32 :=
  k1_pay28 (View.ld x0 r1_4)
def k1_pay385 (x0 x1 x2 : Vec F S8x128x64 .f32) (x3 : Vec F S1x8x1x128 .f32) : FVec F S128x64 .f32 :=
  k1_pay29 (View.ld x0 r1_5)
def k1_pay386 (x0 x1 x2 : Vec F S8x128x64 .f32) (x3 : Vec F S1x8x1x128 .f32) : FVec F S128x64 .f32 :=
  k1_pay30 (View.ld x0 r1_6)
def k1_pay387 (x0 x1 x2 : Vec F S8x128x64 .f32) (x3 : Vec F S1x8x1x128 .f32) : FVec F S128x64 .f32 :=
  k1_pay31 (View.ld x0 r1_7)
def k1_pay388 (x0 x1 x2 : Vec F S8x128x64 .f32) (x3 : Vec F S1x8x1x128 .f32) : FVec F S1x128 .f32 :=
  k1_pay32 (View.ld x3 r1_8)
def k1_pay389 (x0 x1 x2 : Vec F S8x128x64 .f32) (x3 : Vec F S1x8x1x128 .f32) : FVec F S1x128 .f32 :=
  k1_pay33 (View.ld x3 r1_9)
def k1_pay390 (x0 x1 x2 : Vec F S8x128x64 .f32) (x3 : Vec F S1x8x1x128 .f32) : FVec F S1x128 .f32 :=
  k1_pay34 (View.ld x3 r1_10)
def k1_pay391 (x0 x1 x2 : Vec F S8x128x64 .f32) (x3 : Vec F S1x8x1x128 .f32) : FVec F S1x128 .f32 :=
  k1_pay35 (View.ld x3 r1_11)
def k1_pay392 (x0 x1 x2 : Vec F S8x128x64 .f32) (x3 : Vec F S1x8x1x128 .f32) : FVec F S1x128 .f32 :=
  k1_pay36 (View.ld x3 r1_12)
def k1_pay393 (x0 x1 x2 : Vec F S8x128x64 .f32) (x3 : Vec F S1x8x1x128 .f32) : FVec F S1x128 .f32 :=
  k1_pay37 (View.ld x3 r1_13)
def k1_pay394 (x0 x1 x2 : Vec F S8x128x64 .f32) (x3 : Vec F S1x8x1x128 .f32) : FVec F S1x128 .f32 :=
  k1_pay38 (View.ld x3 r1_14)
def k1_pay395 (x0 x1 x2 : Vec F S8x128x64 .f32) (x3 : Vec F S1x8x1x128 .f32) : FVec F S1x128 .f32 :=
  k1_pay39 (View.ld x3 r1_15)
def k1_pay396 : FVec F S128x128 .f32 :=
  k1_pay40 (k1_pay360 x0 x1 x2 x3) (k1_pay364 x0 x1 x2 x3) (k1_pay388 x0 x1 x2 x3)
def k1_pay397 : FVec F S128x128 .f32 :=
  k1_pay41 (k1_pay360 x0 x1 x2 x3) (k1_pay365 x0 x1 x2 x3) (k1_pay389 x0 x1 x2 x3)
def k1_pay398 : FVec F S128x128 .f32 :=
  k1_pay42 (k1_pay360 x0 x1 x2 x3) (k1_pay366 x0 x1 x2 x3) (k1_pay390 x0 x1 x2 x3)
def k1_pay399 : FVec F S128x128 .f32 :=
  k1_pay43 (k1_pay360 x0 x1 x2 x3) (k1_pay367 x0 x1 x2 x3) (k1_pay391 x0 x1 x2 x3)
def k1_pay400 : FVec F S128x128 .f32 :=
  k1_pay44 (k1_pay360 x0 x1 x2 x3) (k1_pay368 x0 x1 x2 x3) (k1_pay392 x0 x1 x2 x3)
def k1_pay401 : FVec F S128x128 .f32 :=
  k1_pay45 (k1_pay360 x0 x1 x2 x3) (k1_pay369 x0 x1 x2 x3) (k1_pay393 x0 x1 x2 x3)
def k1_pay402 : FVec F S128x128 .f32 :=
  k1_pay46 (k1_pay360 x0 x1 x2 x3) (k1_pay370 x0 x1 x2 x3) (View.ld x3 r1_14)
def k1_pay403 : FVec F S128x128 .f32 :=
  k1_pay47 (k1_pay371 x0 x1 x2 x3)
def k1_pay404 : FVec F S64x64 .f32 :=
  k1_pay49 (k1_pay362 x0 x1 x2 x3)
def k1_pay405 : FVec F S64x64 .f32 :=
  k1_pay66 (k1_pay362 x0 x1 x2 x3) (k1_pay396 x0 x1 x2 x3)
def k1_pay406 : FVec F S64x64 .f32 :=
  k1_pay67 (k1_pay362 x0 x1 x2 x3) (k1_pay397 x0 x1 x2 x3)
def k1_pay407 : FVec F S64x64 .f32 :=
  k1_pay68 (k1_pay362 x0 x1 x2 x3) (k1_pay398 x0 x1 x2 x3)
def k1_pay408 : FVec F S64x64 .f32 :=
  k1_pay69 (k1_pay362 x0 x1 x2 x3) (k1_pay399 x0 x1 x2 x3)
def k1_pay409 : FVec F S64x64 .f32 :=
  k1_pay70 (k1_pay362 x0 x1 x2 x3) (k1_pay400 x0 x1 x2 x3)
def k1_pay410 : FVec F S64x64 .f32 :=
  k1_pay71 (k1_pay362 x0 x1 x2 x3) (k1_pay401 x0 x1 x2 x3)
def k1_pay411 : FVec F S64x64 .f32 :=
  k1_pay72 (k1_pay362 x0 x1 x2 x3) (k1_pay402 x0 x1 x2 x3)
def k1_pay412 : FVec F S64x64 .f32 :=
  k1_pay73 (k1_pay360 x0 x1 x2 x3) (k1_pay362 x0 x1 x2 x3) (k1_pay395 x0 x1 x2 x3) (k1_pay403 x0 x1 x2 x3) (Scalar.ofBits .f32 0x00000000#32)
def k1_pay413 : FVec F S64x64 .f32 :=
  k1_pay74 (k1_pay362 x0 x1 x2 x3) (k1_pay396 x0 x1 x2 x3)
def k1_pay414 : FVec F S64x64 .f32 :=
  k1_pay75 (k1_pay362 x0 x1 x2 x3) (k1_pay397 x0 x1 x2 x3)
def k1_pay415 : FVec F S64x64 .f32 :=
  k1_pay76 (k1_pay362 x0 x1 x2 x3) (k1_pay398 x0 x1 x2 x3)
def k1_pay416 : FVec F S64x64 .f32 :=
  k1_pay77 (k1_pay362 x0 x1 x2 x3) (k1_pay399 x0 x1 x2 x3)
def k1_pay417 : FVec F S64x64 .f32 :=
  k1_pay78 (k1_pay362 x0 x1 x2 x3) (k1_pay400 x0 x1 x2 x3)
def k1_pay418 : FVec F S64x64 .f32 :=
  k1_pay79 (k1_pay362 x0 x1 x2 x3) (k1_pay401 x0 x1 x2 x3)
def k1_pay419 : FVec F S64x64 .f32 :=
  k1_pay80 (k1_pay362 x0 x1 x2 x3) (k1_pay402 x0 x1 x2 x3)
def k1_pay420 : FVec F S64x64 .f32 :=
  k1_pay81 (k1_pay360 x0 x1 x2 x3) (k1_pay362 x0 x1 x2 x3) (k1_pay395 x0 x1 x2 x3) (k1_pay403 x0 x1 x2 x3) (Scalar.ofBits .f32 0x00000000#32)
def k1_pay421 : FVec F S64x64 .f32 :=
  k1_pay87 (k1_pay362 x0 x1 x2 x3) (k1_pay401 x0 x1 x2 x3)
def k1_pay422 : FVec F S64x64 .f32 :=
  k1_pay88 (k1_pay362 x0 x1 x2 x3) (k1_pay402 x0 x1 x2 x3)
def k1_pay423 : FVec F S64x64 .f32 :=
  k1_pay89 (k1_pay360 x0 x1 x2 x3) (k1_pay362 x0 x1 x2 x3) (k1_pay395 x0 x1 x2 x3) (k1_pay403 x0 x1 x2 x3) (Scalar.ofBits .f32 0x00000000#32)
def k1_pay424 : FVec F S64x64 .f32 :=
  k1_pay90 (k1_pay362 x0 x1 x2 x3) (k1_pay396 x0 x1 x2 x3)
def k1_pay425 : FVec F S64x64 .f32 :=
  k1_pay91 (k1_pay362 x0 x1 x2 x3) (k1_pay397 x0 x1 x2 x3)
def k1_pay426 : FVec F S64x64 .f32 :=
  k1_pay92 (k1_pay362 x0 x1 x2 x3) (k1_pay398 x0 x1 x2 x3)
def k1_pay427 : FVec F S64x64 .f32 :=
  k1_pay93 (k1_pay362 x0 x1 x2 x3) (k1_pay399 x0 x1 x2 x3)
def k1_pay428 : FVec F S64x64 .f32 :=
  k1_pay94 (k1_pay362 x0 x1 x2 x3) (k1_pay400 x0 x1 x2 x3)
def k1_pay429 : FVec F S64x64 .f32 :=
  k1_pay95 (k1_pay362 x0 x1 x2 x3) (k1_pay401 x0 x1 x2 x3)
def k1_pay430 : FVec F S64x64 .f32 :=
  k1_pay96 (k1_pay362 x0 x1 x2 x3) (k1_pay402 x0 x1 x2 x3)
def k1_pay431 : FVec F S64x64 .f32 :=
  k1_pay97 (k1_pay360 x0 x1 x2 x3) (k1_pay362 x0 x1 x2 x3) (k1_pay395 x0 x1 x2 x3) (k1_pay403 x0 x1 x2 x3) (Scalar.ofBits .f32 0x00000000#32)
def k1_pay432 : FVec F S64x64 .f32 :=
  k1_pay115 (k1_pay404 x0 x1 x2 x3) (k1_pay409 x0 x1 x2 x3) (k1_pay86 (k1_pay362 x0 x1 x2 x3) (k1_pay400 x0 x1 x2 x3))
def k1_pay433 (x0 x1 x2 : Vec F S8x128x64 .f32) (x3 : Vec F S1x8x1x128 .f32) : FVec F S64x64 .f32 :=
  constant S64x64 .f32 0x00000000#32
def k1_pay434 : FVec F S64x64 .f32 :=
  k1_pay117 (k1_pay421 x0 x1 x2 x3) (k1_pay116 (k1_pay404 x0 x1 x2 x3) (k1_pay410 x0 x1 x2 x3) (k1_pay421 x0 x1 x2 x3)) (constant S64x64 .f32 0x00000000#32)
def k1_pay435 : FVec F S64x64 .f32 :=
  k1_pay118 (k1_pay404 x0 x1 x2 x3) (k1_pay422 x0 x1 x2 x3) (k1_pay101 (k1_pay411 x0 x1 x2 x3) (k1_pay422 x0 x1 x2 x3))
def k1_pay436 : FVec F S64x64 .f32 :=
  k1_pay119 (k1_pay404 x0 x1 x2 x3) (k1_pay423 x0 x1 x2 x3) (k1_pay102 (k1_pay412 x0 x1 x2 x3) (k1_pay423 x0 x1 x2 x3))
def k1_pay437 : FVec F S64x64 .f32 :=
  k1_pay120 (k1_pay404 x0 x1 x2 x3) (k1_pay424 x0 x1 x2 x3) (k1_pay103 (k1_pay413 x0 x1 x2 x3) (k1_pay424 x0 x1 x2 x3))
def k1_pay438 : FVec F S64x64 .f32 :=
  k1_pay121 (k1_pay404 x0 x1 x2 x3) (k1_pay425 x0 x1 x2 x3) (k1_pay104 (k1_pay414 x0 x1 x2 x3) (k1_pay425 x0 x1 x2 x3))
def k1_pay439 : FVec F S64x64 .f32 :=
  k1_pay122 (k1_pay404 x0 x1 x2 x3) (k1_pay426 x0 x1 x2 x3) (k1_pay105 (k1_pay415 x0 x1 x2 x3) (k1_pay426 x0 x1 x2 x3))
def k1_pay440 : FVec F S64x64 .f32 :=
  k1_pay123 (k1_pay404 x0 x1 x2 x3) (k1_pay427 x0 x1 x2 x3) (k1_pay106 (k1_pay416 x0 x1 x2 x3) (k1_pay427 x0 x1 x2 x3))
def k1_pay441 : FVec F S64x64 .f32 :=
  k1_pay124 (k1_pay404 x0 x1 x2 x3) (k1_pay428 x0 x1 x2 x3) (k1_pay107 (k1_pay417 x0 x1 x2 x3) (k1_pay428 x0 x1 x2 x3))
def k1_pay442 : FVec F S64x64 .f32 :=
  k1_pay125 (k1_pay404 x0 x1 x2 x3) (k1_pay429 x0 x1 x2 x3) (k1_pay108 (k1_pay418 x0 x1 x2 x3) (k1_pay429 x0 x1 x2 x3))
def k1_pay443 : FVec F S64x64 .f32 :=
  k1_pay126 (k1_pay404 x0 x1 x2 x3) (k1_pay430 x0 x1 x2 x3) (k1_pay109 (k1_pay419 x0 x1 x2 x3) (k1_pay430 x0 x1 x2 x3))
def k1_pay444 : FVec F S64x64 .f32 :=
  k1_pay127 (k1_pay404 x0 x1 x2 x3) (k1_pay110 (k1_pay420 x0 x1 x2 x3) (k1_pay431 x0 x1 x2 x3))
def k1_pay445 : FVec F S64x64 .f32 :=
  k1_pay128 (k1_pay431 x0 x1 x2 x3) (k1_pay444 x0 x1 x2 x3) (k1_pay433 x0 x1 x2 x3)
def k1_pay446 : FVec F S64x64 .f32 :=
  k1_pay139 (k1_pay419 x0 x1 x2 x3) (k1_pay443 x0 x1 x2 x3)
def k1_pay447 : FVec F S64x64 .f32 :=
  k1_pay140 (k1_pay420 x0 x1 x2 x3) (k1_pay431 x0 x1 x2 x3) (k1_pay444 x0 x1 x2 x3) (k1_pay433 x0 x1 x2 x3)
def k1_pay448 : FVec F S64x64 .f32 :=
  k1_pay144 (k1_pay404 x0 x1 x2 x3) (k1_pay408 x0 x1 x2 x3) (k1_pay114 (k1_pay404 x0 x1 x2 x3) (k1_pay408 x0 x1 x2 x3) (k1_pay85 (k1_pay362 x0 x1 x2 x3) (k1_pay399 x0 x1 x2 x3)) (constant S64x64 .f32 0x00000000#32))
def k1_pay449 : FVec F S64x64 .f32 :=
  k1_pay146 (k1_pay432 x0 x1 x2 x3) (k1_pay129 (k1_pay409 x0 x1 x2 x3) (k1_pay432 x0 x1 x2 x3)) (k1_pay145 (k1_pay404 x0 x1 x2 x3))
def k1_pay450 : FVec F S64x64 .f32 :=
  k1_pay147 (k1_pay404 x0 x1 x2 x3) (k1_pay434 x0 x1 x2 x3) (k1_pay130 (k1_pay410 x0 x1 x2 x3) (k1_pay434 x0 x1 x2 x3))
def k1_pay451 : FVec F S64x64 .f32 :=
  k1_pay148 (k1_pay404 x0 x1 x2 x3) (k1_pay435 x0 x1 x2 x3) (k1_pay131 (k1_pay411 x0 x1 x2 x3) (k1_pay435 x0 x1 x2 x3))
def k1_pay452 : FVec F S64x64 .f32 :=
  k1_pay149 (k1_pay404 x0 x1 x2 x3) (k1_pay436 x0 x1 x2 x3) (k1_pay132 (k1_pay412 x0 x1 x2 x3) (k1_pay436 x0 x1 x2 x3))
def k1_pay453 : FVec F S64x64 .f32 :=
  k1_pay150 (k1_pay404 x0 x1 x2 x3) (k1_pay437 x0 x1 x2 x3) (k1_pay133 (k1_pay413 x0 x1 x2 x3) (k1_pay437 x0 x1 x2 x3))
def k1_pay454 : FVec F S64x64 .f32 :=
  k1_pay151 (k1_pay404 x0 x1 x2 x3) (k1_pay438 x0 x1 x2 x3) (k1_pay134 (k1_pay414 x0 x1 x2 x3) (k1_pay438 x0 x1 x2 x3))
def k1_pay455 : FVec F S64x64 .f32 :=
  k1_pay152 (k1_pay404 x0 x1 x2 x3) (k1_pay439 x0 x1 x2 x3) (k1_pay135 (k1_pay415 x0 x1 x2 x3) (k1_pay439 x0 x1 x2 x3))
def k1_pay456 : FVec F S64x64 .f32 :=
  k1_pay153 (k1_pay404 x0 x1 x2 x3) (k1_pay440 x0 x1 x2 x3) (k1_pay136 (k1_pay416 x0 x1 x2 x3) (k1_pay440 x0 x1 x2 x3))
def k1_pay457 : FVec F S64x64 .f32 :=
  k1_pay154 (k1_pay404 x0 x1 x2 x3) (k1_pay441 x0 x1 x2 x3) (k1_pay137 (k1_pay417 x0 x1 x2 x3) (k1_pay441 x0 x1 x2 x3))
def k1_pay458 : FVec F S64x64 .f32 :=
  k1_pay155 (k1_pay404 x0 x1 x2 x3) (k1_pay442 x0 x1 x2 x3) (k1_pay138 (k1_pay418 x0 x1 x2 x3) (k1_pay442 x0 x1 x2 x3))
def k1_pay459 : FVec F S64x64 .f32 :=
  k1_pay156 (k1_pay404 x0 x1 x2 x3)
def k1_pay460 : FVec F S64x64 .f32 :=
  k1_pay157 (k1_pay443 x0 x1 x2 x3) (k1_pay446 x0 x1 x2 x3) (k1_pay459 x0 x1 x2 x3)
def k1_pay461 : FVec F S64x64 .f32 :=
  k1_pay158 (k1_pay404 x0 x1 x2 x3) (k1_pay445 x0 x1 x2 x3) (k1_pay447 x0 x1 x2 x3)
def k1_pay462 : FVec F S64x64 .f32 :=
  k1_pay169 (k1_pay418 x0 x1 x2 x3) (k1_pay458 x0 x1 x2 x3)
def k1_pay463 : FVec F S64x64 .f32 :=
  k1_pay170 (k1_pay419 x0 x1 x2 x3) (k1_pay443 x0 x1 x2 x3) (k1_pay446 x0 x1 x2 x3) (k1_pay459 x0 x1 x2 x3)
def k1_pay464 : FVec F S64x64 .f32 :=
  k1_pay171 (k1_pay404 x0 x1 x2 x3) (k1_pay420 x0 x1 x2 x3) (k1_pay445 x0 x1 x2 x3) (k1_pay447 x0 x1 x2 x3)
def k1_pay465 : FVec F S64x64 .f32 :=
  k1_pay173 (k1_pay404 x0 x1 x2 x3) (k1_pay406 x0 x1 x2 x3) (k1_pay142 (k1_pay404 x0 x1 x2 x3) (k1_pay406 x0 x1 x2 x3) (k1_pay112 (k1_pay404 x0 x1 x2 x3) (k1_pay83 (k1_pay362 x0 x1 x2 x3) (k1_pay397 x0 x1 x2 x3)) (k1_pay99 (k1_pay362 x0 x1 x2 x3) (k1_pay397 x0 x1 x2 x3))))
def k1_pay466 : FVec F S64x64 .f32 :=
  k1_pay174 (k1_pay404 x0 x1 x2 x3) (k1_pay407 x0 x1 x2 x3) (k1_pay143 (k1_pay404 x0 x1 x2 x3) (k1_pay407 x0 x1 x2 x3) (k1_pay113 (k1_pay404 x0 x1 x2 x3) (k1_pay84 (k1_pay362 x0 x1 x2 x3) (k1_pay398 x0 x1 x2 x3)) (k1_pay100 (k1_pay362 x0 x1 x2 x3) (k1_pay398 x0 x1 x2 x3))))
def k1_pay467 : FVec F S64x64 .f32 :=
  k1_pay175 (k1_pay404 x0 x1 x2 x3) (k1_pay448 x0 x1 x2 x3) (k1_pay159 (k1_pay408 x0 x1 x2 x3) (k1_pay448 x0 x1 x2 x3)) (Scalar.ofBits .f32 0x40000000#32)
def k1_pay468 : FVec F S64x64 .f32 :=
  k1_pay176 (k1_pay404 x0 x1 x2 x3) (k1_pay449 x0 x1 x2 x3) (k1_pay160 (k1_pay409 x0 x1 x2 x3) (k1_pay449 x0 x1 x2 x3))
def k1_pay469 : FVec F S64x64 .f32 :=
  k1_pay177 (k1_pay404 x0 x1 x2 x3) (k1_pay450 x0 x1 x2 x3) (k1_pay161 (k1_pay410 x0 x1 x2 x3) (k1_pay450 x0 x1 x2 x3))
def k1_pay470 : FVec F S64x64 .f32 :=
  k1_pay178 (k1_pay404 x0 x1 x2 x3) (k1_pay451 x0 x1 x2 x3) (k1_pay162 (k1_pay411 x0 x1 x2 x3) (k1_pay451 x0 x1 x2 x3))
def k1_pay471 : FVec F S64x64 .f32 :=
  k1_pay179 (k1_pay404 x0 x1 x2 x3) (k1_pay452 x0 x1 x2 x3) (k1_pay163 (k1_pay412 x0 x1 x2 x3) (k1_pay452 x0 x1 x2 x3))
def k1_pay472 : FVec F S64x64 .f32 :=
  k1_pay180 (k1_pay404 x0 x1 x2 x3) (k1_pay453 x0 x1 x2 x3) (k1_pay164 (k1_pay413 x0 x1 x2 x3) (k1_pay453 x0 x1 x2 x3))
def k1_pay473 : FVec F S64x64 .f32 :=
  k1_pay181 (k1_pay404 x0 x1 x2 x3) (k1_pay454 x0 x1 x2 x3) (k1_pay165 (k1_pay414 x0 x1 x2 x3) (k1_pay454 x0 x1 x2 x3))
def k1_pay474 : FVec F S64x64 .f32 :=
  k1_pay182 (k1_pay404 x0 x1 x2 x3) (k1_pay455 x0 x1 x2 x3) (k1_pay166 (k1_pay415 x0 x1 x2 x3) (k1_pay455 x0 x1 x2 x3))
def k1_pay475 : FVec F S64x64 .f32 :=
  k1_pay183 (k1_pay404 x0 x1 x2 x3) (k1_pay456 x0 x1 x2 x3) (k1_pay167 (k1_pay416 x0 x1 x2 x3) (k1_pay456 x0 x1 x2 x3))
def k1_pay476 : FVec F S64x64 .f32 :=
  k1_pay184 (k1_pay404 x0 x1 x2 x3) (k1_pay457 x0 x1 x2 x3) (k1_pay168 (k1_pay417 x0 x1 x2 x3) (k1_pay457 x0 x1 x2 x3))
def k1_pay477 : FVec F S64x64 .f32 :=
  k1_pay185 (k1_pay404 x0 x1 x2 x3) (k1_pay458 x0 x1 x2 x3) (k1_pay462 x0 x1 x2 x3) (Scalar.ofBits .f32 0x40000000#32)
def k1_pay478 : FVec F S64x64 .f32 :=
  k1_pay186 (k1_pay404 x0 x1 x2 x3) (k1_pay460 x0 x1 x2 x3) (k1_pay463 x0 x1 x2 x3)
def k1_pay479 : FVec F S64x64 .f32 :=
  k1_pay187 (k1_pay404 x0 x1 x2 x3) (k1_pay461 x0 x1 x2 x3) (k1_pay464 x0 x1 x2 x3)
def k1_pay480 : FVec F S64x64 .f32 :=
  k1_pay198 (k1_pay417 x0 x1 x2 x3) (k1_pay476 x0 x1 x2 x3)
def k1_pay481 : FVec F S64x64 .f32 :=
  k1_pay199 (k1_pay404 x0 x1 x2 x3) (k1_pay418 x0 x1 x2 x3) (k1_pay458 x0 x1 x2 x3) (k1_pay462 x0 x1 x2 x3) (Scalar.ofBits .f32 0x40000000#32)
def k1_pay482 : FVec F S64x64 .f32 :=
  k1_pay200 (k1_pay404 x0 x1 x2 x3) (k1_pay419 x0 x1 x2 x3) (k1_pay460 x0 x1 x2 x3) (k1_pay463 x0 x1 x2 x3)
def k1_pay483 : FVec F S64x64 .f32 :=
  k1_pay201 (k1_pay404 x0 x1 x2 x3) (k1_pay420 x0 x1 x2 x3) (k1_pay461 x0 x1 x2 x3) (k1_pay464 x0 x1 x2 x3)
def k1_pay484 : FVec F S64x64 .f32 :=
  k1_pay202 (k1_pay404 x0 x1 x2 x3) (k1_pay405 x0 x1 x2 x3) (k1_pay172 (k1_pay404 x0 x1 x2 x3) (k1_pay405 x0 x1 x2 x3) (k1_pay141 (k1_pay404 x0 x1 x2 x3) (k1_pay405 x0 x1 x2 x3) (k1_pay111 (k1_pay404 x0 x1 x2 x3) (k1_pay82 (k1_pay362 x0 x1 x2 x3) (k1_pay396 x0 x1 x2 x3)) (k1_pay98 (k1_pay362 x0 x1 x2 x3) (k1_pay396 x0 x1 x2 x3)))))
def k1_pay485 (x0 x1 x2 : Vec F S8x128x64 .f32) (x3 : Vec F S1x8x1x128 .f32) : FVec F S64x64 .f32 :=
  constant S64x64 .f32 0x00000000#32
def k1_pay486 : FVec F S64x64 .f32 :=
  k1_pay204 (k1_pay465 x0 x1 x2 x3) (k1_pay203 (k1_pay404 x0 x1 x2 x3) (k1_pay406 x0 x1 x2 x3) (k1_pay465 x0 x1 x2 x3)) (constant S64x64 .f32 0x00000000#32)
def k1_pay487 : FVec F S64x64 .f32 :=
  k1_pay205 (k1_pay404 x0 x1 x2 x3) (k1_pay466 x0 x1 x2 x3) (k1_pay188 (k1_pay407 x0 x1 x2 x3) (k1_pay466 x0 x1 x2 x3))
def k1_pay488 : FVec F S64x64 .f32 :=
  k1_pay206 (k1_pay404 x0 x1 x2 x3) (k1_pay467 x0 x1 x2 x3) (k1_pay189 (k1_pay408 x0 x1 x2 x3) (k1_pay467 x0 x1 x2 x3))
def k1_pay489 : FVec F S64x64 .f32 :=
  k1_pay207 (k1_pay404 x0 x1 x2 x3) (k1_pay468 x0 x1 x2 x3) (k1_pay190 (k1_pay409 x0 x1 x2 x3) (k1_pay468 x0 x1 x2 x3))
def k1_pay490 : FVec F S64x64 .f32 :=
  k1_pay208 (k1_pay404 x0 x1 x2 x3) (k1_pay469 x0 x1 x2 x3) (k1_pay191 (k1_pay410 x0 x1 x2 x3) (k1_pay469 x0 x1 x2 x3))
def k1_pay491 : FVec F S64x64 .f32 :=
  k1_pay209 (k1_pay404 x0 x1 x2 x3) (k1_pay470 x0 x1 x2 x3) (k1_pay192 (k1_pay411 x0 x1 x2 x3) (k1_pay470 x0 x1 x2 x3))
def k1_pay492 : FVec F S64x64 .f32 :=
  k1_pay210 (k1_pay404 x0 x1 x2 x3) (k1_pay471 x0 x1 x2 x3) (k1_pay193 (k1_pay412 x0 x1 x2 x3) (k1_pay471 x0 x1 x2 x3))
def k1_pay493 : FVec F S64x64 .f32 :=
  k1_pay211 (k1_pay404 x0 x1 x2 x3) (k1_pay472 x0 x1 x2 x3) (k1_pay194 (k1_pay413 x0 x1 x2 x3) (k1_pay472 x0 x1 x2 x3))
def k1_pay494 : FVec F S64x64 .f32 :=
  k1_pay212 (k1_pay404 x0 x1 x2 x3) (k1_pay473 x0 x1 x2 x3) (k1_pay195 (k1_pay414 x0 x1 x2 x3) (k1_pay473 x0 x1 x2 x3))
def k1_pay495 : FVec F S64x64 .f32 :=
  k1_pay213 (k1_pay404 x0 x1 x2 x3) (k1_pay474 x0 x1 x2 x3) (k1_pay196 (k1_pay415 x0 x1 x2 x3) (k1_pay474 x0 x1 x2 x3))
def k1_pay496 : FVec F S64x64 .f32 :=
  k1_pay214 (k1_pay404 x0 x1 x2 x3) (k1_pay197 (k1_pay416 x0 x1 x2 x3) (k1_pay475 x0 x1 x2 x3))
def k1_pay497 : FVec F S64x64 .f32 :=
  k1_pay237 (k1_pay484 x0 x1 x2 x3) (k1_pay220 (k1_pay405 x0 x1 x2 x3) (k1_pay484 x0 x1 x2 x3)) (k1_pay236 (k1_pay404 x0 x1 x2 x3))
def k1_pay498 : FVec F S64x64 .f32 :=
  k1_pay238 (k1_pay404 x0 x1 x2 x3) (k1_pay486 x0 x1 x2 x3) (k1_pay221 (k1_pay406 x0 x1 x2 x3) (k1_pay486 x0 x1 x2 x3))
def k1_pay499 : FVec F S64x64 .f32 :=
  k1_pay239 (k1_pay404 x0 x1 x2 x3) (k1_pay487 x0 x1 x2 x3) (k1_pay222 (k1_pay407 x0 x1 x2 x3) (k1_pay487 x0 x1 x2 x3))
def k1_pay500 : FVec F S64x64 .f32 :=
  k1_pay240 (k1_pay404 x0 x1 x2 x3) (k1_pay488 x0 x1 x2 x3) (k1_pay223 (k1_pay408 x0 x1 x2 x3) (k1_pay488 x0 x1 x2 x3))
def k1_pay501 : FVec F S64x64 .f32 :=
  k1_pay241 (k1_pay404 x0 x1 x2 x3) (k1_pay489 x0 x1 x2 x3) (k1_pay224 (k1_pay409 x0 x1 x2 x3) (k1_pay489 x0 x1 x2 x3))
def k1_pay502 : FVec F S64x64 .f32 :=
  k1_pay242 (k1_pay404 x0 x1 x2 x3) (k1_pay490 x0 x1 x2 x3) (k1_pay225 (k1_pay410 x0 x1 x2 x3) (k1_pay490 x0 x1 x2 x3))
def k1_pay503 : FVec F S64x64 .f32 :=
  k1_pay243 (k1_pay404 x0 x1 x2 x3) (k1_pay491 x0 x1 x2 x3) (k1_pay226 (k1_pay411 x0 x1 x2 x3) (k1_pay491 x0 x1 x2 x3))
def k1_pay504 : FVec F S64x64 .f32 :=
  k1_pay244 (k1_pay404 x0 x1 x2 x3) (k1_pay492 x0 x1 x2 x3) (k1_pay227 (k1_pay412 x0 x1 x2 x3) (k1_pay492 x0 x1 x2 x3))
def k1_pay505 : FVec F S64x64 .f32 :=
  k1_pay245 (k1_pay404 x0 x1 x2 x3) (k1_pay493 x0 x1 x2 x3) (k1_pay228 (k1_pay413 x0 x1 x2 x3) (k1_pay493 x0 x1 x2 x3))
def k1_pay506 : FVec F S64x64 .f32 :=
  k1_pay253 (k1_pay404 x0 x1 x2 x3) (k1_pay219 (k1_pay404 x0 x1 x2 x3) (k1_pay479 x0 x1 x2 x3) (k1_pay483 x0 x1 x2 x3)) (k1_pay235 (k1_pay404 x0 x1 x2 x3) (k1_pay420 x0 x1 x2 x3) (k1_pay479 x0 x1 x2 x3) (k1_pay483 x0 x1 x2 x3))
def k1_pay507 : FVec F S128x128 .f32 :=
  k1_pay264 (k1_pay497 x0 x1 x2 x3) (k1_pay505 x0 x1 x2 x3) (k1_pay261 (k1_pay396 x0 x1 x2 x3) (k1_pay497 x0 x1 x2 x3) (k1_pay505 x0 x1 x2 x3)) (Scalar.ofBits .f32 0x00000000#32)
def k1_pay508 : FVec F S128x128 .f32 :=
  k1_pay265 (k1_pay498 x0 x1 x2 x3) (k1_pay246 (k1_pay404 x0 x1 x2 x3) (k1_pay494 x0 x1 x2 x3) (k1_pay229 (k1_pay414 x0 x1 x2 x3) (k1_pay494 x0 x1 x2 x3))) (k1_pay254 (k1_pay397 x0 x1 x2 x3) (k1_pay498 x0 x1 x2 x3))
def k1_pay509 : FVec F S128x128 .f32 :=
  k1_pay266 (k1_pay499 x0 x1 x2 x3) (k1_pay248 (k1_pay495 x0 x1 x2 x3) (k1_pay230 (k1_pay415 x0 x1 x2 x3) (k1_pay495 x0 x1 x2 x3)) (k1_pay247 (k1_pay404 x0 x1 x2 x3))) (k1_pay255 (k1_pay398 x0 x1 x2 x3) (k1_pay499 x0 x1 x2 x3))
def k1_pay510 : FVec F S128x128 .f32 :=
  k1_pay267 (k1_pay500 x0 x1 x2 x3) (k1_pay249 (k1_pay404 x0 x1 x2 x3) (k1_pay215 (k1_pay475 x0 x1 x2 x3) (k1_pay496 x0 x1 x2 x3) (k1_pay485 x0 x1 x2 x3)) (k1_pay231 (k1_pay416 x0 x1 x2 x3) (k1_pay475 x0 x1 x2 x3) (k1_pay496 x0 x1 x2 x3) (k1_pay485 x0 x1 x2 x3))) (k1_pay256 (k1_pay399 x0 x1 x2 x3) (k1_pay500 x0 x1 x2 x3))
def k1_pay511 : FVec F S128x128 .f32 :=
  k1_pay268 (k1_pay501 x0 x1 x2 x3) (k1_pay250 (k1_pay404 x0 x1 x2 x3) (k1_pay216 (k1_pay404 x0 x1 x2 x3) (k1_pay476 x0 x1 x2 x3) (k1_pay480 x0 x1 x2 x3)) (k1_pay232 (k1_pay404 x0 x1 x2 x3) (k1_pay417 x0 x1 x2 x3) (k1_pay476 x0 x1 x2 x3) (k1_pay480 x0 x1 x2 x3))) (k1_pay257 (k1_pay400 x0 x1 x2 x3) (k1_pay501 x0 x1 x2 x3))
def k1_pay512 : FVec F S128x128 .f32 :=
  k1_pay269 (k1_pay502 x0 x1 x2 x3) (k1_pay251 (k1_pay404 x0 x1 x2 x3) (k1_pay217 (k1_pay404 x0 x1 x2 x3) (k1_pay477 x0 x1 x2 x3) (k1_pay481 x0 x1 x2 x3)) (k1_pay233 (k1_pay404 x0 x1 x2 x3) (k1_pay418 x0 x1 x2 x3) (k1_pay477 x0 x1 x2 x3) (k1_pay481 x0 x1 x2 x3))) (k1_pay258 (k1_pay401 x0 x1 x2 x3) (k1_pay502 x0 x1 x2 x3))
def k1_pay513 : FVec F S128x128 .f32 :=
  k1_pay270 (k1_pay503 x0 x1 x2 x3) (k1_pay252 (k1_pay404 x0 x1 x2 x3) (k1_pay218 (k1_pay404 x0 x1 x2 x3) (k1_pay478 x0 x1 x2 x3) (k1_pay482 x0 x1 x2 x3)) (k1_pay234 (k1_pay404 x0 x1 x2 x3) (k1_pay419 x0 x1 x2 x3) (k1_pay478 x0 x1 x2 x3) (k1_pay482 x0 x1 x2 x3))) (k1_pay259 (k1_pay402 x0 x1 x2 x3) (k1_pay503 x0 x1 x2 x3))
def k1_pay514 : FVec F S128x128 .f32 :=
  k1_pay271 (k1_pay504 x0 x1 x2 x3) (k1_pay506 x0 x1 x2 x3) (k1_pay262 (k1_pay506 x0 x1 x2 x3) (k1_pay260 (k1_pay48 (k1_pay360 x0 x1 x2 x3) (k1_pay395 x0 x1 x2 x3) (k1_pay403 x0 x1 x2 x3) (Scalar.ofBits .f32 0x00000000#32)) (k1_pay504 x0 x1 x2 x3))) (k1_pay263 (F := F))
def k1_pay515 : FVec F S128x128 .f32 :=
  k1_pay272 (k1_pay360 x0 x1 x2 x3) (k1_pay364 x0 x1 x2 x3) (k1_pay372 x0 x1 x2 x3)
def k1_pay516 : FVec F S128x128 .f32 :=
  k1_pay273 (k1_pay360 x0 x1 x2 x3) (k1_pay365 x0 x1 x2 x3) (k1_pay373 x0 x1 x2 x3)
def k1_pay517 : FVec F S128x128 .f32 :=
  k1_pay274 (k1_pay360 x0 x1 x2 x3) (k1_pay366 x0 x1 x2 x3) (k1_pay374 x0 x1 x2 x3)
def k1_pay518 : FVec F S128x128 .f32 :=
  k1_pay275 (k1_pay360 x0 x1 x2 x3) (k1_pay367 x0 x1 x2 x3) (k1_pay375 x0 x1 x2 x3)
def k1_pay519 : FVec F S128x128 .f32 :=
  k1_pay276 (k1_pay360 x0 x1 x2 x3) (k1_pay368 x0 x1 x2 x3) (k1_pay376 x0 x1 x2 x3)
def k1_pay520 : FVec F S128x128 .f32 :=
  k1_pay277 (k1_pay360 x0 x1 x2 x3) (k1_pay369 x0 x1 x2 x3) (k1_pay377 x0 x1 x2 x3)
def k1_pay521 : FVec F S128x128 .f32 :=
  k1_pay278 (k1_pay360 x0 x1 x2 x3) (k1_pay370 x0 x1 x2 x3) (k1_pay378 x0 x1 x2 x3)
def k1_pay522 : FVec F S128x128 .f32 :=
  k1_pay279 (k1_pay360 x0 x1 x2 x3) (k1_pay371 x0 x1 x2 x3) (k1_pay379 x0 x1 x2 x3)
def k1_pay523 : FVec F S128x128 .f32 :=
  k1_pay283 (k1_pay507 x0 x1 x2 x3) (k1_pay280 (k1_pay361 x0 x1 x2 x3) (k1_pay364 x0 x1 x2 x3) (k1_pay380 x0 x1 x2 x3) (k1_pay388 x0 x1 x2 x3))
def k1_pay524 : FVec F S128x128 .f32 :=
  k1_pay284 (k1_pay508 x0 x1 x2 x3) (k1_pay281 (k1_pay361 x0 x1 x2 x3) (k1_pay365 x0 x1 x2 x3) (k1_pay381 x0 x1 x2 x3) (k1_pay389 x0 x1 x2 x3))
def k1_pay525 : FVec F S128x128 .f32 :=
  k1_pay285 (k1_pay361 x0 x1 x2 x3) (k1_pay390 x0 x1 x2 x3) (k1_pay509 x0 x1 x2 x3) (k1_pay282 (k1_pay366 x0 x1 x2 x3) (k1_pay382 x0 x1 x2 x3)) (Scalar.ofBits .f32 0x00000000#32)
def k1_pay526 : FVec F S128x128 .f32 :=
  k1_pay286 (k1_pay361 x0 x1 x2 x3) (k1_pay367 x0 x1 x2 x3) (k1_pay383 x0 x1 x2 x3) (k1_pay391 x0 x1 x2 x3) (k1_pay510 x0 x1 x2 x3)
def k1_pay527 : FVec F S128x128 .f32 :=
  k1_pay287 (k1_pay361 x0 x1 x2 x3) (k1_pay368 x0 x1 x2 x3) (k1_pay384 x0 x1 x2 x3) (k1_pay392 x0 x1 x2 x3) (k1_pay511 x0 x1 x2 x3)
def k1_pay528 : FVec F S128x128 .f32 :=
  k1_pay288 (k1_pay361 x0 x1 x2 x3) (k1_pay369 x0 x1 x2 x3) (k1_pay385 x0 x1 x2 x3) (k1_pay393 x0 x1 x2 x3) (k1_pay512 x0 x1 x2 x3)
def k1_pay529 : FVec F S128x128 .f32 :=
  k1_pay289 (k1_pay361 x0 x1 x2 x3) (k1_pay370 x0 x1 x2 x3) (k1_pay386 x0 x1 x2 x3) (k1_pay394 x0 x1 x2 x3) (k1_pay513 x0 x1 x2 x3)
def k1_pay530 : FVec F S128x128 .f32 :=
  k1_pay290 (k1_pay361 x0 x1 x2 x3) (k1_pay371 x0 x1 x2 x3) (k1_pay387 x0 x1 x2 x3) (k1_pay395 x0 x1 x2 x3) (k1_pay514 x0 x1 x2 x3)
def k1_pay531 : FVec F S128x64 .f32 :=
  k1_pay307 (k1_pay364 x0 x1 x2 x3) (k1_pay388 x0 x1 x2 x3)
def k1_pay532 : FVec F S128x64 .f32 :=
  k1_pay308 (k1_pay365 x0 x1 x2 x3) (k1_pay389 x0 x1 x2 x3)
def k1_pay533 : FVec F S128x64 .f32 :=
  k1_pay309 (k1_pay366 x0 x1 x2 x3) (k1_pay390 x0 x1 x2 x3)
def k1_pay534 : FVec F S128x64 .f32 :=
  k1_pay310 (k1_pay367 x0 x1 x2 x3) (k1_pay391 x0 x1 x2 x3)
def k1_pay535 : FVec F S128x64 .f32 :=
  k1_pay311 (k1_pay368 x0 x1 x2 x3) (k1_pay392 x0 x1 x2 x3)
def k1_pay536 : FVec F S128x64 .f32 :=
  k1_pay312 (k1_pay369 x0 x1 x2 x3) (k1_pay393 x0 x1 x2 x3)
def k1_pay537 : FVec F S128x64 .f32 :=
  k1_pay313 (k1_pay370 x0 x1 x2 x3) (k1_pay394 x0 x1 x2 x3)
def k1_pay538 : FVec F S128x64 .f32 :=
  k1_pay314 (k1_pay371 x0 x1 x2 x3) (k1_pay395 x0 x1 x2 x3)

end Payloads

/-- Window 4's staging buffer after the body. -/
def out1_4 (x0 x1 x2 : Vec F S8x128x64 .f32) (x3 : Vec F S1x8x1x128 .f32) : Vec F S8x128x64 .f32 :=
  View.canon [⟨r1_7, k1_pay1 (k1_pay359 (k1_pay371 x0 x1 x2 x3) (k1_pay387 x0 x1 x2 x3) (k1_pay530 x0 x1 x2 x3))⟩,
    ⟨r1_6, k1_pay355 (k1_pay370 x0 x1 x2 x3) (k1_pay386 x0 x1 x2 x3) (k1_pay529 x0 x1 x2 x3)⟩,
    ⟨r1_5, k1_pay349 (k1_pay369 x0 x1 x2 x3) (k1_pay385 x0 x1 x2 x3) (k1_pay528 x0 x1 x2 x3)⟩,
    ⟨r1_4, k1_pay344 (k1_pay368 x0 x1 x2 x3) (k1_pay384 x0 x1 x2 x3) (k1_pay527 x0 x1 x2 x3)⟩,
    ⟨r1_3, k1_pay339 (k1_pay367 x0 x1 x2 x3) (k1_pay383 x0 x1 x2 x3) (k1_pay526 x0 x1 x2 x3)⟩,
    ⟨r1_2, k1_pay335 (k1_pay334 (k1_pay366 x0 x1 x2 x3) (k1_pay382 x0 x1 x2 x3) (k1_pay525 x0 x1 x2 x3))⟩,
    ⟨r1_1, k1_pay330 (k1_pay365 x0 x1 x2 x3) (k1_pay381 x0 x1 x2 x3) (k1_pay524 x0 x1 x2 x3)⟩,
    ⟨r1_0, k1_pay324 (k1_pay364 x0 x1 x2 x3) (k1_pay380 x0 x1 x2 x3) (k1_pay523 x0 x1 x2 x3)⟩]

/-- Its stores tile the buffer (checked by evaluation). -/
theorem cover1_4 (p0 p1 : Vec F S1x128x64 .f32) (p2 p3 : Vec F S1x128x64 .f32) (p4 p5 : Vec F S1x128x64 .f32) (p6 p7 : Vec F S1x128x64 .f32) (y : S8x128x64.Idx) :
    ∃ pc ∈ ([⟨r1_7, p0⟩, ⟨r1_6, p1⟩, ⟨r1_5, p2⟩, ⟨r1_4, p3⟩, ⟨r1_3, p4⟩, ⟨r1_2, p5⟩, ⟨r1_1, p6⟩, ⟨r1_0, p7⟩] : List (View.Piece (Elt F) S8x128x64 .f32)), y ∈ pc.1.set :=
  View.cover_of_tiled [⟨r1_7, p0⟩, ⟨r1_6, p1⟩, ⟨r1_5, p2⟩, ⟨r1_4, p3⟩, ⟨r1_3, p4⟩, ⟨r1_2, p5⟩, ⟨r1_1, p6⟩, ⟨r1_0, p7⟩] S1x128x64.size (by rfl) y

/-- Window 5's staging buffer after the body. -/
def out1_5 (x0 x1 x2 : Vec F S8x128x64 .f32) (x3 : Vec F S1x8x1x128 .f32) : Vec F S8x128x64 .f32 :=
  View.canon [⟨r1_7, k1_pay2 (k1_pay379 x0 x1 x2 x3) (k1_pay298 (k1_pay514 x0 x1 x2 x3) (k1_pay522 x0 x1 x2 x3)) (k1_pay538 x0 x1 x2 x3)⟩,
    ⟨r1_6, k1_pay356 (k1_pay378 x0 x1 x2 x3) (k1_pay297 (k1_pay513 x0 x1 x2 x3) (k1_pay521 x0 x1 x2 x3)) (k1_pay537 x0 x1 x2 x3)⟩,
    ⟨r1_5, k1_pay350 (k1_pay377 x0 x1 x2 x3) (k1_pay296 (k1_pay512 x0 x1 x2 x3) (k1_pay520 x0 x1 x2 x3)) (k1_pay536 x0 x1 x2 x3)⟩,
    ⟨r1_4, k1_pay345 (k1_pay376 x0 x1 x2 x3) (k1_pay295 (k1_pay511 x0 x1 x2 x3) (k1_pay519 x0 x1 x2 x3)) (k1_pay535 x0 x1 x2 x3)⟩,
    ⟨r1_3, k1_pay341 (k1_pay375 x0 x1 x2 x3) (k1_pay340 (k1_pay294 (k1_pay510 x0 x1 x2 x3) (k1_pay518 x0 x1 x2 x3)) (k1_pay534 x0 x1 x2 x3))⟩,
    ⟨r1_2, k1_pay336 (k1_pay374 x0 x1 x2 x3) (k1_pay293 (k1_pay509 x0 x1 x2 x3) (k1_pay517 x0 x1 x2 x3) (constant S128x128 .f32 0x00000000#32)) (k1_pay533 x0 x1 x2 x3)⟩,
    ⟨r1_1, k1_pay331 (k1_pay373 x0 x1 x2 x3) (k1_pay292 (k1_pay508 x0 x1 x2 x3) (k1_pay516 x0 x1 x2 x3)) (k1_pay532 x0 x1 x2 x3)⟩,
    ⟨r1_0, k1_pay325 (k1_pay372 x0 x1 x2 x3) (k1_pay291 (k1_pay507 x0 x1 x2 x3) (k1_pay515 x0 x1 x2 x3)) (k1_pay531 x0 x1 x2 x3)⟩]

/-- Its stores tile the buffer (checked by evaluation). -/
theorem cover1_5 (p0 p1 : Vec F S1x128x64 .f32) (p2 p3 : Vec F S1x128x64 .f32) (p4 p5 : Vec F S1x128x64 .f32) (p6 p7 : Vec F S1x128x64 .f32) (y : S8x128x64.Idx) :
    ∃ pc ∈ ([⟨r1_7, p0⟩, ⟨r1_6, p1⟩, ⟨r1_5, p2⟩, ⟨r1_4, p3⟩, ⟨r1_3, p4⟩, ⟨r1_2, p5⟩, ⟨r1_1, p6⟩, ⟨r1_0, p7⟩] : List (View.Piece (Elt F) S8x128x64 .f32)), y ∈ pc.1.set :=
  View.cover_of_tiled [⟨r1_7, p0⟩, ⟨r1_6, p1⟩, ⟨r1_5, p2⟩, ⟨r1_4, p3⟩, ⟨r1_3, p4⟩, ⟨r1_2, p5⟩, ⟨r1_1, p6⟩, ⟨r1_0, p7⟩] S1x128x64.size (by rfl) y

/-- Window 6's staging buffer after the body. -/
def out1_6 (x0 x1 x2 : Vec F S8x128x64 .f32) (x3 : Vec F S1x8x1x128 .f32) : Vec F S8x1x128x128 .f32 :=
  View.canon [⟨r1_30, k1_pay358 (k1_pay522 x0 x1 x2 x3) (k1_pay530 x0 x1 x2 x3) (k1_pay306 (k1_pay379 x0 x1 x2 x3) (k1_pay387 x0 x1 x2 x3))⟩,
    ⟨r1_28, k1_pay354 (k1_pay352 (k1_pay521 x0 x1 x2 x3) (k1_pay529 x0 x1 x2 x3) (k1_pay305 (k1_pay378 x0 x1 x2 x3) (k1_pay386 x0 x1 x2 x3))) (k1_pay353 (F := F))⟩,
    ⟨r1_26, k1_pay348 (k1_pay520 x0 x1 x2 x3) (k1_pay528 x0 x1 x2 x3) (k1_pay304 (k1_pay377 x0 x1 x2 x3) (k1_pay385 x0 x1 x2 x3))⟩,
    ⟨r1_24, k1_pay343 (k1_pay519 x0 x1 x2 x3) (k1_pay527 x0 x1 x2 x3) (k1_pay303 (k1_pay376 x0 x1 x2 x3) (k1_pay384 x0 x1 x2 x3))⟩,
    ⟨r1_22, k1_pay338 (k1_pay518 x0 x1 x2 x3) (k1_pay526 x0 x1 x2 x3) (k1_pay302 (k1_pay375 x0 x1 x2 x3) (k1_pay383 x0 x1 x2 x3))⟩,
    ⟨r1_20, k1_pay333 (k1_pay517 x0 x1 x2 x3) (k1_pay525 x0 x1 x2 x3) (k1_pay301 (k1_pay374 x0 x1 x2 x3) (k1_pay382 x0 x1 x2 x3))⟩,
    ⟨r1_18, k1_pay329 (k1_pay327 (k1_pay516 x0 x1 x2 x3) (k1_pay524 x0 x1 x2 x3) (k1_pay300 (k1_pay373 x0 x1 x2 x3) (k1_pay381 x0 x1 x2 x3))) (k1_pay328 (F := F))⟩,
    ⟨r1_16, k1_pay323 (k1_pay515 x0 x1 x2 x3) (k1_pay523 x0 x1 x2 x3) (k1_pay299 (k1_pay372 x0 x1 x2 x3) (k1_pay380 x0 x1 x2 x3))⟩]

/-- Its stores tile the buffer (checked by evaluation). -/
theorem cover1_6 (p0 p1 : Vec F S1x1x128x128 .f32) (p2 p3 : Vec F S1x1x128x128 .f32) (p4 p5 : Vec F S1x1x128x128 .f32) (p6 p7 : Vec F S1x1x128x128 .f32) (y : S8x1x128x128.Idx) :
    ∃ pc ∈ ([⟨r1_30, p0⟩, ⟨r1_28, p1⟩, ⟨r1_26, p2⟩, ⟨r1_24, p3⟩, ⟨r1_22, p4⟩, ⟨r1_20, p5⟩, ⟨r1_18, p6⟩, ⟨r1_16, p7⟩] : List (View.Piece (Elt F) S8x1x128x128 .f32)), y ∈ pc.1.set :=
  View.cover_of_tiled [⟨r1_30, p0⟩, ⟨r1_28, p1⟩, ⟨r1_26, p2⟩, ⟨r1_24, p3⟩, ⟨r1_22, p4⟩, ⟨r1_20, p5⟩, ⟨r1_18, p6⟩, ⟨r1_16, p7⟩] S1x1x128x128.size (by rfl) y

/-- Window 7's staging buffer after the body. -/
def out1_7 (x0 x1 x2 : Vec F S8x128x64 .f32) (x3 : Vec F S1x8x1x128 .f32) : Vec F S8x1x64x64 .f32 :=
  View.canon [⟨r1_31, k1_pay3 (k1_pay363 x0 x1 x2 x3) (k1_pay538 x0 x1 x2 x3) (k1_pay322 (k1_pay371 x0 x1 x2 x3) (k1_pay514 x0 x1 x2 x3))⟩,
    ⟨r1_29, k1_pay357 (k1_pay363 x0 x1 x2 x3) (k1_pay537 x0 x1 x2 x3) (k1_pay321 (k1_pay370 x0 x1 x2 x3) (k1_pay513 x0 x1 x2 x3))⟩,
    ⟨r1_27, k1_pay351 (k1_pay363 x0 x1 x2 x3) (k1_pay536 x0 x1 x2 x3) (k1_pay320 (k1_pay369 x0 x1 x2 x3) (k1_pay512 x0 x1 x2 x3))⟩,
    ⟨r1_25, k1_pay347 (k1_pay346 (k1_pay363 x0 x1 x2 x3) (k1_pay535 x0 x1 x2 x3) (k1_pay319 (k1_pay368 x0 x1 x2 x3) (k1_pay511 x0 x1 x2 x3) (constant S128x64 .f32 0x00000000#32)))⟩,
    ⟨r1_23, k1_pay342 (k1_pay363 x0 x1 x2 x3) (k1_pay534 x0 x1 x2 x3) (k1_pay318 (k1_pay367 x0 x1 x2 x3) (k1_pay510 x0 x1 x2 x3))⟩,
    ⟨r1_21, k1_pay337 (k1_pay363 x0 x1 x2 x3) (k1_pay533 x0 x1 x2 x3) (k1_pay317 (k1_pay366 x0 x1 x2 x3) (k1_pay509 x0 x1 x2 x3))⟩,
    ⟨r1_19, k1_pay332 (k1_pay363 x0 x1 x2 x3) (k1_pay532 x0 x1 x2 x3) (k1_pay316 (k1_pay365 x0 x1 x2 x3) (k1_pay508 x0 x1 x2 x3))⟩,
    ⟨r1_17, k1_pay326 (k1_pay363 x0 x1 x2 x3) (k1_pay531 x0 x1 x2 x3) (k1_pay315 (k1_pay364 x0 x1 x2 x3) (k1_pay507 x0 x1 x2 x3))⟩]

/-- Its stores tile the buffer (checked by evaluation). -/
theorem cover1_7 (p0 p1 : Vec F S1x1x64x64 .f32) (p2 p3 : Vec F S1x1x64x64 .f32) (p4 p5 : Vec F S1x1x64x64 .f32) (p6 p7 : Vec F S1x1x64x64 .f32) (y : S8x1x64x64.Idx) :
    ∃ pc ∈ ([⟨r1_31, p0⟩, ⟨r1_29, p1⟩, ⟨r1_27, p2⟩, ⟨r1_25, p3⟩, ⟨r1_23, p4⟩, ⟨r1_21, p5⟩, ⟨r1_19, p6⟩, ⟨r1_17, p7⟩] : List (View.Piece (Elt F) S8x1x64x64 .f32)), y ∈ pc.1.set :=
  View.cover_of_tiled [⟨r1_31, p0⟩, ⟨r1_29, p1⟩, ⟨r1_27, p2⟩, ⟨r1_25, p3⟩, ⟨r1_23, p4⟩, ⟨r1_21, p5⟩, ⟨r1_19, p6⟩, ⟨r1_17, p7⟩] S1x1x64x64.size (by rfl) y

/-! The body's triple. -/

set_option maxHeartbeats 36846750 in
/-- The kernel body on whole staging memrefs. -/
theorem sound_kernel1 (c : Dev nD) (E : Set ℕ) (i : grid1.Coords) (arg2 : Memref sig .tc .vmem S8x128x64 .f32) (harg2 : arg2.IsWhole) (arg3 : Memref sig .tc .vmem S8x128x64 .f32) (harg3 : arg3.IsWhole) (arg4 : Memref sig .tc .vmem S8x128x64 .f32) (harg4 : arg4.IsWhole) (arg5 : Memref sig .tc .vmem S1x8x1x128 .f32) (harg5 : arg5.IsWhole) (arg6 : Memref sig .tc .vmem S8x128x64 .f32) (harg6 : arg6.IsWhole) (arg7 : Memref sig .tc .vmem S8x128x64 .f32) (harg7 : arg7.IsWhole) (arg8 : Memref sig .tc .vmem S8x1x128x128 .f32) (harg8 : arg8.IsWhole) (arg9 : Memref sig .tc .vmem S8x1x64x64 .f32) (harg9 : arg9.IsWhole)
    (x0 x1 x2 : Vec F S8x128x64 .f32) (x3 : Vec F S1x8x1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out1_4 x0 x1 x2 x3) ∗ owns (c : Thread nD τ) arg7 fullShare (out1_5 x0 x1 x2 x3) ∗ owns (c : Thread nD τ) arg8 fullShare (out1_6 x0 x1 x2 x3) ∗ owns (c : Thread nD τ) arg9 fullShare (out1_7 x0 x1 x2 x3)) -∗ K ⟨⟩))
      ⊢ wp frame (wpE (defs₀ (F := F)) Variants.none c none) E (cc1_path_ut i arg2 harg2 arg3 harg3 arg4 harg4 arg5 harg5 arg6 harg6 arg7 harg7 arg8 harg8 arg9 harg9) K := by
  simp only [cc1_path_ut_eq_skeleton]; unfold cc1_path_ut_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _ _ _ _ _ _ _ _)).trans ?_
    rfl
  isplitl [H5]
  · iexists _; isplitr
    swap; · iexact H5
    ipureintro
    refine (View.read_writes_eq_canon _ _ _ (cover1_5 _ _ _ _ _ _ _ _)).trans ?_
    rfl
  isplitl [H6]
  · iexists _; isplitr
    swap; · iexact H6
    ipureintro
    refine (View.read_writes_eq_canon _ _ _ (cover1_6 _ _ _ _ _ _ _ _)).trans ?_
    rfl
  iexists _; isplitr
  swap; · iexact H7
  ipureintro
  refine (View.read_writes_eq_canon _ _ _ (cover1_7 _ _ _ _ _ _ _ _)).trans ?_
  rfl

/-! The pipeline's proof data. -/

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t)
    | ⟨7, _⟩ => out1_7 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) := by dsimp only [dat1]
theorem after1_7 (c : Dev nD) (t : Fin cfg1.N) : (dat1 V c).after 7 t = out1_7 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! The body obligation, at a generic point. -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns.. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Frm

end
-- ==== Proof.KI.R2Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! The body's branch conditions. -/

/-- The condition of the body's `scf.if` 0 (`k2_h1`). -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (fun t => by
    have ht : t.val < 16 := Nat.lt_of_lt_of_eq t.isLt N_2
    have e0 : (grid2.coords t 0).val = t.val / 8 % 2 := Pipeline.Grid.coords_val t 0 (by decide) rfl
    have e1 : (grid2.coords t 1).val = t.val / 1 % 8 := Pipeline.Grid.coords_val t 1 (by decide) rfl
    simp only [cond2_0, e0, e1]
    word_cmp
   : ∀ t : Fin grid2.N, cond2_0 (grid2.coords t) ↔ t.val % 8 = 0)

/-! The kernel body on any staging memrefs. -/

/-- One staging buffer of output window 6. -/
abbrev VO2_6 : View sig .tc .vmem S16x128x64 .f32 := (Memref.whole cc2_stg6_0 : Memref sig .tc .vmem S16x128x64 .f32).view
/-- Each window's current staging memref at point `t`. -/
abbrev ms2_0 (t : Fin cfg2.N) : Memref sig .tc .vmem S16x128x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S16x1x128x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S16x128x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S16x1024x65 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S16x1x64x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x16x8x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S16x128x64 .f32 := win2_6.stage (cfg2.slots t 6)
abbrev hs2_6 (t : Fin cfg2.N) : (ms2_6 t).IsWhole := hstage2_6 ((cfg2.slots t 6).cast nbuf2_6)
/-- The scratch operands. -/
abbrev scM2_0 : Memref sig .tc .vmem S16x8x128 .f32 := Memref.whole cc2_scratch0
abbrev scM2_1 : Memref sig .tc .vmem S16x8x128 .f32 := Memref.whole cc2_scratch1
abbrev scM2_2 : Memref sig .tc .vmem S16x1024x64 .f32 := Memref.whole cc2_scratch2
/-- The scratch `arg9` the kernel carries between points. -/
abbrev VS2_0 : View sig .tc .vmem S16x8x128 .f32 := scM2_0.view
/-- The scratch `arg10` the kernel carries between points. -/
abbrev VS2_1 : View sig .tc .vmem S16x8x128 .f32 := scM2_1.view
/-- The scratch `arg11` the kernel carries between points. -/
abbrev VS2_2 : View sig .tc .vmem S16x1024x64 .f32 := scM2_2.view

/-- The part of the invariant the flash body never opens: the other calls' scoped buffers and the generator register. -/
abbrev G2 (c : Dev nD) : sProp 𝕄 :=
  iprop(Pipeline.scopedRestBut (Ix := Unit) (Name := ℕ) (U := UR sig nD τ) (Lvl := ℕ) (Val := Elt F) spec2 c [cc2_scratch0, cc2_scratch1, cc2_scratch2] ∗ (∃ r, prngReg c r))

/-- The class invariant with the three scratch operands owned at some contents. -/
theorem PhiA2_eq (c : Dev nD) :
    (Pipeline.ΦA spec2 c : sProp 𝕄)
      = iprop(iprop((∃ d, owns (c : Thread nD τ) scM2_0 fullShare d) ∗ (∃ d, owns (c : Thread nD τ) scM2_1 fullShare d) ∗ (∃ d, owns (c : Thread nD τ) scM2_2 fullShare d)) ∗ G2 c) := by
  unfold Pipeline.ΦA; rw [scopedRest2_split]; simp only [scM2_0, scM2_1, scM2_2, owns_whole]
  exact equiv_iff.mp ⟨BI.sep_assoc, BI.sep_assoc'⟩

end Cert.KernelIdeal.Frm

end
-- ==== Proof.KI.R2A.lean ====
module

public import proofs.«01_k».proof.Proof.KI.R2Runs

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3832000 in
/-- What the body's stores leave in each output's staging memref. -/
noncomputable def kernelRun2_A (c : Dev nD) (i : grid2.Coords) (arg2 : Memref sig .tc .vmem S16x128x64 .f32) (harg2 : arg2.IsWhole) (arg3 : Memref sig .tc .vmem S16x1x128x128 .f32) (harg3 : arg3.IsWhole) (arg4 : Memref sig .tc .vmem S16x128x64 .f32) (harg4 : arg4.IsWhole) (arg5 : Memref sig .tc .vmem S16x1024x65 .f32) (harg5 : arg5.IsWhole) (arg6 : Memref sig .tc .vmem S16x1x64x64 .f32) (harg6 : arg6.IsWhole) (arg7 : Memref sig .tc .vmem S1x16x8x128 .f32) (harg7 : arg7.IsWhole) (arg8 : Memref sig .tc .vmem S16x128x64 .f32) (harg8 : arg8.IsWhole) (arg9 : Memref sig .tc .vmem S16x8x128 .f32) (harg9 : arg9.IsWhole) (arg10 : Memref sig .tc .vmem S16x8x128 .f32) (harg10 : arg10.IsWhole) (arg11 : Memref sig .tc .vmem S16x1024x64 .f32) (harg11 : arg11.IsWhole) (hc0 : cond2_0 i)
    (x0 : Vec F S16x128x64 .f32) (x1 : Vec F S16x1x128x128 .f32) (x2 : Vec F S16x128x64 .f32) (x3 : Vec F S16x1024x65 .f32) (x4 : Vec F S16x1x64x64 .f32) (x5 : Vec F S1x16x8x128 .f32) :
    Σ' (L6 : List (View.Piece (Elt F) S16x128x64 .f32)), Σ' (LS0 : List (View.Piece (Elt F) S16x8x128 .f32)), Σ' (LS1 : List (View.Piece (Elt F) S16x8x128 .f32)), { LS2 : List (View.Piece (Elt F) S16x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc2_path_flash i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc2_path_flash_eq_skeleton]; unfold cc2_path_flash_skel
    simp only [k2_part72_eq_skeleton, k2_part6_eq_skeleton, k2_part1_eq_skeleton, k2_part2_eq_skeleton, k2_part3_eq_skeleton, k2_part4_eq_skeleton, k2_part5_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    isplitl [HS1]; · iexists _; iexact HS1
    iexists _; iexact HS2

end Cert.KernelIdeal.Frm

end
-- ==== Proof.KI.R2B.lean ====
module

public import proofs.«01_k».proof.Proof.KI.R2A

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 3512000 in
/-- What the body's stores leave in each output's staging memref. -/
noncomputable def kernelRun2_B (c : Dev nD) (i : grid2.Coords) (arg2 : Memref sig .tc .vmem S16x128x64 .f32) (harg2 : arg2.IsWhole) (arg3 : Memref sig .tc .vmem S16x1x128x128 .f32) (harg3 : arg3.IsWhole) (arg4 : Memref sig .tc .vmem S16x128x64 .f32) (harg4 : arg4.IsWhole) (arg5 : Memref sig .tc .vmem S16x1024x65 .f32) (harg5 : arg5.IsWhole) (arg6 : Memref sig .tc .vmem S16x1x64x64 .f32) (harg6 : arg6.IsWhole) (arg7 : Memref sig .tc .vmem S1x16x8x128 .f32) (harg7 : arg7.IsWhole) (arg8 : Memref sig .tc .vmem S16x128x64 .f32) (harg8 : arg8.IsWhole) (arg9 : Memref sig .tc .vmem S16x8x128 .f32) (harg9 : arg9.IsWhole) (arg10 : Memref sig .tc .vmem S16x8x128 .f32) (harg10 : arg10.IsWhole) (arg11 : Memref sig .tc .vmem S16x1024x64 .f32) (harg11 : arg11.IsWhole) (hc0 : ¬cond2_0 i)
    (x0 : Vec F S16x128x64 .f32) (x1 : Vec F S16x1x128x128 .f32) (x2 : Vec F S16x128x64 .f32) (x3 : Vec F S16x1024x65 .f32) (x4 : Vec F S16x1x64x64 .f32) (x5 : Vec F S1x16x8x128 .f32) (xs0 : Vec F S16x8x128 .f32) (xs1 : Vec F S16x8x128 .f32) (xs2 : Vec F S16x1024x64 .f32) :
    Σ' (L6 : List (View.Piece (Elt F) S16x128x64 .f32)), Σ' (LS0 : List (View.Piece (Elt F) S16x8x128 .f32)), Σ' (LS1 : List (View.Piece (Elt F) S16x8x128 .f32)), { LS2 : List (View.Piece (Elt F) S16x1024x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc2_path_flash i arg2 harg2 arg3 harg3 arg4 harg4 arg5 harg5 arg6 harg6 arg7 harg7 arg8 harg8 arg9 harg9 arg10 harg10 arg11 harg11) K } := by
  refine ⟨?_, [], ?_, ?_, fun E K => ?run⟩
  case run =>
    simp only [cc2_path_flash_eq_skeleton]; unfold cc2_path_flash_skel
    simp only [k2_part72_eq_skeleton, k2_part6_eq_skeleton, k2_part7_eq_skeleton, k2_part8_eq_skeleton, k2_part9_eq_skeleton, k2_part10_eq_skeleton, k2_part11_eq_skeleton, k2_part12_eq_skeleton, k2_part13_eq_skeleton, k2_part14_eq_skeleton, k2_part15_eq_skeleton, k2_part16_eq_skeleton, k2_part17_eq_skeleton, k2_part18_eq_skeleton, k2_part19_eq_skeleton, k2_part20_eq_skeleton, k2_part21_eq_skeleton, k2_part22_eq_skeleton, k2_part23_eq_skeleton, k2_part24_eq_skeleton, k2_part25_eq_skeleton, k2_part26_eq_skeleton, k2_part27_eq_skeleton, k2_part28_eq_skeleton, k2_part29_eq_skeleton, k2_part30_eq_skeleton, k2_part31_eq_skeleton, k2_part32_eq_skeleton, k2_part33_eq_skeleton, k2_part34_eq_skeleton, k2_part35_eq_skeleton, k2_part36_eq_skeleton, k2_part37_eq_skeleton, k2_part38_eq_skeleton, k2_part39_eq_skeleton, k2_part40_eq_skeleton, k2_part41_eq_skeleton, k2_part42_eq_skeleton, k2_part43_eq_skeleton, k2_part44_eq_skeleton, k2_part45_eq_skeleton, k2_part46_eq_skeleton, k2_part47_eq_skeleton, k2_part48_eq_skeleton, k2_part49_eq_skeleton, k2_part50_eq_skeleton, k2_part51_eq_skeleton, k2_part52_eq_skeleton, k2_part53_eq_skeleton, k2_part54_eq_skeleton, k2_part55_eq_skeleton, k2_part56_eq_skeleton, k2_part57_eq_skeleton, k2_part58_eq_skeleton, k2_part59_eq_skeleton, k2_part60_eq_skeleton, k2_part61_eq_skeleton, k2_part62_eq_skeleton, k2_part63_eq_skeleton, k2_part64_eq_skeleton, k2_part65_eq_skeleton, k2_part66_eq_skeleton, k2_part67_eq_skeleton, k2_part68_eq_skeleton, k2_part69_eq_skeleton, k2_part70_eq_skeleton, k2_part71_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1; obtain rfl := harg11.eq_unread hfs2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]; · iexact HS1
    iexists _; iexact HS2

end Cert.KernelIdeal.Frm

end
-- ==== Proof.KI.R2.lean ====
module

public import proofs.«01_k».proof.Proof.KI.R2B

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! What each case leaves in the output block and the three scratch buffers. -/

/-- The first case's run at point `t`. -/
abbrev runA (c : Dev nD) (t : Fin cfg2.N) (h0 : t.val % 8 = 0) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
    scM2_0 (Memref.isWhole_whole _) scM2_1 (Memref.isWhole_whole _) scM2_2 (Memref.isWhole_whole _) ((hcond2_0 t).mpr h0)
    (iblk2 V c 0 t) (iblk2 V c 1 t) (iblk2 V c 2 t) (iblk2 V c 3 t) (iblk2 V c 4 t) (iblk2 V c 5 t)
/-- The second case's run at point `t`, over the scratch contents the point before left. -/
abbrev runB (c : Dev nD) (t : Fin cfg2.N) (h0 : ¬t.val % 8 = 0) (s0 s1 : Vec F S16x8x128 .f32) (s2 : Vec F S16x1024x64 .f32) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t)
    scM2_0 (Memref.isWhole_whole _) scM2_1 (Memref.isWhole_whole _) scM2_2 (Memref.isWhole_whole _) (fun h => h0 ((hcond2_0 t).mp h))
    (iblk2 V c 0 t) (iblk2 V c 1 t) (iblk2 V c 2 t) (iblk2 V c 3 t) (iblk2 V c 4 t) (iblk2 V c 5 t) s0 s1 s2

/-- The first case's output pieces cover the block. -/
theorem coverA_6 (c : Dev nD) (t : Fin cfg2.N) (h0 : t.val % 8 = 0) (y : S16x128x64.Idx) :
    ∃ pc ∈ (runA V c t h0).1, y ∈ pc.1.set :=
  View.cover_of_tiledL (runA V c t h0).1 S1x128x64.size (by sl_kernel_rfl) y
/-- The first case's pieces of the cumulative gates cover that scratch. -/
theorem coverA_s0 (c : Dev nD) (t : Fin cfg2.N) (h0 : t.val % 8 = 0) (y : S16x8x128.Idx) :
    ∃ pc ∈ (runA V c t h0).2.1, y ∈ pc.1.set :=
  View.cover_of_tiledL (runA V c t h0).2.1 S1x8x128.size (by sl_kernel_rfl) y
/-- The first case's pieces of the gated copy cover that scratch. -/
theorem coverA_s1 (c : Dev nD) (t : Fin cfg2.N) (h0 : t.val % 8 = 0) (y : S16x8x128.Idx) :
    ∃ pc ∈ (runA V c t h0).2.2.1, y ∈ pc.1.set :=
  View.cover_of_wholeMem (runA V c t h0).2.2.1 (by sl_whole_mem) y
/-- The first case's pieces of the transported keys cover that scratch. -/
theorem coverA_s2 (c : Dev nD) (t : Fin cfg2.N) (h0 : t.val % 8 = 0) (y : S16x1024x64.Idx) :
    ∃ pc ∈ (runA V c t h0).2.2.2.1, y ∈ pc.1.set :=
  View.cover_of_wholeMem (runA V c t h0).2.2.2.1 (by sl_whole_mem) y
/-- The second case's output pieces cover the block. -/
theorem coverB_6 (c : Dev nD) (t : Fin cfg2.N) (h0 : ¬t.val % 8 = 0) (s0 s1 : Vec F S16x8x128 .f32) (s2 : Vec F S16x1024x64 .f32) (y : S16x128x64.Idx) :
    ∃ pc ∈ (runB V c t h0 s0 s1 s2).1, y ∈ pc.1.set :=
  View.cover_of_tiledL (runB V c t h0 s0 s1 s2).1 S1x128x64.size (by sl_kernel_rfl) y

/-- The second case's pieces of the transported keys cover that scratch. -/
theorem coverB_s2 (c : Dev nD) (t : Fin cfg2.N) (h0 : ¬t.val % 8 = 0) (s0 s1 : Vec F S16x8x128 .f32) (s2 : Vec F S16x1024x64 .f32) (y : S16x1024x64.Idx) :
    ∃ pc ∈ (runB V c t h0 s0 s1 s2).2.2.2.1, y ∈ pc.1.set := by
  obtain ⟨pc, hm, hy⟩ := View.cover_of_tiledL ((runB V c t h0 s0 s1 s2).2.2.2.1.drop 16) S1x1024x64.size (by sl_kernel_rfl) y
  exact ⟨pc, List.mem_of_mem_drop hm, hy⟩

/-- The output block and the three scratch buffers after the first case. -/
def outA (c : Dev nD) (t : Fin cfg2.N) (h0 : t.val % 8 = 0) : Vec F S16x128x64 .f32 × Vec F S16x8x128 .f32 × Vec F S16x8x128 .f32 × Vec F S16x1024x64 .f32 :=
  (VO2_6.read (Elt F) (VO2_6.writes (Elt F) VO2_6.junk (runA V c t h0).1),
   VS2_0.read (Elt F) (VS2_0.writes (Elt F) VS2_0.junk (runA V c t h0).2.1),
   VS2_1.read (Elt F) (VS2_1.writes (Elt F) VS2_1.junk (runA V c t h0).2.2.1),
   VS2_2.read (Elt F) (VS2_2.writes (Elt F) VS2_2.junk (runA V c t h0).2.2.2.1))
/-- The output block and the three scratch buffers after the second case. -/
def outB (c : Dev nD) (t : Fin cfg2.N) (h0 : ¬t.val % 8 = 0) (s0 s1 : Vec F S16x8x128 .f32) (s2 : Vec F S16x1024x64 .f32) :
    Vec F S16x128x64 .f32 × Vec F S16x8x128 .f32 × Vec F S16x8x128 .f32 × Vec F S16x1024x64 .f32 :=
  (VO2_6.read (Elt F) (VO2_6.writes (Elt F) VO2_6.junk (runB V c t h0 s0 s1 s2).1),
   s0,
   scM2_1.view.read (Elt F) (scM2_1.view.writes (Elt F) ((Memref.isWhole_whole _).unread s1) (runB V c t h0 s0 s1 s2).2.2.1),
   VS2_2.read (Elt F) (VS2_2.writes (Elt F) VS2_2.junk (runB V c t h0 s0 s1 s2).2.2.2.1))

/-- The output block and the three scratch buffers after the body at each point. -/
def outs2 (c : Dev nD) : (n : ℕ) → n < cfg2.N → Vec F S16x128x64 .f32 × Vec F S16x8x128 .f32 × Vec F S16x8x128 .f32 × Vec F S16x1024x64 .f32
  | 0, hn => outA V c ⟨0, hn⟩ (Nat.zero_mod _)
  | n + 1, hn =>
    if h0 : (n + 1) % 8 = 0 then outA V c ⟨n + 1, hn⟩ h0
    else outB V c ⟨n + 1, hn⟩ h0 (outs2 c n (Nat.lt_of_succ_lt hn)).2.1 (outs2 c n (Nat.lt_of_succ_lt hn)).2.2.1 (outs2 c n (Nat.lt_of_succ_lt hn)).2.2.2

/-- At a point of the first case. -/
theorem outs2_A (c : Dev nD) (t : Fin cfg2.N) (h0 : t.val % 8 = 0) : outs2 V c t.val t.isLt = outA V c t h0 := by
  obtain ⟨n, hn⟩ := t
  cases n with
  | zero => exact rfl
  | succ n => exact (dif_pos h0).trans rfl

/-- At a point of the second case, over what the point before left. -/
theorem outs2_B (c : Dev nD) (t : Fin cfg2.N) (h0 : ¬t.val % 8 = 0) :
    outs2 V c t.val t.isLt = outB V c t h0 (outs2 V c (t.val - 1) (Nat.lt_of_le_of_lt (Nat.sub_le _ _) t.isLt)).2.1
      (outs2 V c (t.val - 1) (Nat.lt_of_le_of_lt (Nat.sub_le _ _) t.isLt)).2.2.1 (outs2 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans rfl

/-- The invariant before position `n`: before the first point every scratch at anything, afterwards at what the point before left. -/
def PhiS (c : Dev nD) : (n : ℕ) → n ≤ cfg2.N → sProp 𝕄
  | 0, _ => Pipeline.ΦA spec2 c
  | n + 1, hn => iprop(iprop(owns (c : Thread nD τ) scM2_0 fullShare ((outs2 V c n hn).2.1) ∗ owns (c : Thread nD τ) scM2_1 fullShare ((outs2 V c n hn).2.2.1) ∗ owns (c : Thread nD τ) scM2_2 fullShare ((outs2 V c n hn).2.2.2)) ∗ G2 c)

/-- Before the first point. -/
theorem PhiS_zero (c : Dev nD) (n : ℕ) (h : n ≤ cfg2.N) (hz : n = 0) : PhiS V c n h = Pipeline.ΦA spec2 c := by
  subst hz; rfl

/-- After point `n`. -/
theorem PhiS_succ (c : Dev nD) (n : ℕ) (hn : n < cfg2.N) :
    PhiS V c (n + 1) hn = iprop(iprop(owns (c : Thread nD τ) scM2_0 fullShare ((outs2 V c n hn).2.1) ∗ owns (c : Thread nD τ) scM2_1 fullShare ((outs2 V c n hn).2.2.1) ∗ owns (c : Thread nD τ) scM2_2 fullShare ((outs2 V c n hn).2.2.2)) ∗ G2 c) := rfl

/-- Before a point that is not the first. -/
theorem PhiS_pos (c : Dev nD) (n : ℕ) (h : n ≤ cfg2.N) (hz : n ≠ 0) :
    PhiS V c n h = iprop(iprop(owns (c : Thread nD τ) scM2_0 fullShare ((outs2 V c (n - 1) (by omega)).2.1) ∗ owns (c : Thread nD τ) scM2_1 fullShare ((outs2 V c (n - 1) (by omega)).2.2.1) ∗ owns (c : Thread nD τ) scM2_2 fullShare ((outs2 V c (n - 1) (by omega)).2.2.2)) ∗ G2 c) := by
  cases n with
  | zero => exact absurd rfl hz
  | succ n => rfl

/-- The proof data of the flash pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outs2 V c t.val t.isLt).1
  Φ t := PhiS V c t.val (Nat.le_of_lt_succ t.isLt)
  q _ := fullShare
  owed _ := 0

/-- The arrays are the region's entry contents. -/
theorem A_eq2 (c : Dev nD) (w : Fin cfg2.W) : (dat2 V c).A w = V c (Pipeline.arrRef spec2 w) := by
  dsimp only [dat2]

/-- The invariant at a point's start. -/
theorem PhiS_castSucc (c : Dev nD) (t : Fin cfg2.N) :
    (dat2 V c).Φ t.castSucc = PhiS V c t.val (Nat.le_of_lt t.isLt) := by
  dsimp only [dat2]; exact Pipeline.Dat.Φ_castSucc (PhiS V c) t

/-! What the body leaves in each window, and what it finds in the inputs'. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outs2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- What it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 6400000 in
/-- The body at any point, by its case. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl,
    after2_0, after2_1, after2_2, after2_3, after2_4, after2_5, after2_6]
  rw [show (dat2 V c).Φ t.succ = PhiS V c (t.val + 1) t.isLt from rfl, PhiS_succ]
  have hN : t.val < 16 := lt_of_lt_of_eq t.isLt (show cfg2.N = 16 from N_2)
  by_cases h0 : t.val % 8 = 0
  · by_cases hz : t.val = 0
    · rw [PhiS_castSucc V c t, PhiS_zero V c _ _ hz, PhiA2_eq]
      rw [outs2_A V c t h0]
      unfold outA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      isplitl [HS2]; · iexact HS2
      iintro ⟨H0, H1, H2, H3, H4, H5, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_s0 V c t h0)
          isplitl [HS1]
          · unfold owns; iexists _; isplitr
            swap; · iexact HS1
            ipureintro; exact View.read_writes_of_cover _ _ _ _ _ (coverA_s1 V c t h0)
          unfold owns; iexists _; isplitr
          swap; · iexact HS2
          ipureintro; exact View.read_writes_of_cover _ _ _ _ _ (coverA_s2 V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 V c t h0)
    · rw [PhiS_castSucc V c t, PhiS_pos V c _ _ hz]
      rw [outs2_A V c t h0]
      unfold outA; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((runA V c t h0).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexists _; iexact HS0
      isplitl [HS1]; · iexists _; iexact HS1
      isplitl [HS2]; · iexists _; iexact HS2
      iintro ⟨H0, H1, H2, H3, H4, H5, ⟨%e6, H6⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverA_s0 V c t h0)
          isplitl [HS1]
          · unfold owns; iexists _; isplitr
            swap; · iexact HS1
            ipureintro; exact View.read_writes_of_cover _ _ _ _ _ (coverA_s1 V c t h0)
          unfold owns; iexists _; isplitr
          swap; · iexact HS2
          ipureintro; exact View.read_writes_of_cover _ _ _ _ _ (coverA_s2 V c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (coverA_6 V c t h0)
  · have hz : t.val ≠ 0 := by omega
    rw [PhiS_castSucc V c t, PhiS_pos V c _ _ hz]
    rw [outs2_B V c t h0]
    unfold outB; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((runB V c t h0 _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, HS0, HS1, ⟨%es2, HS2⟩⟩
    isplitl [HS0 HS1 HS2 Hg]
    · isplitl [HS0 HS1 HS2]
      · isplitl [HS0]
        · iexact HS0
        isplitl [HS1]
        · unfold owns; iexists _; isplitr
          swap; · iexact HS1
          ipureintro; rfl
        unfold owns; iexists _; isplitr
        swap; · iexact HS2
        ipureintro; exact View.read_writes_of_cover _ _ _ _ _ (coverB_s2 V c t h0 _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverB_6 V c t h0 _ _ _)

/-- The body table's row at point `t`'s slots is the body. -/
theorem defs₀_row2 (t : Fin cfg2.N) :
    defs₀ (F := F) .tc cfg2.body (cfg2.bodyArgs t (cfg2.slots t)) = bodyAt2 t := by
  unfold defs₀; rw [Defs.onTc_tc]

/-- The body obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point the invariant is the class's. -/
theorem Phi2_zero (c : Dev nD) : (dat2 V c).Φ 0 = Pipeline.ΦA spec2 c := by
  rw [show (dat2 V c).Φ 0 = PhiS V c 0 (Nat.zero_le _) from rfl, PhiS_zero V c 0 _ rfl]

/-- After the last point the invariant gives the class's back. -/
theorem Phi2_last (c : Dev nD) : (dat2 V c).Φ (Fin.last cfg2.N) ⊢ Pipeline.ΦA spec2 c := by
  rw [show (dat2 V c).Φ (Fin.last cfg2.N) = PhiS V c cfg2.N (Nat.le_refl _) from rfl, PhiS_pos V c _ _ (by rw [show cfg2.N = 16 from N_2]; decide), PhiA2_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

end Cert.KernelIdeal.Frm

end
-- ==== Proof.KI.R3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-! REGION 3 of @main: custom_call 3. -/

/-! The windows' blocks. -/

/-- Window `w`'s block at point `t`. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! The body's accesses. -/

abbrev r3_0 : Rect S16x256x64 := Rect.unit (s := S16x256x64) ![0, 0, 0] S1x256x64.size inb_S16x256x64_S1x256x64_0_0_0
abbrev r3_1 : Rect S16x256x64 := Rect.unit (s := S16x256x64) ![1, 0, 0] S1x256x64.size inb_S16x256x64_S1x256x64_1_0_0
abbrev r3_2 : Rect S16x256x64 := Rect.unit (s := S16x256x64) ![2, 0, 0] S1x256x64.size inb_S16x256x64_S1x256x64_2_0_0
abbrev r3_3 : Rect S16x256x64 := Rect.unit (s := S16x256x64) ![3, 0, 0] S1x256x64.size inb_S16x256x64_S1x256x64_3_0_0
abbrev r3_4 : Rect S16x256x64 := Rect.unit (s := S16x256x64) ![4, 0, 0] S1x256x64.size inb_S16x256x64_S1x256x64_4_0_0
abbrev r3_5 : Rect S16x256x64 := Rect.unit (s := S16x256x64) ![5, 0, 0] S1x256x64.size inb_S16x256x64_S1x256x64_5_0_0
abbrev r3_6 : Rect S16x256x64 := Rect.unit (s := S16x256x64) ![6, 0, 0] S1x256x64.size inb_S16x256x64_S1x256x64_6_0_0
abbrev r3_7 : Rect S16x256x64 := Rect.unit (s := S16x256x64) ![7, 0, 0] S1x256x64.size inb_S16x256x64_S1x256x64_7_0_0
abbrev r3_8 : Rect S16x256x64 := Rect.unit (s := S16x256x64) ![8, 0, 0] S1x256x64.size inb_S16x256x64_S1x256x64_8_0_0
abbrev r3_9 : Rect S16x256x64 := Rect.unit (s := S16x256x64) ![9, 0, 0] S1x256x64.size inb_S16x256x64_S1x256x64_9_0_0
abbrev r3_10 : Rect S16x256x64 := Rect.unit (s := S16x256x64) ![10, 0, 0] S1x256x64.size inb_S16x256x64_S1x256x64_10_0_0
abbrev r3_11 : Rect S16x256x64 := Rect.unit (s := S16x256x64) ![11, 0, 0] S1x256x64.size inb_S16x256x64_S1x256x64_11_0_0
abbrev r3_12 : Rect S16x256x64 := Rect.unit (s := S16x256x64) ![12, 0, 0] S1x256x64.size inb_S16x256x64_S1x256x64_12_0_0
abbrev r3_13 : Rect S16x256x64 := Rect.unit (s := S16x256x64) ![13, 0, 0] S1x256x64.size inb_S16x256x64_S1x256x64_13_0_0
abbrev r3_14 : Rect S16x256x64 := Rect.unit (s := S16x256x64) ![14, 0, 0] S1x256x64.size inb_S16x256x64_S1x256x64_14_0_0
abbrev r3_15 : Rect S16x256x64 := Rect.unit (s := S16x256x64) ![15, 0, 0] S1x256x64.size inb_S16x256x64_S1x256x64_15_0_0
abbrev r3_16 : Rect S1024x1024 := Rect.unit (s := S1024x1024) ![0, 0] S1024x1024.size inb_S1024x1024_S1024x1024_0_0
abbrev r3_17 : Rect S1x256x1024 := Rect.unit (s := S1x256x1024) ![0, 0, 0] S1x256x1024.size inb_S1x256x1024_S1x256x1024_0_0_0

/-! What the body leaves in each output window's buffer. -/

/-- Window 2's staging buffer after the body. -/
def out3_2 (x0 : Vec F S16x256x64 .f32) (x1 : Vec F S1024x1024 .f32) : Vec F S1x256x1024 .f32 :=
  View.canon [⟨r3_17, k3_pay2 (k3_pay1 (k3_pay3 (View.ld x0 r3_0)) (k3_pay4 (View.ld x0 r3_1)) (k3_pay5 (View.ld x0 r3_2)) (k3_pay6 (View.ld x0 r3_3)) (k3_pay7 (View.ld x0 r3_4)) (k3_pay8 (View.ld x0 r3_5)) (k3_pay9 (View.ld x0 r3_6)) (k3_pay10 (View.ld x0 r3_7)) (k3_pay11 (View.ld x0 r3_8)) (k3_pay12 (View.ld x0 r3_9)) (k3_pay13 (View.ld x0 r3_10)) (View.ld x0 r3_11) (View.ld x0 r3_12) (View.ld x0 r3_13) (View.ld x0 r3_14) (View.ld x0 r3_15)) (View.ld x1 r3_16)⟩]

/-- Its stores tile the buffer (checked by evaluation). -/
theorem cover3_2 (p0 : Vec F S1x256x1024 .f32) (y : S1x256x1024.Idx) :
    ∃ pc ∈ ([⟨r3_17, p0⟩] : List (View.Piece (Elt F) S1x256x1024 .f32)), y ∈ pc.1.set :=
  View.cover_of_tiled [⟨r3_17, p0⟩] S1x256x1024.size (by rfl) y

/-! The body's triple. -/

set_option maxHeartbeats 1000000 in
/-- The kernel body on whole staging memrefs. -/
theorem sound_kernel3 (c : Dev nD) (E : Set ℕ) (i : grid3.Coords) (arg2 : Memref sig .tc .vmem S16x256x64 .f32) (harg2 : arg2.IsWhole) (arg3 : Memref sig .tc .vmem S1024x1024 .f32) (harg3 : arg3.IsWhole) (arg4 : Memref sig .tc .vmem S1x256x1024 .f32) (harg4 : arg4.IsWhole)
    (x0 : Vec F S16x256x64 .f32) (x1 : Vec F S1024x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out3_2 x0 x1)) -∗ K ⟨⟩))
      ⊢ wp frame (wpE (defs₀ (F := F)) Variants.none c none) E (cc3_path_outproj i arg2 harg2 arg3 harg3 arg4 harg4) K := by
  simp only [cc3_path_outproj_eq_skeleton]; unfold cc3_path_outproj_skel
  simp only [k3_part1_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! The pipeline's proof data. -/

/-- The proof data of pipeline 3 on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! The body obligation, at a generic point. -/

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns.. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Frm

end
-- ==== Proof.KI.Hosts.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! THE RUN: @main's segments from the launch to the return. -/

/-- @main's argument arrays. -/
abbrev argRefs : List (Ref sig .tc) := [main_arg0, main_arg1, main_arg2, main_arg3, main_arg4, main_arg5, main_arg6, main_arg7, main_arg8, main_arg9]

/-! The host stretches: none allocates a buffer. -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked. -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes. -/
abbrev hostOps2_W : List (Ref sig .tc) := [main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked. -/
theorem hostOps2_args : ∀ a ∈ argRefs, a ∉ hostOps2_W := ListAll.forall_mem_of_all_decide (by decide +kernel)

end Cert.KernelIdeal.Frm

end
-- ==== Proof.KI.Fold.lean ====
module

public import proofs.«01_k».proof.Proof.KI.R0
public import proofs.«01_k».proof.Proof.KI.R1
public import proofs.«01_k».proof.Proof.KI.R2
public import proofs.«01_k».proof.Proof.KI.R3
public import proofs.«01_k».proof.Proof.KI.Hosts

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The buffer contents at each segment boundary. -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it held at entry (`hrest1`). -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2` (region 2's entry). -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)
/-- The same read at the TensorCore's references (what region 2's proof data take). -/
abbrev V4 : (c : Dev nD) → (b : Ref sig .tc) → Buf (Elt F) ((c : Thread nD τ).loc b) := fun c b => W4 m ρ c b
/-- At region 2's exit: its arrays at what the pipeline leaves (the inputs as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked. -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it held at entry (`hrest2`). -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- At region 3's exit: its arrays at what the pipeline leaves (the inputs as entered. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
/-- A reference that is none of region 3's OUTPUT arrays keeps its entry contents across it. -/
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
/-- Every argument among region 3's arrays is an input window's (checked. -/
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
/-- The same read at the TensorCore's references (region 3's exit contents). -/
abbrev V6 : (c : Dev nD) → (b : Ref sig .tc) → Buf (Elt F) ((c : Thread nD τ).loc b) := fun c b => W6 m ρ c b
/-- At region 3's exit each of its arrays holds what the pipeline leaves (`hF3`) and every other buffer what it held at entry (`hrest3`). -/
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-! The arguments end as launched. -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
end Cert.KernelIdeal.Frm

end
-- ==== Proof.KI.State.lean ====
module

public import proofs.«01_k».proof.Proof.KI.Fold

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The proof data family and the thread state. -/

/-- The prefetched tables' admissible contents. -/
abbrev adm : (p : Fin 4) → (pcfgs (F := F) p).Adm := fun p => (cfgs p).toPCfg_adm
/-- Every pipeline's proof data. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
  | ⟨3, _⟩ => fun c => dat3 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing). -/
abbrev Tₙ (c : Dev nD) : sProp 𝕄 := iprop(StableHlo.held (c : Thread nD τ) (Pipeline.ucRefs τ sig) (W6 m ρ c) ∗ ∃ r, prngReg c r)

end Cert.KernelIdeal.Frm

end
-- ==== Proof.KI.Rec0.lean ====
module

public import proofs.«01_k».proof.Proof.KI.State

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The regions as segments. -/

set_option backward.isDefEq.respectTransparency.types false in
/-- REGION 0 (custom_call 0) over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Rec1.lean ====
module

public import proofs.«01_k».proof.Proof.KI.State

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 1 (custom_call 1) over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Rec2.lean ====
module

public import proofs.«01_k».proof.Proof.KI.State

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 2 (custom_call 2) over the thread state. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from Phi2_zero (V4 m ρ) c]; unfold Pipeline.ΦA
    iintro ⟨Hp, -, Hr⟩
    isplitl [Hr]; · iexact Hr
    iexact Hp
  hout c := by
    rw [Pipeline.ownSems0_none]
    iintro HΦ
    have hl : (pdats m ρ 2 c).Φ (Fin.last (Pipeline.pin (pcfgs (F := F)) adm 2).N) ⊢ Pipeline.ΦA spec2 c := Phi2_last (V4 m ρ) c
    ihave HA := hl $$ HΦ
    unfold Pipeline.ΦA
    icases HA with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Frm

end
-- ==== Proof.KI.Rec3.lean ====
module

public import proofs.«01_k».proof.Proof.KI.State

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- REGION 3 (custom_call 3) over the thread state. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Frm

end
-- ==== Proof.KI.Run.lean ====
module

public import proofs.«01_k».proof.Proof.KI.Rec0
public import proofs.«01_k».proof.Proof.KI.Rec1
public import proofs.«01_k».proof.Proof.KI.Rec2
public import proofs.«01_k».proof.Proof.KI.Rec3

@[expose] public section

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! @main as segments, and the launch. -/

/-- @main's 6 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .region (reg3 m ρ) ]
/-- @main IS the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE FRAME: `Cert.quiescent_KernelIdeal`'s statement (Defs.lean) at any `F`. -/
theorem run_main : θ_run defs (onTc (τ := τ) (main (F := F))) ⟨m, fun _ => 0, ρ⟩ (fun r => (∀ c : Dev nD,
      r.2.mem ((c.tc : Thread nD τ).loc main_v6) = (dat3 (V5 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v6 (by decide))).trans (W6_arr m ρ c 2),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩), funext fun g => hz g (.inr (no_unscoped g.2))⟩)

/-- The frame: every run ends, the arguments as launched and every counter at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => (h.1 c).2, h.2⟩) (run_main m ρ)

end Cert.KernelIdeal.Frm

end
-- ==== Proof.RI.Frm.lean ====
module

public import proofs.«01_k».proof.Proof.Gen.ReferenceIdeal.Run

@[expose] public section

set_option maxRecDepth 16384

noncomputable section

namespace Cert.ReferenceIdeal.Frm

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- The references that `hostOps0_7` writes, in order. -/
abbrev hostOps0_7_W : List (Ref sig .tc) := [main_v41, main_v42, main_v43, main_v44]
/-- `hostOps0_7` writes those references only. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- The references that `hostOps0_8` writes, in order. -/
abbrev hostOps0_8_W : List (Ref sig .tc) := [main_call3_v0, main_call3_c, main_call3_v1, main_call3_v2, main_call3_v3, main_call3_v4, main_call3_v5, main_call3_cst, main_call3_v6, main_v45]
/-- `hostOps0_8` writes those references only. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- The references that `hostOps0_9` writes, in order. -/
abbrev hostOps0_9_W : List (Ref sig .tc) := [main_v46, main_v47, main_v48, main_v49]
/-- `hostOps0_9` writes those references only. -/
theorem hostOps0_9_writes : (hostOps0_9 : List (HloOp τ sig (Elt F))).Forall fun op => op.writes ⊆ (hostOps0_9_W.map (Proc.devRef (τ := τ) .tc)).toFinset :=
  StableHlo.forall_writes_sub_of_map rfl
/-- The references that `hostOps0_10` writes, in order. -/
abbrev hostOps0_10_W : List (Ref sig .tc) := [main_call4_call0_cst, main_call4_call0_v0, main_v50]
/-- `hostOps0_10` writes those references only. -/
theorem hostOps0_10_writes : (hostOps0_10 : List (HloOp τ sig (Elt F))).Forall fun op => op.writes ⊆ (hostOps0_10_W.map (Proc.devRef (τ := τ) .tc)).toFinset :=
  StableHlo.forall_writes_sub_of_map rfl
/-- The references that `hostOps0_11` writes, in order. -/
abbrev hostOps0_11_W : List (Ref sig .tc) := [main_cst_6, main_v51, main_v52, main_v53, main_v54, main_v55, main_v56, main_v57, main_v58, main_c_7, main_v59]
/-- `hostOps0_11` writes those references only. -/
theorem hostOps0_11_writes : (hostOps0_11 : List (HloOp τ sig (Elt F))).Forall fun op => op.writes ⊆ (hostOps0_11_W.map (Proc.devRef (τ := τ) .tc)).toFinset :=
  StableHlo.forall_writes_sub_of_map rfl
/-- The references that `hostOps0_12` writes, in order. -/
abbrev hostOps0_12_W : List (Ref sig .tc) := [main_call5_v0, main_call5_c, main_call5_v1, main_call5_v2, main_call5_v3, main_call5_v4, main_call5_c_0, main_call5_v5, main_v60]
/-- `hostOps0_12` writes those references only. -/
theorem hostOps0_12_writes : (hostOps0_12 : List (HloOp τ sig (Elt F))).Forall fun op => op.writes ⊆ (hostOps0_12_W.map (Proc.devRef (τ := τ) .tc)).toFinset :=
  StableHlo.forall_writes_sub_of_map rfl
/-- The references that `hostOps0_13` writes, in order. -/
abbrev hostOps0_13_W : List (Ref sig .tc) := [main_cst_8]
/-- `hostOps0_13` writes those references only. -/
theorem hostOps0_13_writes : (hostOps0_13 : List (HloOp τ sig (Elt F))).Forall fun op => op.writes ⊆ (hostOps0_13_W.map (Proc.devRef (τ := τ) .tc)).toFinset :=
  StableHlo.forall_writes_sub_of_map rfl
/-- The references that `hostOps0_14` writes, in order. -/
abbrev hostOps0_14_W : List (Ref sig .tc) := [main_call6_v0, main_call6_v1, main_call6_v2, main_v61]
/-- `hostOps0_14` writes those references only. -/
theorem hostOps0_14_writes : (hostOps0_14 : List (HloOp τ sig (Elt F))).Forall fun op => op.writes ⊆ (hostOps0_14_W.map (Proc.devRef (τ := τ) .tc)).toFinset :=
  StableHlo.forall_writes_sub_of_map rfl
/-- The references that `hostOps0_15` writes, in order. -/
abbrev hostOps0_15_W : List (Ref sig .tc) := [main_cst_9, main_v62, main_cst_10, main_v63, main_v64, main_v65, main_v66, main_v67, main_v68, main_cst_11, main_v69, main_v70, main_v71, main_v72, main_v73, main_v74, main_v75, main_v76]
/-- `hostOps0_15` writes those references only. -/
theorem hostOps0_15_writes : (hostOps0_15 : List (HloOp τ sig (Elt F))).Forall fun op => op.writes ⊆ (hostOps0_15_W.map (Proc.devRef (τ := τ) .tc)).toFinset :=
  StableHlo.forall_writes_sub_of_map rfl

/-- A reference the operations before the loop write nowhere keeps its launch contents up to the loop. -/
theorem pre_keep (r : Ref sig .tc) (V : Valuation τ sig (Elt F))
    (h : r ∉ hostOps0_W ++ (hostOps0_1_W ++ (hostOps0_2_W ++ (hostOps0_3_W ++ (hostOps0_4_W ++ (hostOps0_5_W ++ hostOps0_6_W)))))) :
    afterL preI V (Proc.devRef .tc r) = V (Proc.devRef .tc r) := by
  simp only [List.mem_append, not_or] at h
  obtain ⟨h0, h1, h2, h3, h4, h5, h6⟩ := h
  simp only [preI, afterL_cons, afterL_nil]
  rw [after_of_writes_sub hostOps0_6 _ hostOps0_6_writes h6]
  rw [after_of_writes_sub hostOps0_5 _ hostOps0_5_writes h5]
  rw [after_of_writes_sub hostOps0_4 _ hostOps0_4_writes h4]
  rw [after_of_writes_sub hostOps0_3 _ hostOps0_3_writes h3]
  rw [after_of_writes_sub hostOps0_2 _ hostOps0_2_writes h2]
  rw [after_of_writes_sub hostOps0_1 _ hostOps0_1_writes h1]
  rw [after_of_writes_sub hostOps0 _ hostOps0_writes h0]

/-- A reference the operations after the loop write nowhere keeps its contents through them. -/
theorem post_keep (r : Ref sig .tc) (V : Valuation τ sig (Elt F))
    (h : r ∉ hostOps0_7_W ++ (hostOps0_8_W ++ (hostOps0_9_W ++ (hostOps0_10_W ++ (hostOps0_11_W ++ (hostOps0_12_W ++ (hostOps0_13_W ++ (hostOps0_14_W ++ hostOps0_15_W)))))))) :
    afterL postI V (Proc.devRef .tc r) = V (Proc.devRef .tc r) := by
  simp only [List.mem_append, not_or] at h
  obtain ⟨h0, h1, h2, h3, h4, h5, h6, h7, h8⟩ := h
  simp only [postI, afterL_cons, afterL_nil]
  rw [after_of_writes_sub hostOps0_15 _ hostOps0_15_writes h8]
  rw [after_of_writes_sub hostOps0_14 _ hostOps0_14_writes h7]
  rw [after_of_writes_sub hostOps0_13 _ hostOps0_13_writes h6]
  rw [after_of_writes_sub hostOps0_12 _ hostOps0_12_writes h5]
  rw [after_of_writes_sub hostOps0_11 _ hostOps0_11_writes h4]
  rw [after_of_writes_sub hostOps0_10 _ hostOps0_10_writes h3]
  rw [after_of_writes_sub hostOps0_9 _ hostOps0_9_writes h2]
  rw [after_of_writes_sub hostOps0_8 _ hostOps0_8_writes h1]
  rw [after_of_writes_sub hostOps0_7 _ hostOps0_7_writes h0]

/-- A reference that neither the loop's condition nor its body writes is the same before every trip. -/
theorem loop_keep (m : (ℓ : Loc nD τ sig) → Buf (Elt F) ℓ) (c : Dev nD) (r : Ref sig .tc)
    (h : r ∉ condOps_W) (h' : r ∉ while0Ops0_W) :
    ∀ k, atK m k c (Proc.devRef .tc r) = entryContents preI m c (Proc.devRef .tc r)
  | 0 => rfl
  | k + 1 => by
    show after while0Ops0 (after condOps (atK m k c)) _ = _
    rw [after_of_writes_sub while0Ops0 _ while0Ops0_writes h', after_of_writes_sub condOps _ condOps_writes h]
    exact loop_keep m c r h h' k

/-- A reference nothing writes ends as it was launched. -/
theorem final_keep (m : (ℓ : Loc nD τ sig) → Buf (Elt F) ℓ) (c : Dev nD) (r : Ref sig .tc)
    (h1 : r ∉ hostOps0_W ++ (hostOps0_1_W ++ (hostOps0_2_W ++ (hostOps0_3_W ++ (hostOps0_4_W ++ (hostOps0_5_W ++ hostOps0_6_W))))))
    (h2 : r ∉ hostOps0_7_W ++ (hostOps0_8_W ++ (hostOps0_9_W ++ (hostOps0_10_W ++ (hostOps0_11_W ++ (hostOps0_12_W ++ (hostOps0_13_W ++ (hostOps0_14_W ++ hostOps0_15_W))))))))
    (h3 : r ∉ condOps_W) (h4 : r ∉ while0Ops0_W) :
    finalContents condOps preI bodyI postI 1024 m c (Proc.devRef .tc r) = m ((c.tc : Thread nD τ).loc r) := by
  show afterL postI (after condOps (atK m 1024 c)) _ = _
  rw [post_keep r _ h2, after_of_writes_sub condOps _ condOps_writes h3, loop_keep m c r h3 h4]
  exact pre_keep r _ h1

/-- The reference's run: the result at the fold, the arguments as launched. -/
theorem run_main (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v76) = finalContents condOps preI bodyI postI 1024 m c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v76 rfl,
    (h c main_arg0 rfl).trans (final_keep m c main_arg0 (by decide +kernel) (by decide +kernel) (by decide +kernel) (by decide +kernel)),
    (h c main_arg1 rfl).trans (final_keep m c main_arg1 (by decide +kernel) (by decide +kernel) (by decide +kernel) (by decide +kernel)),
    (h c main_arg2 rfl).trans (final_keep m c main_arg2 (by decide +kernel) (by decide +kernel) (by decide +kernel) (by decide +kernel)),
    (h c main_arg3 rfl).trans (final_keep m c main_arg3 (by decide +kernel) (by decide +kernel) (by decide +kernel) (by decide +kernel)),
    (h c main_arg4 rfl).trans (final_keep m c main_arg4 (by decide +kernel) (by decide +kernel) (by decide +kernel) (by decide +kernel)),
    (h c main_arg5 rfl).trans (final_keep m c main_arg5 (by decide +kernel) (by decide +kernel) (by decide +kernel) (by decide +kernel)),
    (h c main_arg6 rfl).trans (final_keep m c main_arg6 (by decide +kernel) (by decide +kernel) (by decide +kernel) (by decide +kernel)),
    (h c main_arg7 rfl).trans (final_keep m c main_arg7 (by decide +kernel) (by decide +kernel) (by decide +kernel) (by decide +kernel)),
    (h c main_arg8 rfl).trans (final_keep m c main_arg8 (by decide +kernel) (by decide +kernel) (by decide +kernel) (by decide +kernel)),
    (h c main_arg9 rfl).trans (final_keep m c main_arg9 (by decide +kernel) (by decide +kernel) (by decide +kernel) (by decide +kernel))⟩) (run_fold m ρ)

end Cert.ReferenceIdeal.Frm

end
-- ==== Proof.V.Math.lean ====
module
public import Mathlib.LinearAlgebra.Matrix.NonsingularInverse
public import Mathlib.Tactic.NormNum
public import Mathlib.Tactic.NoncommRing
public import Mathlib.Data.Real.Basic
public import Mathlib.Tactic.Ring
public import Idealize.ShloMosaic.Lib.Pipeline.ValueKit

/-! The real mathematics of the chunked attention: inverses of unit triangular matrices, and the
    recurrence of the transformed keys over the chunks. -/

@[expose] public section

namespace Cert.Val

open Matrix

/-- A power of a strictly lower triangular matrix vanishes above its diagonal of that number. -/
theorem lower_pow {m : ℕ} (L : Matrix (Fin m) (Fin m) ℝ) (h : ∀ i j, i ≤ j → L i j = 0) (n : ℕ) :
    ∀ i j : Fin m, i.val < j.val + n → (L ^ n) i j = 0 := by
  induction n with
  | zero =>
    intro i j hij
    rw [pow_zero, Matrix.one_apply_ne]
    intro e; subst e; omega
  | succ n ih =>
    intro i j hij
    rw [pow_succ', Matrix.mul_apply]
    refine Finset.sum_eq_zero fun k _ => ?_
    by_cases hk : i ≤ k
    · rw [h i k hk, zero_mul]
    · rw [ih k j (by have : k < i := not_le.mp hk; have := Fin.lt_def.mp this; omega), mul_zero]

/-- One step of the iteration for an inverse. -/
def nstep {m : ℕ} (A X : Matrix (Fin m) (Fin m) ℝ) : Matrix (Fin m) (Fin m) ℝ :=
  X * ((2 : ℝ) • 1 - A * X)

/-- The step squares the error. -/
theorem nstep_err {m : ℕ} (A X E : Matrix (Fin m) (Fin m) ℝ) (h : A * X = 1 - E) :
    A * nstep A X = 1 - E ^ 2 := by
  rw [nstep, ← Matrix.mul_assoc, h, two_smul]
  noncomm_ring

/-- Five steps from `1 - L`. -/
def newt {m : ℕ} (L : Matrix (Fin m) (Fin m) ℝ) : Matrix (Fin m) (Fin m) ℝ :=
  nstep (1 + L) (nstep (1 + L) (nstep (1 + L) (nstep (1 + L) (nstep (1 + L) (1 - L)))))

/-- The iteration ends at the inverse of a unit lower triangular matrix of 64 rows. -/
theorem newt_inv (L : Matrix (Fin 64) (Fin 64) ℝ) (h : ∀ i j, i ≤ j → L i j = 0) :
    (1 + L) * newt L = 1 := by
  have h0 : (1 + L) * (1 - L) = 1 - L ^ 2 := by noncomm_ring
  have h5 := nstep_err _ _ _ (nstep_err _ _ _ (nstep_err _ _ _ (nstep_err _ _ _
    (nstep_err _ _ _ h0))))
  have hz : L ^ 64 = 0 := by
    ext i j
    exact lower_pow L h 64 i j (by omega)
  rw [newt, h5]
  simp only [← pow_mul]
  norm_num [hz]

/-- The lower left and the two diagonal blocks put together. -/
def blk (X1 X21 X2 : Matrix (Fin 64) (Fin 64) ℝ) : Matrix (Fin 128) (Fin 128) ℝ := fun i j =>
  if hi : i.val < 64 then
    (if hj : j.val < 64 then X1 ⟨i, hi⟩ ⟨j, hj⟩ else 0)
  else
    (if hj : j.val < 64 then X21 ⟨i - 64, by omega⟩ ⟨j, hj⟩
      else X2 ⟨i - 64, by omega⟩ ⟨j - 64, by omega⟩)

/-- The blocks of a matrix of 128 rows. -/
def b11 (L : Matrix (Fin 128) (Fin 128) ℝ) : Matrix (Fin 64) (Fin 64) ℝ := fun i j =>
  L ⟨i, by omega⟩ ⟨j, by omega⟩
/-- The lower left block. -/
def b21 (L : Matrix (Fin 128) (Fin 128) ℝ) : Matrix (Fin 64) (Fin 64) ℝ := fun i j =>
  L ⟨64 + i, by omega⟩ ⟨j, by omega⟩
/-- The lower right block. -/
def b22 (L : Matrix (Fin 128) (Fin 128) ℝ) : Matrix (Fin 64) (Fin 64) ℝ := fun i j =>
  L ⟨64 + i, by omega⟩ ⟨64 + j, by omega⟩

/-- The inverse that the kernel builds from the two diagonal blocks. -/
def xinv (L : Matrix (Fin 128) (Fin 128) ℝ) : Matrix (Fin 128) (Fin 128) ℝ :=
  blk (newt (b11 L)) (0 - newt (b22 L) * (b21 L * newt (b11 L))) (newt (b22 L))

/-- The built matrix is the inverse of a unit lower triangular matrix of 128 rows. -/
theorem xinv_inv (L : Matrix (Fin 128) (Fin 128) ℝ) (h : ∀ i j, i ≤ j → L i j = 0) :
    xinv L * (1 + L) = 1 := by
  rw [mul_eq_one_comm]
  let e : Fin 64 ⊕ Fin 64 ≃ Fin 128 := finSumFinEquiv
  have h1 := newt_inv (b11 L) (fun i j hij => h _ _ (by
    rw [Fin.le_def] at *; exact hij))
  have h2 := newt_inv (b22 L) (fun i j hij => h _ _ (by
    rw [Fin.le_def] at *; simpa using hij))
  have eL : (1 + L).submatrix e e = Matrix.fromBlocks (1 + b11 L) 0 (b21 L) (1 + b22 L) := by
    ext i j
    rcases i with i | i <;> rcases j with j | j
    · simp [e, Matrix.one_apply, b11, Fin.ext_iff]; rfl
    · have : L (Fin.castAdd 64 i) (Fin.natAdd 64 j) = 0 := h _ _ (by
        rw [Fin.le_def]; simp; omega)
      have ne : (Fin.castAdd 64 i : Fin 128) ≠ Fin.natAdd 64 j := by
        intro hh; have := Fin.ext_iff.mp hh; simp at this; omega
      simp [e, Matrix.one_apply, ne]
      exact this
    · have ne : (Fin.natAdd 64 i : Fin 128) ≠ Fin.castAdd 64 j := by
        intro hh; have := Fin.ext_iff.mp hh; simp at this; omega
      simp [e, Matrix.one_apply, ne, b21]; rfl
    · simp [e, Matrix.one_apply, b22, Fin.ext_iff]; rfl
  have eX : (xinv L).submatrix e e = Matrix.fromBlocks (newt (b11 L)) 0
      (0 - newt (b22 L) * (b21 L * newt (b11 L))) (newt (b22 L)) := by
    have hl : ∀ i : Fin 64, (e (Sum.inl i)).val = i.val := fun i => rfl
    have hr : ∀ i : Fin 64, (e (Sum.inr i)).val = 64 + i.val := fun i => rfl
    clear_value e
    ext i j
    rcases i with i | i <;> rcases j with j | j <;>
      simp [xinv, blk, hl, hr]
  have key : ((1 + L) * xinv L).submatrix e e = (1 : Matrix (Fin 128) (Fin 128) ℝ).submatrix e e := by
    rw [← Matrix.submatrix_mul_equiv _ _ e e e, eL, eX, Matrix.fromBlocks_multiply,
      Matrix.submatrix_one_equiv, ← Matrix.fromBlocks_one, h1, h2]
    congr 1
    · simp
    · simp
    · rw [zero_sub, Matrix.mul_neg, ← Matrix.mul_assoc, h2]; simp
    · simp [h2]
  have := congrArg (fun M => Matrix.submatrix M e.symm e.symm) key
  simpa using this

end Cert.Val
-- ==== Proof.V.Ut.lean ====
module
public import proofs.«01_k».proof.Proof.V.Math

/-! The chunked form of the triangular recurrence of one head, over the reals. -/

@[expose] public section

noncomputable section

namespace Cert.Val

open Matrix

/-- A row of a chunk, as a row of the sequence. -/
def ch (i : Fin 8) (a : Fin 128) : Fin 1024 := ⟨128 * i.val + a.val, by omega⟩

/-- The chunk's causal products of queries and directions, times the rates. -/
def gMat (Q W : Matrix (Fin 128) (Fin 64) ℝ) (bv : Fin 128 → ℝ) : Matrix (Fin 128) (Fin 128) ℝ :=
  fun a b => (if b.val ≤ a.val then (Q * Wᵀ) a b else 0) * bv b
/-- The chunk's strictly lower products of directions, times the rates. -/
def lMat (W : Matrix (Fin 128) (Fin 64) ℝ) (bv : Fin 128 → ℝ) : Matrix (Fin 128) (Fin 128) ℝ :=
  fun a b => (if b.val < a.val then (W * Wᵀ) a b else 0) * bv b
/-- The chunk's strictly lower products of directions and keys. -/
def mMat (W K : Matrix (Fin 128) (Fin 64) ℝ) : Matrix (Fin 128) (Fin 128) ℝ :=
  fun a b => if b.val < a.val then (W * Kᵀ) a b else 0
/-- The directions times the rates. -/
def bwMat (W : Matrix (Fin 128) (Fin 64) ℝ) (bv : Fin 128 → ℝ) : Matrix (Fin 128) (Fin 64) ℝ :=
  fun a d => bv a * W a d
/-- The queries of a chunk against the keys before it. -/
def qtMat (Q W : Matrix (Fin 128) (Fin 64) ℝ) (bv : Fin 128 → ℝ) : Matrix (Fin 128) (Fin 64) ℝ :=
  fun a d => (Q - (gMat Q W bv * xinv (lMat W bv)) * W) a d * (1 / 8)
/-- The keys of a chunk carried to its end. -/
def ktMat (K W : Matrix (Fin 128) (Fin 64) ℝ) (bv : Fin 128 → ℝ) : Matrix (Fin 128) (Fin 64) ℝ :=
  fun b d => (K - (xinv (lMat W bv) * mMat W K)ᵀ * bwMat W bv) b d
/-- The scores inside a chunk. -/
def siiMat (Q K W : Matrix (Fin 128) (Fin 64) ℝ) (bv : Fin 128 → ℝ) :
    Matrix (Fin 128) (Fin 128) ℝ :=
  fun a b => (Q * Kᵀ - (gMat Q W bv * xinv (lMat W bv)) * mMat W K) a b * (1 / 8)
/-- The transition of a chunk. -/
def pMat (W : Matrix (Fin 128) (Fin 64) ℝ) (bv : Fin 128 → ℝ) : Matrix (Fin 64) (Fin 64) ℝ :=
  1 - (bwMat W bv)ᵀ * (xinv (lMat W bv) * W)

theorem lMat_low (W : Matrix (Fin 128) (Fin 64) ℝ) (bv : Fin 128 → ℝ) (a b : Fin 128)
    (h : a ≤ b) : lMat W bv a b = 0 := by
  rw [lMat, if_neg (by have := Fin.le_def.mp h; omega), zero_mul]

section
variable (q k w : Fin 1024 → Fin 64 → ℝ) (β : Fin 1024 → ℝ) (C : Fin 1024 → Fin 1024 → ℝ)

/-- The key `j` after the updates of the rows before `n`. -/
def U (n : ℕ) (j : Fin 1024) (d : Fin 64) : ℝ :=
  k j d - ∑ r : Fin 1024, if r.val < n then β r * C r j * w r d else 0

/-- The score of row `t` and key `j`. -/
def scr (t j : Fin 1024) : ℝ :=
  (∑ d, q t d * k j d) - ∑ s, (if s.val ≤ t.val then (∑ d, q t d * w s d) * β s else 0) * C s j

/-- The coefficients solve the strictly lower triangular system. -/
def Solves : Prop := ∀ s j, C s j = (if j.val < s.val then ∑ d, w s d * k j d else 0)
  - ∑ r, (if r.val < s.val then (∑ d, w s d * w r d) * β r else 0) * C r j

/-- A sum of products with a key after the updates. -/
theorem dot_U (x : Fin 64 → ℝ) (n : ℕ) (j : Fin 1024) :
    ∑ d, x d * U k w β C n j d = (∑ d, x d * k j d)
      - ∑ r : Fin 1024, (if r.val < n then (∑ d, x d * w r d) * β r else 0) * C r j := by
  simp only [U, mul_sub, Finset.sum_sub_distrib, Finset.mul_sum]
  congr 1
  rw [Finset.sum_comm]
  refine Finset.sum_congr rfl fun r _ => ?_
  split_ifs
  · rw [Finset.sum_mul, Finset.sum_mul]
    refine Finset.sum_congr rfl fun d _ => ?_
    ring
  · simp

theorem scr_eq (t j : Fin 1024) : scr q k w β C t j = ∑ d, q t d * U k w β C (t.val + 1) j d := by
  rw [dot_U, scr]
  simp only [Nat.lt_succ_iff]

variable {k w β C}

theorem C_eq (hC : Solves k w β C) (s j : Fin 1024) (h : j.val < s.val) :
    C s j = ∑ d, w s d * U k w β C s.val j d := by
  rw [dot_U, hC s j, if_pos h]

theorem C_zero (hC : Solves k w β C) (j : Fin 1024) : ∀ n : ℕ, ∀ s : Fin 1024, s.val = n → s.val ≤ j.val → C s j = 0 := by
  intro n
  induction n using Nat.strong_induction_on with
  | _ n ih =>
    intro s hs hj
    rw [hC s j, if_neg (by omega), zero_sub, neg_eq_zero]
    refine Finset.sum_eq_zero fun r _ => ?_
    split_ifs with hr
    · rw [ih r.val (by omega) r rfl (by omega), mul_zero]
    · rw [zero_mul]

variable (k w β C)

theorem U_succ (r j : Fin 1024) (d : Fin 64) :
    U k w β C (r.val + 1) j d = U k w β C r.val j d - β r * C r j * w r d := by
  have h : ∀ s : Fin 1024, (if s.val < r.val + 1 then β s * C s j * w s d else 0)
      = (if s.val < r.val then β s * C s j * w s d else 0) + (if s = r then β s * C s j * w s d else 0) := by
    intro s
    by_cases h1 : s.val < r.val
    · have : s ≠ r := by rintro rfl; omega
      simp [h1, this, Nat.lt_succ_of_lt h1]
    · by_cases h2 : s = r
      · subst h2; simp
      · have : ¬ s.val < r.val + 1 := fun h => h2 (Fin.ext (by omega))
        simp [h1, h2, this]
  simp only [U, h, Finset.sum_add_distrib, Finset.sum_ite_eq', Finset.mem_univ, if_true]
  ring

theorem U_chunk (i : Fin 8) (j : Fin 1024) (d : Fin 64) (n : ℕ) (hn : n ≤ 128) :
    U k w β C (128 * i.val + n) j d = U k w β C (128 * i.val) j d
      - ∑ b : Fin 128, if b.val < n then β (ch i b) * C (ch i b) j * w (ch i b) d else 0 := by
  induction n with
  | zero => simp
  | succ n ih =>
    have e := U_succ k w β C (ch i ⟨n, by omega⟩) j d
    have e' : (ch i ⟨n, by omega⟩).val = 128 * i.val + n := rfl
    rw [e'] at e
    rw [← Nat.add_assoc, e, ih (by omega)]
    have h : ∀ b : Fin 128, (if b.val < n + 1 then β (ch i b) * C (ch i b) j * w (ch i b) d else 0)
        = (if b.val < n then β (ch i b) * C (ch i b) j * w (ch i b) d else 0)
          + (if b = ⟨n, by omega⟩ then β (ch i b) * C (ch i b) j * w (ch i b) d else 0) := by
      intro s
      by_cases h1 : s.val < n
      · have : s ≠ ⟨n, by omega⟩ := fun hh => by
          have := congrArg Fin.val hh; simp at this; omega
        simp [h1, this, Nat.lt_succ_of_lt h1]
      · by_cases h2 : s = ⟨n, by omega⟩
        · have : s.val = n := congrArg Fin.val h2
          rw [if_pos (by omega), if_neg h1, if_pos h2, zero_add]
        · have : ¬ s.val < n + 1 := fun h => h2 (Fin.ext (by simp; omega))
          simp [h1, h2, this]
    simp only [h, Finset.sum_add_distrib, Finset.sum_ite_eq', Finset.mem_univ, if_true]
    ring

theorem dot_chunk (x : Fin 64 → ℝ) (i : Fin 8) (j : Fin 1024) (n : ℕ) (hn : n ≤ 128) :
    ∑ d, x d * U k w β C (128 * i.val + n) j d = (∑ d, x d * U k w β C (128 * i.val) j d)
      - ∑ b : Fin 128, ((if b.val < n then (∑ d, x d * w (ch i b) d) else 0) * β (ch i b)) * C (ch i b) j := by
  simp only [U_chunk k w β C i j _ n hn, mul_sub, Finset.sum_sub_distrib, Finset.mul_sum]
  congr 1
  rw [Finset.sum_comm]
  refine Finset.sum_congr rfl fun r _ => ?_
  split_ifs
  · rw [Finset.sum_mul, Finset.sum_mul]
    refine Finset.sum_congr rfl fun d _ => ?_
    ring
  · simp

variable {k w β C}

/-- A unit triangular system is solved by the built inverse. -/
theorem solve (W : Matrix (Fin 128) (Fin 64) ℝ) (bv : Fin 128 → ℝ) (c y : Fin 128 → ℝ)
    (h : ∀ a, c a = y a - ∑ b, lMat W bv a b * c b) : c = xinv (lMat W bv) *ᵥ y := by
  have h1 : (1 + lMat W bv) *ᵥ c = y := by
    ext a
    rw [Matrix.add_mulVec, Matrix.one_mulVec, Pi.add_apply]
    have := h a
    simp only [Matrix.mulVec, dotProduct]
    linarith
  rw [← h1, Matrix.mulVec_mulVec, xinv_inv _ (lMat_low W bv), Matrix.one_mulVec]

theorem c_before (hC : Solves k w β C) (i : Fin 8) (j : Fin 1024) (hj : j.val < 128 * i.val) :
    (fun a => C (ch i a) j) = xinv (lMat (fun a => w (ch i a)) (fun a => β (ch i a))) *ᵥ
      ((Matrix.of fun a => w (ch i a)) *ᵥ U k w β C (128 * i.val) j) := by
  refine solve _ _ _ _ fun a => ?_
  have e := C_eq hC (ch i a) j (show j.val < 128 * i.val + a.val by omega)
  have e' : (ch i a).val = 128 * i.val + a.val := rfl
  rw [e', dot_chunk k w β C _ i j a.val (by omega)] at e
  exact e

theorem c_inside (hC : Solves k w β C) (i : Fin 8) (b0 : Fin 128) :
    (fun a => C (ch i a) (ch i b0)) = xinv (lMat (fun a => w (ch i a)) (fun a => β (ch i a))) *ᵥ
      (fun a => mMat (fun a => w (ch i a)) (fun a => k (ch i a)) a b0) := by
  refine solve _ _ _ _ fun a => ?_
  have e1 : ∀ n, U k w β C (128 * i.val + n) (ch i b0) = U k w β C (128 * i.val + n) (ch i b0) := fun _ => rfl
  have hU : ∀ d, U k w β C (128 * i.val) (ch i b0) d = k (ch i b0) d := fun d => by
    rw [U, Finset.sum_eq_zero, sub_zero]
    intro r _
    split_ifs with hr
    · rw [C_zero hC (ch i b0) r.val r rfl (show r.val ≤ 128 * i.val + b0.val by omega)]; ring
    · rfl
  have hd := dot_chunk k w β C (w (ch i a)) i (ch i b0) a.val (by omega)
  rw [dot_U] at hd
  simp only [hU] at hd
  have e := hC (ch i a) (ch i b0)
  have hd' : (∑ r : Fin 1024, (if r.val < (ch i a).val then (∑ d, w (ch i a) d * w r d) * β r else 0) * C r (ch i b0))
      = ∑ b : Fin 128, lMat (fun a => w (ch i a)) (fun a => β (ch i a)) a b * C (ch i b) (ch i b0) := by
    have e' : (ch i a).val = 128 * i.val + a.val := rfl
    rw [e']
    have := sub_right_injective hd
    exact this
  rw [hd'] at e
  rw [e]
  congr 1
  have : (ch i b0).val < (ch i a).val ↔ b0.val < a.val := by
    show 128 * i.val + b0.val < 128 * i.val + a.val ↔ _
    omega
  simp only [this, mMat]
  rfl

/-- Before the chunk of key `j` the key is unchanged. -/
theorem U_own (hC : Solves k w β C) (i : Fin 8) (b0 : Fin 128) (d : Fin 64) :
    U k w β C (128 * i.val) (ch i b0) d = k (ch i b0) d := by
  rw [U, Finset.sum_eq_zero, sub_zero]
  intro r _
  split_ifs with hr
  · rw [C_zero hC (ch i b0) r.val r rfl (show r.val ≤ 128 * i.val + b0.val by omega)]; ring
  · rfl

/-- A score against a key before the chunk. -/
theorem scr_before (hC : Solves k w β C) (i : Fin 8) (a : Fin 128) (j : Fin 1024)
    (hj : j.val < 128 * i.val) :
    ∑ d, qtMat (fun a => q (ch i a)) (fun a => w (ch i a)) (fun a => β (ch i a)) a d
      * U k w β C (128 * i.val) j d = scr q k w β C (ch i a) j * (1 / 8) := by
  have hc := c_before hC i j hj
  rw [scr_eq]
  have e' : (ch i a).val + 1 = 128 * i.val + (a.val + 1) := rfl
  rw [e', dot_chunk k w β C _ i j _ (by omega)]
  set u := U k w β C (128 * i.val) j
  set W : Matrix (Fin 128) (Fin 64) ℝ := fun a => w (ch i a)
  set Q : Matrix (Fin 128) (Fin 64) ℝ := fun a => q (ch i a)
  set bv : Fin 128 → ℝ := fun a => β (ch i a)
  have h1 : (∑ d, qtMat Q W bv a d * u d) = ((Q - (gMat Q W bv * xinv (lMat W bv)) * W) *ᵥ u) a * (1 / 8) := by
    simp only [qtMat, Matrix.mulVec, dotProduct, Finset.sum_mul]
    refine Finset.sum_congr rfl fun d _ => ?_
    ring
  rw [h1, Matrix.sub_mulVec, ← Matrix.mulVec_mulVec, ← Matrix.mulVec_mulVec]
  have hc' : xinv (lMat W bv) *ᵥ (W *ᵥ u) = fun a => C (ch i a) j := hc.symm
  rw [hc', Pi.sub_apply]
  congr 2
  simp only [Matrix.mulVec, dotProduct, gMat, Matrix.mul_apply, Matrix.transpose_apply,
    Nat.lt_succ_iff]
  rfl

/-- A score inside the chunk. -/
theorem scr_inside (hC : Solves k w β C) (i : Fin 8) (a b0 : Fin 128) :
    siiMat (fun a => q (ch i a)) (fun a => k (ch i a)) (fun a => w (ch i a)) (fun a => β (ch i a)) a b0
      = scr q k w β C (ch i a) (ch i b0) * (1 / 8) := by
  have hc := c_inside hC i b0
  rw [scr_eq]
  have e' : (ch i a).val + 1 = 128 * i.val + (a.val + 1) := rfl
  rw [e', dot_chunk k w β C _ i _ _ (by omega)]
  simp only [U_own hC]
  set W : Matrix (Fin 128) (Fin 64) ℝ := fun a => w (ch i a)
  set Q : Matrix (Fin 128) (Fin 64) ℝ := fun a => q (ch i a)
  set K : Matrix (Fin 128) (Fin 64) ℝ := fun a => k (ch i a)
  set bv : Fin 128 → ℝ := fun a => β (ch i a)
  rw [siiMat, Matrix.sub_apply]
  congr 2
  have h2 : ((gMat Q W bv * xinv (lMat W bv)) * mMat W K) a b0
      = (gMat Q W bv *ᵥ (xinv (lMat W bv) *ᵥ (fun a => mMat W K a b0))) a := by
    rw [Matrix.mulVec_mulVec]; rfl
  rw [h2, ← hc]
  simp only [Matrix.mulVec, dotProduct, gMat, Matrix.mul_apply, Matrix.transpose_apply,
    Nat.lt_succ_iff]
  rfl

/-- The transition of the chunk carries a key before it over the chunk. -/
theorem U_before (hC : Solves k w β C) (i : Fin 8) (j : Fin 1024) (d : Fin 64)
    (hj : j.val < 128 * i.val) :
    U k w β C (128 * i.val + 128) j d = ∑ e, U k w β C (128 * i.val) j e *
      pMat (fun a => w (ch i a)) (fun a => β (ch i a)) d e := by
  have hc := c_before hC i j hj
  rw [U_chunk k w β C i j d 128 le_rfl]
  set u := U k w β C (128 * i.val) j
  set W : Matrix (Fin 128) (Fin 64) ℝ := fun a => w (ch i a)
  set bv : Fin 128 → ℝ := fun a => β (ch i a)
  have h1 : (∑ e, u e * pMat W bv d e) = (pMat W bv *ᵥ u) d := by
    simp only [Matrix.mulVec, dotProduct]
    exact Finset.sum_congr rfl fun e _ => mul_comm _ _
  have hc' : xinv (lMat W bv) *ᵥ (W *ᵥ u) = fun a => C (ch i a) j := hc.symm
  rw [h1, pMat, Matrix.sub_mulVec, Matrix.one_mulVec, ← Matrix.mulVec_mulVec,
    ← Matrix.mulVec_mulVec, hc', Pi.sub_apply]
  congr 1
  simp only [Matrix.mulVec, dotProduct, bwMat, Matrix.transpose_apply, Fin.is_lt, if_true]
  refine Finset.sum_congr rfl fun b _ => ?_
  show β (ch i b) * C (ch i b) j * w (ch i b) d = (β (ch i b) * w (ch i b) d) * C (ch i b) j
  ring

/-- The keys of the chunk at its end. -/
theorem U_inside (hC : Solves k w β C) (i : Fin 8) (b0 : Fin 128) (d : Fin 64) :
    U k w β C (128 * i.val + 128) (ch i b0) d =
      ktMat (fun a => k (ch i a)) (fun a => w (ch i a)) (fun a => β (ch i a)) b0 d := by
  have hc := c_inside hC i b0
  rw [U_chunk k w β C i (ch i b0) d 128 le_rfl, U_own hC]
  simp only [ktMat, Matrix.sub_apply]
  congr 1
  rw [Matrix.mul_apply]
  refine Finset.sum_congr rfl fun b _ => ?_
  have := congrFun hc b
  have h3 : (xinv (lMat (fun a => w (ch i a)) fun a => β (ch i a)) *
      mMat (fun a => w (ch i a)) fun a => k (ch i a)) b b0 = C (ch i b) (ch i b0) := by
    rw [this]; rfl
  rw [Matrix.transpose_apply, h3, if_pos b.isLt]
  simp only [bwMat]
  ring

end

end Cert.Val
-- ==== Proof.V.Mat.lean ====
module
public import proofs.«01_k».proof.Proof.V.Ut
public import proofs.«01_k».proof.Proof.KI.R1

/-! Real matrices held by vectors of the ideal instance, one lemma per operation of a head of the
    second call, and the head's chain of operations. -/

@[expose] public section

set_option maxRecDepth 16384

noncomputable section

namespace Cert.Val

open Cert.KernelIdeal Cert.KernelIdeal.Gen
open Idealize.ShloMosaic Idealize.ShloMosaic.TcCoe

/-- A vector of rank two holds a real matrix. -/
def IsM {a b : ℕ} (v : FVec Ideal ⟨2, ![a, b]⟩ .f32) (M : Fin a → Fin b → ℝ) : Prop :=
  ∀ (i : Fin a) (j : Fin b), v (ix2 i j) = ((M i j : ℝ) : EReal)

/-- A finite sum of reals, read in the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of products of reals. -/
theorem coe_dot {n : ℕ} (f g : Fin n → ℝ) :
    (∑ k, ((f k : ℝ) : EReal) * ((g k : ℝ) : EReal)) = ((∑ k, f k * g k : ℝ) : EReal) := by
  rw [coe_sum]
  exact Finset.sum_congr rfl fun k _ => (EReal.coe_mul _ _).symm

theorem two_bits : Ideal.ofBits .f32 0x40000000#32 = ((2 : ℝ) : EReal) := by
  simp [Ideal.ofBits, Ideal.ieee]
  rw [← EReal.coe_mul]; norm_num
theorem eighth_bits : Ideal.ofBits .f32 0x3E000000#32 = (((1 : ℝ) / 8 : ℝ) : EReal) := by
  simp [Ideal.ofBits, Ideal.ieee]
  rw [← EReal.coe_mul]; norm_num

section
variable {Q W : FVec Ideal S128x64 .f32} {Qr Wr : Fin 128 → Fin 64 → ℝ}
variable {A B : FVec Ideal S128x128 .f32} {Ar Br : Fin 128 → Fin 128 → ℝ}
variable {X Y : FVec Ideal S64x64 .f32} {Xr Yr : Fin 64 → Fin 64 → ℝ}

theorem mm_nt (hQ : IsM Q Qr) (hW : IsM W Wr) :
    IsM (matmul dot_S128x64_S128x64_S128x128_1_1_0_0_n_n none Q W
      (constant S128x128 .f32 0x00000000#32)) (fun i j => ∑ d, Qr i d * Wr j d) := by
  intro i j
  pointwise
  simp only [hQ _ _, hW _ _, zero_add]
  exact coe_dot _ _
theorem mm_128 (hA : IsM A Ar) (hB : IsM B Br) :
    IsM (matmul dot_S128x128_S128x128_S128x128_1_0_0_1_n_n none A B
      (constant S128x128 .f32 0x00000000#32)) (fun i j => ∑ d, Ar i d * Br d j) := by
  intro i j
  pointwise
  simp only [hA _ _, hB _ _, zero_add]
  exact coe_dot _ _
theorem mm_w (hA : IsM A Ar) (hW : IsM W Wr) :
    IsM (matmul dot_S128x128_S128x64_S128x64_1_0_0_1_n_n none A W
      (constant S128x64 .f32 0x00000000#32)) (fun i j => ∑ d, Ar i d * Wr d j) := by
  intro i j
  pointwise
  simp only [hA _ _, hW _ _, zero_add]
  exact coe_dot _ _
theorem mm_tw (hA : IsM A Ar) (hW : IsM W Wr) :
    IsM (matmul dot_S128x128_S128x64_S128x64_0_0_1_1_n_n none A W
      (constant S128x64 .f32 0x00000000#32)) (fun i j => ∑ d, Ar d i * Wr d j) := by
  intro i j
  pointwise
  simp only [hA _ _, hW _ _, zero_add]
  exact coe_dot _ _
theorem mm_tt (hQ : IsM Q Qr) (hW : IsM W Wr) :
    IsM (matmul dot_S128x64_S128x64_S64x64_0_0_1_1_n_n none Q W
      (constant S64x64 .f32 0x00000000#32)) (fun i j => ∑ d, Qr d i * Wr d j) := by
  intro i j
  pointwise
  simp only [hQ _ _, hW _ _, zero_add]
  exact coe_dot _ _
theorem mm_64 (hX : IsM X Xr) (hY : IsM Y Yr) :
    IsM (matmul dot_S64x64_S64x64_S64x64_1_0_0_1_n_n none X Y
      (constant S64x64 .f32 0x00000000#32)) (fun i j => ∑ d, Xr i d * Yr d j) := by
  intro i j
  pointwise
  simp only [hX _ _, hY _ _, zero_add]
  exact coe_dot _ _
end

theorem m_sub {a b : ℕ} {v u : FVec Ideal ⟨2, ![a, b]⟩ .f32} {M N : Fin a → Fin b → ℝ}
    (hv : IsM v M) (hu : IsM u N) : IsM (subf v u) (fun i j => M i j - N i j) := by
  intro i j
  pointwise
  simp only [hv _ _, hu _ _]
  exact (EReal.coe_sub _ _).symm
theorem m_add {a b : ℕ} {v u : FVec Ideal ⟨2, ![a, b]⟩ .f32} {M N : Fin a → Fin b → ℝ}
    (hv : IsM v M) (hu : IsM u N) : IsM (addf v u) (fun i j => M i j + N i j) := by
  intro i j
  pointwise
  simp only [hv _ _, hu _ _]
  exact (EReal.coe_add _ _).symm
theorem m_mul {a b : ℕ} {v u : FVec Ideal ⟨2, ![a, b]⟩ .f32} {M N : Fin a → Fin b → ℝ}
    (hv : IsM v M) (hu : IsM u N) : IsM (mulf v u) (fun i j => M i j * N i j) := by
  intro i j
  pointwise
  simp only [hv _ _, hu _ _]
  exact (EReal.coe_mul _ _).symm
theorem m_zero {a b : ℕ} : IsM (broadcast ⟨2, ![a, b]⟩ (Scalar.ofBits (F := Ideal) .f32 0x00000000#32))
    (fun _ _ => 0) := by
  intro i j
  pointwise
  rfl
theorem m_one {a b : ℕ} : IsM (broadcast ⟨2, ![a, b]⟩ (Scalar.ofBits (F := Ideal) .f32 0x3F800000#32))
    (fun _ _ => 1) := by
  intro i j
  pointwise
  rfl
theorem m_two {a b : ℕ} : IsM (broadcast ⟨2, ![a, b]⟩ (Scalar.ofBits (F := Ideal) .f32 0x40000000#32))
    (fun _ _ => 2) := by
  intro i j
  pointwise
  exact two_bits
theorem m_eighth {a b : ℕ} : IsM (broadcast ⟨2, ![a, b]⟩ (Scalar.ofBits (F := Ideal) .f32 0x3E000000#32))
    (fun _ _ => 1 / 8) := by
  intro i j
  pointwise
  exact eighth_bits

/-- A mask by the order of row and column. -/
theorem m_ge {v u : FVec Ideal S128x128 .f32} {M N : Fin 128 → Fin 128 → ℝ}
    (hv : IsM v M) (hu : IsM u N) :
    IsM (select (cmpi .sge (iota .tc S128x128 32 [0] iota_S128x128_d0_w32)
      (iota .tc S128x128 32 [1] iota_S128x128_d1_w32)) v u)
      (fun i j => if j.val ≤ i.val then M i j else N i j) := by
  intro i j
  pointwise
  simp (disch := word_cmp_side) only [hlo_ix, hv _ _, hu _ _]
  split_ifs <;> first | rfl | omega
theorem m_gt {v u : FVec Ideal S128x128 .f32} {M N : Fin 128 → Fin 128 → ℝ}
    (hv : IsM v M) (hu : IsM u N) :
    IsM (select (cmpi .sgt (iota .tc S128x128 32 [0] iota_S128x128_d0_w32)
      (iota .tc S128x128 32 [1] iota_S128x128_d1_w32)) v u)
      (fun i j => if j.val < i.val then M i j else N i j) := by
  intro i j
  pointwise
  simp (disch := word_cmp_side) only [hlo_ix, hv _ _, hu _ _]
  split_ifs <;> first | rfl | omega
theorem m_eq {v u : FVec Ideal S128x128 .f32} {M N : Fin 128 → Fin 128 → ℝ}
    (hv : IsM v M) (hu : IsM u N) :
    IsM (select (cmpi .eq (iota .tc S128x128 32 [0] iota_S128x128_d0_w32)
      (iota .tc S128x128 32 [1] iota_S128x128_d1_w32)) v u)
      (fun i j => if i = j then M i j else N i j) := by
  intro i j
  pointwise
  simp (disch := word_cmp_side) only [hlo_ix, hv _ _, hu _ _, Fin.ext_iff]
  split_ifs <;> first | rfl | omega
theorem m_eq64 {v u : FVec Ideal S64x64 .f32} {M N : Fin 64 → Fin 64 → ℝ}
    (hv : IsM v M) (hu : IsM u N) :
    IsM (select (cmpi .eq (iota .tc S64x64 32 [0] iota_S64x64_d0_w32)
      (iota .tc S64x64 32 [1] iota_S64x64_d1_w32)) v u)
      (fun i j => if i = j then M i j else N i j) := by
  intro i j
  pointwise
  simp (disch := word_cmp_side) only [hlo_ix, hv _ _, hu _ _, Fin.ext_iff]
  split_ifs <;> first | rfl | omega
theorem m_s11 {v : FVec Ideal S128x128 .f32} {M : Fin 128 → Fin 128 → ℝ} (hv : IsM v M) :
    IsM (extractStridedSlice S64x64 ![0, 0] v slices_S128x128_o0_0_S64x64) (b11 M) := by
  intro i j
  pointwise
  exact hv _ _
theorem m_s21 {v : FVec Ideal S128x128 .f32} {M : Fin 128 → Fin 128 → ℝ} (hv : IsM v M) :
    IsM (extractStridedSlice S64x64 ![64, 0] v slices_S128x128_o64_0_S64x64) (b21 M) := by
  intro i j
  pointwise
  exact hv _ _
theorem m_s22 {v : FVec Ideal S128x128 .f32} {M : Fin 128 → Fin 128 → ℝ} (hv : IsM v M) :
    IsM (extractStridedSlice S64x64 ![64, 64] v slices_S128x128_o64_64_S64x64) (b22 M) := by
  intro i j
  pointwise
  exact hv _ _
theorem m_row {v : FVec Ideal S1x128 .f32} {M : Fin 1 → Fin 128 → ℝ} (hv : IsM v M) :
    IsM (broadcastTo S128x128 v broadcasts_S1x128_S128x128) (fun _ j => M 0 j) := by
  intro i j
  pointwise
  exact hv _ _
theorem m_col {v : FVec Ideal S1x128 .f32} {M : Fin 1 → Fin 128 → ℝ} (hv : IsM v M) :
    IsM (broadcastTo S128x64 (transpose S128x1 [1, 0] v transposes_S1x128_p1_0_S128x1) broadcasts_S128x1_S128x64) (fun i _ => M 0 i) := by
  intro i j
  pointwise
  exact hv _ _

/-! ## The chain of one head -/

/-- The unit matrix, as the body builds it. -/
def cEye : FVec Ideal S128x128 .f32 :=
  select (cmpi .eq (iota .tc S128x128 32 [0] iota_S128x128_d0_w32)
      (iota .tc S128x128 32 [1] iota_S128x128_d1_w32))
    (broadcast S128x128 (Scalar.ofBits .f32 0x3F800000#32))
    (broadcast S128x128 (Scalar.ofBits .f32 0x00000000#32))
/-- The causal products times the rates. -/
def cG (Q W : FVec Ideal S128x64 .f32) (bv : FVec Ideal S1x128 .f32) : FVec Ideal S128x128 .f32 :=
  mulf (select (cmpi .sge (iota .tc S128x128 32 [0] iota_S128x128_d0_w32)
      (iota .tc S128x128 32 [1] iota_S128x128_d1_w32))
    (matmul dot_S128x64_S128x64_S128x128_1_1_0_0_n_n none Q W (constant S128x128 .f32 0x00000000#32))
    (broadcast S128x128 (Scalar.ofBits .f32 0x00000000#32)))
    (broadcastTo S128x128 bv broadcasts_S1x128_S128x128)
/-- The strictly lower products. -/
def cM (W K : FVec Ideal S128x64 .f32) : FVec Ideal S128x128 .f32 :=
  select (cmpi .sgt (iota .tc S128x128 32 [0] iota_S128x128_d0_w32)
      (iota .tc S128x128 32 [1] iota_S128x128_d1_w32))
    (matmul dot_S128x64_S128x64_S128x128_1_1_0_0_n_n none W K (constant S128x128 .f32 0x00000000#32))
    (broadcast S128x128 (Scalar.ofBits .f32 0x00000000#32))
/-- The strictly lower products of the directions times the rates. -/
def cL (W : FVec Ideal S128x64 .f32) (bv : FVec Ideal S1x128 .f32) : FVec Ideal S128x128 .f32 :=
  mulf (cM W W) (broadcastTo S128x128 bv broadcasts_S1x128_S128x128)
/-- One step towards the inverse. -/
def cStep (e a x : FVec Ideal S64x64 .f32) : FVec Ideal S64x64 .f32 :=
  matmul dot_S64x64_S64x64_S64x64_1_0_0_1_n_n none x
    (subf (mulf (broadcast S64x64 (Scalar.ofBits .f32 0x40000000#32)) e)
      (matmul dot_S64x64_S64x64_S64x64_1_0_0_1_n_n none a x (constant S64x64 .f32 0x00000000#32)))
    (constant S64x64 .f32 0x00000000#32)
/-- Five steps. -/
def cNewt (e l : FVec Ideal S64x64 .f32) : FVec Ideal S64x64 .f32 :=
  cStep e (addf e l) (cStep e (addf e l) (cStep e (addf e l) (cStep e (addf e l)
    (cStep e (addf e l) (subf e l)))))
/-- The two halves of the unit matrix and of the products. -/
def cX1 (L : FVec Ideal S128x128 .f32) : FVec Ideal S64x64 .f32 :=
  cNewt (extractStridedSlice S64x64 ![0, 0] cEye slices_S128x128_o0_0_S64x64)
    (extractStridedSlice S64x64 ![0, 0] L slices_S128x128_o0_0_S64x64)
/-- The lower half. -/
def cX2 (L : FVec Ideal S128x128 .f32) : FVec Ideal S64x64 .f32 :=
  cNewt (extractStridedSlice S64x64 ![0, 0] cEye slices_S128x128_o0_0_S64x64)
    (extractStridedSlice S64x64 ![64, 64] L slices_S128x128_o64_64_S64x64)
/-- The block below the diagonal. -/
def cX21 (L : FVec Ideal S128x128 .f32) : FVec Ideal S64x64 .f32 :=
  subf (broadcast S64x64 (Scalar.ofBits .f32 0x00000000#32))
    (matmul dot_S64x64_S64x64_S64x64_1_0_0_1_n_n none (cX2 L)
      (matmul dot_S64x64_S64x64_S64x64_1_0_0_1_n_n none
        (extractStridedSlice S64x64 ![64, 0] L slices_S128x128_o64_0_S64x64) (cX1 L)
        (constant S64x64 .f32 0x00000000#32))
      (constant S64x64 .f32 0x00000000#32))
/-- The four blocks put together. -/
def cX (L : FVec Ideal S128x128 .f32) : FVec Ideal S128x128 .f32 :=
  concatenate S128x128 0
    [⟨S64x128, concatenate S64x128 1 [⟨S64x64, cX1 L⟩,
        ⟨S64x64, broadcast S64x64 (Scalar.ofBits .f32 0x00000000#32)⟩]
        concatenates_S64x64_S64x64_S64x128_d1⟩,
      ⟨S64x128, concatenate S64x128 1 [⟨S64x64, cX21 L⟩, ⟨S64x64, cX2 L⟩]
        concatenates_S64x64_S64x64_S64x128_d1⟩]
    concatenates_S64x128_S64x128_S128x128_d0
/-- The causal products carried through the inverse. -/
def cGT (Q W : FVec Ideal S128x64 .f32) (bv : FVec Ideal S1x128 .f32) : FVec Ideal S128x128 .f32 :=
  matmul dot_S128x128_S128x128_S128x128_1_0_0_1_n_n none (cG Q W bv) (cX (cL W bv))
    (constant S128x128 .f32 0x00000000#32)
/-- The head's queries. -/
def cQT (Q W : FVec Ideal S128x64 .f32) (bv : FVec Ideal S1x128 .f32) : FVec Ideal S128x64 .f32 :=
  mulf (subf Q (matmul dot_S128x128_S128x64_S128x64_1_0_0_1_n_n none (cGT Q W bv) W
      (constant S128x64 .f32 0x00000000#32)))
    (broadcast S128x64 (Scalar.ofBits .f32 0x3E000000#32))
/-- The directions times the rates. -/
def cBW (W : FVec Ideal S128x64 .f32) (bv : FVec Ideal S1x128 .f32) : FVec Ideal S128x64 .f32 :=
  mulf (broadcastTo S128x64 (transpose S128x1 [1, 0] bv transposes_S1x128_p1_0_S128x1)
    broadcasts_S128x1_S128x64) W
/-- The head's keys. -/
def cKT (K W : FVec Ideal S128x64 .f32) (bv : FVec Ideal S1x128 .f32) : FVec Ideal S128x64 .f32 :=
  subf K (matmul dot_S128x128_S128x64_S128x64_0_0_1_1_n_n none
    (matmul dot_S128x128_S128x128_S128x128_1_0_0_1_n_n none (cX (cL W bv)) (cM W K)
      (constant S128x128 .f32 0x00000000#32))
    (cBW W bv) (constant S128x64 .f32 0x00000000#32))
/-- The head's scores inside the chunk. -/
def cS (Q K W : FVec Ideal S128x64 .f32) (bv : FVec Ideal S1x128 .f32) : FVec Ideal S128x128 .f32 :=
  mulf (subf (matmul dot_S128x64_S128x64_S128x128_1_1_0_0_n_n none Q K
      (constant S128x128 .f32 0x00000000#32))
    (matmul dot_S128x128_S128x128_S128x128_1_0_0_1_n_n none (cGT Q W bv) (cM W K)
      (constant S128x128 .f32 0x00000000#32)))
    (broadcast S128x128 (Scalar.ofBits .f32 0x3E000000#32))
/-- The head's transition. -/
def cP (W : FVec Ideal S128x64 .f32) (bv : FVec Ideal S1x128 .f32) : FVec Ideal S64x64 .f32 :=
  subf (select (cmpi .eq (iota .tc S64x64 32 [0] iota_S64x64_d0_w32)
      (iota .tc S64x64 32 [1] iota_S64x64_d1_w32))
    (broadcast S64x64 (Scalar.ofBits .f32 0x3F800000#32))
    (broadcast S64x64 (Scalar.ofBits .f32 0x00000000#32)))
    (matmul dot_S128x64_S128x64_S64x64_0_0_1_1_n_n none (cBW W bv)
      (matmul dot_S128x128_S128x64_S128x64_1_0_0_1_n_n none (cX (cL W bv)) W
        (constant S128x64 .f32 0x00000000#32))
      (constant S64x64 .f32 0x00000000#32))

theorem IsM.of_eq {a b : ℕ} {v : FVec Ideal ⟨2, ![a, b]⟩ .f32} {M N : Fin a → Fin b → ℝ}
    (h : IsM v M) (e : M = N) : IsM v N := e ▸ h

section
variable {Q K W : FVec Ideal S128x64 .f32} {Qr Kr Wr : Fin 128 → Fin 64 → ℝ}
variable {bv : FVec Ideal S1x128 .f32} {br : Fin 128 → ℝ}

theorem eye_real : IsM cEye (fun i j => if i = j then 1 else 0) := m_eq m_one m_zero
theorem eye1_real : IsM (extractStridedSlice S64x64 ![0, 0] cEye slices_S128x128_o0_0_S64x64)
    ((1 : Matrix (Fin 64) (Fin 64) ℝ)) :=
  (m_s11 eye_real).of_eq (by
    funext i j
    simp [b11, Matrix.one_apply, Fin.ext_iff])
theorem M_real (hW : IsM W Wr) (hK : IsM K Kr) : IsM (cM W K) (mMat Wr Kr) :=
  (m_gt (mm_nt hW hK) m_zero).of_eq rfl
theorem L_real (hW : IsM W Wr) (hb : IsM bv (fun _ j => br j)) : IsM (cL W bv) (lMat Wr br) :=
  (m_mul (M_real hW hW) (m_row hb)).of_eq rfl
theorem G_real (hQ : IsM Q Qr) (hW : IsM W Wr) (hb : IsM bv (fun _ j => br j)) :
    IsM (cG Q W bv) (gMat Qr Wr br) :=
  (m_mul (m_ge (mm_nt hQ hW) m_zero) (m_row hb)).of_eq rfl
theorem step_real {e a x : FVec Ideal S64x64 .f32} {A X : Matrix (Fin 64) (Fin 64) ℝ}
    (he : IsM e ((1 : Matrix (Fin 64) (Fin 64) ℝ))) (ha : IsM a A) (hx : IsM x X) :
    IsM (cStep e a x) (nstep A X) :=
  (mm_64 hx (m_sub (m_mul m_two he) (mm_64 ha hx))).of_eq rfl
theorem newt_real {e l : FVec Ideal S64x64 .f32} {L : Matrix (Fin 64) (Fin 64) ℝ}
    (he : IsM e ((1 : Matrix (Fin 64) (Fin 64) ℝ))) (hl : IsM l L) : IsM (cNewt e l) (newt L) :=
  have ha : IsM (addf e l) ((1 : Matrix (Fin 64) (Fin 64) ℝ) + L) := m_add he hl
  have hs : IsM (subf e l) ((1 : Matrix (Fin 64) (Fin 64) ℝ) - L) := m_sub he hl
  step_real he ha (step_real he ha (step_real he ha (step_real he ha (step_real he ha hs))))
theorem X_real {L : FVec Ideal S128x128 .f32} {Lr : Matrix (Fin 128) (Fin 128) ℝ}
    (h : IsM L Lr) : IsM (cX L) (xinv Lr) := by
  have h1 : IsM (cX1 L) (newt (b11 Lr)) := newt_real eye1_real (m_s11 h)
  have h2 : IsM (cX2 L) (newt (b22 Lr)) := newt_real eye1_real (m_s22 h)
  have h3 : IsM (cX21 L) ((0 : Matrix (Fin 64) (Fin 64) ℝ) - newt (b22 Lr) * (b21 Lr * newt (b11 Lr))) :=
    (m_sub m_zero (mm_64 h2 (mm_64 (m_s21 h) h1))).of_eq rfl
  intro i j
  pointwise [cX]
  simp only [xinv, blk]
  by_cases hi : i.val < 64 <;> by_cases hj : j.val < 64 <;>
    simp only [hi, hj, ↓reduceDIte]
  · exact h1 _ _
  · rfl
  · exact h3 _ _
  · exact h2 _ _
theorem GT_real (hQ : IsM Q Qr) (hW : IsM W Wr) (hb : IsM bv (fun _ j => br j)) :
    IsM (cGT Q W bv) (gMat Qr Wr br * xinv (lMat Wr br)) :=
  (mm_128 (G_real hQ hW hb) (X_real (L_real hW hb))).of_eq rfl
theorem QT_real (hQ : IsM Q Qr) (hW : IsM W Wr) (hb : IsM bv (fun _ j => br j)) :
    IsM (cQT Q W bv) (qtMat Qr Wr br) :=
  (m_mul (m_sub hQ (mm_w (GT_real hQ hW hb) hW)) m_eighth).of_eq rfl
theorem BW_real (hW : IsM W Wr) (hb : IsM bv (fun _ j => br j)) : IsM (cBW W bv) (bwMat Wr br) :=
  (m_mul (m_col hb) hW).of_eq rfl
theorem KT_real (hK : IsM K Kr) (hW : IsM W Wr) (hb : IsM bv (fun _ j => br j)) :
    IsM (cKT K W bv) (ktMat Kr Wr br) :=
  (m_sub hK (mm_tw (mm_128 (X_real (L_real hW hb)) (M_real hW hK)) (BW_real hW hb))).of_eq rfl
theorem S_real (hQ : IsM Q Qr) (hK : IsM K Kr) (hW : IsM W Wr) (hb : IsM bv (fun _ j => br j)) :
    IsM (cS Q K W bv) (siiMat Qr Kr Wr br) :=
  (m_mul (m_sub (mm_nt hQ hK) (mm_128 (GT_real hQ hW hb) (M_real hW hK))) m_eighth).of_eq rfl
theorem P_real (hW : IsM W Wr) (hb : IsM bv (fun _ j => br j)) : IsM (cP W bv) (pMat Wr br) :=
  (m_sub (m_eq64 m_one m_zero) (mm_tt (BW_real hW hb)
    (mm_w (X_real (L_real hW hb)) hW))).of_eq (by
      funext i j
      simp [pMat, Matrix.one_apply, Matrix.mul_apply (M := (bwMat Wr br).transpose), Matrix.sub_apply]
      rfl)
end

end Cert.Val
-- ==== Proof.V.Reg1.lean ====
module
public import proofs.«01_k».proof.Proof.V.Mat

/-! What the second call stores, head by head. -/

@[expose] public section

set_option maxRecDepth 16384

noncomputable section

namespace Cert.Val

open Cert.KernelIdeal Cert.KernelIdeal.Gen Cert.KernelIdeal.Frm
open Idealize.ShloMosaic Idealize.ShloMosaic.TcCoe

section
variable (X0 X1 X2 : Vec Ideal S1x128x64 .f32) (X3 : Vec Ideal S1x1x1x128 .f32)
variable (q k w : Fin 128 → Fin 64 → ℝ) (b : Fin 128 → ℝ)

theorem ld_real {X : Vec Ideal S1x128x64 .f32} {q : Fin 128 → Fin 64 → ℝ}
    (h : ∀ a d, X (ix3 0 a d) = ((q a d : ℝ) : EReal)) :
    IsM (shapeCast S128x64 X shapeCasts_S1x128x64_S128x64) q := by
  intro i j
  pointwise
  exact h _ _
theorem ldb_real {X : Vec Ideal S1x1x1x128 .f32} {q : Fin 128 → ℝ}
    (h : ∀ a, X (ix4 0 0 0 a) = ((q a : ℝ) : EReal)) :
    IsM (shapeCast S1x128 X shapeCasts_S1x1x1x128_S1x128) (fun _ j => q j) := by
  intro i j
  pointwise
  exact h _

/-- One head's queries as stored. -/
theorem head4 (hq : ∀ a d, X0 (ix3 0 a d) = ((q a d : ℝ) : EReal))
    (hw : ∀ a d, X2 (ix3 0 a d) = ((w a d : ℝ) : EReal))
    (hb : ∀ a, X3 (ix4 0 0 0 a) = ((b a : ℝ) : EReal)) (x : S1x128x64.Idx) :
    shapeCast S1x128x64 (cQT (shapeCast S128x64 X0 shapeCasts_S1x128x64_S128x64)
      (shapeCast S128x64 X2 shapeCasts_S1x128x64_S128x64)
      (shapeCast S1x128 X3 shapeCasts_S1x1x1x128_S1x128)) shapeCasts_S128x64_S1x128x64 x
      = ((qtMat q w b (x 1) (x 2) : ℝ) : EReal) := by
  pointwise
  exact QT_real (ld_real hq) (ld_real hw) (ldb_real hb) _ _
/-- One head's keys as stored. -/
theorem head5 (hk : ∀ a d, X1 (ix3 0 a d) = ((k a d : ℝ) : EReal))
    (hw : ∀ a d, X2 (ix3 0 a d) = ((w a d : ℝ) : EReal))
    (hb : ∀ a, X3 (ix4 0 0 0 a) = ((b a : ℝ) : EReal)) (x : S1x128x64.Idx) :
    shapeCast S1x128x64 (cKT (shapeCast S128x64 X1 shapeCasts_S1x128x64_S128x64)
      (shapeCast S128x64 X2 shapeCasts_S1x128x64_S128x64)
      (shapeCast S1x128 X3 shapeCasts_S1x1x1x128_S1x128)) shapeCasts_S128x64_S1x128x64 x
      = ((ktMat k w b (x 1) (x 2) : ℝ) : EReal) := by
  pointwise
  exact KT_real (ld_real hk) (ld_real hw) (ldb_real hb) _ _
/-- One head's scores as stored. -/
theorem head6 (hq : ∀ a d, X0 (ix3 0 a d) = ((q a d : ℝ) : EReal))
    (hk : ∀ a d, X1 (ix3 0 a d) = ((k a d : ℝ) : EReal))
    (hw : ∀ a d, X2 (ix3 0 a d) = ((w a d : ℝ) : EReal))
    (hb : ∀ a, X3 (ix4 0 0 0 a) = ((b a : ℝ) : EReal)) (x : S1x1x128x128.Idx) :
    shapeCast S1x1x128x128 (cS (shapeCast S128x64 X0 shapeCasts_S1x128x64_S128x64)
      (shapeCast S128x64 X1 shapeCasts_S1x128x64_S128x64)
      (shapeCast S128x64 X2 shapeCasts_S1x128x64_S128x64)
      (shapeCast S1x128 X3 shapeCasts_S1x1x1x128_S1x128)) shapeCasts_S128x128_S1x1x128x128 x
      = ((siiMat q k w b (x 2) (x 3) : ℝ) : EReal) := by
  pointwise
  exact S_real (ld_real hq) (ld_real hk) (ld_real hw) (ldb_real hb) _ _
/-- One head's transition as stored. -/
theorem head7 (hw : ∀ a d, X2 (ix3 0 a d) = ((w a d : ℝ) : EReal))
    (hb : ∀ a, X3 (ix4 0 0 0 a) = ((b a : ℝ) : EReal)) (x : S1x1x64x64.Idx) :
    shapeCast S1x1x64x64 (cP (shapeCast S128x64 X2 shapeCasts_S1x128x64_S128x64)
      (shapeCast S1x128 X3 shapeCasts_S1x1x1x128_S1x128)) shapeCasts_S64x64_S1x1x64x64 x
      = ((pMat w b (x 2) (x 3) : ℝ) : EReal) := by
  pointwise
  exact P_real (ld_real hw) (ldb_real hb) _ _
end

section
variable (x0 x1 x2 : Vec Ideal S8x128x64 .f32) (x3 : Vec Ideal S1x8x1x128 .f32)
variable (q k w : Fin 8 → Fin 128 → Fin 64 → ℝ) (b : Fin 8 → Fin 128 → ℝ)

set_option maxHeartbeats 1600000 in
/-- The stored queries of a chunk. -/
theorem out4_real (hq : ∀ t a d, x0 (ix3 t a d) = ((q t a d : ℝ) : EReal)) (hw : ∀ t a d, x2 (ix3 t a d) = ((w t a d : ℝ) : EReal)) (hb : ∀ t a, x3 (ix4 0 t 0 a) = ((b t a : ℝ) : EReal)) (y : S8x128x64.Idx) :
    out1_4 x0 x1 x2 x3 y = ((qtMat (q (y 0)) (w (y 0)) (b (y 0)) (y 1) (y 2) : ℝ) : EReal) := by
  idx_vars y
  unfold out1_4
  canon_tiles x h
  case piece0 =>
    refine (head4 (View.ld x0 r1_7) (View.ld x2 r1_7) (View.ld x3 r1_15) (q 7) (w 7) (b 7) (fun a d => by pointwise [r1_7]; exact hq _ _ _) (fun a d => by pointwise [r1_7]; exact hw _ _ _)
      (fun a => by pointwise [r1_15]; exact hb _ _) x).trans ?_
    have e0 : y0 = 7 := Fin.ext (by simp at h0; simp; omega)
    have e1 : x 1 = y1 := Fin.ext (by simpa using h1.symm)
    have e2 : x 2 = y2 := Fin.ext (by simpa using h2.symm)
    rw [e0, e1, e2]
  case piece1 =>
    refine (head4 (View.ld x0 r1_6) (View.ld x2 r1_6) (View.ld x3 r1_14) (q 6) (w 6) (b 6) (fun a d => by pointwise [r1_6]; exact hq _ _ _) (fun a d => by pointwise [r1_6]; exact hw _ _ _)
      (fun a => by pointwise [r1_14]; exact hb _ _) x).trans ?_
    have e0 : y0 = 6 := Fin.ext (by simp at h0; simp; omega)
    have e1 : x 1 = y1 := Fin.ext (by simpa using h1.symm)
    have e2 : x 2 = y2 := Fin.ext (by simpa using h2.symm)
    rw [e0, e1, e2]
  case piece2 =>
    refine (head4 (View.ld x0 r1_5) (View.ld x2 r1_5) (View.ld x3 r1_13) (q 5) (w 5) (b 5) (fun a d => by pointwise [r1_5]; exact hq _ _ _) (fun a d => by pointwise [r1_5]; exact hw _ _ _)
      (fun a => by pointwise [r1_13]; exact hb _ _) x).trans ?_
    have e0 : y0 = 5 := Fin.ext (by simp at h0; simp; omega)
    have e1 : x 1 = y1 := Fin.ext (by simpa using h1.symm)
    have e2 : x 2 = y2 := Fin.ext (by simpa using h2.symm)
    rw [e0, e1, e2]
  case piece3 =>
    refine (head4 (View.ld x0 r1_4) (View.ld x2 r1_4) (View.ld x3 r1_12) (q 4) (w 4) (b 4) (fun a d => by pointwise [r1_4]; exact hq _ _ _) (fun a d => by pointwise [r1_4]; exact hw _ _ _)
      (fun a => by pointwise [r1_12]; exact hb _ _) x).trans ?_
    have e0 : y0 = 4 := Fin.ext (by simp at h0; simp; omega)
    have e1 : x 1 = y1 := Fin.ext (by simpa using h1.symm)
    have e2 : x 2 = y2 := Fin.ext (by simpa using h2.symm)
    rw [e0, e1, e2]
  case piece4 =>
    refine (head4 (View.ld x0 r1_3) (View.ld x2 r1_3) (View.ld x3 r1_11) (q 3) (w 3) (b 3) (fun a d => by pointwise [r1_3]; exact hq _ _ _) (fun a d => by pointwise [r1_3]; exact hw _ _ _)
      (fun a => by pointwise [r1_11]; exact hb _ _) x).trans ?_
    have e0 : y0 = 3 := Fin.ext (by simp at h0; simp; omega)
    have e1 : x 1 = y1 := Fin.ext (by simpa using h1.symm)
    have e2 : x 2 = y2 := Fin.ext (by simpa using h2.symm)
    rw [e0, e1, e2]
  case piece5 =>
    refine (head4 (View.ld x0 r1_2) (View.ld x2 r1_2) (View.ld x3 r1_10) (q 2) (w 2) (b 2) (fun a d => by pointwise [r1_2]; exact hq _ _ _) (fun a d => by pointwise [r1_2]; exact hw _ _ _)
      (fun a => by pointwise [r1_10]; exact hb _ _) x).trans ?_
    have e0 : y0 = 2 := Fin.ext (by simp at h0; simp; omega)
    have e1 : x 1 = y1 := Fin.ext (by simpa using h1.symm)
    have e2 : x 2 = y2 := Fin.ext (by simpa using h2.symm)
    rw [e0, e1, e2]
  case piece6 =>
    refine (head4 (View.ld x0 r1_1) (View.ld x2 r1_1) (View.ld x3 r1_9) (q 1) (w 1) (b 1) (fun a d => by pointwise [r1_1]; exact hq _ _ _) (fun a d => by pointwise [r1_1]; exact hw _ _ _)
      (fun a => by pointwise [r1_9]; exact hb _ _) x).trans ?_
    have e0 : y0 = 1 := Fin.ext (by simp at h0; simp; omega)
    have e1 : x 1 = y1 := Fin.ext (by simpa using h1.symm)
    have e2 : x 2 = y2 := Fin.ext (by simpa using h2.symm)
    rw [e0, e1, e2]
  case piece7 =>
    refine (head4 (View.ld x0 r1_0) (View.ld x2 r1_0) (View.ld x3 r1_8) (q 0) (w 0) (b 0) (fun a d => by pointwise [r1_0]; exact hq _ _ _) (fun a d => by pointwise [r1_0]; exact hw _ _ _)
      (fun a => by pointwise [r1_8]; exact hb _ _) x).trans ?_
    have e0 : y0 = 0 := Fin.ext (by simp at h0; simp; omega)
    have e1 : x 1 = y1 := Fin.ext (by simpa using h1.symm)
    have e2 : x 2 = y2 := Fin.ext (by simpa using h2.symm)
    rw [e0, e1, e2]

set_option maxHeartbeats 1600000 in
/-- The stored keys of a chunk. -/
theorem out5_real (hk : ∀ t a d, x1 (ix3 t a d) = ((k t a d : ℝ) : EReal)) (hw : ∀ t a d, x2 (ix3 t a d) = ((w t a d : ℝ) : EReal)) (hb : ∀ t a, x3 (ix4 0 t 0 a) = ((b t a : ℝ) : EReal)) (y : S8x128x64.Idx) :
    out1_5 x0 x1 x2 x3 y = ((ktMat (k (y 0)) (w (y 0)) (b (y 0)) (y 1) (y 2) : ℝ) : EReal) := by
  idx_vars y
  unfold out1_5
  canon_tiles x h
  case piece0 =>
    refine (head5 (View.ld x1 r1_7) (View.ld x2 r1_7) (View.ld x3 r1_15) (k 7) (w 7) (b 7) (fun a d => by pointwise [r1_7]; exact hk _ _ _) (fun a d => by pointwise [r1_7]; exact hw _ _ _)
      (fun a => by pointwise [r1_15]; exact hb _ _) x).trans ?_
    have e0 : y0 = 7 := Fin.ext (by simp at h0; simp; omega)
    have e1 : x 1 = y1 := Fin.ext (by simpa using h1.symm)
    have e2 : x 2 = y2 := Fin.ext (by simpa using h2.symm)
    rw [e0, e1, e2]
  case piece1 =>
    refine (head5 (View.ld x1 r1_6) (View.ld x2 r1_6) (View.ld x3 r1_14) (k 6) (w 6) (b 6) (fun a d => by pointwise [r1_6]; exact hk _ _ _) (fun a d => by pointwise [r1_6]; exact hw _ _ _)
      (fun a => by pointwise [r1_14]; exact hb _ _) x).trans ?_
    have e0 : y0 = 6 := Fin.ext (by simp at h0; simp; omega)
    have e1 : x 1 = y1 := Fin.ext (by simpa using h1.symm)
    have e2 : x 2 = y2 := Fin.ext (by simpa using h2.symm)
    rw [e0, e1, e2]
  case piece2 =>
    refine (head5 (View.ld x1 r1_5) (View.ld x2 r1_5) (View.ld x3 r1_13) (k 5) (w 5) (b 5) (fun a d => by pointwise [r1_5]; exact hk _ _ _) (fun a d => by pointwise [r1_5]; exact hw _ _ _)
      (fun a => by pointwise [r1_13]; exact hb _ _) x).trans ?_
    have e0 : y0 = 5 := Fin.ext (by simp at h0; simp; omega)
    have e1 : x 1 = y1 := Fin.ext (by simpa using h1.symm)
    have e2 : x 2 = y2 := Fin.ext (by simpa using h2.symm)
    rw [e0, e1, e2]
  case piece3 =>
    refine (head5 (View.ld x1 r1_4) (View.ld x2 r1_4) (View.ld x3 r1_12) (k 4) (w 4) (b 4) (fun a d => by pointwise [r1_4]; exact hk _ _ _) (fun a d => by pointwise [r1_4]; exact hw _ _ _)
      (fun a => by pointwise [r1_12]; exact hb _ _) x).trans ?_
    have e0 : y0 = 4 := Fin.ext (by simp at h0; simp; omega)
    have e1 : x 1 = y1 := Fin.ext (by simpa using h1.symm)
    have e2 : x 2 = y2 := Fin.ext (by simpa using h2.symm)
    rw [e0, e1, e2]
  case piece4 =>
    refine (head5 (View.ld x1 r1_3) (View.ld x2 r1_3) (View.ld x3 r1_11) (k 3) (w 3) (b 3) (fun a d => by pointwise [r1_3]; exact hk _ _ _) (fun a d => by pointwise [r1_3]; exact hw _ _ _)
      (fun a => by pointwise [r1_11]; exact hb _ _) x).trans ?_
    have e0 : y0 = 3 := Fin.ext (by simp at h0; simp; omega)
    have e1 : x 1 = y1 := Fin.ext (by simpa using h1.symm)
    have e2 : x 2 = y2 := Fin.ext (by simpa using h2.symm)
    rw [e0, e1, e2]
  case piece5 =>
    refine (head5 (View.ld x1 r1_2) (View.ld x2 r1_2) (View.ld x3 r1_10) (k 2) (w 2) (b 2) (fun a d => by pointwise [r1_2]; exact hk _ _ _) (fun a d => by pointwise [r1_2]; exact hw _ _ _)
      (fun a => by pointwise [r1_10]; exact hb _ _) x).trans ?_
    have e0 : y0 = 2 := Fin.ext (by simp at h0; simp; omega)
    have e1 : x 1 = y1 := Fin.ext (by simpa using h1.symm)
    have e2 : x 2 = y2 := Fin.ext (by simpa using h2.symm)
    rw [e0, e1, e2]
  case piece6 =>
    refine (head5 (View.ld x1 r1_1) (View.ld x2 r1_1) (View.ld x3 r1_9) (k 1) (w 1) (b 1) (fun a d => by pointwise [r1_1]; exact hk _ _ _) (fun a d => by pointwise [r1_1]; exact hw _ _ _)
      (fun a => by pointwise [r1_9]; exact hb _ _) x).trans ?_
    have e0 : y0 = 1 := Fin.ext (by simp at h0; simp; omega)
    have e1 : x 1 = y1 := Fin.ext (by simpa using h1.symm)
    have e2 : x 2 = y2 := Fin.ext (by simpa using h2.symm)
    rw [e0, e1, e2]
  case piece7 =>
    refine (head5 (View.ld x1 r1_0) (View.ld x2 r1_0) (View.ld x3 r1_8) (k 0) (w 0) (b 0) (fun a d => by pointwise [r1_0]; exact hk _ _ _) (fun a d => by pointwise [r1_0]; exact hw _ _ _)
      (fun a => by pointwise [r1_8]; exact hb _ _) x).trans ?_
    have e0 : y0 = 0 := Fin.ext (by simp at h0; simp; omega)
    have e1 : x 1 = y1 := Fin.ext (by simpa using h1.symm)
    have e2 : x 2 = y2 := Fin.ext (by simpa using h2.symm)
    rw [e0, e1, e2]

set_option maxHeartbeats 1600000 in
/-- The stored scores of a chunk. -/
theorem out6_real (hq : ∀ t a d, x0 (ix3 t a d) = ((q t a d : ℝ) : EReal)) (hk : ∀ t a d, x1 (ix3 t a d) = ((k t a d : ℝ) : EReal)) (hw : ∀ t a d, x2 (ix3 t a d) = ((w t a d : ℝ) : EReal)) (hb : ∀ t a, x3 (ix4 0 t 0 a) = ((b t a : ℝ) : EReal)) (y : S8x1x128x128.Idx) :
    out1_6 x0 x1 x2 x3 y = ((siiMat (q (y 0)) (k (y 0)) (w (y 0)) (b (y 0)) (y 2) (y 3) : ℝ) : EReal) := by
  idx_vars y
  unfold out1_6
  canon_tiles x h
  case piece0 =>
    refine (head6 (View.ld x0 r1_7) (View.ld x1 r1_7) (View.ld x2 r1_7) (View.ld x3 r1_15) (q 7) (k 7) (w 7) (b 7) (fun a d => by pointwise [r1_7]; exact hq _ _ _) (fun a d => by pointwise [r1_7]; exact hk _ _ _) (fun a d => by pointwise [r1_7]; exact hw _ _ _)
      (fun a => by pointwise [r1_15]; exact hb _ _) x).trans ?_
    have e0 : y0 = 7 := Fin.ext (by simp at h0; simp; omega)
    have e1 : x 2 = y2 := Fin.ext (by simpa using h2.symm)
    have e2 : x 3 = y3 := Fin.ext (by simpa using h3.symm)
    rw [e0, e1, e2]
  case piece1 =>
    refine (head6 (View.ld x0 r1_6) (View.ld x1 r1_6) (View.ld x2 r1_6) (View.ld x3 r1_14) (q 6) (k 6) (w 6) (b 6) (fun a d => by pointwise [r1_6]; exact hq _ _ _) (fun a d => by pointwise [r1_6]; exact hk _ _ _) (fun a d => by pointwise [r1_6]; exact hw _ _ _)
      (fun a => by pointwise [r1_14]; exact hb _ _) x).trans ?_
    have e0 : y0 = 6 := Fin.ext (by simp at h0; simp; omega)
    have e1 : x 2 = y2 := Fin.ext (by simpa using h2.symm)
    have e2 : x 3 = y3 := Fin.ext (by simpa using h3.symm)
    rw [e0, e1, e2]
  case piece2 =>
    refine (head6 (View.ld x0 r1_5) (View.ld x1 r1_5) (View.ld x2 r1_5) (View.ld x3 r1_13) (q 5) (k 5) (w 5) (b 5) (fun a d => by pointwise [r1_5]; exact hq _ _ _) (fun a d => by pointwise [r1_5]; exact hk _ _ _) (fun a d => by pointwise [r1_5]; exact hw _ _ _)
      (fun a => by pointwise [r1_13]; exact hb _ _) x).trans ?_
    have e0 : y0 = 5 := Fin.ext (by simp at h0; simp; omega)
    have e1 : x 2 = y2 := Fin.ext (by simpa using h2.symm)
    have e2 : x 3 = y3 := Fin.ext (by simpa using h3.symm)
    rw [e0, e1, e2]
  case piece3 =>
    refine (head6 (View.ld x0 r1_4) (View.ld x1 r1_4) (View.ld x2 r1_4) (View.ld x3 r1_12) (q 4) (k 4) (w 4) (b 4) (fun a d => by pointwise [r1_4]; exact hq _ _ _) (fun a d => by pointwise [r1_4]; exact hk _ _ _) (fun a d => by pointwise [r1_4]; exact hw _ _ _)
      (fun a => by pointwise [r1_12]; exact hb _ _) x).trans ?_
    have e0 : y0 = 4 := Fin.ext (by simp at h0; simp; omega)
    have e1 : x 2 = y2 := Fin.ext (by simpa using h2.symm)
    have e2 : x 3 = y3 := Fin.ext (by simpa using h3.symm)
    rw [e0, e1, e2]
  case piece4 =>
    refine (head6 (View.ld x0 r1_3) (View.ld x1 r1_3) (View.ld x2 r1_3) (View.ld x3 r1_11) (q 3) (k 3) (w 3) (b 3) (fun a d => by pointwise [r1_3]; exact hq _ _ _) (fun a d => by pointwise [r1_3]; exact hk _ _ _) (fun a d => by pointwise [r1_3]; exact hw _ _ _)
      (fun a => by pointwise [r1_11]; exact hb _ _) x).trans ?_
    have e0 : y0 = 3 := Fin.ext (by simp at h0; simp; omega)
    have e1 : x 2 = y2 := Fin.ext (by simpa using h2.symm)
    have e2 : x 3 = y3 := Fin.ext (by simpa using h3.symm)
    rw [e0, e1, e2]
  case piece5 =>
    refine (head6 (View.ld x0 r1_2) (View.ld x1 r1_2) (View.ld x2 r1_2) (View.ld x3 r1_10) (q 2) (k 2) (w 2) (b 2) (fun a d => by pointwise [r1_2]; exact hq _ _ _) (fun a d => by pointwise [r1_2]; exact hk _ _ _) (fun a d => by pointwise [r1_2]; exact hw _ _ _)
      (fun a => by pointwise [r1_10]; exact hb _ _) x).trans ?_
    have e0 : y0 = 2 := Fin.ext (by simp at h0; simp; omega)
    have e1 : x 2 = y2 := Fin.ext (by simpa using h2.symm)
    have e2 : x 3 = y3 := Fin.ext (by simpa using h3.symm)
    rw [e0, e1, e2]
  case piece6 =>
    refine (head6 (View.ld x0 r1_1) (View.ld x1 r1_1) (View.ld x2 r1_1) (View.ld x3 r1_9) (q 1) (k 1) (w 1) (b 1) (fun a d => by pointwise [r1_1]; exact hq _ _ _) (fun a d => by pointwise [r1_1]; exact hk _ _ _) (fun a d => by pointwise [r1_1]; exact hw _ _ _)
      (fun a => by pointwise [r1_9]; exact hb _ _) x).trans ?_
    have e0 : y0 = 1 := Fin.ext (by simp at h0; simp; omega)
    have e1 : x 2 = y2 := Fin.ext (by simpa using h2.symm)
    have e2 : x 3 = y3 := Fin.ext (by simpa using h3.symm)
    rw [e0, e1, e2]
  case piece7 =>
    refine (head6 (View.ld x0 r1_0) (View.ld x1 r1_0) (View.ld x2 r1_0) (View.ld x3 r1_8) (q 0) (k 0) (w 0) (b 0) (fun a d => by pointwise [r1_0]; exact hq _ _ _) (fun a d => by pointwise [r1_0]; exact hk _ _ _) (fun a d => by pointwise [r1_0]; exact hw _ _ _)
      (fun a => by pointwise [r1_8]; exact hb _ _) x).trans ?_
    have e0 : y0 = 0 := Fin.ext (by simp at h0; simp; omega)
    have e1 : x 2 = y2 := Fin.ext (by simpa using h2.symm)
    have e2 : x 3 = y3 := Fin.ext (by simpa using h3.symm)
    rw [e0, e1, e2]

set_option maxHeartbeats 1600000 in
/-- The stored transitions of a chunk. -/
theorem out7_real (hw : ∀ t a d, x2 (ix3 t a d) = ((w t a d : ℝ) : EReal)) (hb : ∀ t a, x3 (ix4 0 t 0 a) = ((b t a : ℝ) : EReal)) (y : S8x1x64x64.Idx) :
    out1_7 x0 x1 x2 x3 y = ((pMat (w (y 0)) (b (y 0)) (y 2) (y 3) : ℝ) : EReal) := by
  idx_vars y
  unfold out1_7
  canon_tiles x h
  case piece0 =>
    refine (head7 (View.ld x2 r1_7) (View.ld x3 r1_15) (w 7) (b 7) (fun a d => by pointwise [r1_7]; exact hw _ _ _)
      (fun a => by pointwise [r1_15]; exact hb _ _) x).trans ?_
    have e0 : y0 = 7 := Fin.ext (by simp at h0; simp; omega)
    have e1 : x 2 = y2 := Fin.ext (by simpa using h2.symm)
    have e2 : x 3 = y3 := Fin.ext (by simpa using h3.symm)
    rw [e0, e1, e2]
  case piece1 =>
    refine (head7 (View.ld x2 r1_6) (View.ld x3 r1_14) (w 6) (b 6) (fun a d => by pointwise [r1_6]; exact hw _ _ _)
      (fun a => by pointwise [r1_14]; exact hb _ _) x).trans ?_
    have e0 : y0 = 6 := Fin.ext (by simp at h0; simp; omega)
    have e1 : x 2 = y2 := Fin.ext (by simpa using h2.symm)
    have e2 : x 3 = y3 := Fin.ext (by simpa using h3.symm)
    rw [e0, e1, e2]
  case piece2 =>
    refine (head7 (View.ld x2 r1_5) (View.ld x3 r1_13) (w 5) (b 5) (fun a d => by pointwise [r1_5]; exact hw _ _ _)
      (fun a => by pointwise [r1_13]; exact hb _ _) x).trans ?_
    have e0 : y0 = 5 := Fin.ext (by simp at h0; simp; omega)
    have e1 : x 2 = y2 := Fin.ext (by simpa using h2.symm)
    have e2 : x 3 = y3 := Fin.ext (by simpa using h3.symm)
    rw [e0, e1, e2]
  case piece3 =>
    refine (head7 (View.ld x2 r1_4) (View.ld x3 r1_12) (w 4) (b 4) (fun a d => by pointwise [r1_4]; exact hw _ _ _)
      (fun a => by pointwise [r1_12]; exact hb _ _) x).trans ?_
    have e0 : y0 = 4 := Fin.ext (by simp at h0; simp; omega)
    have e1 : x 2 = y2 := Fin.ext (by simpa using h2.symm)
    have e2 : x 3 = y3 := Fin.ext (by simpa using h3.symm)
    rw [e0, e1, e2]
  case piece4 =>
    refine (head7 (View.ld x2 r1_3) (View.ld x3 r1_11) (w 3) (b 3) (fun a d => by pointwise [r1_3]; exact hw _ _ _)
      (fun a => by pointwise [r1_11]; exact hb _ _) x).trans ?_
    have e0 : y0 = 3 := Fin.ext (by simp at h0; simp; omega)
    have e1 : x 2 = y2 := Fin.ext (by simpa using h2.symm)
    have e2 : x 3 = y3 := Fin.ext (by simpa using h3.symm)
    rw [e0, e1, e2]
  case piece5 =>
    refine (head7 (View.ld x2 r1_2) (View.ld x3 r1_10) (w 2) (b 2) (fun a d => by pointwise [r1_2]; exact hw _ _ _)
      (fun a => by pointwise [r1_10]; exact hb _ _) x).trans ?_
    have e0 : y0 = 2 := Fin.ext (by simp at h0; simp; omega)
    have e1 : x 2 = y2 := Fin.ext (by simpa using h2.symm)
    have e2 : x 3 = y3 := Fin.ext (by simpa using h3.symm)
    rw [e0, e1, e2]
  case piece6 =>
    refine (head7 (View.ld x2 r1_1) (View.ld x3 r1_9) (w 1) (b 1) (fun a d => by pointwise [r1_1]; exact hw _ _ _)
      (fun a => by pointwise [r1_9]; exact hb _ _) x).trans ?_
    have e0 : y0 = 1 := Fin.ext (by simp at h0; simp; omega)
    have e1 : x 2 = y2 := Fin.ext (by simpa using h2.symm)
    have e2 : x 3 = y3 := Fin.ext (by simpa using h3.symm)
    rw [e0, e1, e2]
  case piece7 =>
    refine (head7 (View.ld x2 r1_0) (View.ld x3 r1_8) (w 0) (b 0) (fun a d => by pointwise [r1_0]; exact hw _ _ _)
      (fun a => by pointwise [r1_8]; exact hb _ _) x).trans ?_
    have e0 : y0 = 0 := Fin.ext (by simp at h0; simp; omega)
    have e1 : x 2 = y2 := Fin.ext (by simpa using h2.symm)
    have e2 : x 3 = y3 := Fin.ext (by simpa using h3.symm)
    rw [e0, e1, e2]

end

end Cert.Val
-- ==== Proof.V.Arr1.lean ====
module
public import proofs.«01_k».proof.Proof.V.Reg1

/-! The four arrays of the second call. -/

@[expose] public section

set_option maxRecDepth 16384

noncomputable section

namespace Cert.Val

open Cert.KernelIdeal Cert.KernelIdeal.Gen Cert.KernelIdeal.Frm
open Idealize.ShloMosaic Idealize.ShloMosaic.TcCoe

/-- Which block each window takes at a point. -/
theorem idx1 : ∀ t : Fin cfg1.N, win1_0.index t = ![t.val / 8, t.val % 8, 0]
    ∧ win1_1.index t = ![t.val / 8, t.val % 8, 0] ∧ win1_2.index t = ![t.val / 8, t.val % 8, 0]
    ∧ win1_3.index t = ![t.val / 16, t.val / 8 % 2, 0, t.val % 8]
    ∧ win1_4.index t = ![t.val / 8, t.val % 8, 0] ∧ win1_5.index t = ![t.val / 8, t.val % 8, 0]
    ∧ win1_6.index t = ![t.val / 8, t.val % 8, 0, 0] ∧ win1_7.index t = ![t.val / 8, t.val % 8, 0, 0] :=
  (by decide +kernel : ∀ t : Fin grid1.N, _)

section
variable (V : (c : Dev nD) → (b : Ref sig .tc) → Buf (Elt Ideal) ((c : Thread nD τ).loc b))
variable (c : Dev nD)
variable (q k w : Fin 32 → Fin 1024 → Fin 64 → ℝ) (β : Fin 32 → Fin 1024 → ℝ)

/-- A head of a batch. -/
def bh (b : Fin 2) (h : Fin 16) : Fin 32 := ⟨16 * b.val + h.val, by omega⟩
/-- The head of a block's row. -/
def hd1 (t : Fin cfg1.N) (a : Fin 8) : Fin 32 :=
  ⟨8 * (t.val / 8) + a.val, by have := lt_of_lt_of_eq t.isLt N_1; omega⟩
/-- The chunk of a point. -/
def ck1 (t : Fin cfg1.N) : Fin 8 := ⟨t.val % 8, by omega⟩

theorem blk1_0 (hq : ∀ h s d, (V c main_v2_0 : FVec Ideal S32x1024x64 .f32) (ix3 h s d) = ((q h s d : ℝ) : EReal))
    (t : Fin cfg1.N) (a : Fin 8) (b : Fin 128) (d : Fin 64) :
    iblk1 V c 0 t (ix3 a b d) = ((q (hd1 t a) (ch (ck1 t) b) d : ℝ) : EReal) := by
  have ht := lt_of_lt_of_eq t.isLt N_1
  refine Eq.trans ?_ (hq (hd1 t a) (ch (ck1 t) b) d)
  blk_ext [iblk1, idx1 t, hd1, ck1, ch]
theorem blk1_1 (hk : ∀ h s d, (V c main_v2_1 : FVec Ideal S32x1024x64 .f32) (ix3 h s d) = ((k h s d : ℝ) : EReal))
    (t : Fin cfg1.N) (a : Fin 8) (b : Fin 128) (d : Fin 64) :
    iblk1 V c 1 t (ix3 a b d) = ((k (hd1 t a) (ch (ck1 t) b) d : ℝ) : EReal) := by
  have ht := lt_of_lt_of_eq t.isLt N_1
  refine Eq.trans ?_ (hk (hd1 t a) (ch (ck1 t) b) d)
  blk_ext [iblk1, idx1 t, hd1, ck1, ch]
theorem blk1_2 (hw : ∀ h s d, (V c main_v2_3 : FVec Ideal S32x1024x64 .f32) (ix3 h s d) = ((w h s d : ℝ) : EReal))
    (t : Fin cfg1.N) (a : Fin 8) (b : Fin 128) (d : Fin 64) :
    iblk1 V c 2 t (ix3 a b d) = ((w (hd1 t a) (ch (ck1 t) b) d : ℝ) : EReal) := by
  have ht := lt_of_lt_of_eq t.isLt N_1
  refine Eq.trans ?_ (hw (hd1 t a) (ch (ck1 t) b) d)
  blk_ext [iblk1, idx1 t, hd1, ck1, ch]
theorem blk1_3 (hb : ∀ b h s, (V c main_v2_4 : FVec Ideal S2x16x1x1024 .f32) (ix4 b h 0 s) = ((β (bh b h) s : ℝ) : EReal))
    (t : Fin cfg1.N) (a : Fin 8) (b : Fin 128) :
    iblk1 V c 3 t (ix4 0 a 0 b) = ((β (hd1 t a) (ch (ck1 t) b) : ℝ) : EReal) := by
  have ht := lt_of_lt_of_eq t.isLt N_1
  have e : hd1 t a = bh ⟨t.val / 16, by omega⟩ ⟨8 * (t.val / 8 % 2) + a.val, by omega⟩ :=
    Fin.ext (by simp only [hd1, bh]; omega)
  rw [e]
  refine Eq.trans ?_ (hb ⟨t.val / 16, by omega⟩ ⟨8 * (t.val / 8 % 2) + a.val, by omega⟩ (ch (ck1 t) b))
  blk_ext [iblk1, idx1 t, ck1, ch]

/-- Rows of a chunk of one head. -/
abbrev cks (x : Fin 32 → Fin 1024 → Fin 64 → ℝ) (h : Fin 32) (i : Fin 8) : Fin 128 → Fin 64 → ℝ :=
  fun a => x h (ch i a)
/-- Rates of a chunk of one head. -/
abbrev ckb (x : Fin 32 → Fin 1024 → ℝ) (h : Fin 32) (i : Fin 8) : Fin 128 → ℝ := fun a => x h (ch i a)
/-- The chunk of a row. -/
def cOf (s : Fin 1024) : Fin 8 := ⟨s.val / 128, by omega⟩
/-- The place of a row in its chunk. -/
def rOf (s : Fin 1024) : Fin 128 := ⟨s.val % 128, by omega⟩

theorem cg3 {A B C D : Type} (f : A → B → C → D) {a a' : A} {b b' : B} {c c' : C} (h1 : a = a') (h2 : b = b')
    (h3 : c = c') : f a b c = f a' b' c' := by subst h1 h2 h3; rfl
theorem cg4 {A B C D E : Type} (f : A → B → C → D → E) {a a' : A} {b b' : B} {c c' : C} {d d' : D}
    (h1 : a = a') (h2 : b = b') (h3 : c = c') (h4 : d = d') : f a b c d = f a' b' c' d' := by
  subst h1 h2 h3 h4; rfl

variable (hq : ∀ h s d, (V c main_v2_0 : FVec Ideal S32x1024x64 .f32) (ix3 h s d) = ((q h s d : ℝ) : EReal))
variable (hk : ∀ h s d, (V c main_v2_1 : FVec Ideal S32x1024x64 .f32) (ix3 h s d) = ((k h s d : ℝ) : EReal))
variable (hw : ∀ h s d, (V c main_v2_3 : FVec Ideal S32x1024x64 .f32) (ix3 h s d) = ((w h s d : ℝ) : EReal))
variable (hb : ∀ b h s, (V c main_v2_4 : FVec Ideal S2x16x1x1024 .f32) (ix4 b h 0 s) = ((β (bh b h) s : ℝ) : EReal))

include hq hw hb in
/-- The queries against the keys before the chunk. -/
theorem arr1_4 : (dat1 V c).arrAt 4 cfg1.N = fun j : S32x1024x64.Idx =>
    (((fun (h : Fin 32) (s : Fin 1024) (d : Fin 64) =>
      qtMat (cks q h (cOf s)) (cks w h (cOf s)) (ckb β h (cOf s)) (rOf s) d) (j 0) (j 1) (j 2) : ℝ) : EReal) := by
  refine (dat1 V c).arrAt_eq_of_covers 4 _ (by decide +kernel) fun t hf y => ?_
  have ht := lt_of_lt_of_eq t.isLt N_1
  blk_simp
  rw [after1_4]
  refine (out4_real _ _ _ _ (fun a b d => q (hd1 t a) (ch (ck1 t) b) d) (fun a b d => w (hd1 t a) (ch (ck1 t) b) d) (fun a b => β (hd1 t a) (ch (ck1 t) b))
    (blk1_0 V c q hq t) (blk1_2 V c w hw t) (blk1_3 V c β hb t) y).trans ?_
  refine congrArg Real.toEReal (Eq.symm (cg4 (fun (h : Fin 32) (i : Fin 8) (a : Fin 128) (d : Fin 64) => qtMat (cks q h i) (cks w h i) (ckb β h i) a d)
    (Fin.ext (by show _ = 8 * (t.val / 8) + (y 0).val; blk_simp [idx1 t]; omega))
    (Fin.ext (by show _ / 128 = t.val % 8; have h1 : (y 1).val < 128 := (y 1).isLt; blk_simp [idx1 t]; omega))
    (Fin.ext (by show _ % 128 = (y 1).val; have h1 : (y 1).val < 128 := (y 1).isLt; blk_simp [idx1 t]; omega))
    (Fin.ext (by blk_simp [idx1 t]))))

include hk hw hb in
/-- The keys at the end of their chunk. -/
theorem arr1_5 : (dat1 V c).arrAt 5 cfg1.N = fun j : S32x1024x64.Idx =>
    (((fun (h : Fin 32) (s : Fin 1024) (d : Fin 64) =>
      ktMat (cks k h (cOf s)) (cks w h (cOf s)) (ckb β h (cOf s)) (rOf s) d) (j 0) (j 1) (j 2) : ℝ) : EReal) := by
  refine (dat1 V c).arrAt_eq_of_covers 5 _ (by decide +kernel) fun t hf y => ?_
  have ht := lt_of_lt_of_eq t.isLt N_1
  blk_simp
  rw [after1_5]
  refine (out5_real _ _ _ _ (fun a b d => k (hd1 t a) (ch (ck1 t) b) d) (fun a b d => w (hd1 t a) (ch (ck1 t) b) d) (fun a b => β (hd1 t a) (ch (ck1 t) b))
    (blk1_1 V c k hk t) (blk1_2 V c w hw t) (blk1_3 V c β hb t) y).trans ?_
  refine congrArg Real.toEReal (Eq.symm (cg4 (fun (h : Fin 32) (i : Fin 8) (a : Fin 128) (d : Fin 64) => ktMat (cks k h i) (cks w h i) (ckb β h i) a d)
    (Fin.ext (by show _ = 8 * (t.val / 8) + (y 0).val; blk_simp [idx1 t]; omega))
    (Fin.ext (by show _ / 128 = t.val % 8; have h1 : (y 1).val < 128 := (y 1).isLt; blk_simp [idx1 t]; omega))
    (Fin.ext (by show _ % 128 = (y 1).val; have h1 : (y 1).val < 128 := (y 1).isLt; blk_simp [idx1 t]; omega))
    (Fin.ext (by blk_simp [idx1 t]))))

include hq hk hw hb in
/-- The scores inside the chunks. -/
theorem arr1_6 : (dat1 V c).arrAt 6 cfg1.N = fun j : S32x8x128x128.Idx =>
    (((fun (h : Fin 32) (i : Fin 8) (a : Fin 128) (d : Fin 128) =>
      siiMat (cks q h i) (cks k h i) (cks w h i) (ckb β h i) a d) (j 0) (j 1) (j 2) (j 3) : ℝ) : EReal) := by
  refine (dat1 V c).arrAt_eq_of_covers 6 _ (by decide +kernel) fun t hf y => ?_
  have ht := lt_of_lt_of_eq t.isLt N_1
  blk_simp
  rw [after1_6]
  refine (out6_real _ _ _ _ (fun a b d => q (hd1 t a) (ch (ck1 t) b) d) (fun a b d => k (hd1 t a) (ch (ck1 t) b) d) (fun a b d => w (hd1 t a) (ch (ck1 t) b) d) (fun a b => β (hd1 t a) (ch (ck1 t) b))
    (blk1_0 V c q hq t) (blk1_1 V c k hk t) (blk1_2 V c w hw t) (blk1_3 V c β hb t) y).trans ?_
  refine congrArg Real.toEReal (Eq.symm (cg4 (fun (h : Fin 32) (i : Fin 8) (a : Fin 128) (d : Fin 128) => siiMat (cks q h i) (cks k h i) (cks w h i) (ckb β h i) a d)
    (Fin.ext (by show _ = 8 * (t.val / 8) + (y 0).val; blk_simp [idx1 t]; omega))
    (Fin.ext (by blk_simp [idx1 t, ck1]))
    (Fin.ext (by blk_simp [idx1 t]))
    (Fin.ext (by blk_simp [idx1 t]))))

include hw hb in
/-- The transitions of the chunks. -/
theorem arr1_7 : (dat1 V c).arrAt 7 cfg1.N = fun j : S32x8x64x64.Idx =>
    (((fun (h : Fin 32) (i : Fin 8) (a : Fin 64) (d : Fin 64) =>
      pMat (cks w h i) (ckb β h i) a d) (j 0) (j 1) (j 2) (j 3) : ℝ) : EReal) := by
  refine (dat1 V c).arrAt_eq_of_covers 7 _ (by decide +kernel) fun t hf y => ?_
  have ht := lt_of_lt_of_eq t.isLt N_1
  blk_simp
  rw [after1_7]
  refine (out7_real _ _ _ _ (fun a b d => w (hd1 t a) (ch (ck1 t) b) d) (fun a b => β (hd1 t a) (ch (ck1 t) b))
    (blk1_2 V c w hw t) (blk1_3 V c β hb t) y).trans ?_
  refine congrArg Real.toEReal (Eq.symm (cg4 (fun (h : Fin 32) (i : Fin 8) (a : Fin 64) (d : Fin 64) => pMat (cks w h i) (ckb β h i) a d)
    (Fin.ext (by show _ = 8 * (t.val / 8) + (y 0).val; blk_simp [idx1 t]; omega))
    (Fin.ext (by blk_simp [idx1 t, ck1]))
    (Fin.ext (by blk_simp [idx1 t]))
    (Fin.ext (by blk_simp [idx1 t]))))

end

end Cert.Val
-- ==== Proof.V.Base.lean ====
module
public import proofs.«01_k».proof.Proof.V.Arr1

/-! The problem's projections over the reals. -/

@[expose] public section

set_option maxRecDepth 16384

noncomputable section

namespace Cert.Val

open Idealize.ShloMosaic Idealize.ShloMosaic.TcCoe

/-- The small number under the root. -/
def epsR : ℝ := (Ideal.ofBits .f32 0x358637BD#32).toReal

theorem eps_pos_bits : Ideal.ofBits .f32 0x358637BD#32 = ((epsR : ℝ) : EReal) ∧ 0 < epsR := by
  have h : ∃ e : ℝ, Ideal.ofBits .f32 0x358637BD#32 = ((e : ℝ) : EReal) ∧ 0 < e := by
    refine ⟨_, by simp [Ideal.ofBits, Ideal.ieee]; rfl, ?_⟩
    positivity
  obtain ⟨e, h1, h2⟩ := h
  have : epsR = e := by rw [epsR, h1, EReal.toReal_coe]
  rw [this]; exact ⟨h1, h2⟩

/-- A row times a matrix. -/
def lin {n : ℕ} (X : Fin 2 → Fin 1024 → Fin 1024 → ℝ) (W : Fin 1024 → Fin n → ℝ) (b : Fin 2) (s : Fin 1024) (e : Fin n) : ℝ :=
  ∑ c, X b s c * W c e
/-- The write directions before their normalization. -/
def wraw (X : Fin 2 → Fin 1024 → Fin 1024 → ℝ) (W1 : Fin 1024 → Fin 64 → ℝ) (W2 : Fin 64 → Fin 1024 → ℝ)
    (b : Fin 2) (s : Fin 1024) (e : Fin 1024) : ℝ := ∑ u, lin X W1 b s u * W2 u e
/-- Column `d` of head `h`. -/
def col (h : Fin 16) (d : Fin 64) : Fin 1024 := ⟨64 * h.val + d.val, by omega⟩
/-- A head of a row, normalized. -/
def nrm (x : Fin 64 → ℝ) (d : Fin 64) : ℝ := x d * (Real.sqrt ((∑ e, x e * x e) + epsR))⁻¹
/-- The rate of a row. -/
def rate (z : ℝ) : ℝ := 2 * (1 + Real.exp (-z))⁻¹
/-- The log gate of a row. -/
def lgate (z : ℝ) : ℝ := -(max (-z) 0 + Real.log (1 + Real.exp (-|z|)))

theorem one_bits : Ideal.ofBits .f32 0x3F800000#32 = ((1 : ℝ) : EReal) := by
  simp [Ideal.ofBits, Ideal.ieee]
  rw [← EReal.coe_mul, ← EReal.coe_one]; norm_num
theorem zero_bits : Ideal.ofBits .f32 0x00000000#32 = ((0 : ℝ) : EReal) := by
  simp [Ideal.ofBits, Ideal.ieee]

/-- The root of a sum of squares and the small number. -/
theorem rsqrt_real (x : Fin 64 → ℝ) : Ideal.rsqrt (((∑ e, x e * x e) + epsR : ℝ) : EReal)
    = (((Real.sqrt ((∑ e, x e * x e) + epsR))⁻¹ : ℝ) : EReal) := by
  have h : 0 < (∑ e, x e * x e) + epsR :=
    add_pos_of_nonneg_of_pos (Finset.sum_nonneg fun e _ => mul_self_nonneg _) eps_pos_bits.2
  rw [Ideal.rsqrt_coe, if_neg (not_lt.mpr h.le), if_neg h.ne']

/-- The soft plus of a real number, as computed. -/
theorem log1p_real (z : ℝ) : Ideal.log1p (Ideal.exp ((-|z| : ℝ) : EReal)) = ((Real.log (1 + Real.exp (-|z|)) : ℝ) : EReal) := by
  have h : 0 < 1 + Real.exp (-|z|) := by positivity
  rw [Ideal.exp_coe, Ideal.log1p, ← EReal.coe_one, ← EReal.coe_add, Ideal.log_coe, if_neg (not_le.mpr h)]

theorem abs_real (z : ℝ) : max ((z : ℝ) : EReal) (-((z : ℝ) : EReal)) = ((|z| : ℝ) : EReal) := by
  rw [← EReal.coe_neg, abs]
  exact (EReal.coe_strictMono.monotone.map_max (a := z) (b := -z)).symm

/-- The log gate, as computed. -/
theorem lgate_real (z : ℝ) : -(max ((-z : ℝ) : EReal) 0 + Ideal.log1p (Ideal.exp (-(max ((-z : ℝ) : EReal) (-((-z : ℝ) : EReal))))))
    = ((lgate z : ℝ) : EReal) := by
  have hm : max ((-z : ℝ) : EReal) 0 = ((max (-z) 0 : ℝ) : EReal) := by
    rw [← EReal.coe_zero]; exact (EReal.coe_strictMono.monotone.map_max (a := -z) (b := 0)).symm
  rw [abs_real, hm, ← EReal.coe_neg, log1p_real, ← EReal.coe_add, ← EReal.coe_neg, abs_neg]
  rfl

/-- The batch of a head. -/
def bOf (g : Fin 32) : Fin 2 := ⟨g.val / 16, by omega⟩
/-- The head in its batch. -/
def hOf (g : Fin 32) : Fin 16 := ⟨g.val % 16, by omega⟩
theorem bOf_bh (b : Fin 2) (h : Fin 16) : bOf (bh b h) = b := Fin.ext (by simp [bOf, bh]; omega)
theorem hOf_bh (b : Fin 2) (h : Fin 16) : hOf (bh b h) = h := Fin.ext (by simp [hOf, bh])

end Cert.Val
-- ==== Proof.V.Flash.lean ====
module
public import proofs.«01_k».proof.Proof.V.Mat
public import proofs.«01_k».proof.Proof.KI.R2

/-! One head of the third call at one row chunk: its chain of operations, and what the chain holds over
    the reals. -/

@[expose] public section

set_option maxRecDepth 16384

noncomputable section

namespace Cert.Val

open Cert.KernelIdeal Cert.KernelIdeal.Gen
open Idealize.ShloMosaic Idealize.ShloMosaic.TcCoe

/-- One column block of the logits. -/
def fLb (o : ℕ) (ho : Shape.Slices S128x1024 ![0, o] S128x128) (S : FVec Ideal S128x1024 .f32)
    (fc : FVec Ideal S128x1 .f32) (g : FVec Ideal S1x1x128 .f32) : FVec Ideal S128x128 .f32 :=
  subf (addf (extractStridedSlice S128x128 ![0, o] S ho) (broadcastTo S128x128 fc broadcasts_S128x1_S128x128))
    (broadcastTo S128x128 (shapeCast S1x128 g shapeCasts_S1x1x128_S1x128) broadcasts_S1x128_S128x128)
/-- The diagonal block of the logits. -/
def fLd (f : FVec Ideal S1x128 .f32) (fc : FVec Ideal S128x1 .f32) (s : FVec Ideal S1x1x128x128 .f32) :
    FVec Ideal S128x128 .f32 := k2_pay77 k2_pay28 f fc s
/-- The largest entry of each row. -/
def fMax (v : FVec Ideal S128x128 .f32) : FVec Ideal S128x1 .f32 :=
  k2_pay97 v
/-- The exponentials under a common row shift. -/
def fExp (v : FVec Ideal S128x128 .f32) (m : FVec Ideal S128x1 .f32) : FVec Ideal S128x128 .f32 :=
  exp (subf v (broadcastTo S128x128 m broadcasts_S128x1_S128x128))
/-- The eight blocks' exponentials side by side. -/
def fCat (a0 a1 a2 a3 a4 a5 a6 a7 : FVec Ideal S128x128 .f32) : FVec Ideal S128x1024 .f32 :=
  concatenate S128x1024 1 [⟨S128x128, a0⟩, ⟨S128x128, a1⟩, ⟨S128x128, a2⟩, ⟨S128x128, a3⟩,
    ⟨S128x128, a4⟩, ⟨S128x128, a5⟩, ⟨S128x128, a6⟩, ⟨S128x128, a7⟩]
    concatenates_S128x128_S128x128_S128x128_S128x128_S128x128_S128x128_S128x128_S128x128_S128x1024_d1
/-- The products of the queries with the transported keys. -/
def fS (q : FVec Ideal S1x128x64 .f32) (k : FVec Ideal S1x1024x64 .f32) : FVec Ideal S128x1024 .f32 :=
  matmul dot_S128x64_S1024x64_S128x1024_1_1_0_0_n_n none (shapeCast S128x64 q shapeCasts_S1x128x64_S128x64)
    (shapeCast S1024x64 k shapeCasts_S1x1024x64_S1024x64) (constant S128x1024 .f32 0x00000000#32)
/-- From the blocks of logits to the head's output rows. -/
def fFin (l0 l1 l2 l3 l4 l5 l6 l7 ld : FVec Ideal S128x128 .f32) (m : FVec Ideal S128x1 .f32)
    (v : FVec Ideal S1x1024x65 .f32) (vd : FVec Ideal S1x128x65 .f32) : FVec Ideal S128x65 .f32 :=
  addf (matmul dot_S128x1024_S1024x65_S128x65_1_0_0_1_n_n none
      (fCat (fExp l0 m) (fExp l1 m) (fExp l2 m) (fExp l3 m) (fExp l4 m) (fExp l5 m) (fExp l6 m) (fExp l7 m))
      (shapeCast S1024x65 v shapeCasts_S1x1024x65_S1024x65) (constant S128x65 .f32 0x00000000#32))
    (matmul dot_S128x128_S128x65_S128x65_1_0_0_1_n_n none (fExp ld m)
      (shapeCast S128x65 vd shapeCasts_S1x128x65_S128x65) (constant S128x65 .f32 0x00000000#32))
/-- The rows divided by their weights. -/
def fDiv (p : FVec Ideal S128x65 .f32) : FVec Ideal S1x128x64 .f32 :=
  shapeCast S1x128x64 (divf (extractStridedSlice S128x64 ![0, 0] p slices_S128x65_o0_0_S128x64)
    (broadcastTo S128x64 (extractStridedSlice S128x1 ![0, 64] p slices_S128x65_o0_64_S128x1)
      broadcasts_S128x1_S128x64)) shapeCasts_S128x64_S1x128x64
/-- The running maximum over the blocks. -/
def fM (l0 l1 l2 l3 l4 l5 l6 l7 ld : FVec Ideal S128x128 .f32) : FVec Ideal S128x1 .f32 :=
  maximumf (maximumf (maximumf (maximumf (maximumf (maximumf (maximumf (maximumf (fMax ld) (fMax l0)) (fMax l1))
    (fMax l2)) (fMax l3)) (fMax l4)) (fMax l5)) (fMax l6)) (fMax l7)
/-- From the blocks of logits to the head's result. -/
def fRes (l0 l1 l2 l3 l4 l5 l6 l7 ld : FVec Ideal S128x128 .f32)
    (v : FVec Ideal S1x1024x65 .f32) (vd : FVec Ideal S1x128x65 .f32) : FVec Ideal S1x128x64 .f32 :=
  fDiv (fFin l0 l1 l2 l3 l4 l5 l6 l7 ld (fM l0 l1 l2 l3 l4 l5 l6 l7 ld) v vd)
/-- The head's result from what the body loads. -/
def fHead (fq : FVec Ideal S1x1x128 .f32) (q : FVec Ideal S1x128x64 .f32) (k : FVec Ideal S1x1024x64 .f32)
    (s : FVec Ideal S1x1x128x128 .f32) (g0 g1 g2 g3 g4 g5 g6 g7 : FVec Ideal S1x1x128 .f32)
    (v : FVec Ideal S1x1024x65 .f32) (vd : FVec Ideal S1x128x65 .f32) : FVec Ideal S1x128x64 .f32 :=
  fRes
    (fLb 0 slices_S128x1024_o0_0_S128x128 (fS q k) (transpose S128x1 [1, 0] (k2_pay29 fq) transposes_S1x128_p1_0_S128x1) g0)
    (fLb 128 slices_S128x1024_o0_128_S128x128 (fS q k) (transpose S128x1 [1, 0] (k2_pay29 fq) transposes_S1x128_p1_0_S128x1) g1)
    (fLb 256 slices_S128x1024_o0_256_S128x128 (fS q k) (transpose S128x1 [1, 0] (k2_pay29 fq) transposes_S1x128_p1_0_S128x1) g2)
    (fLb 384 slices_S128x1024_o0_384_S128x128 (fS q k) (transpose S128x1 [1, 0] (k2_pay29 fq) transposes_S1x128_p1_0_S128x1) g3)
    (fLb 512 slices_S128x1024_o0_512_S128x128 (fS q k) (transpose S128x1 [1, 0] (k2_pay29 fq) transposes_S1x128_p1_0_S128x1) g4)
    (fLb 640 slices_S128x1024_o0_640_S128x128 (fS q k) (transpose S128x1 [1, 0] (k2_pay29 fq) transposes_S1x128_p1_0_S128x1) g5)
    (fLb 768 slices_S128x1024_o0_768_S128x128 (fS q k) (transpose S128x1 [1, 0] (k2_pay29 fq) transposes_S1x128_p1_0_S128x1) g6)
    (fLb 896 slices_S128x1024_o0_896_S128x128 (fS q k) (transpose S128x1 [1, 0] (k2_pay29 fq) transposes_S1x128_p1_0_S128x1) g7)
    (fLd (k2_pay29 fq) (transpose S128x1 [1, 0] (k2_pay29 fq) transposes_S1x128_p1_0_S128x1) s) v vd

/-- The one word left as `⊥`. -/
theorem negInf_bits : Ideal.ofBits .f32 0xFF800000#32 = (⊥ : EReal) := by
  simp [Ideal.ofBits, Ideal.ieee]

/-- The logits of the products, rank two. -/
theorem fS_real {q : FVec Ideal S1x128x64 .f32} {k : FVec Ideal S1x1024x64 .f32}
    {Q : Fin 128 → Fin 64 → ℝ} {K : Fin 1024 → Fin 64 → ℝ}
    (hq : ∀ a d, q (ix3 0 a d) = ((Q a d : ℝ) : EReal)) (hk : ∀ j d, k (ix3 0 j d) = ((K j d : ℝ) : EReal)) :
    IsM (fS q k) (fun a j => ∑ d, Q a d * K j d) := by
  intro a j
  pointwise [fS]
  simp only [hq _ _, hk _ _, zero_add]
  exact coe_dot _ _

/-- A block before the chunk. -/
theorem fLb_real (o : ℕ) (ho : Shape.Slices S128x1024 ![0, o] S128x128) {S : FVec Ideal S128x1024 .f32}
    {fq g : FVec Ideal S1x1x128 .f32} {M : Fin 128 → Fin 1024 → ℝ} {A : Fin 128 → ℝ} {B : Fin 128 → ℝ}
    (hS : IsM S M) (hf : ∀ a, fq (ix3 0 0 a) = ((A a : ℝ) : EReal)) (hg : ∀ a, g (ix3 0 0 a) = ((B a : ℝ) : EReal))
    (a c : Fin 128) (hc : o + c.val < 1024) :
    fLb o ho S (transpose S128x1 [1, 0] (k2_pay29 fq) transposes_S1x128_p1_0_S128x1) g (ix2 a c)
      = ((M a ⟨o + c.val, hc⟩ + A a - B c : ℝ) : EReal) := by
  pointwise [fLb, k2_pay29]
  rw [hf a, hg c, EReal.coe_sub, EReal.coe_add]
  exact congrArg₂ _ (congrArg₂ _ (hS a ⟨o + c.val, hc⟩) rfl) rfl
/-- A block at or past the chunk. -/
theorem fLb_bot (o : ℕ) (ho : Shape.Slices S128x1024 ![0, o] S128x128) {S : FVec Ideal S128x1024 .f32}
    {fq g : FVec Ideal S1x1x128 .f32} {M : Fin 128 → Fin 1024 → ℝ} {A : Fin 128 → ℝ}
    (hS : IsM S M) (hf : ∀ a, fq (ix3 0 0 a) = ((A a : ℝ) : EReal)) (hg : ∀ a, g (ix3 0 0 a) = (⊤ : EReal))
    (a c : Fin 128) (hc : o + c.val < 1024) :
    fLb o ho S (transpose S128x1 [1, 0] (k2_pay29 fq) transposes_S1x128_p1_0_S128x1) g (ix2 a c) = (⊥ : EReal) := by
  pointwise [fLb, k2_pay29]
  rw [hf a, hg c]
  refine (congrArg₂ _ (congrArg₂ _ (hS a ⟨o + c.val, hc⟩) rfl) rfl).trans ?_
  rw [← EReal.coe_add]
  rw [sub_eq_add_neg, EReal.neg_top, EReal.add_bot]
/-- The diagonal block. -/
theorem fLd_real {fq : FVec Ideal S1x1x128 .f32} {s : FVec Ideal S1x1x128x128 .f32} {A : Fin 128 → ℝ}
    {N : Fin 128 → Fin 128 → ℝ} (hf : ∀ a, fq (ix3 0 0 a) = ((A a : ℝ) : EReal))
    (hs : ∀ a b, s (ix4 0 0 a b) = ((N a b : ℝ) : EReal)) (a b : Fin 128) :
    fLd (k2_pay29 fq) (transpose S128x1 [1, 0] (k2_pay29 fq) transposes_S1x128_p1_0_S128x1) s (ix2 a b)
      = if b.val ≤ a.val then ((N a b + A a - A b : ℝ) : EReal) else (⊥ : EReal) := by
  unfold fLd k2_pay77 k2_pay28
  pointwise [k2_pay29]
  simp (disch := word_cmp_side) only [hlo_ix]
  rw [hf a, hf b, hs a b, EReal.coe_sub, EReal.coe_add]
  split_ifs
  · rfl
  · exact IdealRules.named_const.ideal_named_scalar (φ := .f32) κ "masked" 0xF149F2CA#32 ⊥ rfl
theorem fMax_at (v : FVec Ideal S128x128 .f32) (a : Fin 128) :
    fMax v (ix2 a 0) = Finset.univ.fold max (⊥ : EReal) (fun c : Fin 128 => v (ix2 a c)) := by
  unfold fMax k2_pay97
  pointwise
  rw [negInf_bits]

/-- A maximum of row entries below `⊤` is below `⊤`. -/
theorem fMax_lt (v : FVec Ideal S128x128 .f32) (a : Fin 128) (h : ∀ c : Fin 128, v (ix2 a c) < (⊤ : EReal)) :
    fMax v (ix2 a 0) < (⊤ : EReal) := by
  rw [fMax_at]
  exact Finset.fold_max_lt _ |>.mpr ⟨bot_lt_top, fun c _ => h c⟩
/-- A maximum of row entries is at least each. -/
theorem le_fMax (v : FVec Ideal S128x128 .f32) (a c : Fin 128) : v (ix2 a c) ≤ fMax v (ix2 a 0) := by
  rw [fMax_at]
  exact Finset.le_fold_max _ |>.mpr (Or.inr ⟨c, Finset.mem_univ _, le_rfl⟩)

/-- A block row whose entries are reals where `p` holds and `⊥` elsewhere. -/
def IsX (v : FVec Ideal S128x128 .f32) (a : Fin 128) (p : Fin 128 → Prop) [DecidablePred p] (f : Fin 128 → ℝ) : Prop :=
  ∀ c : Fin 128, v (ix2 a c) = if p c then ((f c : ℝ) : EReal) else (⊥ : EReal)

theorem IsX.lt {v : FVec Ideal S128x128 .f32} {a : Fin 128} {p : Fin 128 → Prop} [DecidablePred p] {f : Fin 128 → ℝ}
    (h : IsX v a p f) (c : Fin 128) : v (ix2 a c) < (⊤ : EReal) := by
  rw [h c]; split_ifs
  · exact EReal.coe_lt_top _
  · exact bot_lt_top

/-- The exponential of such a row under a real shift. -/
theorem fExp_real {v : FVec Ideal S128x128 .f32} {a : Fin 128} {p : Fin 128 → Prop} [DecidablePred p] {f : Fin 128 → ℝ}
    (h : IsX v a p f) {m : FVec Ideal S128x1 .f32} {μ : ℝ} (hm : m (ix2 a 0) = ((μ : ℝ) : EReal)) (c : Fin 128) :
    fExp v m (ix2 a c) = (((if p c then Real.exp (f c - μ) else 0 : ℝ)) : EReal) := by
  pointwise [fExp]
  rw [hm, h c]
  split_ifs
  · rw [← EReal.coe_sub]; rfl
  · rw [sub_eq_add_neg, EReal.bot_add]; rfl

/-- The running maximum of a row with one real entry is real. -/
theorem fM_real {l0 l1 l2 l3 l4 l5 l6 l7 ld : FVec Ideal S128x128 .f32} {a : Fin 128}
    {p0 p1 p2 p3 p4 p5 p6 p7 pd : Fin 128 → Prop} [DecidablePred p0] [DecidablePred p1] [DecidablePred p2]
    [DecidablePred p3] [DecidablePred p4] [DecidablePred p5] [DecidablePred p6] [DecidablePred p7] [DecidablePred pd]
    {f0 f1 f2 f3 f4 f5 f6 f7 fd : Fin 128 → ℝ}
    (h0 : IsX l0 a p0 f0) (h1 : IsX l1 a p1 f1) (h2 : IsX l2 a p2 f2) (h3 : IsX l3 a p3 f3)
    (h4 : IsX l4 a p4 f4) (h5 : IsX l5 a p5 f5) (h6 : IsX l6 a p6 f6) (h7 : IsX l7 a p7 f7)
    (hd : IsX ld a pd fd) (ha : pd a) :
    ∃ μ : ℝ, fM l0 l1 l2 l3 l4 l5 l6 l7 ld (ix2 a 0) = ((μ : ℝ) : EReal) := by
  have e : fM l0 l1 l2 l3 l4 l5 l6 l7 ld (ix2 a 0) = max (max (max (max (max (max (max (max
      (fMax ld (ix2 a 0)) (fMax l0 (ix2 a 0))) (fMax l1 (ix2 a 0))) (fMax l2 (ix2 a 0))) (fMax l3 (ix2 a 0)))
      (fMax l4 (ix2 a 0))) (fMax l5 (ix2 a 0))) (fMax l6 (ix2 a 0))) (fMax l7 (ix2 a 0)) := rfl
  have ht : fM l0 l1 l2 l3 l4 l5 l6 l7 ld (ix2 a 0) ≠ (⊤ : EReal) := by
    rw [e]
    refine ne_of_lt ?_
    simp only [max_lt_iff]
    exact ⟨⟨⟨⟨⟨⟨⟨⟨fMax_lt _ _ hd.lt, fMax_lt _ _ h0.lt⟩, fMax_lt _ _ h1.lt⟩, fMax_lt _ _ h2.lt⟩, fMax_lt _ _ h3.lt⟩,
      fMax_lt _ _ h4.lt⟩, fMax_lt _ _ h5.lt⟩, fMax_lt _ _ h6.lt⟩, fMax_lt _ _ h7.lt⟩
  have hb : fM l0 l1 l2 l3 l4 l5 l6 l7 ld (ix2 a 0) ≠ (⊥ : EReal) := by
    rw [e]
    refine ne_of_gt ?_
    have h : (⊥ : EReal) < fMax ld (ix2 a 0) := by
      refine lt_of_lt_of_le ?_ (le_fMax ld a a)
      rw [hd a, if_pos ha]
      exact EReal.bot_lt_coe _
    simp only [lt_max_iff, h, true_or]
  exact ⟨_, (EReal.coe_toReal ht hb).symm⟩

theorem fCat_at (a0 a1 a2 a3 a4 a5 a6 a7 : FVec Ideal S128x128 .f32) (a : Fin 128) {f : Fin 1024 → ℝ}
    (h0 : ∀ c : Fin 128, a0 (ix2 a c) = ((f (ch 0 c) : ℝ) : EReal))
    (h1 : ∀ c : Fin 128, a1 (ix2 a c) = ((f (ch 1 c) : ℝ) : EReal))
    (h2 : ∀ c : Fin 128, a2 (ix2 a c) = ((f (ch 2 c) : ℝ) : EReal))
    (h3 : ∀ c : Fin 128, a3 (ix2 a c) = ((f (ch 3 c) : ℝ) : EReal))
    (h4 : ∀ c : Fin 128, a4 (ix2 a c) = ((f (ch 4 c) : ℝ) : EReal))
    (h5 : ∀ c : Fin 128, a5 (ix2 a c) = ((f (ch 5 c) : ℝ) : EReal))
    (h6 : ∀ c : Fin 128, a6 (ix2 a c) = ((f (ch 6 c) : ℝ) : EReal))
    (h7 : ∀ c : Fin 128, a7 (ix2 a c) = ((f (ch 7 c) : ℝ) : EReal)) (j : Fin 1024) :
    fCat a0 a1 a2 a3 a4 a5 a6 a7 (ix2 a j) = ((f j : ℝ) : EReal) := by
  pointwise [fCat]
  simp only [h0 _, h1 _, h2 _, h3 _, h4 _, h5 _, h6 _, h7 _]
  have hj := j.isLt
  split_ifs <;> exact congrArg (fun k => ((f k : ℝ) : EReal)) (Fin.ext (by simp [ch] <;> omega))

/-- A sum over a chunk's rows as a sum over all rows. -/
theorem chunk_sum (g : Fin 1024 → ℝ) (i : Fin 8) :
    ∑ b : Fin 128, g (ch i b) = ∑ j : Fin 1024, if 128 * i.val ≤ j.val ∧ j.val < 128 * i.val + 128 then g j else 0 := by
  rw [← Finset.sum_filter]
  refine Finset.sum_bij' (fun b _ => ch i b) (fun j _ => ⟨(j.val - 128 * i.val) % 128, Nat.mod_lt _ (by decide)⟩)
    ?_ ?_ ?_ ?_ ?_
  · intro b _
    simp [ch]
  · intro j _
    exact Finset.mem_univ _
  · intro b _
    refine Fin.ext ?_
    show (128 * i.val + b.val - 128 * i.val) % 128 = b.val
    have := b.isLt
    omega
  · intro j hj
    refine Fin.ext ?_
    rw [Finset.mem_filter] at hj
    show 128 * i.val + (j.val - 128 * i.val) % 128 = j.val
    omega
  · intro b _
    rfl

/-- The two parts of a row's weighted sum together. -/
theorem two_parts (l x : Fin 1024 → ℝ) (μ : ℝ) (i : Fin 8) (a : Fin 128) :
    (∑ j : Fin 1024, (if j.val < 128 * i.val then Real.exp (l j - μ) else 0) * x j)
      + (∑ b : Fin 128, (if b.val ≤ a.val then Real.exp (l (ch i b) - μ) else 0) * x (ch i b))
      = Real.exp (-μ) * ∑ j : Fin 1024, if j.val ≤ (ch i a).val then Real.exp (l j) * x j else 0 := by
  have e : ∀ b : Fin 128, (if b.val ≤ a.val then Real.exp (l (ch i b) - μ) else 0) * x (ch i b)
      = (fun j : Fin 1024 => (if j.val ≤ (ch i a).val then Real.exp (l j - μ) else 0) * x j) (ch i b) := by
    intro b
    have : ((ch i b).val ≤ (ch i a).val) = (b.val ≤ a.val) := by simp [ch]
    simp only [this]
  rw [Finset.sum_congr rfl fun b _ => e b, chunk_sum (fun j : Fin 1024 => (if j.val ≤ (ch i a).val then Real.exp (l j - μ) else 0) * x j) i, ← Finset.sum_add_distrib, Finset.mul_sum]
  refine Finset.sum_congr rfl fun j _ => ?_
  have ha : (ch i a).val = 128 * i.val + a.val := rfl
  have hx : Real.exp (l j - μ) = Real.exp (-μ) * Real.exp (l j) := by
    rw [← Real.exp_add]; congr 1; ring
  have := a.isLt
  by_cases h1 : j.val < 128 * i.val
  · rw [if_pos h1, if_neg (by omega), if_pos (by omega), add_zero, hx, mul_assoc]
  · by_cases h2 : j.val ≤ (ch i a).val
    · rw [if_neg h1, if_pos (by omega), if_pos h2, if_pos h2, zero_mul, zero_add, hx, mul_assoc]
    · rw [if_neg h1, if_neg h2, if_neg h2, zero_mul, zero_add, mul_zero]
      split_ifs <;> simp

/-- The weighted mean of a row: numerator over denominator. -/
def soft (l x : Fin 1024 → ℝ) (t : Fin 1024) : ℝ :=
  (∑ j : Fin 1024, if j.val ≤ t.val then Real.exp (l j) * x j else 0)
    / (∑ j : Fin 1024, if j.val ≤ t.val then Real.exp (l j) else 0)

/-- The row's total weight is positive. -/
theorem soft_pos (l : Fin 1024 → ℝ) (t : Fin 1024) :
    0 < ∑ j : Fin 1024, if j.val ≤ t.val then Real.exp (l j) else 0 := by
  refine Finset.sum_pos' (fun j _ => ?_) ⟨t, Finset.mem_univ _, ?_⟩
  · split_ifs
    · exact (Real.exp_pos _).le
    · exact le_rfl
  · rw [if_pos le_rfl]; exact Real.exp_pos _

/-- The head's result, from its blocks of logits. -/
theorem fRes_real {l0 l1 l2 l3 l4 l5 l6 l7 ld : FVec Ideal S128x128 .f32}
    {v : FVec Ideal S1x1024x65 .f32} {vd : FVec Ideal S1x128x65 .f32} (i : Fin 8) (a : Fin 128)
    (l : Fin 1024 → ℝ) (vv : Fin 1024 → Fin 65 → ℝ)
    (h0 : IsX l0 a (fun _ => 0 < i.val) (fun c => l (ch 0 c))) (h1 : IsX l1 a (fun _ => 1 < i.val) (fun c => l (ch 1 c)))
    (h2 : IsX l2 a (fun _ => 2 < i.val) (fun c => l (ch 2 c))) (h3 : IsX l3 a (fun _ => 3 < i.val) (fun c => l (ch 3 c)))
    (h4 : IsX l4 a (fun _ => 4 < i.val) (fun c => l (ch 4 c))) (h5 : IsX l5 a (fun _ => 5 < i.val) (fun c => l (ch 5 c)))
    (h6 : IsX l6 a (fun _ => 6 < i.val) (fun c => l (ch 6 c))) (h7 : IsX l7 a (fun _ => 7 < i.val) (fun c => l (ch 7 c)))
    (hd : IsX ld a (fun b => b.val ≤ a.val) (fun b => l (ch i b)))
    (hv : ∀ j e, v (ix3 0 j e) = ((vv j e : ℝ) : EReal)) (hvd : ∀ b e, vd (ix3 0 b e) = ((vv (ch i b) e : ℝ) : EReal))
    (hone : ∀ j, vv j 64 = 1) (d : Fin 64) :
    fRes l0 l1 l2 l3 l4 l5 l6 l7 ld v vd (ix3 0 a d)
      = ((soft l (fun j => vv j ⟨d.val, by omega⟩) (ch i a) : ℝ) : EReal) := by
  obtain ⟨μ, hm⟩ := fM_real h0 h1 h2 h3 h4 h5 h6 h7 hd (le_refl _)
  unfold fRes
  generalize fM l0 l1 l2 l3 l4 l5 l6 l7 ld = m at hm ⊢
  have hc : ∀ j : Fin 1024, fCat (fExp l0 m) (fExp l1 m) (fExp l2 m) (fExp l3 m) (fExp l4 m) (fExp l5 m)
      (fExp l6 m) (fExp l7 m) (ix2 a j) = (((if j.val < 128 * i.val then Real.exp (l j - μ) else 0 : ℝ)) : EReal) := by
    have hk : ∀ (r : Fin 8) (c : Fin 128), ((if r.val < i.val then Real.exp (l (ch r c) - μ) else 0 : ℝ) : EReal)
        = ((if (ch r c).val < 128 * i.val then Real.exp (l (ch r c) - μ) else 0 : ℝ) : EReal) := by
      intro r c
      have : ((ch r c).val < 128 * i.val) = (r.val < i.val) := by
        have := c.isLt
        refine propext ?_
        show 128 * r.val + c.val < 128 * i.val ↔ _
        omega
      simp only [this]
    intro j
    exact fCat_at _ _ _ _ _ _ _ _ a (f := fun j : Fin 1024 => if j.val < 128 * i.val then Real.exp (l j - μ) else 0)
      (fun c => (fExp_real h0 hm c).trans (hk 0 c)) (fun c => (fExp_real h1 hm c).trans (hk 1 c))
      (fun c => (fExp_real h2 hm c).trans (hk 2 c)) (fun c => (fExp_real h3 hm c).trans (hk 3 c))
      (fun c => (fExp_real h4 hm c).trans (hk 4 c)) (fun c => (fExp_real h5 hm c).trans (hk 5 c))
      (fun c => (fExp_real h6 hm c).trans (hk 6 c)) (fun c => (fExp_real h7 hm c).trans (hk 7 c)) j
  have hp : ∀ e : Fin 65, fFin l0 l1 l2 l3 l4 l5 l6 l7 ld m v vd (ix2 a e)
      = ((Real.exp (-μ) * ∑ j : Fin 1024, if j.val ≤ (ch i a).val then Real.exp (l j) * vv j e else 0 : ℝ) : EReal) := by
    intro e
    rw [← two_parts l (fun j => vv j e) μ i a, EReal.coe_add]
    unfold fFin
    pointwise
    simp only [hc _, fExp_real hd hm _, hv _ _, hvd _ _, zero_add]
    exact congrArg₂ _ (coe_dot _ _) (coe_dot _ _)
  generalize fFin l0 l1 l2 l3 l4 l5 l6 l7 ld m v vd = p at hp
  pointwise [fDiv]
  have hs : (∑ j : Fin 1024, if j.val ≤ (ch i a).val then Real.exp (l j) * vv j 64 else 0)
      = ∑ j : Fin 1024, if j.val ≤ (ch i a).val then Real.exp (l j) else 0 := by
    simp only [hone, mul_one]
  have hpos := soft_pos l (ch i a)
  rw [hp _, hp _]
  refine (congrArg₂ Ideal.div rfl (congrArg (fun r : ℝ => ((Real.exp (-μ) * r : ℝ) : EReal)) hs)).trans ?_
  rw [Ideal.div_coe (mul_pos (Real.exp_pos _) hpos).ne', ← EReal.coe_mul, mul_one_div, mul_div_mul_left _ _ (Real.exp_pos _).ne']
  rfl

/-- The head's result from what the body loads: at chunk `i`, the products of the queries with the
    transported keys are the scores against the rows before the chunk, and the diagonal block the scores
    inside it. -/
theorem fHead_real {fq : FVec Ideal S1x1x128 .f32} {q : FVec Ideal S1x128x64 .f32} {k : FVec Ideal S1x1024x64 .f32}
    {s : FVec Ideal S1x1x128x128 .f32} {g0 g1 g2 g3 g4 g5 g6 g7 : FVec Ideal S1x1x128 .f32}
    {v : FVec Ideal S1x1024x65 .f32} {vd : FVec Ideal S1x128x65 .f32} (i : Fin 8) (a : Fin 128)
    (Q : Fin 128 → Fin 64 → ℝ) (K : Fin 1024 → Fin 64 → ℝ) (N : Fin 128 → Fin 128 → ℝ) (G : Fin 1024 → ℝ)
    (T : Fin 1024 → ℝ) (vv : Fin 1024 → Fin 65 → ℝ)
    (hf : ∀ a, fq (ix3 0 0 a) = ((G (ch i a) : ℝ) : EReal))
    (hq : ∀ a d, q (ix3 0 a d) = ((Q a d : ℝ) : EReal)) (hk : ∀ j d, k (ix3 0 j d) = ((K j d : ℝ) : EReal))
    (hs : ∀ a b, s (ix4 0 0 a b) = ((N a b : ℝ) : EReal))
    (hg0 : ∀ c, g0 (ix3 0 0 c) = if 0 < i.val then ((G (ch 0 c) : ℝ) : EReal) else ⊤)
    (hg1 : ∀ c, g1 (ix3 0 0 c) = if 1 < i.val then ((G (ch 1 c) : ℝ) : EReal) else ⊤)
    (hg2 : ∀ c, g2 (ix3 0 0 c) = if 2 < i.val then ((G (ch 2 c) : ℝ) : EReal) else ⊤)
    (hg3 : ∀ c, g3 (ix3 0 0 c) = if 3 < i.val then ((G (ch 3 c) : ℝ) : EReal) else ⊤)
    (hg4 : ∀ c, g4 (ix3 0 0 c) = if 4 < i.val then ((G (ch 4 c) : ℝ) : EReal) else ⊤)
    (hg5 : ∀ c, g5 (ix3 0 0 c) = if 5 < i.val then ((G (ch 5 c) : ℝ) : EReal) else ⊤)
    (hg6 : ∀ c, g6 (ix3 0 0 c) = if 6 < i.val then ((G (ch 6 c) : ℝ) : EReal) else ⊤)
    (hg7 : ∀ c, g7 (ix3 0 0 c) = if 7 < i.val then ((G (ch 7 c) : ℝ) : EReal) else ⊤)
    (hv : ∀ j e, v (ix3 0 j e) = ((vv j e : ℝ) : EReal)) (hvd : ∀ b e, vd (ix3 0 b e) = ((vv (ch i b) e : ℝ) : EReal))
    (hone : ∀ j, vv j 64 = 1)
    (hT : ∀ j : Fin 1024, j.val < 128 * i.val → ∑ d, Q a d * K j d = T j) (hN : ∀ b : Fin 128, N a b = T (ch i b))
    (d : Fin 64) :
    fHead fq q k s g0 g1 g2 g3 g4 g5 g6 g7 v vd (ix3 0 a d)
      = ((soft (fun j => T j + G (ch i a) - G j) (fun j => vv j ⟨d.val, by omega⟩) (ch i a) : ℝ) : EReal) := by
  have hS := fS_real hq hk
  have hb : ∀ (r : Fin 8) (o : ℕ) (ho : Shape.Slices S128x1024 ![0, o] S128x128) (e : o = 128 * r.val)
      (g : FVec Ideal S1x1x128 .f32) (hg : ∀ c, g (ix3 0 0 c) = if r.val < i.val then ((G (ch r c) : ℝ) : EReal) else ⊤),
      IsX (fLb o ho (fS q k) (transpose S128x1 [1, 0] (k2_pay29 fq) transposes_S1x128_p1_0_S128x1) g) a
        (fun _ => r.val < i.val) (fun c => T (ch r c) + G (ch i a) - G (ch r c)) := by
    intro r o ho e g hg c
    have hc : o + c.val < 1024 := by have := c.isLt; have := r.isLt; omega
    have hj : (⟨o + c.val, hc⟩ : Fin 1024) = ch r c := Fin.ext (by show o + c.val = 128 * r.val + c.val; omega)
    by_cases h : r.val < i.val
    · rw [if_pos h, fLb_real o ho hS hf (fun c => (hg c).trans (if_pos h)) a c hc, hj, hT]
      have := c.isLt
      show 128 * r.val + c.val < _
      omega
    · rw [if_neg h]
      exact fLb_bot o ho hS hf (fun c => (hg c).trans (if_neg h)) a c hc
  unfold fHead
  refine fRes_real i a (fun j => T j + G (ch i a) - G j) vv (hb 0 _ _ rfl _ hg0) (hb 1 _ _ rfl _ hg1) (hb 2 _ _ rfl _ hg2)
    (hb 3 _ _ rfl _ hg3) (hb 4 _ _ rfl _ hg4) (hb 5 _ _ rfl _ hg5) (hb 6 _ _ rfl _ hg6) (hb 7 _ _ rfl _ hg7) ?_ hv hvd hone d
  intro b
  rw [fLd_real hf hs a b, hN]

end Cert.Val
-- ==== Proof.V.RefOps.lean ====
module
public import proofs.«01_k».proof.Proof.V.Base
public import proofs.«01_k».proof.Proof.V.Flash
public import proofs.«01_k».proof.Proof.Gen.ReferenceIdeal

/-! The reference's chain of operations, and what each holds over the reals. -/

@[expose] public section

set_option maxRecDepth 16384

noncomputable section

namespace Cert.Val.Ref

open Cert.ReferenceIdeal Cert.ReferenceIdeal.Gen Cert.Val
open Idealize.ShloMosaic Idealize.ShloMosaic.TcCoe

/-- A projection by head. -/
def rHead (x : FVec Ideal S2x1024x1024 .f32) (W : FVec Ideal S1024x1024 .f32) : FVec Ideal S2x1024x16x64 .f32 :=
  shapeCast S2x1024x16x64 (Host.dotGeneral dot_S2x1024x1024_S1024x1024_S2x1024x1024_2_0_01_1_n_n none x W) shapeCasts_S2x1024x1024_S2x1024x16x64
/-- The low-rank projection by head. -/
def rWr (x : FVec Ideal S2x1024x1024 .f32) (W1 : FVec Ideal S1024x64 .f32) (W2 : FVec Ideal S64x1024 .f32) : FVec Ideal S2x1024x16x64 .f32 :=
  shapeCast S2x1024x16x64 (Host.dotGeneral dot_S2x1024x64_S64x1024_S2x1024x1024_2_0_01_1_n_n none
    (Host.dotGeneral dot_S2x1024x1024_S1024x64_S2x1024x64_2_0_01_1_n_n none x W1) W2) shapeCasts_S2x1024x1024_S2x1024x16x64
/-- The rows scaled to unit length. -/
def rNrm (y : FVec Ideal S2x1024x16x64 .f32) : FVec Ideal S2x1024x16x64 .f32 :=
  mulf y (broadcastInDim S2x1024x16x64 ![0, 1, 2, 3] bcast_S2x1024x16x1_S2x1024x16x64_0_1_2_3
    (Host.rsqrt (addf (broadcastInDim S2x1024x16x1 ![0, 1, 2] bcast_S2x1024x16_S2x1024x16x1_0_1_2
      (Host.reduceAdd (mulf y y) (constant S_ .f32 0x00000000#32) reducesTo_S2x1024x16x64_S2x1024x16_d3 h_S_))
      (broadcastInDim S2x1024x16x1 ![] bcast_S_S2x1024x16x1 (constant S_ .f32 0x358637BD#32)))))
/-- A projection to one number a head. -/
def rLin (x : FVec Ideal S2x1024x1024 .f32) (W : FVec Ideal S1024x16 .f32) : FVec Ideal S2x1024x16 .f32 :=
  Host.dotGeneral dot_S2x1024x1024_S1024x16_S2x1024x16_2_0_01_1_n_n none x W
/-- The rates. -/
def rRate (z : FVec Ideal S2x1024x16 .f32) : FVec Ideal S2x1024x16 .f32 :=
  mulf (broadcastInDim S2x1024x16 ![] bcast_S_S2x1024x16 (constant S_ .f32 0x40000000#32))
    (Host.divf (broadcastInDim S2x1024x16 ![] bcast_S_S2x1024x16 (constant S_ .f32 0x3F800000#32))
      (addf (broadcastInDim S2x1024x16 ![] bcast_S_S2x1024x16 (constant S_ .f32 0x3F800000#32)) (Host.exp (Host.negf z))))
/-- The gates' inputs. -/
def rZ (y : FVec Ideal S2x1024x16 .f32) (de : FVec Ideal S16 .f32) : FVec Ideal S2x1024x16 .f32 :=
  addf y (broadcastInDim S2x1024x16 ![0, 1, 2] bcast_S1x1x16_S2x1024x16_0_1_2 (broadcastInDim S1x1x16 ![2] bcast_S16_S1x1x16_2 de))
/-- The zero array of the gates' shape. -/
def rZero : FVec Ideal S2x1024x16 .f32 := broadcastInDim S2x1024x16 ![] bcast_S_S2x1024x16 (constant S_ .f32 0x00000000#32)
/-- The log gates. -/
def rLg (z : FVec Ideal S2x1024x16 .f32) : FVec Ideal S2x1024x16 .f32 :=
  Host.negf (select (cmpf .une (subf (Host.negf z) rZero) (subf (Host.negf z) rZero)) (addf (Host.negf z) rZero)
    (addf (maximumf (Host.negf z) rZero) (Host.log1p (Host.exp (Host.negf (Host.absf (subf (Host.negf z) rZero)))))))
/-- Heads before steps. -/
def rTr (y : FVec Ideal S2x1024x16 .f32) : FVec Ideal S2x16x1024 .f32 := transpose S2x16x1024 [0, 2, 1] y transposes_S2x1024x16_S2x16x1024_0_2_1
/-- The products of two families of rows, head by head. -/
def rGram (a b : FVec Ideal S2x1024x16x64 .f32) : FVec Ideal S2x16x1024x1024 .f32 :=
  Host.dotGeneral dot_S2x1024x16x64_S2x1024x16x64_S2x16x1024x1024_3_3_1_1_02_02 none a b
/-- The lower triangle's mask, moved by a constant. -/
def rTril (k : BitVec 32) : IVec S1024x1024 1 :=
  cmpi .sge (addi (iotaInDim S1024x1024 32 0) (broadcastInDim S1024x1024 ![] bcast_S_S1024x1024 (constantI S_ 32 k))) (iotaInDim S1024x1024 32 1)
/-- The mask strictly below the diagonal. -/
def rTrilS : IVec S1024x1024 1 :=
  cmpi .sge (addi (iotaInDim S1024x1024 32 0) (broadcastInDim S1024x1024 ![] bcast_S_S1024x1024 (constantI S_ 32 4294967295#32))) (iotaInDim S1024x1024 32 1)
/-- An array under a mask, zero elsewhere. -/
def rPick (p : IVec S1024x1024 1) (y : FVec Ideal S2x16x1024x1024 .f32) : FVec Ideal S2x16x1024x1024 .f32 :=
  select (broadcastInDim S2x16x1024x1024 ![2, 3] bcast_S1024x1024_S2x16x1024x1024_2_3 p) y
    (broadcastInDim S2x16x1024x1024 ![] bcast_S_S2x16x1024x1024 (constant S_ .f32 0x00000000#32))
/-- An array under the mask, zero elsewhere. -/
def rLow (k : BitVec 32) (y : FVec Ideal S2x16x1024x1024 .f32) : FVec Ideal S2x16x1024x1024 .f32 :=
  select (broadcastInDim S2x16x1024x1024 ![2, 3] bcast_S1024x1024_S2x16x1024x1024_2_3 (rTril k)) y
    (broadcastInDim S2x16x1024x1024 ![] bcast_S_S2x16x1024x1024 (constant S_ .f32 0x00000000#32))
/-- A number a step, along the rows. -/
def rRow (b : FVec Ideal S2x16x1024 .f32) : FVec Ideal S2x16x1024x1024 .f32 :=
  broadcastInDim S2x16x1024x1024 ![0, 1, 2, 3] bcast_S2x16x1x1024_S2x16x1024x1024_0_1_2_3 (broadcastInDim S2x16x1x1024 ![0, 1, 3] bcast_S2x16x1024_S2x16x1x1024_0_1_3 b)
/-- A number a step, along the columns. -/
def rCol (b : FVec Ideal S2x16x1024 .f32) : FVec Ideal S2x16x1024x1024 .f32 :=
  broadcastInDim S2x16x1024x1024 ![0, 1, 2, 3] bcast_S2x16x1024x1_S2x16x1024x1024_0_1_2_3 (broadcastInDim S2x16x1024x1 ![0, 1, 2] bcast_S2x16x1024_S2x16x1024x1_0_1_2 b)
/-- Matrix products head by head. -/
def rMM (a b : FVec Ideal S2x16x1024x1024 .f32) : FVec Ideal S2x16x1024x1024 .f32 :=
  Host.dotGeneral dot_S2x16x1024x1024_S2x16x1024x1024_S2x16x1024x1024_3_2_2_3_01_01 none a b
/-- Running sums. -/
def rCum (y : FVec Ideal S2x16x1024 .f32) : FVec Ideal S2x16x1024 .f32 :=
  Host.reduceWindowAdd ![1, 1, 1024] ![1, 1, 1] ![0, 0, 1023] ![0, 0, 0] y (broadcastInDim S_ ![] bcast_S_S_ (constant S_ .f32 0x00000000#32))
    reduceWindows_S2x16x1024_S2x16x1024_w1s1p0_0_w1s1p0_0_w1024s1p1023_0 h_S_
/-- The logits. -/
def rLog (s : FVec Ideal S2x16x1024x1024 .f32) (f : FVec Ideal S2x16x1024 .f32) : FVec Ideal S2x16x1024x1024 .f32 :=
  subf (addf (mulf s (broadcastInDim S2x16x1024x1024 ![] bcast_S_S2x16x1024x1024 (constant S_ .f32 0x3E000000#32))) (rCol f)) (rRow f)
/-- The logits under the causal mask. -/
def rMask (y : FVec Ideal S2x16x1024x1024 .f32) : FVec Ideal S2x16x1024x1024 .f32 :=
  select (broadcastInDim S2x16x1024x1024 ![2, 3] bcast_S1024x1024_S2x16x1024x1024_2_3
    (select (rTril 0#32) (broadcastInDim S1024x1024 ![] bcast_S_S1024x1024 (constantI S_ 1 1#1)) (broadcastInDim S1024x1024 ![] bcast_S_S1024x1024 (constantI S_ 1 0#1)))) y
    (broadcastInDim S2x16x1024x1024 ![] bcast_S_S2x16x1024x1024 (id (constant S_ .f32 0xFF800000#32)))
/-- The rows' maxima. -/
def rMax (y : FVec Ideal S2x16x1024x1024 .f32) : FVec Ideal S2x16x1024 .f32 :=
  maximumf (broadcastInDim S2x16x1024 ![] bcast_S_S2x16x1024 (constant S_ .f32 0xFF800000#32))
    (Host.reduce FloatOps.maximumf y (constant S_ .f32 0xFF800000#32) reducesTo_S2x16x1024x1024_S2x16x1024_d3 h_S_)
/-- The exponentials of the logits less a row's shift. -/
def rExp (y : FVec Ideal S2x16x1024x1024 .f32) (m : FVec Ideal S2x16x1024 .f32) : FVec Ideal S2x16x1024x1024 .f32 := Host.exp (subf y (rCol m))
/-- Rows divided by their sums. -/
def rDiv (e : FVec Ideal S2x16x1024x1024 .f32) : FVec Ideal S2x16x1024x1024 .f32 :=
  Host.divf e (rCol (Host.reduceAdd e (constant S_ .f32 0x00000000#32) reducesTo_S2x16x1024x1024_S2x16x1024_d3 h_S_))
/-- The weighted values, heads side by side. -/
def rMix (v : FVec Ideal S2x1024x16x64 .f32) (p : FVec Ideal S2x16x1024x1024 .f32) : FVec Ideal S2x1024x1024 .f32 :=
  shapeCast S2x1024x1024 (transpose S2x1024x16x64 [0, 3, 1, 2]
    (Host.dotGeneral dot_S2x1024x16x64_S2x16x1024x1024_S2x16x64x1024_1_3_3_2_02_01 none v p) transposes_S2x16x64x1024_S2x1024x16x64_0_3_1_2) shapeCasts_S2x1024x16x64_S2x1024x1024
/-- The output projection. -/
def rProj (x : FVec Ideal S2x1024x1024 .f32) (W : FVec Ideal S1024x1024 .f32) : FVec Ideal S2x1024x1024 .f32 :=
  Host.dotGeneral dot_S2x1024x1024_S1024x1024_S2x1024x1024_2_0_01_1_n_n none x W

section
variable (X : Fin 2 → Fin 1024 → Fin 1024 → ℝ) (x : FVec Ideal S2x1024x1024 .f32) (hx : ∀ b s e, x (ix3 b s e) = ((X b s e : ℝ) : EReal))
include hx

theorem rHead_real (W : FVec Ideal S1024x1024 .f32) (M : Fin 1024 → Fin 1024 → ℝ) (hW : ∀ e f, W (ix2 e f) = ((M e f : ℝ) : EReal))
    (b : Fin 2) (s : Fin 1024) (h : Fin 16) (d : Fin 64) : rHead x W (ix4 b s h d) = ((lin X M b s (col h d) : ℝ) : EReal) := by
  unfold rHead
  pointwise []
  have hc : (⟨h.val * 64 + d.val, by omega⟩ : Fin 1024) = col h d := Fin.ext (by show h.val * 64 + d.val = 64 * h.val + d.val; omega)
  simp only [hx _ _ _, hW _ _, hc]
  exact coe_dot _ _

theorem rProj_real (W : FVec Ideal S1024x1024 .f32) (M : Fin 1024 → Fin 1024 → ℝ) (hW : ∀ e f, W (ix2 e f) = ((M e f : ℝ) : EReal))
    (b : Fin 2) (s e : Fin 1024) : rProj x W (ix3 b s e) = ((lin X M b s e : ℝ) : EReal) := by
  unfold rProj
  pointwise []
  simp only [hx _ _ _, hW _ _]
  exact coe_dot _ _

theorem rLin_real (W : FVec Ideal S1024x16 .f32) (M : Fin 1024 → Fin 16 → ℝ) (hW : ∀ e f, W (ix2 e f) = ((M e f : ℝ) : EReal))
    (b : Fin 2) (s : Fin 1024) (h : Fin 16) : rLin x W (ix3 b s h) = ((lin X M b s h : ℝ) : EReal) := by
  unfold rLin
  pointwise []
  simp only [hx _ _ _, hW _ _]
  exact coe_dot _ _

theorem rWr_real (W1 : FVec Ideal S1024x64 .f32) (M1 : Fin 1024 → Fin 64 → ℝ) (h1 : ∀ e f, W1 (ix2 e f) = ((M1 e f : ℝ) : EReal))
    (W2 : FVec Ideal S64x1024 .f32) (M2 : Fin 64 → Fin 1024 → ℝ) (h2 : ∀ e f, W2 (ix2 e f) = ((M2 e f : ℝ) : EReal))
    (b : Fin 2) (s : Fin 1024) (h : Fin 16) (d : Fin 64) : rWr x W1 W2 (ix4 b s h d) = ((wraw X M1 M2 b s (col h d) : ℝ) : EReal) := by
  unfold rWr
  pointwise []
  have hc : (⟨h.val * 64 + d.val, by omega⟩ : Fin 1024) = col h d := Fin.ext (by show h.val * 64 + d.val = 64 * h.val + d.val; omega)
  simp only [hx _ _ _, h1 _ _, h2 _ _, coe_dot, hc]
  rfl
end

theorem rNrm_real (y : FVec Ideal S2x1024x16x64 .f32) (Y : Fin 2 → Fin 1024 → Fin 16 → Fin 64 → ℝ)
    (hy : ∀ b s h d, y (ix4 b s h d) = ((Y b s h d : ℝ) : EReal)) (b : Fin 2) (s : Fin 1024) (h : Fin 16) (d : Fin 64) :
    rNrm y (ix4 b s h d) = ((nrm (Y b s h) d : ℝ) : EReal) := by
  unfold rNrm
  pointwise []
  simp only [hy _ _ _ _, eps_pos_bits.1]
  rw [coe_dot, ← EReal.coe_add, rsqrt_real (Y b s h), ← EReal.coe_mul]
  rfl

theorem rRate_real (z : FVec Ideal S2x1024x16 .f32) (Z : Fin 2 → Fin 1024 → Fin 16 → ℝ)
    (hz : ∀ b s h, z (ix3 b s h) = ((Z b s h : ℝ) : EReal)) (b : Fin 2) (s : Fin 1024) (h : Fin 16) :
    rRate z (ix3 b s h) = ((rate (Z b s h) : ℝ) : EReal) := by
  unfold rRate
  pointwise []
  simp only [hz _ _ _, two_bits]
  rw [← EReal.coe_neg, Ideal.exp_coe, ← EReal.coe_one, ← EReal.coe_add,
    Ideal.div_coe (add_pos one_pos (Real.exp_pos _)).ne', ← EReal.coe_mul, ← EReal.coe_mul, one_mul, one_div]
  rfl

theorem rZ_real (y : FVec Ideal S2x1024x16 .f32) (Y : Fin 2 → Fin 1024 → Fin 16 → ℝ)
    (hy : ∀ b s h, y (ix3 b s h) = ((Y b s h : ℝ) : EReal)) (de : FVec Ideal S16 .f32) (De : Fin 16 → ℝ) (hd : ∀ h, de (ix1 h) = ((De h : ℝ) : EReal))
    (b : Fin 2) (s : Fin 1024) (h : Fin 16) :
    rZ y de (ix3 b s h) = ((Y b s h + De h : ℝ) : EReal) := by
  unfold rZ
  pointwise []
  rw [hy, hd]
  exact (EReal.coe_add _ _).symm

theorem rLg_real (z : FVec Ideal S2x1024x16 .f32) (Z : Fin 2 → Fin 1024 → Fin 16 → ℝ)
    (hz : ∀ b s h, z (ix3 b s h) = ((Z b s h : ℝ) : EReal)) (b : Fin 2) (s : Fin 1024) (h : Fin 16) :
    rLg z (ix3 b s h) = ((lgate (Z b s h) : ℝ) : EReal) := by
  unfold rLg rZero
  pointwise []
  rw [if_neg (fun hne => hne rfl), hz]
  exact lgate_real _

theorem rGram_real (a c : FVec Ideal S2x1024x16x64 .f32) (A C : Fin 2 → Fin 1024 → Fin 16 → Fin 64 → ℝ)
    (ha : ∀ b s h d, a (ix4 b s h d) = ((A b s h d : ℝ) : EReal)) (hc : ∀ b s h d, c (ix4 b s h d) = ((C b s h d : ℝ) : EReal))
    (b : Fin 2) (h : Fin 16) (s t : Fin 1024) : rGram a c (ix4 b h s t) = ((∑ d, A b s h d * C b t h d : ℝ) : EReal) := by
  unfold rGram
  pointwise []
  simp only [ha _ _ _ _, hc _ _ _ _]
  exact coe_dot _ _

theorem toInt_small (t : Fin 1024) : (BitVec.ofNat 32 t.val).toInt = (t.val : ℤ) := by
  have h : (BitVec.ofNat 32 t.val).toNat = t.val := by rw [BitVec.toNat_ofNat]; omega
  rw [BitVec.toInt_eq_toNat_cond, h]
  split_ifs <;> omega

theorem toInt_pred (s : Fin 1024) : (BitVec.ofNat 32 s.val + 4294967295#32).toInt = (s.val : ℤ) - 1 := by
  have h : (BitVec.ofNat 32 s.val + 4294967295#32).toNat = (s.val + 4294967295) % 4294967296 := by
    rw [BitVec.toNat_add, BitVec.toNat_ofNat]; simp
  rw [BitVec.toInt_eq_toNat_cond, h]
  split_ifs <;> omega

/-- The shifted lower triangle's mask, read. -/
theorem cmp_low (s t : Fin 1024) : IntOp.cmpi CmpIPredicate.sge (IntOp.addi (BitVec.ofNat 32 s.val) 4294967295#32) (BitVec.ofNat 32 t.val)
    = if t.val < s.val then 1#1 else 0#1 := by
  show BitVec.ofBool (decide ((BitVec.ofNat 32 t.val).toInt ≤ (BitVec.ofNat 32 s.val + 4294967295#32).toInt)) = _
  rw [toInt_small, toInt_pred]
  split_ifs with h
  · rw [decide_eq_true (by omega)]; rfl
  · rw [decide_eq_false (by omega)]; rfl

/-- The lower triangle's mask, read. -/
theorem cmp_low0 (s t : Fin 1024) : IntOp.cmpi CmpIPredicate.sge (IntOp.addi (BitVec.ofNat 32 s.val) 0#32) (BitVec.ofNat 32 t.val)
    = if t.val ≤ s.val then 1#1 else 0#1 := by
  show BitVec.ofBool (decide ((BitVec.ofNat 32 t.val).toInt ≤ (BitVec.ofNat 32 s.val + 0#32).toInt)) = _
  rw [BitVec.add_zero, toInt_small, toInt_small]
  split_ifs with h
  · rw [decide_eq_true (by omega)]; rfl
  · rw [decide_eq_false (by omega)]; rfl

theorem rLow_real (y : FVec Ideal S2x16x1024x1024 .f32) (Y : Fin 2 → Fin 16 → Fin 1024 → Fin 1024 → ℝ)
    (hy : ∀ b h s t, y (ix4 b h s t) = ((Y b h s t : ℝ) : EReal)) (b : Fin 2) (h : Fin 16) (s t : Fin 1024) :
    rPick rTrilS y (ix4 b h s t) = (((if t.val < s.val then Y b h s t else 0 : ℝ)) : EReal) := by
  unfold rPick rTrilS
  pointwise []
  rw [hy, cmp_low]
  split_ifs
  · rfl
  · rfl

theorem rLow0_real (y : FVec Ideal S2x16x1024x1024 .f32) (Y : Fin 2 → Fin 16 → Fin 1024 → Fin 1024 → ℝ)
    (hy : ∀ b h s t, y (ix4 b h s t) = ((Y b h s t : ℝ) : EReal)) (b : Fin 2) (h : Fin 16) (s t : Fin 1024) :
    rLow 0#32 y (ix4 b h s t) = (((if t.val ≤ s.val then Y b h s t else 0 : ℝ)) : EReal) := by
  unfold rLow rTril
  pointwise []
  rw [hy, cmp_low0]
  split_ifs
  · rfl
  · rfl

theorem rMask_apply (y : FVec Ideal S2x16x1024x1024 .f32) (b : Fin 2) (h : Fin 16) (s t : Fin 1024) :
    rMask y (ix4 b h s t) = if t.val ≤ s.val then y (ix4 b h s t) else ⊥ := by
  unfold rMask rTril
  pointwise []
  rw [cmp_low0]
  split_ifs
  · rfl
  · exact negInf_bits

theorem rMM_real (a c : FVec Ideal S2x16x1024x1024 .f32) (A C : Fin 2 → Fin 16 → Fin 1024 → Fin 1024 → ℝ)
    (ha : ∀ b h s d, a (ix4 b h s d) = ((A b h s d : ℝ) : EReal)) (hc : ∀ b h s d, c (ix4 b h s d) = ((C b h s d : ℝ) : EReal))
    (b : Fin 2) (h : Fin 16) (s t : Fin 1024) : rMM a c (ix4 b h s t) = ((∑ r, A b h s r * C b h r t : ℝ) : EReal) := by
  unfold rMM
  pointwise []
  simp only [ha _ _ _ _, hc _ _ _ _]
  exact coe_dot _ _

theorem rLog_real (y : FVec Ideal S2x16x1024x1024 .f32) (f : FVec Ideal S2x16x1024 .f32) (Y : Fin 2 → Fin 16 → Fin 1024 → Fin 1024 → ℝ)
    (Fc : Fin 2 → Fin 16 → Fin 1024 → ℝ)
    (hy : ∀ b h s t, y (ix4 b h s t) = ((Y b h s t : ℝ) : EReal)) (hf : ∀ b h s, f (ix3 b h s) = ((Fc b h s : ℝ) : EReal)) (b : Fin 2) (h : Fin 16) (s t : Fin 1024) :
    rLog y f (ix4 b h s t) = ((Y b h s t * (1/8) + Fc b h s - Fc b h t : ℝ) : EReal) := by
  unfold rLog rCol rRow
  pointwise []
  rw [hy, hf, hf, eighth_bits, ← EReal.coe_mul, ← EReal.coe_add, ← EReal.coe_sub]

theorem rExp_apply (y : FVec Ideal S2x16x1024x1024 .f32) (m : FVec Ideal S2x16x1024 .f32) (b : Fin 2) (h : Fin 16) (s t : Fin 1024) :
    rExp y m (ix4 b h s t) = Ideal.exp (y (ix4 b h s t) - m (ix3 b h s)) := by
  unfold rExp rCol
  pointwise []

theorem rDiv_apply (e : FVec Ideal S2x16x1024x1024 .f32) (b : Fin 2) (h : Fin 16) (s t : Fin 1024) :
    rDiv e (ix4 b h s t) = Ideal.div (e (ix4 b h s t)) (∑ r, e (ix4 b h s r)) := by
  unfold rDiv rCol
  pointwise []

theorem rMix_real (v : FVec Ideal S2x1024x16x64 .f32) (p : FVec Ideal S2x16x1024x1024 .f32) (Vv : Fin 2 → Fin 1024 → Fin 16 → Fin 64 → ℝ)
    (P : Fin 2 → Fin 16 → Fin 1024 → Fin 1024 → ℝ)
    (hv : ∀ b s h d, v (ix4 b s h d) = ((Vv b s h d : ℝ) : EReal)) (hp : ∀ b h s t, p (ix4 b h s t) = ((P b h s t : ℝ) : EReal)) (b : Fin 2) (s e : Fin 1024) :
    rMix v p (ix3 b s e) = ((∑ t, Vv b t ⟨e.val / 64, by omega⟩ ⟨e.val % 64, by omega⟩ * P b ⟨e.val / 64, by omega⟩ s t : ℝ) : EReal) := by
  unfold rMix
  pointwise []
  simp only [hv _ _ _ _, hp _ _ _ _]
  exact coe_dot _ _

end Cert.Val.Ref
-- ==== Proof.V.RefLoop.lean ====
module
public import proofs.«01_k».proof.Proof.V.RefOps
public import Idealize.ShloMosaic.Lib.DynamicIndex

/-! The reference's row recurrence. -/

@[expose] public section

set_option maxRecDepth 16384

noncomputable section

namespace Cert.Val.Ref

open Cert.ReferenceIdeal Cert.ReferenceIdeal.Gen Cert.Val
open Idealize.ShloMosaic Idealize.ShloMosaic.TcCoe

/-- The trip's start indices, of the row counter. -/
def rIdx (n : IVec S_ 32) : Fin 4 → Int :=
  fun k => (((![constantI S_ 32 0#32, constantI S_ 32 0#32, select (cmpi .slt n (constantI S_ 32 0#32)) (addi (id n) (constantI S_ 32 1024#32)) n, constantI S_ 32 0#32] : Fin 4 → IVec S_ 32)) k (Shape.Idx.first h_S_)).toInt

theorem rIdx_eq (n : IVec S_ 32) (k : Fin 1024) (hn : n = constantI S_ 32 (BitVec.ofNat 32 k.val)) : ∀ a : Fin 4, rIdx n a = ((![0, 0, k.val, 0] : Fin 4 → ℕ) a : ℤ) := by
  subst hn
  intro a
  fin_cases a
  · rfl
  · rfl
  · exact toInt_wrap_ofNat k.val (by omega)
  · rfl

/-- A row of an array. -/
def rRowAt (x : FVec Ideal S2x16x1024x1024 .f32) (st : Fin 4 → Int) : FVec Ideal S2x16x1x1024 .f32 :=
  Host.dynamicSlice S2x16x1x1024 x st sliceFits_S2x16x1024x1024_S2x16x1x1024

theorem rRowAt_apply (x : FVec Ideal S2x16x1024x1024 .f32) (n : IVec S_ 32) (k : Fin 1024) (hn : n = constantI S_ 32 (BitVec.ofNat 32 k.val))
    (b : Fin 2) (h : Fin 16) (t : Fin 1024) : rRowAt x (rIdx n) (ix4 b h 0 t) = x (ix4 b h k t) := by
  have hk := k.isLt
  have hoff : S2x16x1024x1024.Slices ![0, 0, k.val, 0] S2x16x1x1024 := ⟨rfl, fun a => by
    fin_cases a
    · show 0 + 2 ≤ 2; omega
    · show 0 + 16 ≤ 16; omega
    · show k.val + 1 ≤ 1024; omega
    · show 0 + 1024 ≤ 1024; omega⟩
  unfold rRowAt
  rw [Host.dynamicSlice_eq_extractStridedSlice S2x16x1x1024 x (rIdx n) ![0, 0, k.val, 0] _ hoff (rIdx_eq n k hn)]
  refine congrArg x (funext fun a => ?_)
  fin_cases a
  · exact Fin.ext (by show 0 + b.val = b.val; omega)
  · exact Fin.ext (by show 0 + h.val = h.val; omega)
  · exact Fin.ext (by show k.val + 0 = k.val; omega)
  · exact Fin.ext (by show 0 + t.val = t.val; omega)

/-- One row's product with the rows so far. -/
def rRowDot (l : FVec Ideal S2x16x1x1024 .f32) (c : FVec Ideal S2x16x1024x1024 .f32) : FVec Ideal S2x16x1x1024 .f32 :=
  Host.dotGeneral dot_S2x16x1x1024_S2x16x1024x1024_S2x16x1x1024_3_2_2_3_01_01 none l c

theorem rRowDot_apply (l : FVec Ideal S2x16x1x1024 .f32) (c : FVec Ideal S2x16x1024x1024 .f32) (b : Fin 2) (h : Fin 16) (t : Fin 1024) :
    rRowDot l c (ix4 b h 0 t) = ∑ r : Fin 1024, l (ix4 b h 0 r) * c (ix4 b h r t) := by
  unfold rRowDot
  pointwise []

/-- A row written into an array. -/
def rPut (c : FVec Ideal S2x16x1024x1024 .f32) (r : FVec Ideal S2x16x1x1024 .f32) (st : Fin 4 → Int) : FVec Ideal S2x16x1024x1024 .f32 :=
  Host.dynamicUpdateSlice c r st updateFits_S2x16x1024x1024_S2x16x1x1024

theorem rPut_apply (c : FVec Ideal S2x16x1024x1024 .f32) (r : FVec Ideal S2x16x1x1024 .f32) (n : IVec S_ 32) (k : Fin 1024) (hn : n = constantI S_ 32 (BitVec.ofNat 32 k.val))
    (b : Fin 2) (h : Fin 16) (s t : Fin 1024) : rPut c r (rIdx n) (ix4 b h s t) = if s = k then r (ix4 b h 0 t) else c (ix4 b h s t) := by
  have hk := k.isLt
  have hs := s.isLt
  have hidx := rIdx_eq n k hn
  have e0 : Host.clampedStart S2x16x1024x1024 S2x16x1x1024 updateFits_S2x16x1024x1024_S2x16x1x1024.1 (rIdx n) (0 : Fin 4) = 0 := by
    unfold Host.clampedStart; rw [hidx]; rfl
  have e1 : Host.clampedStart S2x16x1024x1024 S2x16x1x1024 updateFits_S2x16x1024x1024_S2x16x1x1024.1 (rIdx n) (1 : Fin 4) = 0 := by
    unfold Host.clampedStart; rw [hidx]; rfl
  have e2 : Host.clampedStart S2x16x1024x1024 S2x16x1x1024 updateFits_S2x16x1024x1024_S2x16x1x1024.1 (rIdx n) (2 : Fin 4) = k.val := by
    unfold Host.clampedStart; rw [hidx]
    show (min (max ((k.val : ℕ) : ℤ) 0) ((1024 - 1 : ℕ) : ℤ)).toNat = k.val
    omega
  have e3 : Host.clampedStart S2x16x1024x1024 S2x16x1x1024 updateFits_S2x16x1024x1024_S2x16x1x1024.1 (rIdx n) (3 : Fin 4) = 0 := by
    unfold Host.clampedStart; rw [hidx]; rfl
  unfold rPut
  rw [Host.dynamicUpdateSlice_apply]
  by_cases hc : s = k
  · subst hc
    rw [if_pos rfl, dif_pos]
    · refine congrArg r (funext fun a => ?_)
      fin_cases a
      · exact Fin.ext (by show b.val - Host.clampedStart S2x16x1024x1024 S2x16x1x1024 updateFits_S2x16x1024x1024_S2x16x1x1024.1 (rIdx n) (0 : Fin 4) = b.val; rw [e0]; omega)
      · exact Fin.ext (by show h.val - Host.clampedStart S2x16x1024x1024 S2x16x1x1024 updateFits_S2x16x1024x1024_S2x16x1x1024.1 (rIdx n) (1 : Fin 4) = h.val; rw [e1]; omega)
      · exact Fin.ext (by show s.val - Host.clampedStart S2x16x1024x1024 S2x16x1x1024 updateFits_S2x16x1024x1024_S2x16x1x1024.1 (rIdx n) (2 : Fin 4) = 0; rw [e2]; omega)
      · exact Fin.ext (by show t.val - Host.clampedStart S2x16x1024x1024 S2x16x1x1024 updateFits_S2x16x1024x1024_S2x16x1x1024.1 (rIdx n) (3 : Fin 4) = t.val; rw [e3]; omega)
    · have hb := b.isLt
      have hh := h.isLt
      have ht := t.isLt
      intro a
      fin_cases a
      · refine ⟨le_of_eq_of_le e0 (Nat.zero_le _), ?_⟩
        show b.val < Host.clampedStart S2x16x1024x1024 S2x16x1x1024 updateFits_S2x16x1024x1024_S2x16x1x1024.1 (rIdx n) (0 : Fin 4) + 2
        rw [e0]; omega
      · refine ⟨le_of_eq_of_le e1 (Nat.zero_le _), ?_⟩
        show h.val < Host.clampedStart S2x16x1024x1024 S2x16x1x1024 updateFits_S2x16x1024x1024_S2x16x1x1024.1 (rIdx n) (1 : Fin 4) + 16
        rw [e1]; omega
      · refine ⟨le_of_eq e2, ?_⟩
        show s.val < Host.clampedStart S2x16x1024x1024 S2x16x1x1024 updateFits_S2x16x1024x1024_S2x16x1x1024.1 (rIdx n) (2 : Fin 4) + 1
        rw [e2]; omega
      · refine ⟨le_of_eq_of_le e3 (Nat.zero_le _), ?_⟩
        show t.val < Host.clampedStart S2x16x1024x1024 S2x16x1x1024 updateFits_S2x16x1024x1024_S2x16x1x1024.1 (rIdx n) (3 : Fin 4) + 1024
        rw [e3]; omega
  · rw [if_neg hc, dif_neg]
    intro hall
    obtain ⟨h1, h2⟩ := hall (2 : Fin 4)
    rw [e2] at h1 h2
    have h1' : k.val ≤ s.val := h1
    have h2' : s.val < k.val + 1 := h2
    exact hc (Fin.ext (by omega))

/-- One trip's array. -/
def rStep (L M C : FVec Ideal S2x16x1024x1024 .f32) (n : IVec S_ 32) : FVec Ideal S2x16x1024x1024 .f32 :=
  rPut C (subf (rRowAt M (rIdx n)) (rRowDot (rRowAt L (rIdx n)) C)) (rIdx n)

/-- One trip over the reals: row `k` becomes its right-hand side less its products with the rows so far. -/
def stepR (L M C : Fin 2 → Fin 16 → Fin 1024 → Fin 1024 → ℝ) (k : Fin 1024) : Fin 2 → Fin 16 → Fin 1024 → Fin 1024 → ℝ :=
  fun b h s t => if s = k then M b h k t - ∑ r, L b h k r * C b h r t else C b h s t

theorem rStep_real (l m c : FVec Ideal S2x16x1024x1024 .f32) (L M C : Fin 2 → Fin 16 → Fin 1024 → Fin 1024 → ℝ)
    (hl : ∀ b h s t, l (ix4 b h s t) = ((L b h s t : ℝ) : EReal)) (hm : ∀ b h s t, m (ix4 b h s t) = ((M b h s t : ℝ) : EReal))
    (hc : ∀ b h s t, c (ix4 b h s t) = ((C b h s t : ℝ) : EReal)) (n : IVec S_ 32) (k : Fin 1024) (hn : n = constantI S_ 32 (BitVec.ofNat 32 k.val))
    (b : Fin 2) (h : Fin 16) (s t : Fin 1024) : rStep l m c n (ix4 b h s t) = ((stepR L M C k b h s t : ℝ) : EReal) := by
  unfold rStep stepR
  rw [rPut_apply _ _ n k hn]
  split_ifs with hs
  · show rRowAt m (rIdx n) (ix4 b h 0 t) - rRowDot (rRowAt l (rIdx n)) c (ix4 b h 0 t) = _
    rw [rRowDot_apply, rRowAt_apply m n k hn, hm]
    simp only [rRowAt_apply l n k hn, hl _ _ _ _, hc _ _ _ _]
    rw [coe_dot, ← EReal.coe_sub]
  · exact hc _ _ _ _

/-- The array before trip `k`. -/
def seqR (L M : Fin 2 → Fin 16 → Fin 1024 → Fin 1024 → ℝ) : ℕ → Fin 2 → Fin 16 → Fin 1024 → Fin 1024 → ℝ
  | 0 => fun _ _ _ _ => 0
  | k + 1 => if hk : k < 1024 then stepR L M (seqR L M k) ⟨k, hk⟩ else seqR L M k

/-- A row keeps its contents from the trip after its own on, and before its own. -/
theorem seqR_keep (L M : Fin 2 → Fin 16 → Fin 1024 → Fin 1024 → ℝ) (b : Fin 2) (h : Fin 16) (s t : Fin 1024) :
    ∀ k, s.val < k → seqR L M k b h s t = seqR L M (s.val + 1) b h s t
  | 0, h0 => absurd h0 (Nat.not_lt_zero _)
  | k + 1, h0 => by
    by_cases hk : k = s.val
    · subst hk; rfl
    · have ih := seqR_keep L M b h s t k (by omega)
      rw [← ih]
      show (if hk : k < 1024 then stepR L M (seqR L M k) ⟨k, hk⟩ else seqR L M k) b h s t = _
      by_cases hk' : k < 1024
      · rw [dif_pos hk']
        unfold stepR
        rw [if_neg (fun e => hk (congrArg Fin.val e).symm)]
      · rw [dif_neg hk']

/-- The last array solves the triangular system. -/
theorem seqR_solves (L M : Fin 2 → Fin 16 → Fin 1024 → Fin 1024 → ℝ) (hL : ∀ b h s r, s.val ≤ r.val → L b h s r = 0)
    (b : Fin 2) (h : Fin 16) (s t : Fin 1024) :
    seqR L M 1024 b h s t = M b h s t - ∑ r, L b h s r * seqR L M 1024 b h r t := by
  rw [seqR_keep L M b h s t 1024 s.isLt]
  show (if hk : s.val < 1024 then stepR L M (seqR L M s.val) ⟨s.val, hk⟩ else seqR L M s.val) b h s t = _
  rw [dif_pos s.isLt]
  unfold stepR
  rw [if_pos rfl]
  refine congrArg (M b h s t - ·) (Finset.sum_congr rfl fun r _ => ?_)
  by_cases hr : s.val ≤ r.val
  · rw [hL b h _ r hr, zero_mul, zero_mul]
  · rw [seqR_keep L M b h r t 1024 r.isLt, seqR_keep L M b h r t s.val (by omega)]

end Cert.Val.Ref
-- ==== Proof.V.Pieces.lean ====
module
public import proofs.«01_k».proof.Proof.V.Flash
public import Idealize.ShloMosaic.Lib.WritesUnit
public import Idealize.ShloMosaic.Lib.WholeRead
public import Idealize.ShloMosaic.Lib.CellWrites

/-! The pieces the third call's body stores at each grid point, as families over the heads. -/

@[expose] public section

set_option maxRecDepth 16384

noncomputable section

namespace Cert.Val

open Cert.KernelIdeal Cert.KernelIdeal.Gen Cert.KernelIdeal.Frm
open Idealize.ShloMosaic Idealize.ShloMosaic.TcCoe

/-- Where a head's rows start at grid point `i`. -/
def offF (i : grid2.Coords) (h : Fin 16) : Fin 3 → ℕ :=
  ![k2_off1 i, k2_off2 i, k2_off3 i, k2_off4 i, k2_off5 i, k2_off6 i, k2_off7 i, k2_off8 i, k2_off9 i, k2_off10 i, k2_off11 i, k2_off12 i, k2_off13 i, k2_off14 i, k2_off15 i, k2_off16 i] h
/-- Where a head's rows start at grid point `i`. -/
def offV (i : grid2.Coords) (h : Fin 16) : Fin 3 → ℕ :=
  ![k2_off17 i, k2_off18 i, k2_off19 i, k2_off20 i, k2_off21 i, k2_off22 i, k2_off23 i, k2_off24 i, k2_off25 i, k2_off26 i, k2_off27 i, k2_off28 i, k2_off29 i, k2_off30 i, k2_off31 i, k2_off32 i] h
/-- Where a head's rows start at grid point `i`. -/
def offK (i : grid2.Coords) (h : Fin 16) : Fin 3 → ℕ :=
  ![k2_off33 i, k2_off34 i, k2_off35 i, k2_off36 i, k2_off37 i, k2_off38 i, k2_off39 i, k2_off40 i, k2_off41 i, k2_off42 i, k2_off43 i, k2_off44 i, k2_off45 i, k2_off46 i, k2_off47 i, k2_off48 i] h
theorem offF_eq : ∀ (i : grid2.Coords) (h : Fin 16), offF i h = ![h.val, (i 1).val, 0] := by decide +kernel
theorem offV_eq : ∀ (i : grid2.Coords) (h : Fin 16), offV i h = ![h.val, 128 * (i 1).val, 0] := by decide +kernel
theorem offK_eq : ∀ (i : grid2.Coords) (h : Fin 16), offK i h = ![h.val, 128 * (i 1).val, 0] := by decide +kernel
theorem offF_inb : ∀ (i : grid2.Coords) (h : Fin 16) (a : Fin 3), offF i h a + S1x1x128.size a ≤ S16x8x128.size a := by decide +kernel
theorem offV_inb : ∀ (i : grid2.Coords) (h : Fin 16) (a : Fin 3), offV i h a + S1x128x65.size a ≤ S16x1024x65.size a := by decide +kernel
theorem offK_inb : ∀ (i : grid2.Coords) (h : Fin 16) (a : Fin 3), offK i h a + S1x128x64.size a ≤ S16x1024x64.size a := by decide +kernel
/-- The first rows of a head in an array of rank three. -/
def offH (h : Fin 16) : Fin 3 → ℕ := ![h.val, 0, 0]
/-- Row `r` of a head. -/
def offG (r : ℕ) (h : Fin 16) : Fin 3 → ℕ := ![h.val, r, 0]
/-- The first rows of a head in an array of rank four. -/
def offS (h : Fin 16) : Fin 4 → ℕ := ![h.val, 0, 0, 0]
theorem inb_q : ∀ (h : Fin 16) (a : Fin 3), offH h a + S1x128x64.size a ≤ S16x128x64.size a := by decide +kernel
theorem inb_k : ∀ (h : Fin 16) (a : Fin 3), offH h a + S1x1024x64.size a ≤ S16x1024x64.size a := by decide +kernel
theorem inb_c : ∀ (h : Fin 16) (a : Fin 3), offH h a + S1x8x128.size a ≤ S16x8x128.size a := by decide +kernel
theorem inb_v : ∀ (h : Fin 16) (a : Fin 3), offH h a + S1x1024x65.size a ≤ S16x1024x65.size a := by decide +kernel
theorem inb_s : ∀ (h : Fin 16) (a : Fin 4), offS h a + S1x1x128x128.size a ≤ S16x1x128x128.size a := by decide +kernel
theorem inb_p : ∀ (h : Fin 16) (a : Fin 4), offS h a + S1x1x64x64.size a ≤ S16x1x64x64.size a := by decide +kernel
theorem inb_g : ∀ (r : Fin 8) (h : Fin 16) (a : Fin 3), offG r.val h a + S1x1x128.size a ≤ S16x8x128.size a := by decide +kernel

variable (V : (c : Dev nD) → (b : Ref sig .tc) → Buf (Elt Ideal) ((c : Thread nD τ).loc b))

/-- A head's result at a grid point, over the three scratch buffers' contents. -/
def gB (c : Dev nD) (t : Fin cfg2.N) (u0 : VS2_0.ty.Contents (Elt Ideal)) (u1 : VS2_1.ty.Contents (Elt Ideal))
    (u2 : VS2_2.ty.Contents (Elt Ideal)) (h : Fin 16) : FVec Ideal S1x128x64 .f32 :=
  fHead
    (View.readAt (Elt Ideal) scM2_0.view (Rect.unit (s := S16x8x128) (offF (grid2.coords t) h) S1x1x128.size (offF_inb _ h)).toLoadRect u0)
    (View.readAt (Elt Ideal) (ms2_0 t).view (Rect.unit (s := S16x128x64) (offH h) S1x128x64.size (inb_q h)).toLoadRect ((hs2_0 t).unread (iblk2 V c 0 t)))
    (View.readAt (Elt Ideal) scM2_2.view (Rect.unit (s := S16x1024x64) (offH h) S1x1024x64.size (inb_k h)).toLoadRect u2)
    (View.readAt (Elt Ideal) (ms2_1 t).view (Rect.unit (s := S16x1x128x128) (offS h) S1x1x128x128.size (inb_s h)).toLoadRect ((hs2_1 t).unread (iblk2 V c 1 t)))
    (View.readAt (Elt Ideal) scM2_1.view (Rect.unit (s := S16x8x128) (offG 0 h) S1x1x128.size (inb_g 0 h)).toLoadRect u1)
    (View.readAt (Elt Ideal) scM2_1.view (Rect.unit (s := S16x8x128) (offG 1 h) S1x1x128.size (inb_g 1 h)).toLoadRect u1)
    (View.readAt (Elt Ideal) scM2_1.view (Rect.unit (s := S16x8x128) (offG 2 h) S1x1x128.size (inb_g 2 h)).toLoadRect u1)
    (View.readAt (Elt Ideal) scM2_1.view (Rect.unit (s := S16x8x128) (offG 3 h) S1x1x128.size (inb_g 3 h)).toLoadRect u1)
    (View.readAt (Elt Ideal) scM2_1.view (Rect.unit (s := S16x8x128) (offG 4 h) S1x1x128.size (inb_g 4 h)).toLoadRect u1)
    (View.readAt (Elt Ideal) scM2_1.view (Rect.unit (s := S16x8x128) (offG 5 h) S1x1x128.size (inb_g 5 h)).toLoadRect u1)
    (View.readAt (Elt Ideal) scM2_1.view (Rect.unit (s := S16x8x128) (offG 6 h) S1x1x128.size (inb_g 6 h)).toLoadRect u1)
    (View.readAt (Elt Ideal) scM2_1.view (Rect.unit (s := S16x8x128) (offG 7 h) S1x1x128.size (inb_g 7 h)).toLoadRect u1)
    (View.readAt (Elt Ideal) (ms2_3 t).view (Rect.unit (s := S16x1024x65) (offH h) S1x1024x65.size (inb_v h)).toLoadRect ((hs2_3 t).unread (iblk2 V c 3 t)))
    (View.readAt (Elt Ideal) (ms2_3 t).view (Rect.unit (s := S16x1024x65) (offV (grid2.coords t) h) S1x128x65.size (offV_inb _ h)).toLoadRect ((hs2_3 t).unread (iblk2 V c 3 t)))

set_option maxHeartbeats 4000000 in
theorem runB_out (c : Dev nD) (t : Fin cfg2.N) (h0 : ¬t.val % 8 = 0) (s0 s1 : FVec Ideal S16x8x128 .f32) (s2 : FVec Ideal S16x1024x64 .f32) :
    (runB V c t h0 s0 s1 s2).1 = View.tilePieces (s := S16x128x64) S1x128x64.size offH inb_q
      (gB V c t ((Memref.isWhole_whole _).unread s0) ((Memref.isWhole_whole _).unread s1) ((Memref.isWhole_whole _).unread s2)) 16 le_rfl := by
  dsimp only [runB, kernelRun2_B]
  rfl

/-- Row `r` of a head's gates in the log-gate window. -/
def offL (h : Fin 16) : Fin 4 → ℕ := ![0, h.val, 0, 0]
theorem inb_l : ∀ (h : Fin 16) (a : Fin 4), offL h a + S1x1x8x128.size a ≤ S1x16x8x128.size a := by decide +kernel

/-- A head's cumulative gates from its log gates. -/
def cCum (x : FVec Ideal S1x1x8x128 .f32) : FVec Ideal S1x8x128 .f32 := k2_pay27 k2_pay5 k2_pay6 x
/-- A head's transported keys carried through a chunk. -/
def cKh (k : FVec Ideal S1x1024x64 .f32) (p : FVec Ideal S1x1x64x64 .f32) : FVec Ideal S1x1024x64 .f32 :=
  shapeCast S1x1024x64 (matmul dot_S1024x64_S64x64_S1024x64_1_1_0_0_n_n none
    (shapeCast S1024x64 k shapeCasts_S1x1024x64_S1024x64) (shapeCast S64x64 p shapeCasts_S1x1x64x64_S64x64)
    (constant S1024x64 .f32 0x00000000#32)) shapeCasts_S1024x64_S1x1024x64
/-- A head's rows of cumulative gates, as stored. -/
def cG1 (x : FVec Ideal S1x1x128 .f32) : FVec Ideal S1x1x128 .f32 :=
  shapeCast S1x1x128 (shapeCast S1x128 x shapeCasts_S1x1x128_S1x128) shapeCasts_S1x128_S1x1x128
/-- A head's chunk of keys, as stored. -/
def cK1 (x : FVec Ideal S1x128x64 .f32) : FVec Ideal S1x128x64 .f32 :=
  shapeCast S1x128x64 (shapeCast S128x64 x shapeCasts_S1x128x64_S128x64) shapeCasts_S128x64_S1x128x64

/-- The pieces of the cumulative gates. -/
def gC (c : Dev nD) (t : Fin cfg2.N) (h : Fin 16) : FVec Ideal S1x8x128 .f32 :=
  cCum (View.readAt (Elt Ideal) (ms2_5 t).view (Rect.unit (s := S1x16x8x128) (offL h) S1x1x8x128.size (inb_l h)).toLoadRect ((hs2_5 t).unread (iblk2 V c 5 t)))
/-- The list of the cumulative gates' pieces. -/
def lC (c : Dev nD) (t : Fin cfg2.N) : List (View.Piece (Elt Ideal) S16x8x128 .f32) :=
  View.tilePieces (s := S16x8x128) S1x8x128.size offH inb_c (gC V c t) 16 le_rfl
/-- The pieces of the copied gates. -/
def gG (t : Fin cfg2.N) (u0 : VS2_0.ty.Contents (Elt Ideal)) (h : Fin 16) : FVec Ideal S1x1x128 .f32 :=
  cG1 (View.readAt (Elt Ideal) scM2_0.view (Rect.unit (s := S16x8x128) (offF (grid2.coords t) h) S1x1x128.size (offF_inb _ h)).toLoadRect u0)
/-- The list of the copied gates' pieces. -/
def lG (t : Fin cfg2.N) (u0 : VS2_0.ty.Contents (Elt Ideal)) : List (View.Piece (Elt Ideal) S16x8x128 .f32) :=
  View.tilePieces (s := S16x8x128) S1x1x128.size (offF (grid2.coords t)) (offF_inb _) (gG t u0) 16 le_rfl
/-- The pieces of the chunk's keys. -/
def gK (c : Dev nD) (t : Fin cfg2.N) (h : Fin 16) : FVec Ideal S1x128x64 .f32 :=
  cK1 (View.readAt (Elt Ideal) (ms2_2 t).view (Rect.unit (s := S16x128x64) (offH h) S1x128x64.size (inb_q h)).toLoadRect ((hs2_2 t).unread (iblk2 V c 2 t)))
/-- The list of the chunk's keys' pieces. -/
def lK (c : Dev nD) (t : Fin cfg2.N) : List (View.Piece (Elt Ideal) S16x1024x64 .f32) :=
  View.tilePieces (s := S16x1024x64) S1x128x64.size (offK (grid2.coords t)) (offK_inb _) (gK V c t) 16 le_rfl
/-- A head's transition. -/
def gP (c : Dev nD) (t : Fin cfg2.N) (h : Fin 16) : FVec Ideal S1x1x64x64 .f32 :=
  View.readAt (Elt Ideal) (ms2_4 t).view (Rect.unit (s := S16x1x64x64) (offS h) S1x1x64x64.size (inb_p h)).toLoadRect ((hs2_4 t).unread (iblk2 V c 4 t))
/-- The list of the carried keys' pieces, over given contents. -/
def lT (c : Dev nD) (t : Fin cfg2.N) (u2 : VS2_2.ty.Contents (Elt Ideal)) : List (View.Piece (Elt Ideal) S16x1024x64 .f32) :=
  View.tilePieces (s := S16x1024x64) S1x1024x64.size offH inb_k (fun h =>
    cKh (View.readAt (Elt Ideal) scM2_2.view (Rect.unit (s := S16x1024x64) (offH h) S1x1024x64.size (inb_k h)).toLoadRect u2) (gP V c t h)) 16 le_rfl
/-- The zero fill. -/
def lZ : List (View.Piece (Elt Ideal) S16x1024x64 .f32) :=
  [⟨Rect.unit (s := S16x1024x64) ![0, 0, 0] S16x1024x64.size inb_S16x1024x64_S16x1024x64_0_0_0, k2_pay3 (F := Ideal)⟩]
/-- The fill of the copied gates. -/
def lU : List (View.Piece (Elt Ideal) S16x8x128 .f32) :=
  [⟨Rect.unit (s := S16x8x128) ![0, 0, 0] S16x8x128.size inb_S16x8x128_S16x8x128_0_0_0, k2_pay4 (F := Ideal)⟩]
/-- The carried keys' pieces over the zero fill, the first `n` heads. -/
def lA (c : Dev nD) (t : Fin cfg2.N) : (n : ℕ) → n ≤ 16 → List (View.Piece (Elt Ideal) S16x1024x64 .f32)
  | 0, _ => lZ
  | n + 1, hn => ⟨Rect.unit (s := S16x1024x64) (offH ⟨n, hn⟩) S1x1024x64.size (inb_k ⟨n, hn⟩),
      cKh (View.readAt (Elt Ideal) scM2_2.view (Rect.unit (s := S16x1024x64) (offH ⟨n, hn⟩) S1x1024x64.size (inb_k ⟨n, hn⟩)).toLoadRect
        (scM2_2.view.writes (Elt Ideal) scM2_2.view.junk (lA c t n (Nat.le_of_succ_le hn)))) (gP V c t ⟨n, hn⟩)⟩ :: lA c t n (Nat.le_of_succ_le hn)

set_option maxHeartbeats 4000000 in
theorem runB_g (c : Dev nD) (t : Fin cfg2.N) (h0 : ¬t.val % 8 = 0) (s0 s1 : FVec Ideal S16x8x128 .f32) (s2 : FVec Ideal S16x1024x64 .f32) :
    (runB V c t h0 s0 s1 s2).2.2.1 = lG t ((Memref.isWhole_whole _).unread s0) := by
  dsimp only [runB, kernelRun2_B]
  rfl
set_option maxHeartbeats 4000000 in
theorem runB_k (c : Dev nD) (t : Fin cfg2.N) (h0 : ¬t.val % 8 = 0) (s0 s1 : FVec Ideal S16x8x128 .f32) (s2 : FVec Ideal S16x1024x64 .f32) :
    (runB V c t h0 s0 s1 s2).2.2.2.1 = lK V c t ++ lT V c t ((Memref.isWhole_whole _).unread s2) := by
  dsimp only [runB, kernelRun2_B]
  rfl
set_option maxHeartbeats 4000000 in
theorem runA_c (c : Dev nD) (t : Fin cfg2.N) (h0 : t.val % 8 = 0) : (runA V c t h0).2.1 = lC V c t := by
  dsimp only [runA, kernelRun2_A]
  rfl
set_option maxHeartbeats 4000000 in
theorem runA_g (c : Dev nD) (t : Fin cfg2.N) (h0 : t.val % 8 = 0) :
    (runA V c t h0).2.2.1 = lG t (scM2_0.view.writes (Elt Ideal) scM2_0.view.junk (lC V c t)) ++ lU := by
  dsimp only [runA, kernelRun2_A]
  rfl
set_option maxHeartbeats 4000000 in
theorem runA_k (c : Dev nD) (t : Fin cfg2.N) (h0 : t.val % 8 = 0) :
    (runA V c t h0).2.2.2.1 = lK V c t ++ lA V c t 16 le_rfl := by
  dsimp only [runA, kernelRun2_A]
  rfl
set_option maxHeartbeats 4000000 in
theorem runA_out (c : Dev nD) (t : Fin cfg2.N) (h0 : t.val % 8 = 0) :
    (runA V c t h0).1 = View.tilePieces (s := S16x128x64) S1x128x64.size offH inb_q
      (gB V c t (scM2_0.view.writes (Elt Ideal) scM2_0.view.junk (lC V c t)) (scM2_1.view.writes (Elt Ideal) scM2_1.view.junk lU)
        (scM2_2.view.writes (Elt Ideal) scM2_2.view.junk lZ)) 16 le_rfl := by
  dsimp only [runA, kernelRun2_A]
  rfl

end Cert.Val
-- ==== Proof.V.Reg0.lean ====
module
public import proofs.«01_k».proof.Proof.V.Base
public import proofs.«01_k».proof.Proof.V.Pieces
public import proofs.«01_k».proof.Proof.KI.R0

/-! What the first call's body stores at one grid point, over the reals. -/

@[expose] public section

set_option maxRecDepth 16384

noncomputable section

namespace Cert.Val

open Cert.KernelIdeal Cert.KernelIdeal.Gen Cert.KernelIdeal.Frm
open Idealize.ShloMosaic Idealize.ShloMosaic.TcCoe

/-- A piece of an array tiled along its first axis. -/
theorem canon_tile {sig : RefSig} {κ : Kind} {sp : Space} {s : Shape} {e : EltTy} (v : View sig κ sp s e)
    {tsz : Fin s.rank → ℕ} {off : Fin 16 → Fin s.rank → ℕ} {inb : ∀ i a, off i a + tsz a ≤ s.size a}
    {P : Fin 16 → (⟨s.rank, tsz⟩ : Shape).Idx → Elt Ideal e}
    (y : s.Idx) (i : Fin 16) (x : (⟨s.rank, tsz⟩ : Shape).Idx) (hx : ∀ a, (y a).val = off i a + (x a).val) (ax : Fin s.rank)
    (hdis : ∀ i' : Fin 16, i' ≠ i → (y ax).val < off i' ax ∨ off i' ax + tsz ax ≤ (y ax).val)
    (hc : ∃ p ∈ View.tilePieces (Val := Elt Ideal) tsz off inb P 16 le_rfl, y ∈ p.1.set) :
    View.canon (View.tilePieces (Val := Elt Ideal) tsz off inb P 16 le_rfl) y = P i x :=
  (View.read_writes_apply_eq_canon v v.junk y _ hc).symm.trans
    (View.read_tilePieces v v.junk tsz off inb P 16 le_rfl y i i.isLt x hx ax hdis)

theorem slq : ∀ h : Fin 16, S128x3072.Slices ![0, 64 * h.val] S128x64 := by decide
theorem slk : ∀ h : Fin 16, S128x3072.Slices ![0, 1024 + 64 * h.val] S128x64 := by decide
theorem slv : ∀ h : Fin 16, S128x3072.Slices ![0, 2048 + 64 * h.val] S128x64 := by decide
theorem slw : ∀ h : Fin 16, S128x1024.Slices ![0, 64 * h.val] S128x64 := by decide
theorem inb_v5 : ∀ (h : Fin 16) (a : Fin 3), offH h a + S1x128x65.size a ≤ S16x128x65.size a := by decide +kernel

/-- A head's columns. -/
def pQ (o : ℕ) (hs : S128x3072.Slices ![0, o] S128x64) (M : FVec Ideal S128x3072 .f32) : FVec Ideal S1x128x64 .f32 :=
  shapeCast S1x128x64 (extractStridedSlice S128x64 ![0, o] M hs) shapeCasts_S128x64_S1x128x64
/-- A head's values, with a column of ones. -/
def pV (o : ℕ) (hs : S128x3072.Slices ![0, o] S128x64) (M : FVec Ideal S128x3072 .f32) : FVec Ideal S1x128x65 .f32 :=
  shapeCast S1x128x65 (concatenate S128x65 1 [⟨S128x64, extractStridedSlice S128x64 ![0, o] M hs⟩,
    ⟨S128x1, broadcast S128x1 (Scalar.ofBits (F := Ideal) .f32 0x3F800000#32)⟩] concatenates_S128x64_S128x1_S128x65_d1) shapeCasts_S128x65_S1x128x65
/-- A head's write directions. -/
def pW (o : ℕ) (hs : S128x1024.Slices ![0, o] S128x64) (M : FVec Ideal S128x1024 .f32) : FVec Ideal S1x128x64 .f32 :=
  let wh : FVec Ideal S128x64 .f32 := extractStridedSlice S128x64 ![0, o] M hs
  shapeCast S1x128x64 (mulf wh (broadcastTo S128x64 (rsqrt (addf (shapeCast S128x1
    (multiReduction .add [1] S128 (mulf wh wh) 0x00000000#32 reduces_S128x64_S128 (.inl rfl) rfl) shapeCasts_S128_S128x1)
    (broadcast S128x1 (Scalar.ofBits (F := Ideal) .f32 0x358637BD#32)))) broadcasts_S128x1_S128x64)) shapeCasts_S128x64_S1x128x64

theorem pQ_real (o : ℕ) (hs : S128x3072.Slices ![0, o] S128x64) (ho : o + 64 ≤ 3072) {M : FVec Ideal S128x3072 .f32}
    {m : Fin 128 → Fin 3072 → ℝ} (hM : IsM M m) (a : Fin 128) (d : Fin 64) :
    pQ o hs M (ix3 0 a d) = ((m a ⟨o + d.val, by omega⟩ : ℝ) : EReal) := by
  unfold pQ
  pointwise
  exact hM _ _

theorem pV_real (o : ℕ) (hs : S128x3072.Slices ![0, o] S128x64) (ho : o + 64 ≤ 3072) {M : FVec Ideal S128x3072 .f32}
    {m : Fin 128 → Fin 3072 → ℝ} (hM : IsM M m) (a : Fin 128) (d : Fin 65) :
    pV o hs M (ix3 0 a d) = ((if h : d.val < 64 then m a ⟨o + d.val, by omega⟩ else 1 : ℝ) : EReal) := by
  unfold pV
  pointwise
  split_ifs with h
  · exact hM _ _
  · exact EReal.coe_one.symm

theorem pW_real (o : ℕ) (hs : S128x1024.Slices ![0, o] S128x64) (ho : o + 64 ≤ 1024) {M : FVec Ideal S128x1024 .f32}
    {m : Fin 128 → Fin 1024 → ℝ} (hM : IsM M m) (a : Fin 128) (d : Fin 64) :
    pW o hs M (ix3 0 a d) = ((nrm (fun e => m a ⟨o + e.val, by omega⟩) d : ℝ) : EReal) := by
  unfold pW
  have hw : IsM (extractStridedSlice S128x64 ![0, o] M hs : FVec Ideal S128x64 .f32) (fun a e => m a ⟨o + e.val, by omega⟩) := by
    intro a e
    pointwise
    exact hM _ _
  generalize (extractStridedSlice S128x64 ![0, o] M hs : FVec Ideal S128x64 .f32) = W at hw ⊢
  pointwise
  simp only [hw _ _, eps_pos_bits.1]
  rw [coe_dot, ← EReal.coe_add, rsqrt_real (fun e => m a ⟨o + e.val, by omega⟩), ← EReal.coe_mul]
  rfl

section
variable (x0 : Vec Ideal S1x128x1024 .f32) (x1 : Vec Ideal S1024x3072 .f32) (x2 : Vec Ideal S1024x64 .f32) (x3 : Vec Ideal S64x1024 .f32)
variable (x4 x5 : Vec Ideal S1024x16 .f32) (x6 : Vec Ideal S1x16 .f32)

theorem out0_7_list : out0_7 x0 x1 x2 x3 x4 x5 x6 = View.canon (View.tilePieces (s := S16x128x64) S1x128x64.size offH inb_q
    (fun h => pQ (64 * h.val) (slq h) (k0_pay89 x0 x1 x2 x3 x4 x5 x6)) 16 le_rfl) := by
  rfl
theorem out0_8_list : out0_8 x0 x1 x2 x3 x4 x5 x6 = View.canon (View.tilePieces (s := S16x128x64) S1x128x64.size offH inb_q
    (fun h => pQ (1024 + 64 * h.val) (slk h) (k0_pay89 x0 x1 x2 x3 x4 x5 x6)) 16 le_rfl) := by
  rfl
theorem out0_9_list : out0_9 x0 x1 x2 x3 x4 x5 x6 = View.canon (View.tilePieces (s := S16x128x65) S1x128x65.size offH inb_v5
    (fun h => pV (2048 + 64 * h.val) (slv h) (k0_pay89 x0 x1 x2 x3 x4 x5 x6)) 16 le_rfl) := by
  rfl
theorem out0_10_list : out0_10 x0 x1 x2 x3 x4 x5 x6 = View.canon (View.tilePieces (s := S16x128x64) S1x128x64.size offH inb_q
    (fun h => pW (64 * h.val) (slw h) (k0_pay90 x0 x1 x2 x3 x4 x5 x6)) 16 le_rfl) := by
  rfl

variable (X : Fin 128 → Fin 1024 → ℝ) (Wc : Fin 1024 → Fin 3072 → ℝ) (W1 : Fin 1024 → Fin 64 → ℝ) (W2 : Fin 64 → Fin 1024 → ℝ)
variable (Wb Wf : Fin 1024 → Fin 16 → ℝ) (De : Fin 16 → ℝ)
variable (h0 : ∀ a c, x0 (ix3 0 a c) = ((X a c : ℝ) : EReal)) (h1 : ∀ c e, x1 (ix2 c e) = ((Wc c e : ℝ) : EReal))
variable (h2 : ∀ c e, x2 (ix2 c e) = ((W1 c e : ℝ) : EReal)) (h3 : ∀ c e, x3 (ix2 c e) = ((W2 c e : ℝ) : EReal))
variable (h4 : ∀ c e, x4 (ix2 c e) = ((Wb c e : ℝ) : EReal)) (h5 : ∀ c e, x5 (ix2 c e) = ((Wf c e : ℝ) : EReal))
variable (h6 : ∀ e, x6 (ix2 0 e) = ((De e : ℝ) : EReal))

include h0 h1 in
theorem qkv_real : IsM (k0_pay89 x0 x1 x2 x3 x4 x5 x6) (fun a e => ∑ c, X a c * Wc c e) := by
  intro a e
  unfold k0_pay89 k0_pay4 k0_pay3
  pointwise [r0_0, r0_1]
  simp only [h0 _ _, h1 _ _, zero_add]
  exact coe_dot _ _

include h0 h2 h3 in
theorem wfull_real : IsM (k0_pay90 x0 x1 x2 x3 x4 x5 x6) (fun a e => ∑ u, (∑ c, X a c * W1 c u) * W2 u e) := by
  intro a e
  unfold k0_pay90 k0_pay5 k0_pay3
  pointwise [r0_0, r0_2, r0_3]
  simp only [h0 _ _, h2 _ _, h3 _ _, zero_add, coe_dot]

include h0 h4 in
theorem beta_real (h : Fin 16) (a : Fin 128) : out0_11 x0 x1 x2 x3 x4 x5 x6 (ix4 0 h 0 a)
    = ((rate (∑ c, X a c * Wb c h) : ℝ) : EReal) := by
  have e : out0_11 x0 x1 x2 x3 x4 x5 x6 = k0_pay13 (k0_pay6 (View.ld x0 r0_0) (View.ld x4 r0_4)) := by
    unfold out0_11
    exact View.canon_cons_unit_lit (Val := Elt Ideal) _ _ [] (by decide)
  rw [e]
  unfold k0_pay13 k0_pay6 k0_pay3
  pointwise [r0_0, r0_4]
  simp only [h0 _ _, h4 _ _, zero_add, two_bits]
  rw [coe_dot, Ideal.logistic_coe, ← EReal.coe_mul]
  rfl

include h0 h5 h6 in
theorem logf_real (h : Fin 16) (a : Fin 128) : out0_12 x0 x1 x2 x3 x4 x5 x6 (ix4 0 h 0 a)
    = ((lgate ((∑ c, X a c * Wf c h) + De h) : ℝ) : EReal) := by
  have e : out0_12 x0 x1 x2 x3 x4 x5 x6 = k0_pay14 (k0_pay8 (View.ld x0 r0_0) (View.ld x5 r0_4) (View.ld x6 r0_5)) (k0_pay10 (View.ld x0 r0_0) (View.ld x5 r0_4) (View.ld x6 r0_5)) (k0_pay11 (View.ld x0 r0_0) (View.ld x5 r0_4) (View.ld x6 r0_5)) (k0_pay12 (View.ld x0 r0_0) (View.ld x5 r0_4) (View.ld x6 r0_5)) := by
    unfold out0_12
    exact View.canon_cons_unit_lit (Val := Elt Ideal) _ _ [] (by decide)
  rw [e]
  have hz : IsM (k0_pay7 (View.ld x0 r0_0) (View.ld x5 r0_4) (View.ld x6 r0_5)) (fun a h => -((∑ c, X a c * Wf c h) + De h)) := by
    intro a h
    unfold k0_pay7 k0_pay3
    pointwise [r0_0, r0_4, r0_5]
    simp only [h0 _ _, h5 _ _, h6 _, zero_add, zero_sub]
    rw [coe_dot, ← EReal.coe_add, ← EReal.coe_neg]
  unfold k0_pay14 k0_pay8 k0_pay10 k0_pay11 k0_pay12 k0_pay9
  generalize k0_pay7 (View.ld x0 r0_0) (View.ld x5 r0_4) (View.ld x6 r0_5) = Z at hz ⊢
  pointwise
  rw [if_neg (fun hne => hne rfl), hz a h, zero_sub, zero_sub]
  exact lgate_real _

/-- The blocks of queries, keys, values and write directions. -/
theorem rows_hx (h : Fin 16) {n : ℕ} (a : Fin 128) (d : Fin n) : ∀ x : Fin 3, ((ix3 h a d : (⟨3, ![16, 128, n]⟩ : Shape).Idx) x).val
    = offH h x + ((ix3 (0 : Fin 1) a d : (⟨3, ![1, 128, n]⟩ : Shape).Idx) x).val := by
  intro x; fin_cases x
  · show h.val = h.val + 0; rfl
  · show a.val = 0 + a.val; omega
  · show d.val = 0 + d.val; omega

include h0 h1 in
theorem q_real (h : Fin 16) (a : Fin 128) (d : Fin 64) : out0_7 x0 x1 x2 x3 x4 x5 x6 (ix3 h a d)
    = ((∑ c, X a c * Wc c ⟨64 * h.val + d.val, by omega⟩ : ℝ) : EReal) := by
  rw [out0_7_list]
  refine (canon_tile VO2_6 (ix3 h a d) h (ix3 0 a d) (rows_hx h a d) 0 ?_ ?_).trans ?_
  · intro i' hi'
    have : i'.val ≠ h.val := fun e => hi' (Fin.ext e)
    show h.val < i'.val ∨ i'.val + 1 ≤ h.val
    omega
  · exact cover0_7 _ _ _ _ _ _ _ _ _ _ _ _ _ _ _ _ _
  · exact pQ_real _ _ (by omega) (qkv_real x0 x1 x2 x3 x4 x5 x6 X Wc h0 h1) a d

include h0 h1 in
theorem k_real (h : Fin 16) (a : Fin 128) (d : Fin 64) : out0_8 x0 x1 x2 x3 x4 x5 x6 (ix3 h a d)
    = ((∑ c, X a c * Wc c ⟨1024 + 64 * h.val + d.val, by omega⟩ : ℝ) : EReal) := by
  rw [out0_8_list]
  refine (canon_tile VO2_6 (ix3 h a d) h (ix3 0 a d) (rows_hx h a d) 0 ?_ ?_).trans ?_
  · intro i' hi'
    have : i'.val ≠ h.val := fun e => hi' (Fin.ext e)
    show h.val < i'.val ∨ i'.val + 1 ≤ h.val
    omega
  · exact cover0_8 _ _ _ _ _ _ _ _ _ _ _ _ _ _ _ _ _
  · exact pQ_real _ _ (by omega) (qkv_real x0 x1 x2 x3 x4 x5 x6 X Wc h0 h1) a d

include h0 h1 in
theorem v_real (h : Fin 16) (a : Fin 128) (d : Fin 65) : out0_9 x0 x1 x2 x3 x4 x5 x6 (ix3 h a d)
    = ((if hd : d.val < 64 then ∑ c, X a c * Wc c ⟨2048 + 64 * h.val + d.val, by omega⟩ else 1 : ℝ) : EReal) := by
  rw [out0_9_list]
  refine (canon_tile (Memref.whole cc0_stg9_0 : Memref sig .tc .vmem S16x128x65 .f32).view (ix3 h a d) h (ix3 0 a d) (rows_hx h a d) 0 ?_ ?_).trans ?_
  · intro i' hi'
    have : i'.val ≠ h.val := fun e => hi' (Fin.ext e)
    show h.val < i'.val ∨ i'.val + 1 ≤ h.val
    omega
  · exact cover0_9 _ _ _ _ _ _ _ _ _ _ _ _ _ _ _ _ _
  · exact pV_real _ _ (by omega) (qkv_real x0 x1 x2 x3 x4 x5 x6 X Wc h0 h1) a d

include h0 h2 h3 in
theorem w_real (h : Fin 16) (a : Fin 128) (d : Fin 64) : out0_10 x0 x1 x2 x3 x4 x5 x6 (ix3 h a d)
    = ((nrm (fun e => ∑ u, (∑ c, X a c * W1 c u) * W2 u (col h e)) d : ℝ) : EReal) := by
  rw [out0_10_list]
  refine (canon_tile VO2_6 (ix3 h a d) h (ix3 0 a d) (rows_hx h a d) 0 ?_ ?_).trans ?_
  · intro i' hi'
    have : i'.val ≠ h.val := fun e => hi' (Fin.ext e)
    show h.val < i'.val ∨ i'.val + 1 ≤ h.val
    omega
  · exact cover0_10 _ _ _ _ _ _ _ _ _ _ _ _ _ _ _ _ _
  · exact pW_real _ _ (by omega) (wfull_real x0 x1 x2 x3 x4 x5 x6 X W1 W2 h0 h2 h3) a d

end

end Cert.Val
-- ==== Proof.V.Arr0.lean ====
module
public import proofs.«01_k».proof.Proof.V.Reg0

/-! The arrays of the first call. -/

@[expose] public section

set_option maxRecDepth 16384

noncomputable section

namespace Cert.Val

open Cert.KernelIdeal Cert.KernelIdeal.Gen Cert.KernelIdeal.Frm
open Idealize.ShloMosaic Idealize.ShloMosaic.TcCoe

/-- Which block each window takes at a point. -/
theorem idx0 : ∀ t : Fin cfg0.N, win0_0.index t = ![t.val / 8, t.val % 8, 0]
    ∧ win0_1.index t = ![0, 0] ∧ win0_2.index t = ![0, 0] ∧ win0_3.index t = ![0, 0] ∧ win0_4.index t = ![0, 0]
    ∧ win0_5.index t = ![0, 0] ∧ win0_6.index t = ![0, 0]
    ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0]
    ∧ win0_11.index t = ![t.val / 8, 0, 0, t.val % 8] ∧ win0_12.index t = ![t.val / 8, 0, 0, t.val % 8] :=
  (by decide +kernel : ∀ t : Fin grid0.N, _)

/-- The queries by head. -/
def qF (X : Fin 2 → Fin 1024 → Fin 1024 → ℝ) (Wc : Fin 1024 → Fin 3072 → ℝ) (g : Fin 32) (s : Fin 1024) (d : Fin 64) : ℝ := lin X Wc (bOf g) s ⟨64 * (hOf g).val + d.val, by omega⟩

theorem qF_bh (X : Fin 2 → Fin 1024 → Fin 1024 → ℝ) (Wc : Fin 1024 → Fin 3072 → ℝ) (b : Fin 2) (h : Fin 16) (s : Fin 1024) (d : Fin 64) : qF X Wc (bh b h) s d =
    lin X Wc b s ⟨64 * h.val + d.val, by omega⟩ := by
  simp only [qF, bOf_bh, hOf_bh]

/-- The keys by head. -/
def kF (X : Fin 2 → Fin 1024 → Fin 1024 → ℝ) (Wc : Fin 1024 → Fin 3072 → ℝ) (g : Fin 32) (s : Fin 1024) (d : Fin 64) : ℝ := lin X Wc (bOf g) s ⟨1024 + 64 * (hOf g).val + d.val, by omega⟩

theorem kF_bh (X : Fin 2 → Fin 1024 → Fin 1024 → ℝ) (Wc : Fin 1024 → Fin 3072 → ℝ) (b : Fin 2) (h : Fin 16) (s : Fin 1024) (d : Fin 64) : kF X Wc (bh b h) s d =
    lin X Wc b s ⟨1024 + 64 * h.val + d.val, by omega⟩ := by
  simp only [kF, bOf_bh, hOf_bh]

/-- The values by head, with a column of ones. -/
def vF (X : Fin 2 → Fin 1024 → Fin 1024 → ℝ) (Wc : Fin 1024 → Fin 3072 → ℝ) (g : Fin 32) (s : Fin 1024) (d : Fin 65) : ℝ := if hd : d.val < 64 then lin X Wc (bOf g) s ⟨2048 + 64 * (hOf g).val + d.val, by omega⟩ else 1

theorem vF_bh (X : Fin 2 → Fin 1024 → Fin 1024 → ℝ) (Wc : Fin 1024 → Fin 3072 → ℝ) (b : Fin 2) (h : Fin 16) (s : Fin 1024) (d : Fin 65) : vF X Wc (bh b h) s d =
    if hd : d.val < 64 then lin X Wc b s ⟨2048 + 64 * h.val + d.val, by omega⟩ else 1 := by
  simp only [vF, bOf_bh, hOf_bh]

/-- The write directions by head. -/
def wF (X : Fin 2 → Fin 1024 → Fin 1024 → ℝ) (W1 : Fin 1024 → Fin 64 → ℝ) (W2 : Fin 64 → Fin 1024 → ℝ) (g : Fin 32) (s : Fin 1024) (d : Fin 64) : ℝ := nrm (fun e => wraw X W1 W2 (bOf g) s (col (hOf g) e)) d

theorem wF_bh (X : Fin 2 → Fin 1024 → Fin 1024 → ℝ) (W1 : Fin 1024 → Fin 64 → ℝ) (W2 : Fin 64 → Fin 1024 → ℝ) (b : Fin 2) (h : Fin 16) (s : Fin 1024) (d : Fin 64) : wF X W1 W2 (bh b h) s d =
    nrm (fun e => wraw X W1 W2 b s (col h e)) d := by
  simp only [wF, bOf_bh, hOf_bh]

/-- The rate of a head at a step. -/
def btF (X : Fin 2 → Fin 1024 → Fin 1024 → ℝ) (Wb : Fin 1024 → Fin 16 → ℝ) (b : Fin 2) (h : Fin 16) (s : Fin 1024) : ℝ := rate (lin X Wb b s h)

/-- The log gate of a head at a step. -/
def lfF (X : Fin 2 → Fin 1024 → Fin 1024 → ℝ) (Wf : Fin 1024 → Fin 16 → ℝ) (De : Fin 16 → ℝ) (b : Fin 2) (h : Fin 16) (s : Fin 1024) : ℝ := lgate (lin X Wf b s h + De h)

section
variable (V : (c : Dev nD) → (b : Ref sig .tc) → Buf (Elt Ideal) ((c : Thread nD τ).loc b))
variable (c : Dev nD)
variable (X : Fin 2 → Fin 1024 → Fin 1024 → ℝ) (Wc : Fin 1024 → Fin 3072 → ℝ) (W1 : Fin 1024 → Fin 64 → ℝ) (W2 : Fin 64 → Fin 1024 → ℝ)
variable (Wb Wf : Fin 1024 → Fin 16 → ℝ) (De : Fin 16 → ℝ)
variable (h0 : ∀ b s e, (V c main_arg0 : FVec Ideal S2x1024x1024 .f32) (ix3 b s e) = ((X b s e : ℝ) : EReal))
variable (h1 : ∀ e f, (V c main_v0 : FVec Ideal S1024x3072 .f32) (ix2 e f) = ((Wc e f : ℝ) : EReal))
variable (h2 : ∀ e f, (V c main_arg5 : FVec Ideal S1024x64 .f32) (ix2 e f) = ((W1 e f : ℝ) : EReal))
variable (h3 : ∀ e f, (V c main_arg6 : FVec Ideal S64x1024 .f32) (ix2 e f) = ((W2 e f : ℝ) : EReal))
variable (h4 : ∀ e f, (V c main_arg7 : FVec Ideal S1024x16 .f32) (ix2 e f) = ((Wb e f : ℝ) : EReal))
variable (h5 : ∀ e f, (V c main_arg8 : FVec Ideal S1024x16 .f32) (ix2 e f) = ((Wf e f : ℝ) : EReal))
variable (h6 : ∀ f, (V c main_v1 : FVec Ideal S1x16 .f32) (ix2 0 f) = ((De f : ℝ) : EReal))

/-- The batch of a point. -/
def bt0 (t : Fin cfg0.N) : Fin 2 := ⟨t.val / 8, by have := lt_of_lt_of_eq t.isLt N_0; omega⟩
/-- The chunk of a point. -/
def ck0 (t : Fin cfg0.N) : Fin 8 := ⟨t.val % 8, by omega⟩

include h0 in
theorem blk0_0 (t : Fin cfg0.N) (a : Fin 128) (e : Fin 1024) : iblk0 V c 0 t (ix3 0 a e) = ((X (bt0 t) (ch (ck0 t) a) e : ℝ) : EReal) := by
  have ht := lt_of_lt_of_eq t.isLt N_0
  refine Eq.trans ?_ (h0 (bt0 t) (ch (ck0 t) a) e)
  blk_ext [iblk0, idx0 t, bt0, ck0, ch]
include h1 in
theorem blk0_1 (t : Fin cfg0.N) (e : Fin 1024) (f : Fin 3072) : iblk0 V c 1 t (ix2 e f) = ((Wc e f : ℝ) : EReal) := by
  refine Eq.trans ?_ (h1 e f)
  blk_ext [iblk0, idx0 t]
include h2 in
theorem blk0_2 (t : Fin cfg0.N) (e : Fin 1024) (f : Fin 64) : iblk0 V c 2 t (ix2 e f) = ((W1 e f : ℝ) : EReal) := by
  refine Eq.trans ?_ (h2 e f)
  blk_ext [iblk0, idx0 t]
include h3 in
theorem blk0_3 (t : Fin cfg0.N) (e : Fin 64) (f : Fin 1024) : iblk0 V c 3 t (ix2 e f) = ((W2 e f : ℝ) : EReal) := by
  refine Eq.trans ?_ (h3 e f)
  blk_ext [iblk0, idx0 t]
include h4 in
theorem blk0_4 (t : Fin cfg0.N) (e : Fin 1024) (f : Fin 16) : iblk0 V c 4 t (ix2 e f) = ((Wb e f : ℝ) : EReal) := by
  refine Eq.trans ?_ (h4 e f)
  blk_ext [iblk0, idx0 t]
include h5 in
theorem blk0_5 (t : Fin cfg0.N) (e : Fin 1024) (f : Fin 16) : iblk0 V c 5 t (ix2 e f) = ((Wf e f : ℝ) : EReal) := by
  refine Eq.trans ?_ (h5 e f)
  blk_ext [iblk0, idx0 t]
include h6 in
theorem blk0_6 (t : Fin cfg0.N) (f : Fin 16) : iblk0 V c 6 t (ix2 0 f) = ((De f : ℝ) : EReal) := by
  refine Eq.trans ?_ (h6 f)
  blk_ext [iblk0, idx0 t]

include h0 h1 in
/-- The queries. -/
theorem arr0_7 : (dat0 V c).arrAt 7 cfg0.N = fun j : S32x1024x64.Idx =>
    ((qF X Wc (j 0) (j 1) (j 2) : ℝ) : EReal) := by
  refine (dat0 V c).arrAt_eq_of_covers 7 _ (by decide +kernel) fun t hf y => ?_
  have ht := lt_of_lt_of_eq t.isLt N_0
  blk_simp
  rw [after0_7]
  have y1 : (y 1).val < 128 := (y 1).isLt
  have y0 : (y 0).val < 16 := (y 0).isLt
  refine Eq.trans (congrArg _ (?_ : y = ix3 (y 0) (y 1) (y 2))) ((q_real (iblk0 V c 0 t) (iblk0 V c 1 t) (iblk0 V c 2 t) (iblk0 V c 3 t) (iblk0 V c 4 t) (iblk0 V c 5 t) (iblk0 V c 6 t) (fun a e => X (bt0 t) (ch (ck0 t) a) e) Wc (blk0_0 V c X h0 t) (blk0_1 V c Wc h1 t) (y 0) (y 1) (y 2)).trans ?_)
  · funext a; fin_cases a <;> rfl
  refine Eq.symm (congrArg Real.toEReal ((cg3 (qF X Wc)
    (a' := bh (bt0 t) (y 0)) (b' := ch (ck0 t) (y 1)) (c' := y 2)
    (Fin.ext (by show _ = 16 * (t.val / 8) + (y 0).val; blk_simp [idx0 t]; omega))
    (Fin.ext (by show _ = 128 * (t.val % 8) + (y 1).val; blk_simp [idx0 t]; omega))
    (Fin.ext (by blk_simp [idx0 t]))).trans (qF_bh X Wc _ _ _ _)))

include h0 h1 in
/-- The keys. -/
theorem arr0_8 : (dat0 V c).arrAt 8 cfg0.N = fun j : S32x1024x64.Idx =>
    ((kF X Wc (j 0) (j 1) (j 2) : ℝ) : EReal) := by
  refine (dat0 V c).arrAt_eq_of_covers 8 _ (by decide +kernel) fun t hf y => ?_
  have ht := lt_of_lt_of_eq t.isLt N_0
  blk_simp
  rw [after0_8]
  have y1 : (y 1).val < 128 := (y 1).isLt
  have y0 : (y 0).val < 16 := (y 0).isLt
  refine Eq.trans (congrArg _ (?_ : y = ix3 (y 0) (y 1) (y 2))) ((k_real (iblk0 V c 0 t) (iblk0 V c 1 t) (iblk0 V c 2 t) (iblk0 V c 3 t) (iblk0 V c 4 t) (iblk0 V c 5 t) (iblk0 V c 6 t) (fun a e => X (bt0 t) (ch (ck0 t) a) e) Wc (blk0_0 V c X h0 t) (blk0_1 V c Wc h1 t) (y 0) (y 1) (y 2)).trans ?_)
  · funext a; fin_cases a <;> rfl
  refine Eq.symm (congrArg Real.toEReal ((cg3 (kF X Wc)
    (a' := bh (bt0 t) (y 0)) (b' := ch (ck0 t) (y 1)) (c' := y 2)
    (Fin.ext (by show _ = 16 * (t.val / 8) + (y 0).val; blk_simp [idx0 t]; omega))
    (Fin.ext (by show _ = 128 * (t.val % 8) + (y 1).val; blk_simp [idx0 t]; omega))
    (Fin.ext (by blk_simp [idx0 t]))).trans (kF_bh X Wc _ _ _ _)))

include h0 h1 in
/-- The values, with ones. -/
theorem arr0_9 : (dat0 V c).arrAt 9 cfg0.N = fun j : S32x1024x65.Idx =>
    ((vF X Wc (j 0) (j 1) (j 2) : ℝ) : EReal) := by
  refine (dat0 V c).arrAt_eq_of_covers 9 _ (by decide +kernel) fun t hf y => ?_
  have ht := lt_of_lt_of_eq t.isLt N_0
  blk_simp
  rw [after0_9]
  have y1 : (y 1).val < 128 := (y 1).isLt
  have y0 : (y 0).val < 16 := (y 0).isLt
  refine Eq.trans (congrArg _ (?_ : y = ix3 (y 0) (y 1) (y 2))) ((v_real (iblk0 V c 0 t) (iblk0 V c 1 t) (iblk0 V c 2 t) (iblk0 V c 3 t) (iblk0 V c 4 t) (iblk0 V c 5 t) (iblk0 V c 6 t) (fun a e => X (bt0 t) (ch (ck0 t) a) e) Wc (blk0_0 V c X h0 t) (blk0_1 V c Wc h1 t) (y 0) (y 1) (y 2)).trans ?_)
  · funext a; fin_cases a <;> rfl
  refine Eq.symm (congrArg Real.toEReal ((cg3 (vF X Wc)
    (a' := bh (bt0 t) (y 0)) (b' := ch (ck0 t) (y 1)) (c' := y 2)
    (Fin.ext (by show _ = 16 * (t.val / 8) + (y 0).val; blk_simp [idx0 t]; omega))
    (Fin.ext (by show _ = 128 * (t.val % 8) + (y 1).val; blk_simp [idx0 t]; omega))
    (Fin.ext (by blk_simp [idx0 t]))).trans (vF_bh X Wc _ _ _ _)))

include h0 h2 h3 in
/-- The write directions. -/
theorem arr0_10 : (dat0 V c).arrAt 10 cfg0.N = fun j : S32x1024x64.Idx =>
    ((wF X W1 W2 (j 0) (j 1) (j 2) : ℝ) : EReal) := by
  refine (dat0 V c).arrAt_eq_of_covers 10 _ (by decide +kernel) fun t hf y => ?_
  have ht := lt_of_lt_of_eq t.isLt N_0
  blk_simp
  rw [after0_10]
  have y1 : (y 1).val < 128 := (y 1).isLt
  have y0 : (y 0).val < 16 := (y 0).isLt
  refine Eq.trans (congrArg _ (?_ : y = ix3 (y 0) (y 1) (y 2))) ((w_real (iblk0 V c 0 t) (iblk0 V c 1 t) (iblk0 V c 2 t) (iblk0 V c 3 t) (iblk0 V c 4 t) (iblk0 V c 5 t) (iblk0 V c 6 t) (fun a e => X (bt0 t) (ch (ck0 t) a) e) W1 W2 (blk0_0 V c X h0 t) (blk0_2 V c W1 h2 t) (blk0_3 V c W2 h3 t) (y 0) (y 1) (y 2)).trans ?_)
  · funext a; fin_cases a <;> rfl
  refine Eq.symm (congrArg Real.toEReal ((cg3 (wF X W1 W2)
    (a' := bh (bt0 t) (y 0)) (b' := ch (ck0 t) (y 1)) (c' := y 2)
    (Fin.ext (by show _ = 16 * (t.val / 8) + (y 0).val; blk_simp [idx0 t]; omega))
    (Fin.ext (by show _ = 128 * (t.val % 8) + (y 1).val; blk_simp [idx0 t]; omega))
    (Fin.ext (by blk_simp [idx0 t]))).trans (wF_bh X W1 W2 _ _ _ _)))

include h0 h4 in
/-- The rates. -/
theorem arr0_11 : (dat0 V c).arrAt 11 cfg0.N = fun j : S2x16x1x1024.Idx =>
    ((btF X Wb (j 0) (j 1) (j 3) : ℝ) : EReal) := by
  refine (dat0 V c).arrAt_eq_of_covers 11 _ (by decide +kernel) fun t hf y => ?_
  have ht := lt_of_lt_of_eq t.isLt N_0
  blk_simp
  rw [after0_11]
  have y3 : (y 3).val < 128 := (y 3).isLt
  have y1 : (y 0).val < 1 := (y 0).isLt
  have y2 : (y 2).val < 1 := (y 2).isLt
  refine Eq.trans (congrArg _ (?_ : y = ix4 0 (y 1) 0 (y 3))) ((beta_real (iblk0 V c 0 t) (iblk0 V c 1 t) (iblk0 V c 2 t) (iblk0 V c 3 t) (iblk0 V c 4 t) (iblk0 V c 5 t) (iblk0 V c 6 t) (fun a e => X (bt0 t) (ch (ck0 t) a) e) Wb (blk0_0 V c X h0 t) (blk0_4 V c Wb h4 t) (y 1) (y 3)).trans ?_)
  · funext a; fin_cases a
    · exact Fin.ext (by show (y 0).val = 0; omega)
    · rfl
    · exact Fin.ext (by show (y 2).val = 0; omega)
    · rfl
  refine Eq.symm (congrArg Real.toEReal (cg3 (btF X Wb)
    (a' := bt0 t) (b' := y 1) (c' := ch (ck0 t) (y 3))
    (Fin.ext (by show _ = t.val / 8; blk_simp [idx0 t]))
    (Fin.ext (by blk_simp [idx0 t]))
    (Fin.ext (by show _ = 128 * (t.val % 8) + (y 3).val; blk_simp [idx0 t]; omega))))

include h0 h5 h6 in
/-- The log gates. -/
theorem arr0_12 : (dat0 V c).arrAt 12 cfg0.N = fun j : S2x16x1x1024.Idx =>
    ((lfF X Wf De (j 0) (j 1) (j 3) : ℝ) : EReal) := by
  refine (dat0 V c).arrAt_eq_of_covers 12 _ (by decide +kernel) fun t hf y => ?_
  have ht := lt_of_lt_of_eq t.isLt N_0
  blk_simp
  rw [after0_12]
  have y3 : (y 3).val < 128 := (y 3).isLt
  have y1 : (y 0).val < 1 := (y 0).isLt
  have y2 : (y 2).val < 1 := (y 2).isLt
  refine Eq.trans (congrArg _ (?_ : y = ix4 0 (y 1) 0 (y 3))) ((logf_real (iblk0 V c 0 t) (iblk0 V c 1 t) (iblk0 V c 2 t) (iblk0 V c 3 t) (iblk0 V c 4 t) (iblk0 V c 5 t) (iblk0 V c 6 t) (fun a e => X (bt0 t) (ch (ck0 t) a) e) Wf De (blk0_0 V c X h0 t) (blk0_5 V c Wf h5 t) (blk0_6 V c De h6 t) (y 1) (y 3)).trans ?_)
  · funext a; fin_cases a
    · exact Fin.ext (by show (y 0).val = 0; omega)
    · rfl
    · exact Fin.ext (by show (y 2).val = 0; omega)
    · rfl
  refine Eq.symm (congrArg Real.toEReal (cg3 (lfF X Wf De)
    (a' := bt0 t) (b' := y 1) (c' := ch (ck0 t) (y 3))
    (Fin.ext (by show _ = t.val / 8; blk_simp [idx0 t]))
    (Fin.ext (by blk_simp [idx0 t]))
    (Fin.ext (by show _ = 128 * (t.val % 8) + (y 3).val; blk_simp [idx0 t]; omega))))

end

end Cert.Val
-- ==== Proof.V.Step.lean ====
module
public import proofs.«01_k».proof.Proof.V.Pieces
public import proofs.«01_k».proof.Proof.V.Arr1

/-! What the third call's body stores at one grid point, over the reals. -/

@[expose] public section

set_option maxRecDepth 16384

noncomputable section

namespace Cert.Val

open Cert.KernelIdeal Cert.KernelIdeal.Gen Cert.KernelIdeal.Frm
open Idealize.ShloMosaic Idealize.ShloMosaic.TcCoe

/-- A load of a unit-stride rectangle reads the contents at the place of its index. -/
theorem rd_unit {sig : RefSig} {κ : Kind} {sp : Space} {s : Shape} {e : EltTy} {Val : EltTy → Type}
    (v : View sig κ sp s e) (f : v.ty.Contents Val) {off off' size : Fin s.rank → ℕ}
    (inb : ∀ a, off a + size a ≤ s.size a) (x : (Rect.unit off size inb).toLoadRect.shape.Idx) (y : s.Idx)
    (heq : off = off') (hx : ∀ a, (y a).val = off' a + (x a).val) :
    View.readAt Val v (Rect.unit off size inb).toLoadRect f x = v.read Val f y := by
  subst heq
  show v.read Val f _ = v.read Val f y
  congr 1
  refine funext fun a => Fin.ext ?_
  rw [hx a]
  show off a + 1 * (x a).val = _
  rw [Nat.one_mul]

/-- The second grid coordinate is the chunk. -/
theorem co2 : ∀ t : Fin cfg2.N, ((grid2.coords t) 1).val = t.val % 8 :=
  (by decide +kernel : ∀ t : Fin grid2.N, _)

section
variable (V : (c : Dev nD) → (b : Ref sig .tc) → Buf (Elt Ideal) ((c : Thread nD τ).loc b))
variable (c : Dev nD) (t : Fin cfg2.N) (i : Fin 8) (hi : t.val % 8 = i.val)
variable (Q Kt : Fin 16 → Fin 128 → Fin 64 → ℝ) (N : Fin 16 → Fin 128 → Fin 128 → ℝ)
variable (vv : Fin 16 → Fin 1024 → Fin 65 → ℝ) (P : Fin 16 → Fin 64 → Fin 64 → ℝ)
variable (L G : Fin 16 → Fin 1024 → ℝ) (K : Fin 16 → Fin 1024 → Fin 64 → ℝ)
variable (hb0 : ∀ h a d, iblk2 V c 0 t (ix3 h a d) = ((Q h a d : ℝ) : EReal))
variable (hb1 : ∀ h a b, iblk2 V c 1 t (ix4 h 0 a b) = ((N h a b : ℝ) : EReal))
variable (hb2 : ∀ h a d, iblk2 V c 2 t (ix3 h a d) = ((Kt h a d : ℝ) : EReal))
variable (hb3 : ∀ h j e, iblk2 V c 3 t (ix3 h j e) = ((vv h j e : ℝ) : EReal))
variable (hb4 : ∀ h d e, iblk2 V c 4 t (ix4 h 0 d e) = ((P h d e : ℝ) : EReal))
variable (hb5 : ∀ h r a, iblk2 V c 5 t (ix4 0 h r a) = ((L h (ch r a) : ℝ) : EReal))

include hi hb0 hb1 hb3 in
/-- A head's result, over scratch contents holding the cumulative gates, the gates of the chunks before, and
    the transported keys. -/
theorem gB_real (u0 : VS2_0.ty.Contents (Elt Ideal)) (u1 : VS2_1.ty.Contents (Elt Ideal)) (u2 : VS2_2.ty.Contents (Elt Ideal))
    (hu0 : ∀ h r a, VS2_0.read (Elt Ideal) u0 (ix3 h r a) = ((G h (ch r a) : ℝ) : EReal))
    (hu1 : ∀ h (r : Fin 8) a, VS2_1.read (Elt Ideal) u1 (ix3 h r a) = if r.val < i.val then ((G h (ch r a) : ℝ) : EReal) else ⊤)
    (hu2 : ∀ h j d, VS2_2.read (Elt Ideal) u2 (ix3 h j d) = ((K h j d : ℝ) : EReal))
    (hone : ∀ h j, vv h j 64 = 1) (T : Fin 1024 → ℝ) (h : Fin 16) (a : Fin 128)
    (hT : ∀ j : Fin 1024, j.val < 128 * i.val → ∑ d, Q h a d * K h j d = T j) (hN : ∀ b : Fin 128, N h a b = T (ch i b))
    (d : Fin 64) :
    gB V c t u0 u1 u2 h (ix3 0 a d)
      = ((soft (fun j => T j + G h (ch i a) - G h j) (fun j => vv h j ⟨d.val, by omega⟩) (ch i a) : ℝ) : EReal) := by
  have hg : ∀ (r : Fin 8) (x : Fin 128), View.readAt (Elt Ideal) scM2_1.view
      (Rect.unit (s := S16x8x128) (offG r.val h) S1x1x128.size (inb_g r h)).toLoadRect u1 (ix3 0 0 x)
      = if r.val < i.val then ((G h (ch r x) : ℝ) : EReal) else ⊤ := by
    intro r x
    refine (rd_unit _ _ _ _ (ix3 h r x) rfl ?_).trans (hu1 h r x)
    intro a; fin_cases a
    · show h.val = h.val + 0; rfl
    · show r.val = r.val + 0; rfl
    · show x.val = 0 + x.val; omega
  refine fHead_real i a (Q h) (K h) (N h) (G h) T (vv h) ?_ ?_ ?_ ?_ (hg 0) (hg 1) (hg 2) (hg 3) (hg 4) (hg 5) (hg 6) (hg 7)
    ?_ ?_ (hone h) hT hN d
  · intro x
    refine (rd_unit _ _ _ _ (ix3 h i x) (offF_eq _ h) ?_).trans (hu0 h i x)
    intro a; fin_cases a
    · show h.val = h.val + 0; rfl
    · show i.val = ((grid2.coords t) 1).val + 0; rw [co2, hi]; rfl
    · show x.val = 0 + x.val; omega
  · intro x d
    refine (rd_unit _ _ _ _ (ix3 h x d) rfl ?_).trans ((congrFun ((hs2_0 t).read_unread _) _).trans (hb0 h x d))
    intro a; fin_cases a
    · show h.val = h.val + 0; rfl
    · show x.val = 0 + x.val; omega
    · show d.val = 0 + d.val; omega
  · intro x d
    refine (rd_unit _ _ _ _ (ix3 h x d) rfl ?_).trans (hu2 h x d)
    intro a; fin_cases a
    · show h.val = h.val + 0; rfl
    · show x.val = 0 + x.val; omega
    · show d.val = 0 + d.val; omega
  · intro x d
    refine (rd_unit _ _ _ _ (ix4 h 0 x d) rfl ?_).trans ((congrFun ((hs2_1 t).read_unread _) _).trans (hb1 h x d))
    intro a; fin_cases a
    · show h.val = h.val + 0; rfl
    · rfl
    · show x.val = 0 + x.val; omega
    · show d.val = 0 + d.val; omega
  · intro x d
    refine (rd_unit _ _ _ _ (ix3 h x d) rfl ?_).trans ((congrFun ((hs2_3 t).read_unread _) _).trans (hb3 h x d))
    intro a; fin_cases a
    · show h.val = h.val + 0; rfl
    · show x.val = 0 + x.val; omega
    · show d.val = 0 + d.val; omega
  · intro x d
    refine (rd_unit _ _ _ _ (ix3 h (ch i x) d) (offV_eq _ h) ?_).trans ((congrFun ((hs2_3 t).read_unread _) _).trans (hb3 h (ch i x) d))
    intro a; fin_cases a
    · show h.val = h.val + 0; rfl
    · show 128 * i.val + x.val = 128 * ((grid2.coords t) 1).val + x.val; rw [co2, hi]
    · show d.val = 0 + d.val; omega

/-- A head's cumulative gates over the reals. -/
def cumG (L : Fin 16 → Fin 1024 → ℝ) (h : Fin 16) (j : Fin 1024) : ℝ := ∑ s : Fin 1024, if s.val ≤ j.val then L h s else 0

/-- The sum of a row's gates up to a place and of the rows before it. -/
theorem cum_split (l : Fin 1024 → ℝ) (r : Fin 8) (x : Fin 128) :
    (∑ b : Fin 128, (if b.val ≤ x.val then l (ch r b) else 0))
      + (∑ r' : Fin 8, if r'.val < r.val then ∑ b : Fin 128, l (ch r' b) else 0)
      = ∑ s : Fin 1024, if s.val ≤ (ch r x).val then l s else 0 := by
  have hx := x.isLt
  have e1 : (∑ b : Fin 128, (if b.val ≤ x.val then l (ch r b) else 0))
      = ∑ b : Fin 128, (fun s : Fin 1024 => if s.val ≤ (ch r x).val then l s else 0) (ch r b) := by
    refine Finset.sum_congr rfl fun b _ => ?_
    have : ((ch r b).val ≤ (ch r x).val) = (b.val ≤ x.val) := by simp [ch]
    simp only [this]
  have e2 : ∀ r' : Fin 8, (if r'.val < r.val then ∑ b : Fin 128, l (ch r' b) else 0)
      = if r'.val < r.val then ∑ j : Fin 1024, (if 128 * r'.val ≤ j.val ∧ j.val < 128 * r'.val + 128 then l j else 0) else 0 := by
    intro r'
    rw [chunk_sum l r']
  rw [e1, chunk_sum (fun s : Fin 1024 => if s.val ≤ (ch r x).val then l s else 0) r, Finset.sum_congr rfl fun r' _ => e2 r']
  have e3 : (∑ r' : Fin 8, if r'.val < r.val then ∑ j : Fin 1024, (if 128 * r'.val ≤ j.val ∧ j.val < 128 * r'.val + 128 then l j else 0) else 0)
      = ∑ j : Fin 1024, if j.val < 128 * r.val then l j else 0 := by
    have : ∀ r' : Fin 8, (if r'.val < r.val then ∑ j : Fin 1024, (if 128 * r'.val ≤ j.val ∧ j.val < 128 * r'.val + 128 then l j else 0) else 0)
        = ∑ j : Fin 1024, if r' = cOf j then (if j.val < 128 * r.val then l j else 0) else 0 := by
      intro r'
      by_cases h : r'.val < r.val
      · rw [if_pos h]
        refine Finset.sum_congr rfl fun j _ => ?_
        have hc : (r' = cOf j) ↔ (r'.val = j.val / 128) := by simp [cOf, Fin.ext_iff]
        by_cases h2 : r'.val = j.val / 128
        · rw [if_pos (hc.mpr h2), if_pos (by omega), if_pos (by omega)]
        · rw [if_neg (fun h3 => h2 (hc.mp h3)), if_neg (by omega)]
      · rw [if_neg h]
        refine (Finset.sum_eq_zero fun j _ => ?_).symm
        have hc : (r' = cOf j) ↔ (r'.val = j.val / 128) := by simp [cOf, Fin.ext_iff]
        by_cases h2 : r'.val = j.val / 128
        · rw [if_pos (hc.mpr h2), if_neg (by omega)]
        · rw [if_neg (fun h3 => h2 (hc.mp h3))]
    rw [Finset.sum_congr rfl fun r' _ => this r', Finset.sum_comm]
    exact Finset.sum_congr rfl fun j _ => by rw [Finset.sum_ite_eq' Finset.univ (cOf j)] <;> simp
  rw [e3, ← Finset.sum_add_distrib]
  refine Finset.sum_congr rfl fun j _ => ?_
  have ha : (ch r x).val = 128 * r.val + x.val := rfl
  by_cases h1 : j.val < 128 * r.val
  · rw [if_pos h1, if_neg (by omega), if_pos (by omega), zero_add]
  · rw [if_neg h1, add_zero]
    by_cases h2 : j.val ≤ (ch r x).val
    · rw [if_pos (by omega)]
    · rw [if_neg h2]; split_ifs <;> rfl

/-- The cumulative gates of a head. -/
theorem cCum_real {x : FVec Ideal S1x1x8x128 .f32} (l : Fin 1024 → ℝ)
    (hx : ∀ r b, x (ix4 0 0 r b) = ((l (ch r b) : ℝ) : EReal)) (r : Fin 8) (b : Fin 128) :
    cCum x (ix3 0 r b) = ((∑ s : Fin 1024, if s.val ≤ (ch r b).val then l s else 0 : ℝ) : EReal) := by
  have hu : ∀ a b : Fin 128, (k2_pay5 : FVec Ideal S128x128 .f32) (ix2 a b) = ((if a.val ≤ b.val then 1 else 0 : ℝ) : EReal) := by
    intro a b
    unfold k2_pay5
    pointwise
    simp (disch := word_cmp_side) only [hlo_ix]
    split_ifs <;> first | rfl | omega | simp [Ideal.ofBits, Ideal.ieee]
  have hl : ∀ a b : Fin 8, (k2_pay6 : FVec Ideal S8x8 .f32) (ix2 a b) = ((if b.val < a.val then 1 else 0 : ℝ) : EReal) := by
    intro a b
    unfold k2_pay6
    pointwise
    simp (disch := word_cmp_side) only [hlo_ix]
    split_ifs <;> first | rfl | omega | simp [Ideal.ofBits, Ideal.ieee]
  have hm : IsM (matmul dot_S8x128_S128x128_S8x128_1_0_0_1_n_n none (shapeCast S8x128 x shapeCasts_S1x1x8x128_S8x128) k2_pay5
      (constant S8x128 .f32 0x00000000#32)) (fun r b => ∑ s : Fin 128, l (ch r s) * (if s.val ≤ b.val then 1 else 0)) := by
    intro r b
    pointwise
    simp only [hx _ _, hu _ _, zero_add]
    exact coe_dot _ _
  unfold cCum k2_pay27
  generalize matmul dot_S8x128_S128x128_S8x128_1_0_0_1_n_n none (shapeCast S8x128 x shapeCasts_S1x1x8x128_S8x128) k2_pay5
      (constant S8x128 .f32 0x00000000#32) = M at hm ⊢
  generalize (k2_pay6 : FVec Ideal S8x8 .f32) = W at hl ⊢
  pointwise
  simp only [hm _ _, hl _ _, zero_add]
  rw [coe_dot, ← EReal.coe_add, ← cum_split]
  refine congrArg Real.toEReal ?_
  congr 1
  · exact Finset.sum_congr rfl fun s _ => by split_ifs <;> simp
  · refine Finset.sum_congr rfl fun s _ => ?_
    by_cases h : s.val < r.val
    · rw [if_pos h, if_pos h, one_mul]
      refine Finset.sum_congr rfl fun b _ => ?_
      have := b.isLt
      rw [if_pos (by show b.val ≤ 127; omega), mul_one]
    · rw [if_neg h, if_neg h, zero_mul]

/-- Keys carried by a transition. -/
theorem cKh_real {k : FVec Ideal S1x1024x64 .f32} {p : FVec Ideal S1x1x64x64 .f32} (k0 : Fin 1024 → Fin 64 → ℝ)
    (p0 : Fin 64 → Fin 64 → ℝ) (hk : ∀ j d, k (ix3 0 j d) = ((k0 j d : ℝ) : EReal))
    (hp : ∀ d e, p (ix4 0 0 d e) = ((p0 d e : ℝ) : EReal)) (j : Fin 1024) (d : Fin 64) :
    cKh k p (ix3 0 j d) = ((∑ e, k0 j e * p0 d e : ℝ) : EReal) := by
  unfold cKh
  pointwise
  simp only [hk _ _, hp _ _, zero_add]
  exact coe_dot _ _

include hb4 in
theorem gP_real (h : Fin 16) (d e : Fin 64) : gP V c t h (ix4 0 0 d e) = ((P h d e : ℝ) : EReal) := by
  refine (rd_unit _ _ _ _ (ix4 h 0 d e) rfl ?_).trans ((congrFun ((hs2_4 t).read_unread _) _).trans (hb4 h d e))
  intro a; fin_cases a
  · show h.val = h.val + 0; rfl
  · rfl
  · show d.val = 0 + d.val; omega
  · show e.val = 0 + e.val; omega

include hb5 in
/-- The cumulative gates as stored. -/
theorem rd_C (f : VS2_0.ty.Contents (Elt Ideal)) (h : Fin 16) (r : Fin 8) (x : Fin 128) :
    VS2_0.read (Elt Ideal) (VS2_0.writes (Elt Ideal) f (lC V c t)) (ix3 h r x) = ((cumG L h (ch r x) : ℝ) : EReal) := by
  refine (View.read_tilePieces _ _ _ _ _ _ 16 le_rfl (ix3 h r x) h h.isLt (ix3 0 r x) ?_ 0 ?_).trans ?_
  · intro a; fin_cases a
    · show h.val = h.val + 0; rfl
    · show r.val = 0 + r.val; omega
    · show x.val = 0 + x.val; omega
  · intro i' hi'
    have : i'.val ≠ h.val := fun e => hi' (Fin.ext e)
    show h.val < i'.val ∨ i'.val + 1 ≤ h.val
    omega
  · refine cCum_real (L h) (fun r b => ?_) r x
    refine (rd_unit _ _ _ _ (ix4 0 h r b) rfl ?_).trans ((congrFun ((hs2_5 t).read_unread _) _).trans (hb5 h r b))
    intro a; fin_cases a
    · rfl
    · show h.val = h.val + 0; rfl
    · show r.val = 0 + r.val; omega
    · show b.val = 0 + b.val; omega

include hi in
/-- The copied gates as stored: the chunk's row is the cumulative gates' row, the others stay. -/
theorem rd_G (f : VS2_1.ty.Contents (Elt Ideal)) (u0 : VS2_0.ty.Contents (Elt Ideal)) (h : Fin 16) (r : Fin 8) (x : Fin 128) :
    VS2_1.read (Elt Ideal) (VS2_1.writes (Elt Ideal) f (lG t u0)) (ix3 h r x)
      = if r.val = i.val then VS2_0.read (Elt Ideal) u0 (ix3 h r x) else VS2_1.read (Elt Ideal) f (ix3 h r x) := by
  by_cases hr : r.val = i.val
  · rw [if_pos hr]
    refine (View.read_tilePieces _ _ _ _ _ _ 16 le_rfl (ix3 h r x) h h.isLt (ix3 0 0 x) ?_ 0 ?_).trans ?_
    · intro a; rw [offF_eq]; fin_cases a
      · show h.val = h.val + 0; rfl
      · show r.val = ((grid2.coords t) 1).val + 0; rw [co2, hi]; exact hr
      · show x.val = 0 + x.val; omega
    · intro i' hi'
      have : i'.val ≠ h.val := fun e => hi' (Fin.ext e)
      rw [offF_eq]
      show h.val < i'.val ∨ i'.val + 1 ≤ h.val
      omega
    · unfold gG cG1
      pointwise
      refine (rd_unit _ _ _ _ (ix3 h r x) (offF_eq _ h) ?_)
      intro a; fin_cases a
      · show h.val = h.val + 0; rfl
      · show r.val = ((grid2.coords t) 1).val + 0; rw [co2, hi]; exact hr
      · show x.val = 0 + x.val; omega
  · rw [if_neg hr]
    refine View.read_tilePieces_miss _ _ _ _ _ _ 16 le_rfl (ix3 h r x) 1 fun i' _ => ?_
    rw [offF_eq]
    show r.val < ((grid2.coords t) 1).val ∨ ((grid2.coords t) 1).val + 1 ≤ r.val
    rw [co2, hi]
    omega

include hi hb2 in
/-- The keys after the chunk's own are stored. -/
theorem rd_K (f : VS2_2.ty.Contents (Elt Ideal)) (h : Fin 16) (j : Fin 1024) (d : Fin 64) :
    VS2_2.read (Elt Ideal) (VS2_2.writes (Elt Ideal) f (lK V c t)) (ix3 h j d)
      = if j.val / 128 = i.val then ((Kt h (rOf j) d : ℝ) : EReal) else VS2_2.read (Elt Ideal) f (ix3 h j d) := by
  by_cases hr : j.val / 128 = i.val
  · rw [if_pos hr]
    refine (View.read_tilePieces _ _ _ _ _ _ 16 le_rfl (ix3 h j d) h h.isLt (ix3 0 (rOf j) d) ?_ 0 ?_).trans ?_
    · intro a; rw [offK_eq]; fin_cases a
      · show h.val = h.val + 0; rfl
      · show j.val = 128 * ((grid2.coords t) 1).val + j.val % 128; rw [co2, hi]; omega
      · show d.val = 0 + d.val; omega
    · intro i' hi'
      have : i'.val ≠ h.val := fun e => hi' (Fin.ext e)
      rw [offK_eq]
      show h.val < i'.val ∨ i'.val + 1 ≤ h.val
      omega
    · unfold gK cK1
      pointwise
      refine (rd_unit _ _ _ _ (ix3 h (rOf j) d) rfl ?_).trans ((congrFun ((hs2_2 t).read_unread _) _).trans (hb2 h (rOf j) d))
      intro a; fin_cases a
      · show h.val = h.val + 0; rfl
      · show (rOf j).val = 0 + (rOf j).val; omega
      · show d.val = 0 + d.val; omega
  · rw [if_neg hr]
    refine View.read_tilePieces_miss _ _ _ _ _ _ 16 le_rfl (ix3 h j d) 1 fun i' _ => ?_
    rw [offK_eq]
    show j.val < 128 * ((grid2.coords t) 1).val ∨ 128 * ((grid2.coords t) 1).val + 128 ≤ j.val
    rw [co2, hi]
    omega

include hb4 in
/-- The keys carried through the chunk. -/
theorem rd_T (f u2 : VS2_2.ty.Contents (Elt Ideal)) (hu2 : ∀ h j d, VS2_2.read (Elt Ideal) u2 (ix3 h j d) = ((K h j d : ℝ) : EReal))
    (h : Fin 16) (j : Fin 1024) (d : Fin 64) :
    VS2_2.read (Elt Ideal) (VS2_2.writes (Elt Ideal) f (lT V c t u2)) (ix3 h j d)
      = ((∑ e, K h j e * P h d e : ℝ) : EReal) := by
  refine (View.read_tilePieces _ _ _ _ _ _ 16 le_rfl (ix3 h j d) h h.isLt (ix3 0 j d) ?_ 0 ?_).trans ?_
  · intro a; fin_cases a
    · show h.val = h.val + 0; rfl
    · show j.val = 0 + j.val; omega
    · show d.val = 0 + d.val; omega
  · intro i' hi'
    have : i'.val ≠ h.val := fun e => hi' (Fin.ext e)
    show h.val < i'.val ∨ i'.val + 1 ≤ h.val
    omega
  · refine cKh_real (K h) (P h) (fun j d => ?_) (gP_real V c t P hb4 h) j d
    refine (rd_unit _ _ _ _ (ix3 h j d) rfl ?_).trans (hu2 h j d)
    intro a; fin_cases a
    · show h.val = h.val + 0; rfl
    · show j.val = 0 + j.val; omega
    · show d.val = 0 + d.val; omega

/-- The zero fill reads zero. -/
theorem rd_Z (f : VS2_2.ty.Contents (Elt Ideal)) (y : S16x1024x64.Idx) :
    VS2_2.read (Elt Ideal) (VS2_2.writes (Elt Ideal) f lZ) y = ((0 : ℝ) : EReal) := by
  refine (View.read_writes_cons_unit_of_mem VS2_2 f _ (k2_pay3 (F := Ideal)) [] y y rfl fun a => ?_).trans ?_
  · fin_cases a <;> exact (Nat.zero_add _).symm
  · unfold k2_pay3
    pointwise
    rfl

/-- The copied gates' fill reads the top. -/
theorem rd_U (f : VS2_1.ty.Contents (Elt Ideal)) (y : S16x8x128.Idx) :
    VS2_1.read (Elt Ideal) (VS2_1.writes (Elt Ideal) f lU) y = (⊤ : EReal) := by
  refine (View.read_writes_cons_unit_of_mem VS2_1 f _ (k2_pay4 (F := Ideal)) [] y y rfl fun a => ?_).trans ?_
  · fin_cases a <;> exact (Nat.zero_add _).symm
  · unfold k2_pay4
    pointwise
    exact IdealRules.named_const.ideal_named_scalar (φ := .f32) _ "unset" 0x7149F2CA#32 ⊤ rfl

include hb4 in
/-- The keys carried through the first chunk: all zero. -/
theorem rd_A (n : ℕ) (hn : n ≤ 16) (h : Fin 16) (j : Fin 1024) (d : Fin 64) :
    VS2_2.read (Elt Ideal) (VS2_2.writes (Elt Ideal) VS2_2.junk (lA V c t n hn)) (ix3 h j d) = ((0 : ℝ) : EReal) := by
  induction n generalizing h j d with
  | zero => exact rd_Z _ _
  | succ n ih =>
    by_cases hh : h.val = n
    · refine (View.read_writes_cons_unit_of_mem VS2_2 _ _ _ _ (ix3 h j d) (ix3 0 j d) rfl ?_).trans ?_
      · intro a; fin_cases a
        · show h.val = n + 0; exact hh
        · show j.val = 0 + j.val; omega
        · show d.val = 0 + d.val; omega
      · refine (cKh_real (fun _ _ => 0) (P ⟨n, hn⟩) (fun j d => ?_) (gP_real V c t P hb4 ⟨n, hn⟩) j d).trans (by simp)
        refine (rd_unit _ _ _ _ (ix3 ⟨n, hn⟩ j d) rfl ?_).trans (ih (Nat.le_of_succ_le hn) _ _ _)
        intro a; fin_cases a
        · show n = n + 0; rfl
        · show j.val = 0 + j.val; omega
        · show d.val = 0 + d.val; omega
    · refine (View.read_writes_cons_unit_of_not_mem VS2_2 _ _ _ _ (ix3 h j d) rfl 0 ?_).trans (ih (Nat.le_of_succ_le hn) _ _ _)
      show h.val < n ∨ n + 1 ≤ h.val
      omega

end

end Cert.Val
-- ==== Proof.V.Arr2.lean ====
module
public import proofs.«01_k».proof.Proof.V.Step

/-! The array of the third call. -/

@[expose] public section

set_option maxRecDepth 16384

noncomputable section

namespace Cert.Val

open Cert.KernelIdeal Cert.KernelIdeal.Gen Cert.KernelIdeal.Frm
open Idealize.ShloMosaic Idealize.ShloMosaic.TcCoe

/-- Which block each window takes at a point. -/
theorem idx2 : ∀ t : Fin cfg2.N, win2_0.index t = ![t.val / 8, t.val % 8, 0]
    ∧ win2_1.index t = ![t.val / 8, t.val % 8, 0, 0] ∧ win2_2.index t = ![t.val / 8, t.val % 8, 0]
    ∧ win2_3.index t = ![t.val / 8, 0, 0]
    ∧ win2_4.index t = ![t.val / 8, t.val % 8, 0, 0] ∧ win2_5.index t = ![t.val / 8, 0, 0, 0]
    ∧ win2_6.index t = ![t.val / 8, t.val % 8, 0] :=
  (by decide +kernel : ∀ t : Fin grid2.N, _)

section
variable (V : (c : Dev nD) → (b : Ref sig .tc) → Buf (Elt Ideal) ((c : Thread nD τ).loc b))
variable (c : Dev nD)
variable (q k w : Fin 32 → Fin 1024 → Fin 64 → ℝ) (β : Fin 32 → Fin 1024 → ℝ) (C : Fin 32 → Fin 1024 → Fin 1024 → ℝ)
variable (vv : Fin 32 → Fin 1024 → Fin 65 → ℝ) (L : Fin 32 → Fin 1024 → ℝ)

variable (hqt : (V c main_v3_0 : FVec Ideal S32x1024x64 .f32) = fun j : S32x1024x64.Idx =>
    (((fun (h : Fin 32) (s : Fin 1024) (d : Fin 64) =>
      qtMat (cks q h (cOf s)) (cks w h (cOf s)) (ckb β h (cOf s)) (rOf s) d) (j 0) (j 1) (j 2) : ℝ) : EReal))
variable (hkt : (V c main_v3_1 : FVec Ideal S32x1024x64 .f32) = fun j : S32x1024x64.Idx =>
    (((fun (h : Fin 32) (s : Fin 1024) (d : Fin 64) =>
      ktMat (cks k h (cOf s)) (cks w h (cOf s)) (ckb β h (cOf s)) (rOf s) d) (j 0) (j 1) (j 2) : ℝ) : EReal))
variable (hsi : (V c main_v3_2 : FVec Ideal S32x8x128x128 .f32) = fun j : S32x8x128x128.Idx =>
    (((fun (h : Fin 32) (i : Fin 8) (a : Fin 128) (d : Fin 128) =>
      siiMat (cks q h i) (cks k h i) (cks w h i) (ckb β h i) a d) (j 0) (j 1) (j 2) (j 3) : ℝ) : EReal))
variable (hpm : (V c main_v3_3 : FVec Ideal S32x8x64x64 .f32) = fun j : S32x8x64x64.Idx =>
    (((fun (h : Fin 32) (i : Fin 8) (a : Fin 64) (d : Fin 64) =>
      pMat (cks w h i) (ckb β h i) a d) (j 0) (j 1) (j 2) (j 3) : ℝ) : EReal))
variable (hv : ∀ h j e, (V c main_v2_2 : FVec Ideal S32x1024x65 .f32) (ix3 h j e) = ((vv h j e : ℝ) : EReal))
variable (hL : ∀ b h r a, (V c main_v4 : FVec Ideal S2x16x8x128 .f32) (ix4 b h r a) = ((L (bh b h) (ch r a) : ℝ) : EReal))

/-- The batch of a point. -/
def bt2 (t : Fin cfg2.N) : Fin 2 := ⟨t.val / 8, by have := lt_of_lt_of_eq t.isLt N_2; omega⟩
/-- The chunk of a point. -/
def ck2 (t : Fin cfg2.N) : Fin 8 := ⟨t.val % 8, by omega⟩

include hqt in
theorem blk2_0 (t : Fin cfg2.N) (h : Fin 16) (a : Fin 128) (d : Fin 64) :
    iblk2 V c 0 t (ix3 h a d) = ((qtMat (cks q (bh (bt2 t) h) (ck2 t)) (cks w (bh (bt2 t) h) (ck2 t)) (ckb β (bh (bt2 t) h) (ck2 t)) a d : ℝ) : EReal) := by
  have ht := lt_of_lt_of_eq t.isLt N_2
  have e : (V c main_v3_0 : FVec Ideal S32x1024x64 .f32) (ix3 (bh (bt2 t) h) (ch (ck2 t) a) d)
      = ((qtMat (cks q (bh (bt2 t) h) (ck2 t)) (cks w (bh (bt2 t) h) (ck2 t)) (ckb β (bh (bt2 t) h) (ck2 t)) a d : ℝ) : EReal) := by
    rw [hqt]
    exact congrArg Real.toEReal (cg4 (fun (h : Fin 32) (i : Fin 8) (a : Fin 128) (d : Fin 64) => qtMat (cks q h i) (cks w h i) (ckb β h i) a d)
      rfl (Fin.ext (by show (128 * (t.val % 8) + a.val) / 128 = t.val % 8; omega))
      (Fin.ext (by show (128 * (t.val % 8) + a.val) % 128 = a.val; omega)) rfl)
  refine Eq.trans ?_ e
  blk_ext [iblk2, idx2 t, bt2, ck2, bh, ch]

include hkt in
theorem blk2_2 (t : Fin cfg2.N) (h : Fin 16) (a : Fin 128) (d : Fin 64) :
    iblk2 V c 2 t (ix3 h a d) = ((ktMat (cks k (bh (bt2 t) h) (ck2 t)) (cks w (bh (bt2 t) h) (ck2 t)) (ckb β (bh (bt2 t) h) (ck2 t)) a d : ℝ) : EReal) := by
  have ht := lt_of_lt_of_eq t.isLt N_2
  have e : (V c main_v3_1 : FVec Ideal S32x1024x64 .f32) (ix3 (bh (bt2 t) h) (ch (ck2 t) a) d)
      = ((ktMat (cks k (bh (bt2 t) h) (ck2 t)) (cks w (bh (bt2 t) h) (ck2 t)) (ckb β (bh (bt2 t) h) (ck2 t)) a d : ℝ) : EReal) := by
    rw [hkt]
    exact congrArg Real.toEReal (cg4 (fun (h : Fin 32) (i : Fin 8) (a : Fin 128) (d : Fin 64) => ktMat (cks k h i) (cks w h i) (ckb β h i) a d)
      rfl (Fin.ext (by show (128 * (t.val % 8) + a.val) / 128 = t.val % 8; omega))
      (Fin.ext (by show (128 * (t.val % 8) + a.val) % 128 = a.val; omega)) rfl)
  refine Eq.trans ?_ e
  blk_ext [iblk2, idx2 t, bt2, ck2, bh, ch]

include hsi in
theorem blk2_1 (t : Fin cfg2.N) (h : Fin 16) (a b : Fin 128) :
    iblk2 V c 1 t (ix4 h 0 a b) = ((siiMat (cks q (bh (bt2 t) h) (ck2 t)) (cks k (bh (bt2 t) h) (ck2 t)) (cks w (bh (bt2 t) h) (ck2 t)) (ckb β (bh (bt2 t) h) (ck2 t)) a b : ℝ) : EReal) := by
  have ht := lt_of_lt_of_eq t.isLt N_2
  refine Eq.trans ?_ (congrFun hsi (ix4 (bh (bt2 t) h) (ck2 t) a b))
  blk_ext [iblk2, idx2 t, bt2, ck2, bh, ch]

include hpm in
theorem blk2_4 (t : Fin cfg2.N) (h : Fin 16) (a b : Fin 64) :
    iblk2 V c 4 t (ix4 h 0 a b) = ((pMat (cks w (bh (bt2 t) h) (ck2 t)) (ckb β (bh (bt2 t) h) (ck2 t)) a b : ℝ) : EReal) := by
  have ht := lt_of_lt_of_eq t.isLt N_2
  refine Eq.trans ?_ (congrFun hpm (ix4 (bh (bt2 t) h) (ck2 t) a b))
  blk_ext [iblk2, idx2 t, bt2, ck2, bh, ch]

include hv in
theorem blk2_3 (t : Fin cfg2.N) (h : Fin 16) (j : Fin 1024) (e : Fin 65) :
    iblk2 V c 3 t (ix3 h j e) = ((vv (bh (bt2 t) h) j e : ℝ) : EReal) := by
  have ht := lt_of_lt_of_eq t.isLt N_2
  refine Eq.trans ?_ (hv (bh (bt2 t) h) j e)
  blk_ext [iblk2, idx2 t, bt2, ck2, bh, ch]

include hL in
theorem blk2_5 (t : Fin cfg2.N) (h : Fin 16) (r : Fin 8) (a : Fin 128) :
    iblk2 V c 5 t (ix4 0 h r a) = ((L (bh (bt2 t) h) (ch r a) : ℝ) : EReal) := by
  have ht := lt_of_lt_of_eq t.isLt N_2
  refine Eq.trans ?_ (hL (bt2 t) h r a)
  blk_ext [iblk2, idx2 t, bt2, ck2, bh, ch]

/-- A head's cumulative gates. -/
def cumF (h : Fin 32) (j : Fin 1024) : ℝ := ∑ s : Fin 1024, if s.val ≤ j.val then L h s else 0
/-- A head's keys after `n` rows, zero from row `n` on. -/
def khF (n : ℕ) (h : Fin 32) (j : Fin 1024) (d : Fin 64) : ℝ :=
  if j.val < n then U (k h) (w h) (β h) (C h) n j d else 0
/-- A row of a head's result. -/
def rowF (h : Fin 32) (s : Fin 1024) (d : Fin 64) : ℝ :=
  soft (fun j => scr (q h) (k h) (w h) (β h) (C h) s j * (1 / 8) + cumF L h s - cumF L h j) (fun j => vv h j ⟨d.val, by omega⟩) s

/-- What a point leaves. -/
def St (b : Fin 2) (i : Fin 8) (o : Vec Ideal S16x128x64 .f32 × Vec Ideal S16x8x128 .f32 × Vec Ideal S16x8x128 .f32 × Vec Ideal S16x1024x64 .f32) : Prop :=
  (∀ h a d, o.1 (ix3 h a d) = ((rowF q k w β C vv L (bh b h) (ch i a) d : ℝ) : EReal))
  ∧ (∀ h r a, o.2.1 (ix3 h r a) = ((cumF L (bh b h) (ch r a) : ℝ) : EReal))
  ∧ (∀ h (r : Fin 8) a, o.2.2.1 (ix3 h r a) = if r.val < i.val + 1 then ((cumF L (bh b h) (ch r a) : ℝ) : EReal) else ⊤)
  ∧ (∀ h j d, o.2.2.2 (ix3 h j d) = ((khF k w β C (128 * i.val + 128) (bh b h) j d : ℝ) : EReal))

variable (hone : ∀ h j, vv h j 64 = 1) (hC : ∀ h, Solves (k h) (w h) (β h) (C h))

include hC in
/-- Carrying the keys through a chunk. -/
theorem kh_step (h : Fin 32) (i : Fin 8) (j : Fin 1024) (d : Fin 64) :
    khF k w β C (128 * i.val + 128) h j d = if j.val / 128 = i.val then ktMat (cks k h i) (cks w h i) (ckb β h i) (rOf j) d
      else ∑ e, khF k w β C (128 * i.val) h j e * pMat (cks w h i) (ckb β h i) d e := by
  unfold khF
  by_cases h1 : j.val / 128 = i.val
  · rw [if_pos h1, if_pos (by omega)]
    have hj : j = ch i (rOf j) := Fin.ext (by show j.val = 128 * i.val + j.val % 128; omega)
    exact (congrArg (fun j' => U (k h) (w h) (β h) (C h) (128 * i.val + 128) j' d) hj).trans (U_inside (hC h) i (rOf j) d)
  · rw [if_neg h1]
    by_cases h2 : j.val < 128 * i.val
    · simp only [if_pos h2]
      rw [if_pos (by omega)]
      exact U_before (hC h) i j d h2
    · simp only [if_neg h2, zero_mul, Finset.sum_const_zero]
      rw [if_neg (by omega)]

set_option maxHeartbeats 4000000 in
include hqt hkt hsi hpm hv hL hone hC in
/-- What a later point leaves. -/
theorem pointB (t : Fin cfg2.N) (h0 : ¬t.val % 8 = 0) (s0 s1 : FVec Ideal S16x8x128 .f32) (s2 : FVec Ideal S16x1024x64 .f32)
    (h1 : ∀ h r a, s0 (ix3 h r a) = ((cumF L (bh (bt2 t) h) (ch r a) : ℝ) : EReal))
    (h2 : ∀ h (r : Fin 8) a, s1 (ix3 h r a) = if r.val < (ck2 t).val then ((cumF L (bh (bt2 t) h) (ch r a) : ℝ) : EReal) else ⊤)
    (h3 : ∀ h j d, s2 (ix3 h j d) = ((khF k w β C (128 * (ck2 t).val) (bh (bt2 t) h) j d : ℝ) : EReal)) :
    St q k w β C vv L (bt2 t) (ck2 t) (outB V c t h0 s0 s1 s2) := by
  have r0 : ∀ h r a, VS2_0.read (Elt Ideal) ((Memref.isWhole_whole _).unread s0) (ix3 h r a) = ((cumF L (bh (bt2 t) h) (ch r a) : ℝ) : EReal) :=
    fun h r a => (congrFun ((Memref.isWhole_whole cc2_scratch0).read_unread _) _).trans (h1 h r a)
  have r1 : ∀ h (r : Fin 8) a, VS2_1.read (Elt Ideal) ((Memref.isWhole_whole _).unread s1) (ix3 h r a) = if r.val < (ck2 t).val then ((cumF L (bh (bt2 t) h) (ch r a) : ℝ) : EReal) else ⊤ :=
    fun h r a => (congrFun ((Memref.isWhole_whole cc2_scratch1).read_unread _) _).trans (h2 h r a)
  have r2 : ∀ h j d, VS2_2.read (Elt Ideal) ((Memref.isWhole_whole _).unread s2) (ix3 h j d) = ((khF k w β C (128 * (ck2 t).val) (bh (bt2 t) h) j d : ℝ) : EReal) :=
    fun h j d => (congrFun ((Memref.isWhole_whole cc2_scratch2).read_unread _) _).trans (h3 h j d)
  refine ⟨fun h a d => ?_, fun h r a => h1 h r a, fun h r a => ?_, fun h j d => ?_⟩
  · show VO2_6.read (Elt Ideal) (VO2_6.writes (Elt Ideal) VO2_6.junk (runB V c t h0 s0 s1 s2).1) (ix3 h a d) = _
    rw [runB_out]
    refine (View.read_tilePieces _ _ _ _ _ _ 16 le_rfl (ix3 h a d) h h.isLt (ix3 0 a d) ?_ 0 ?_).trans ?_
    · intro x; fin_cases x
      · show h.val = h.val + 0; rfl
      · show a.val = 0 + a.val; omega
      · show d.val = 0 + d.val; omega
    · intro i' hi'
      have : i'.val ≠ h.val := fun e => hi' (Fin.ext e)
      show h.val < i'.val ∨ i'.val + 1 ≤ h.val
      omega
    · exact gB_real V c t (ck2 t) rfl _ _ _ (fun h => cumF L (bh (bt2 t) h)) _ (blk2_0 V c q w β hqt t) (blk2_1 V c q k w β hsi t) (blk2_3 V c vv hv t)
        _ _ _ r0 r1 r2 (fun h j => hone _ j) (fun j => scr (q (bh (bt2 t) h)) (k (bh (bt2 t) h)) (w (bh (bt2 t) h)) (β (bh (bt2 t) h)) (C (bh (bt2 t) h)) (ch (ck2 t) a) j * (1 / 8)) h a
        (fun j hj => (Finset.sum_congr rfl fun d _ => by rw [khF, if_pos hj]).trans (scr_before _ (hC _) (ck2 t) a j hj))
        (fun b => scr_inside _ (hC _) (ck2 t) a b) d
  · show scM2_1.view.read (Elt Ideal) (scM2_1.view.writes (Elt Ideal) ((Memref.isWhole_whole _).unread s1) (runB V c t h0 s0 s1 s2).2.2.1) (ix3 h r a) = _
    rw [runB_g]
    refine (rd_G t (ck2 t) rfl _ _ h r a).trans ?_
    by_cases hr : r.val = (ck2 t).val
    · rw [if_pos hr, if_pos (by omega)]; exact r0 h r a
    · rw [if_neg hr]; refine (r1 h r a).trans ?_
      by_cases hr' : r.val < (ck2 t).val
      · rw [if_pos hr', if_pos (by omega)]
      · rw [if_neg hr', if_neg (by omega)]
  · show VS2_2.read (Elt Ideal) (VS2_2.writes (Elt Ideal) VS2_2.junk (runB V c t h0 s0 s1 s2).2.2.2.1) (ix3 h j d) = _
    rw [runB_k, View.writes_append]
    refine (rd_K V c t (ck2 t) rfl _ (blk2_2 V c k w β hkt t) _ h j d).trans ?_
    rw [kh_step k w β C hC]
    split_ifs
    · rfl
    · exact rd_T V c t _ _ (blk2_4 V c w β hpm t) _ _ r2 h j d

set_option maxHeartbeats 4000000 in
include hqt hkt hsi hpm hv hL hone hC in
/-- What the first point of a batch leaves. -/
theorem pointA (t : Fin cfg2.N) (h0 : t.val % 8 = 0) :
    St q k w β C vv L (bt2 t) (ck2 t) (outA V c t h0) := by
  have hck : (ck2 t).val = 0 := h0
  have kh0 : ∀ h j d, khF k w β C (128 * (ck2 t).val) h j d = 0 := fun h j d => by rw [khF, if_neg (by omega)]
  have r0 : ∀ h r a, VS2_0.read (Elt Ideal) (VS2_0.writes (Elt Ideal) VS2_0.junk (lC V c t)) (ix3 h r a) = ((cumF L (bh (bt2 t) h) (ch r a) : ℝ) : EReal) :=
    fun h r a => rd_C V c t (fun h => L (bh (bt2 t) h)) (blk2_5 V c L hL t) _ h r a
  have r1 : ∀ h (r : Fin 8) a, VS2_1.read (Elt Ideal) (VS2_1.writes (Elt Ideal) VS2_1.junk lU) (ix3 h r a) = if r.val < (ck2 t).val then ((cumF L (bh (bt2 t) h) (ch r a) : ℝ) : EReal) else ⊤ :=
    fun h r a => (rd_U _ _).trans (by rw [if_neg (by omega)])
  have r2 : ∀ h j d, VS2_2.read (Elt Ideal) (VS2_2.writes (Elt Ideal) VS2_2.junk lZ) (ix3 h j d) = ((khF k w β C (128 * (ck2 t).val) (bh (bt2 t) h) j d : ℝ) : EReal) :=
    fun h j d => (rd_Z _ _).trans (by rw [kh0])
  refine ⟨fun h a d => ?_, fun h r a => ?_, fun h r a => ?_, fun h j d => ?_⟩
  · show VO2_6.read (Elt Ideal) (VO2_6.writes (Elt Ideal) VO2_6.junk (runA V c t h0).1) (ix3 h a d) = _
    rw [runA_out]
    refine (View.read_tilePieces _ _ _ _ _ _ 16 le_rfl (ix3 h a d) h h.isLt (ix3 0 a d) ?_ 0 ?_).trans ?_
    · intro x; fin_cases x
      · show h.val = h.val + 0; rfl
      · show a.val = 0 + a.val; omega
      · show d.val = 0 + d.val; omega
    · intro i' hi'
      have : i'.val ≠ h.val := fun e => hi' (Fin.ext e)
      show h.val < i'.val ∨ i'.val + 1 ≤ h.val
      omega
    · exact gB_real V c t (ck2 t) rfl _ _ _ (fun h => cumF L (bh (bt2 t) h)) _ (blk2_0 V c q w β hqt t) (blk2_1 V c q k w β hsi t) (blk2_3 V c vv hv t)
        _ _ _ r0 r1 r2 (fun h j => hone _ j) (fun j => scr (q (bh (bt2 t) h)) (k (bh (bt2 t) h)) (w (bh (bt2 t) h)) (β (bh (bt2 t) h)) (C (bh (bt2 t) h)) (ch (ck2 t) a) j * (1 / 8)) h a
        (fun j hj => (Finset.sum_congr rfl fun d _ => by rw [khF, if_pos hj]).trans (scr_before _ (hC _) (ck2 t) a j hj))
        (fun b => scr_inside _ (hC _) (ck2 t) a b) d
  · show VS2_0.read (Elt Ideal) (VS2_0.writes (Elt Ideal) VS2_0.junk (runA V c t h0).2.1) (ix3 h r a) = _
    rw [runA_c]; exact r0 h r a
  · show VS2_1.read (Elt Ideal) (VS2_1.writes (Elt Ideal) VS2_1.junk (runA V c t h0).2.2.1) (ix3 h r a) = _
    rw [runA_g, View.writes_append]
    refine (rd_G t (ck2 t) rfl _ _ h r a).trans ?_
    by_cases hr : r.val = (ck2 t).val
    · rw [if_pos hr, if_pos (by omega)]; exact r0 h r a
    · rw [if_neg hr, if_neg (by omega)]; exact rd_U _ _
  · show VS2_2.read (Elt Ideal) (VS2_2.writes (Elt Ideal) VS2_2.junk (runA V c t h0).2.2.2.1) (ix3 h j d) = _
    rw [runA_k, View.writes_append]
    refine (rd_K V c t (ck2 t) rfl _ (blk2_2 V c k w β hkt t) _ h j d).trans ?_
    rw [kh_step k w β C hC]
    split_ifs
    · rfl
    · refine (rd_A V c t _ (blk2_4 V c w β hpm t) 16 le_rfl h j d).trans ?_
      simp only [kh0, zero_mul, Finset.sum_const_zero]

include hqt hkt hsi hpm hv hL hone hC in
/-- What every point leaves. -/
theorem point (t : Fin cfg2.N) : St q k w β C vv L (bt2 t) (ck2 t) (outs2 V c t.val t.isLt) := by
  obtain ⟨n, hn⟩ := t
  induction n with
  | zero =>
    rw [outs2_A V c ⟨0, hn⟩ rfl]
    exact pointA V c q k w β C vv L hqt hkt hsi hpm hv hL hone hC _ _
  | succ n ih =>
    by_cases h0 : (n + 1) % 8 = 0
    · rw [outs2_A V c ⟨n + 1, hn⟩ h0]
      exact pointA V c q k w β C vv L hqt hkt hsi hpm hv hL hone hC _ _
    · rw [outs2_B V c ⟨n + 1, hn⟩ h0]
      obtain ⟨-, i1, i2, i3⟩ := ih (Nat.lt_of_succ_lt hn)
      have eb : bt2 ⟨n, Nat.lt_of_succ_lt hn⟩ = bt2 ⟨n + 1, hn⟩ := Fin.ext (by show n / 8 = (n + 1) / 8; omega)
      have ei : (ck2 ⟨n, Nat.lt_of_succ_lt hn⟩).val + 1 = (ck2 ⟨n + 1, hn⟩).val := by show n % 8 + 1 = (n + 1) % 8; omega
      rw [eb] at i1 i2 i3
      rw [ei] at i2
      refine pointB V c q k w β C vv L hqt hkt hsi hpm hv hL hone hC _ h0 _ _ _ i1 i2 fun h j d => (i3 h j d).trans ?_
      rw [show 128 * (ck2 ⟨n, Nat.lt_of_succ_lt hn⟩).val + 128 = 128 * (ck2 ⟨n + 1, hn⟩).val by omega]

include hqt hkt hsi hpm hv hL hone hC in
/-- The heads' results. -/
theorem arr2_6 : (dat2 V c).arrAt 6 cfg2.N = fun j : S32x1024x64.Idx =>
    ((rowF q k w β C vv L (j 0) (j 1) (j 2) : ℝ) : EReal) := by
  refine (dat2 V c).arrAt_eq_of_covers 6 _ (by decide +kernel) fun t hf y => ?_
  have ht := lt_of_lt_of_eq t.isLt N_2
  blk_simp
  rw [after2_6]
  have h1 : (y 1).val < 128 := (y 1).isLt
  refine Eq.trans (congrArg _ (?_ : y = ix3 (y 0) (y 1) (y 2))) (((point V c q k w β C vv L hqt hkt hsi hpm hv hL hone hC t).1 (y 0) (y 1) (y 2)).trans ?_)
  · funext a; fin_cases a <;> rfl
  refine congrArg Real.toEReal (Eq.symm (cg3 (fun (h : Fin 32) (s : Fin 1024) (d : Fin 64) => rowF q k w β C vv L h s d)
    (Fin.ext (by show _ = 16 * (t.val / 8) + (y 0).val; blk_simp [idx2 t]; omega))
    (Fin.ext (by show _ = 128 * (t.val % 8) + (y 1).val; blk_simp [idx2 t]; omega))
    (Fin.ext (by blk_simp [idx2 t]))))

end

end Cert.Val
-- ==== Proof.V.Reg3.lean ====
module
public import proofs.«01_k».proof.Proof.V.Base
public import proofs.«01_k».proof.Proof.KI.R3

/-! The fourth call: the heads side by side times the output weights. -/

@[expose] public section

set_option maxRecDepth 16384

noncomputable section

namespace Cert.Val

open Cert.KernelIdeal Cert.KernelIdeal.Gen Cert.KernelIdeal.Frm
open Idealize.ShloMosaic Idealize.ShloMosaic.TcCoe

/-- Sixteen heads' rows side by side. -/
def rowCat (f : Fin 16 → FVec Ideal S1x256x64 .f32) : FVec Ideal S256x1024 .f32 :=
  concatenate S256x1024 1 [⟨S256x64, shapeCast S256x64 (f 0) shapeCasts_S1x256x64_S256x64⟩, ⟨S256x64, shapeCast S256x64 (f 1) shapeCasts_S1x256x64_S256x64⟩, ⟨S256x64, shapeCast S256x64 (f 2) shapeCasts_S1x256x64_S256x64⟩, ⟨S256x64, shapeCast S256x64 (f 3) shapeCasts_S1x256x64_S256x64⟩, ⟨S256x64, shapeCast S256x64 (f 4) shapeCasts_S1x256x64_S256x64⟩, ⟨S256x64, shapeCast S256x64 (f 5) shapeCasts_S1x256x64_S256x64⟩, ⟨S256x64, shapeCast S256x64 (f 6) shapeCasts_S1x256x64_S256x64⟩, ⟨S256x64, shapeCast S256x64 (f 7) shapeCasts_S1x256x64_S256x64⟩, ⟨S256x64, shapeCast S256x64 (f 8) shapeCasts_S1x256x64_S256x64⟩, ⟨S256x64, shapeCast S256x64 (f 9) shapeCasts_S1x256x64_S256x64⟩, ⟨S256x64, shapeCast S256x64 (f 10) shapeCasts_S1x256x64_S256x64⟩, ⟨S256x64, shapeCast S256x64 (f 11) shapeCasts_S1x256x64_S256x64⟩, ⟨S256x64, shapeCast S256x64 (f 12) shapeCasts_S1x256x64_S256x64⟩, ⟨S256x64, shapeCast S256x64 (f 13) shapeCasts_S1x256x64_S256x64⟩, ⟨S256x64, shapeCast S256x64 (f 14) shapeCasts_S1x256x64_S256x64⟩, ⟨S256x64, shapeCast S256x64 (f 15) shapeCasts_S1x256x64_S256x64⟩] concatenates_S256x64_S256x64_S256x64_S256x64_S256x64_S256x64_S256x64_S256x64_S256x64_S256x64_S256x64_S256x64_S256x64_S256x64_S256x64_S256x64_S256x1024_d1

/-- The side-by-side rows, element by element. -/
theorem rowCat_apply (f : Fin 16 → FVec Ideal S1x256x64 .f32) (R : Fin 16 → Fin 256 → Fin 64 → ℝ)
    (hf : ∀ h a d, f h (ix3 0 a d) = ((R h a d : ℝ) : EReal)) (a : Fin 256) (e : Fin 1024) :
    rowCat f (ix2 a e) = ((R ⟨e.val / 64, by omega⟩ a ⟨e.val % 64, by omega⟩ : ℝ) : EReal) := by
  rw [← hf]
  refine (concatenate_ofFn_apply (t := S256x1024) (s₁ := S256x64) 1
    (fun n : Fin 16 => shapeCast S256x64 (f n) shapeCasts_S1x256x64_S256x64) concatenates_S256x64_S256x64_S256x64_S256x64_S256x64_S256x64_S256x64_S256x64_S256x64_S256x64_S256x64_S256x64_S256x64_S256x64_S256x64_S256x64_S256x1024_d1 rfl 64 rfl
    (ix2 a e) ⟨e.val / 64, by omega⟩ rfl (ix2 a ⟨e.val % 64, by omega⟩) rfl ?_).trans ?_
  · intro b hb
    fin_cases b
    · rfl
    · exact absurd rfl hb
  · pointwise []

/-- The product with the output weights. -/
def oDot (M : FVec Ideal S256x1024 .f32) (w : FVec Ideal S1024x1024 .f32) : FVec Ideal S1x256x1024 .f32 :=
  shapeCast S1x256x1024 (matmul dot_S256x1024_S1024x1024_S256x1024_1_0_0_1_n_n none M w (constant S256x1024 .f32 0x00000000#32)) shapeCasts_S256x1024_S1x256x1024

theorem oDot_real (M : FVec Ideal S256x1024 .f32) (w : FVec Ideal S1024x1024 .f32) (R : Fin 256 → Fin 1024 → ℝ) (W : Fin 1024 → Fin 1024 → ℝ)
    (hM : ∀ a e, M (ix2 a e) = ((R a e : ℝ) : EReal)) (hw : ∀ e f, w (ix2 e f) = ((W e f : ℝ) : EReal)) (a : Fin 256) (e : Fin 1024) :
    oDot M w (ix3 0 a e) = ((∑ c, R a c * W c e : ℝ) : EReal) := by
  unfold oDot
  pointwise []
  simp only [hM _ _, hw _ _, zero_add]
  exact coe_dot _ _

theorem out3_2_W (x0 : Vec Ideal S16x256x64 .f32) (x1 : Vec Ideal S1024x1024 .f32) :
    out3_2 x0 x1 = oDot (rowCat ![View.ld x0 r3_0, View.ld x0 r3_1, View.ld x0 r3_2, View.ld x0 r3_3, View.ld x0 r3_4, View.ld x0 r3_5, View.ld x0 r3_6, View.ld x0 r3_7, View.ld x0 r3_8, View.ld x0 r3_9, View.ld x0 r3_10, View.ld x0 r3_11, View.ld x0 r3_12, View.ld x0 r3_13, View.ld x0 r3_14, View.ld x0 r3_15]) (View.ld x1 r3_16) := by
  unfold out3_2
  exact View.canon_cons_unit_lit (Val := Elt Ideal) _ _ [] (by decide)

theorem ld3_real (x0 : Vec Ideal S16x256x64 .f32) (R : Fin 16 → Fin 256 → Fin 64 → ℝ)
    (h0 : ∀ h a d, x0 (ix3 h a d) = ((R h a d : ℝ) : EReal)) (h : Fin 16) (a : Fin 256) (d : Fin 64) :
    ((![View.ld x0 r3_0, View.ld x0 r3_1, View.ld x0 r3_2, View.ld x0 r3_3, View.ld x0 r3_4, View.ld x0 r3_5, View.ld x0 r3_6, View.ld x0 r3_7, View.ld x0 r3_8, View.ld x0 r3_9, View.ld x0 r3_10, View.ld x0 r3_11, View.ld x0 r3_12, View.ld x0 r3_13, View.ld x0 r3_14, View.ld x0 r3_15] : Fin 16 → FVec Ideal S1x256x64 .f32) h) (ix3 0 a d) = ((R h a d : ℝ) : EReal) := by
  rw [← h0]
  fin_cases h
  all_goals (refine congrArg x0 ?_; funext b; fin_cases b <;> exact Fin.ext (by simp [Rect.unit, Rect.emb, ix3]))

/-- A block of the result. -/
theorem out3_2_real (x0 : Vec Ideal S16x256x64 .f32) (x1 : Vec Ideal S1024x1024 .f32) (R : Fin 16 → Fin 256 → Fin 64 → ℝ) (W : Fin 1024 → Fin 1024 → ℝ)
    (h0 : ∀ h a d, x0 (ix3 h a d) = ((R h a d : ℝ) : EReal)) (h1 : ∀ e f, x1 (ix2 e f) = ((W e f : ℝ) : EReal)) (a : Fin 256) (e : Fin 1024) :
    out3_2 x0 x1 (ix3 0 a e) = ((∑ c : Fin 1024, R ⟨c.val / 64, by omega⟩ a ⟨c.val % 64, by omega⟩ * W c e : ℝ) : EReal) := by
  rw [out3_2_W]
  refine oDot_real _ _ (fun a c => R ⟨c.val / 64, by omega⟩ a ⟨c.val % 64, by omega⟩) W (fun a e => rowCat_apply _ R (ld3_real x0 R h0) a e) (fun e f => ?_) a e
  rw [← h1]
  refine congrArg x1 ?_
  funext b; fin_cases b <;> exact Fin.ext (by simp [Rect.unit, Rect.emb, ix2])

end Cert.Val
-- ==== Proof.V.Arr3.lean ====
module
public import proofs.«01_k».proof.Proof.V.Reg3

/-! The array of the fourth call. -/

@[expose] public section

set_option maxRecDepth 16384

noncomputable section

namespace Cert.Val

open Cert.KernelIdeal Cert.KernelIdeal.Gen Cert.KernelIdeal.Frm
open Idealize.ShloMosaic Idealize.ShloMosaic.TcCoe

/-- Which block each window takes at a point. -/
theorem idx3 : ∀ t : Fin cfg3.N, win3_0.index t = ![t.val / 4, t.val % 4, 0]
    ∧ win3_1.index t = ![0, 0] ∧ win3_2.index t = ![t.val / 4, t.val % 4, 0] :=
  (by decide +kernel : ∀ t : Fin grid3.N, _)

/-- The heads' rows side by side times the output weights. -/
def outF (O : Fin 32 → Fin 1024 → Fin 64 → ℝ) (W : Fin 1024 → Fin 1024 → ℝ) (b : Fin 2) (s : Fin 1024) (e : Fin 1024) : ℝ :=
  ∑ c : Fin 1024, O (bh b ⟨c.val / 64, by omega⟩) s ⟨c.val % 64, by omega⟩ * W c e

section
variable (V : (c : Dev nD) → (b : Ref sig .tc) → Buf (Elt Ideal) ((c : Thread nD τ).loc b))
variable (c : Dev nD)
variable (O : Fin 32 → Fin 1024 → Fin 64 → ℝ) (W : Fin 1024 → Fin 1024 → ℝ)
variable (h0 : ∀ g s d, (V c main_v5 : FVec Ideal S32x1024x64 .f32) (ix3 g s d) = ((O g s d : ℝ) : EReal))
variable (h1 : ∀ e f, (V c main_arg4 : FVec Ideal S1024x1024 .f32) (ix2 e f) = ((W e f : ℝ) : EReal))

/-- The batch of a point. -/
def bt3 (t : Fin cfg3.N) : Fin 2 := ⟨t.val / 4, by have := lt_of_lt_of_eq t.isLt N_3; omega⟩
/-- A row of the block of a point. -/
def rw3 (t : Fin cfg3.N) (a : Fin 256) : Fin 1024 := ⟨256 * (t.val % 4) + a.val, by omega⟩

include h0 in
theorem blk3_0 (t : Fin cfg3.N) (h : Fin 16) (a : Fin 256) (d : Fin 64) : iblk3 V c 0 t (ix3 h a d) = ((O (bh (bt3 t) h) (rw3 t a) d : ℝ) : EReal) := by
  have ht := lt_of_lt_of_eq t.isLt N_3
  refine Eq.trans ?_ (h0 (bh (bt3 t) h) (rw3 t a) d)
  blk_ext [iblk3, idx3 t, bt3, rw3, bh]
include h1 in
theorem blk3_1 (t : Fin cfg3.N) (e f : Fin 1024) : iblk3 V c 1 t (ix2 e f) = ((W e f : ℝ) : EReal) := by
  refine Eq.trans ?_ (h1 e f)
  blk_ext [iblk3, idx3 t]

include h0 h1 in
/-- The result of the fourth call. -/
theorem arr3_2 : (dat3 V c).arrAt 2 cfg3.N = fun j : S2x1024x1024.Idx =>
    ((outF O W (j 0) (j 1) (j 2) : ℝ) : EReal) := by
  refine (dat3 V c).arrAt_eq_of_covers 2 _ (by decide +kernel) fun t hf y => ?_
  have ht := lt_of_lt_of_eq t.isLt N_3
  blk_simp
  rw [after3_2]
  have y1 : (y 1).val < 256 := (y 1).isLt
  have y0 : (y 0).val < 1 := (y 0).isLt
  refine Eq.trans (congrArg _ (?_ : y = ix3 0 (y 1) (y 2))) ((out3_2_real (iblk3 V c 0 t) (iblk3 V c 1 t) (fun h a d => O (bh (bt3 t) h) (rw3 t a) d) W (blk3_0 V c O h0 t) (blk3_1 V c W h1 t) (y 1) (y 2)).trans ?_)
  · funext a; fin_cases a
    · exact Fin.ext (by show (y 0).val = 0; omega)
    · rfl
    · rfl
  refine Eq.symm (congrArg Real.toEReal (cg3 (outF O W) (a' := bt3 t) (b' := rw3 t (y 1)) (c' := y 2)
    (Fin.ext (by show _ = t.val / 4; blk_simp [idx3 t]))
    (Fin.ext (by show _ = 256 * (t.val % 4) + (y 1).val; blk_simp [idx3 t]; omega))
    (Fin.ext (by blk_simp [idx3 t]))))

end

end Cert.Val
-- ==== Proof.V.Spec.lean ====
module
public import proofs.«01_k».proof.Proof.V.RefLoop
public import proofs.«01_k».proof.Proof.V.Arr0
public import proofs.«01_k».proof.Proof.V.Arr2
public import proofs.«01_k».proof.Proof.V.Arr3

/-! The problem over the reals. -/

@[expose] public section

set_option maxRecDepth 16384

noncomputable section

namespace Cert.Val

/-- The problem's arguments over the reals. -/
structure Prm where
  X : Fin 2 → Fin 1024 → Fin 1024 → ℝ
  Wq : Fin 1024 → Fin 1024 → ℝ
  Wk : Fin 1024 → Fin 1024 → ℝ
  Wv : Fin 1024 → Fin 1024 → ℝ
  Wo : Fin 1024 → Fin 1024 → ℝ
  W1 : Fin 1024 → Fin 64 → ℝ
  W2 : Fin 64 → Fin 1024 → ℝ
  Wb : Fin 1024 → Fin 16 → ℝ
  Wf : Fin 1024 → Fin 16 → ℝ
  De : Fin 16 → ℝ

variable (P : Prm)

/-- The queries. -/
def qB (b : Fin 2) (s : Fin 1024) (h : Fin 16) (d : Fin 64) : ℝ := lin P.X P.Wq b s (col h d)
/-- The keys. -/
def kB (b : Fin 2) (s : Fin 1024) (h : Fin 16) (d : Fin 64) : ℝ := lin P.X P.Wk b s (col h d)
/-- The values. -/
def vB (b : Fin 2) (s : Fin 1024) (h : Fin 16) (d : Fin 64) : ℝ := lin P.X P.Wv b s (col h d)
/-- The write directions. -/
def wB (b : Fin 2) (s : Fin 1024) (h : Fin 16) (d : Fin 64) : ℝ := nrm (fun e => wraw P.X P.W1 P.W2 b s (col h e)) d
/-- The rates. -/
def tB (b : Fin 2) (s : Fin 1024) (h : Fin 16) : ℝ := rate (lin P.X P.Wb b s h)
/-- The log gates. -/
def lB (b : Fin 2) (s : Fin 1024) (h : Fin 16) : ℝ := lgate (lin P.X P.Wf b s h + P.De h)
/-- The triangular system's matrix. -/
def LB (b : Fin 2) (h : Fin 16) (s t : Fin 1024) : ℝ := (if t.val < s.val then ∑ d, wB P b s h d * wB P b t h d else 0) * tB P b t h
/-- The triangular system's right-hand side. -/
def MB (b : Fin 2) (h : Fin 16) (s t : Fin 1024) : ℝ := if t.val < s.val then ∑ d, wB P b s h d * kB P b t h d else 0
/-- The triangular system's solution. -/
def CB (b : Fin 2) (h : Fin 16) (s t : Fin 1024) : ℝ := Ref.seqR (LB P) (MB P) 1024 b h s t
/-- The scores. -/
def sB (b : Fin 2) (h : Fin 16) (s t : Fin 1024) : ℝ :=
  (∑ d, qB P b s h d * kB P b t h d) - ∑ r, (if r.val ≤ s.val then (∑ d, qB P b s h d * wB P b r h d) * tB P b r h else 0) * CB P b h r t
/-- The running sums of the log gates. -/
def cB (b : Fin 2) (h : Fin 16) (s : Fin 1024) : ℝ := ∑ t : Fin 1024, if t ≤ s then lB P b t h else 0
/-- The logits. -/
def logB (b : Fin 2) (h : Fin 16) (s t : Fin 1024) : ℝ := sB P b h s t * (1 / 8) + cB P b h s - cB P b h t
/-- The heads' results side by side. -/
def mB (b : Fin 2) (s e : Fin 1024) : ℝ :=
  soft (logB P b ⟨e.val / 64, by omega⟩ s) (fun t => vB P b t ⟨e.val / 64, by omega⟩ ⟨e.val % 64, by omega⟩) s

/-- The queries by head. -/
def qS (g : Fin 32) (s : Fin 1024) (d : Fin 64) : ℝ := qB P (bOf g) s (hOf g) d
/-- The keys by head. -/
def kS (g : Fin 32) (s : Fin 1024) (d : Fin 64) : ℝ := kB P (bOf g) s (hOf g) d
/-- The write directions by head. -/
def wS (g : Fin 32) (s : Fin 1024) (d : Fin 64) : ℝ := wB P (bOf g) s (hOf g) d
/-- The values by head, with a column of ones. -/
def vS (g : Fin 32) (s : Fin 1024) (d : Fin 65) : ℝ := if hd : d.val < 64 then vB P (bOf g) s (hOf g) ⟨d.val, hd⟩ else 1
/-- The rates by head. -/
def tS (g : Fin 32) (s : Fin 1024) : ℝ := tB P (bOf g) s (hOf g)
/-- The log gates by head. -/
def lS (g : Fin 32) (s : Fin 1024) : ℝ := lB P (bOf g) s (hOf g)
/-- The triangular systems' solutions by head. -/
def CS (g : Fin 32) (s t : Fin 1024) : ℝ := CB P (bOf g) (hOf g) s t

/-- Every head's coefficients solve its triangular system. -/
theorem CS_solves (g : Fin 32) : Solves (kS P g) (wS P g) (tS P g) (CS P g) := by
  intro s j
  have hC : ∀ s j, CS P g s j = Ref.seqR (LB P) (MB P) 1024 (bOf g) (hOf g) s j := fun _ _ => by unfold CS CB; with_reducible rfl
  simp only [hC]
  have e := Ref.seqR_solves (LB P) (MB P) (fun b h s r hsr => by unfold LB; rw [if_neg (by omega), zero_mul]) (bOf g) (hOf g) s j
  generalize Ref.seqR (LB P) (MB P) 1024 = Z at e ⊢
  rw [e]
  refine congrArg₂ (· - ·) rfl (Finset.sum_congr rfl fun r _ => ?_)
  refine congrArg₂ (· * ·) ?_ rfl
  unfold LB
  rw [ite_mul, zero_mul]
  rfl

/-- The result over the reals. -/
def resS (b : Fin 2) (s e : Fin 1024) : ℝ := outF (rowF (qS P) (kS P) (wS P) (tS P) (CS P) (vS P) (lS P)) P.Wo b s e

theorem rowF_bh (b : Fin 2) (h : Fin 16) (s : Fin 1024) (d : Fin 64) :
    rowF (qS P) (kS P) (wS P) (tS P) (CS P) (vS P) (lS P) (bh b h) s d = soft (logB P b h s) (fun t => vB P b t h d) s := by
  have hv : (fun j => vS P (bh b h) j ⟨d.val, by omega⟩) = fun t => vB P b t h d := by
    funext t
    unfold vS
    rw [dif_pos d.isLt, bOf_bh, hOf_bh]
  have hg : (fun j => scr (qS P (bh b h)) (kS P (bh b h)) (wS P (bh b h)) (tS P (bh b h)) (CS P (bh b h)) s j * (1 / 8)
      + cumF (lS P) (bh b h) s - cumF (lS P) (bh b h) j) = logB P b h s := by
    funext t
    simp only [scr, cumF, logB, sB, cB, qS, kS, wS, tS, CS, lS, bOf_bh, hOf_bh, Fin.le_def]
  unfold rowF
  rw [hv, hg]

/-- The output projection of the heads' results. -/
theorem resS_eq (b : Fin 2) (s e : Fin 1024) : resS P b s e = lin (mB P) P.Wo b s e := by
  unfold resS outF lin
  refine Finset.sum_congr rfl fun c _ => ?_
  rw [rowF_bh]
  rfl

end Cert.Val
-- ==== Proof.V.KVal.lean ====
module
public import proofs.«01_k».proof.Proof.V.Spec
public import proofs.«01_k».proof.Proof.KI.Run

/-! The kernel's result over the reals. -/

@[expose] public section

set_option maxRecDepth 16384

noncomputable section

namespace Cert.Val.Ker

open Cert.KernelIdeal Cert.KernelIdeal.Gen Cert.KernelIdeal.Frm Cert.Val
open Idealize.ShloMosaic Idealize.ShloMosaic.TcCoe Idealize.ShloMosaic.StableHlo

variable (P : Prm)

/-- The three projections side by side. -/
def catF (c : Fin 1024) (e : Fin 3072) : ℝ :=
  if h : e.val < 1024 then P.Wq c ⟨e.val, h⟩ else if h' : e.val < 2048 then P.Wk c ⟨e.val - 1024, by omega⟩ else P.Wv c ⟨e.val - 2048, by omega⟩

theorem qF_cat : qF P.X (catF P) = qS P := by
  funext g s d
  unfold qF qS qB lin catF
  refine Finset.sum_congr rfl fun c _ => ?_
  rw [dif_pos (by show 64 * (hOf g).val + d.val < 1024; omega)]
  rfl

theorem kF_cat : kF P.X (catF P) = kS P := by
  funext g s d
  unfold kF kS kB lin catF
  refine Finset.sum_congr rfl fun c _ => ?_
  rw [dif_neg (by show ¬ 1024 + 64 * (hOf g).val + d.val < 1024; omega), dif_pos (by show 1024 + 64 * (hOf g).val + d.val < 2048; omega)]
  refine congrArg (P.X (bOf g) s c * ·) (congrArg (P.Wk c) (Fin.ext ?_))
  show 1024 + 64 * (hOf g).val + d.val - 1024 = 64 * (hOf g).val + d.val
  omega

theorem vF_cat : vF P.X (catF P) = vS P := by
  funext g s d
  unfold vF vS
  by_cases hd : d.val < 64
  · rw [dif_pos hd, dif_pos hd]
    unfold vB lin catF
    refine Finset.sum_congr rfl fun c _ => ?_
    rw [dif_neg (by show ¬ 2048 + 64 * (hOf g).val + d.val < 1024; omega), dif_neg (by show ¬ 2048 + 64 * (hOf g).val + d.val < 2048; omega)]
    refine congrArg (P.X (bOf g) s c * ·) (congrArg (P.Wv c) (Fin.ext ?_))
    show 2048 + 64 * (hOf g).val + d.val - 2048 = 64 * (hOf g).val + d.val
    omega
  · rw [dif_neg hd, dif_neg hd]

/-- The three projections side by side, as the kernel lays them. -/
def kCat (x y z : FVec Ideal S1024x1024 .f32) : FVec Ideal S1024x3072 .f32 :=
  concatenate S1024x3072 1 [⟨S1024x1024, x⟩, ⟨S1024x1024, y⟩, ⟨S1024x1024, z⟩] concatenates_S1024x1024_S1024x1024_S1024x1024_S1024x3072_d1

theorem kCat_real (x y z : FVec Ideal S1024x1024 .f32)
    (hx : ∀ e f, x (ix2 e f) = ((P.Wq e f : ℝ) : EReal)) (hy : ∀ e f, y (ix2 e f) = ((P.Wk e f : ℝ) : EReal)) (hz : ∀ e f, z (ix2 e f) = ((P.Wv e f : ℝ) : EReal))
    (c : Fin 1024) (e : Fin 3072) : kCat x y z (ix2 c e) = ((catF P c e : ℝ) : EReal) := by
  unfold kCat catF
  pointwise []
  by_cases h1 : e.val < 1024
  · rw [dif_pos h1, dif_pos h1]; exact hx _ _
  · rw [dif_neg h1, dif_neg h1]
    by_cases h2 : e.val < 2048
    · rw [dif_pos (by omega), dif_pos h2]; exact hy _ _
    · rw [dif_neg (by omega), dif_neg h2, hz]
      refine congrArg (fun v : ℝ => (v : EReal)) (congrArg (P.Wv c) (Fin.ext ?_))
      show e.val - 1024 - 1024 = e.val - 2048
      omega

/-- The offsets as a row. -/
def kRow (x : FVec Ideal S16 .f32) : FVec Ideal S1x16 .f32 := shapeCast S1x16 x shapeCasts_S16_S1x16
theorem kRow_apply (x : FVec Ideal S16 .f32) (f : Fin 16) : kRow x (ix2 0 f) = x (ix1 f) := by
  unfold kRow
  pointwise []
/-- The log gates by chunk. -/
def kChunk (x : FVec Ideal S2x16x1x1024 .f32) : FVec Ideal S2x16x8x128 .f32 := shapeCast S2x16x8x128 x shapeCasts_S2x16x1x1024_S2x16x8x128
theorem kChunk_apply (x : FVec Ideal S2x16x1x1024 .f32) (b : Fin 2) (h : Fin 16) (r : Fin 8) (a : Fin 128) :
    kChunk x (ix4 b h r a) = x (ix4 b h 0 (ch r a)) := by
  unfold kChunk
  pointwise []
  refine congrArg x (congrArg (ix4 b h 0) (Fin.ext ?_))
  show r.val * 128 + a.val = 128 * r.val + a.val
  omega

section
variable (V : Valuation τ sig (Elt Ideal))
theorem g_v0 : after (hostOps0 : List (HloOp τ sig (Elt Ideal))) V (Proc.devRef .tc main_v0)
    = kCat (V (Proc.devRef .tc main_arg1)) (V (Proc.devRef .tc main_arg2)) (V (Proc.devRef .tc main_arg3)) := rfl
theorem g_v1 : after (hostOps0 : List (HloOp τ sig (Elt Ideal))) V (Proc.devRef .tc main_v1) = kRow (V (Proc.devRef .tc main_arg9)) := rfl
theorem g_v4 : after (hostOps2 : List (HloOp τ sig (Elt Ideal))) V (Proc.devRef .tc main_v4) = kChunk (V (Proc.devRef .tc main_v2_5)) := rfl
end

/-- The arguments' contents are the real arguments. -/
structure Reads (V : Valuation τ sig (Elt Ideal)) : Prop where
  a0 : ∀ b s e, (V (Proc.devRef .tc main_arg0) : FVec Ideal S2x1024x1024 .f32) (ix3 b s e) = ((P.X b s e : ℝ) : EReal)
  a1 : ∀ e f, (V (Proc.devRef .tc main_arg1) : FVec Ideal S1024x1024 .f32) (ix2 e f) = ((P.Wq e f : ℝ) : EReal)
  a2 : ∀ e f, (V (Proc.devRef .tc main_arg2) : FVec Ideal S1024x1024 .f32) (ix2 e f) = ((P.Wk e f : ℝ) : EReal)
  a3 : ∀ e f, (V (Proc.devRef .tc main_arg3) : FVec Ideal S1024x1024 .f32) (ix2 e f) = ((P.Wv e f : ℝ) : EReal)
  a4 : ∀ e f, (V (Proc.devRef .tc main_arg4) : FVec Ideal S1024x1024 .f32) (ix2 e f) = ((P.Wo e f : ℝ) : EReal)
  a5 : ∀ e f, (V (Proc.devRef .tc main_arg5) : FVec Ideal S1024x64 .f32) (ix2 e f) = ((P.W1 e f : ℝ) : EReal)
  a6 : ∀ e f, (V (Proc.devRef .tc main_arg6) : FVec Ideal S64x1024 .f32) (ix2 e f) = ((P.W2 e f : ℝ) : EReal)
  a7 : ∀ e f, (V (Proc.devRef .tc main_arg7) : FVec Ideal S1024x16 .f32) (ix2 e f) = ((P.Wb e f : ℝ) : EReal)
  a8 : ∀ e f, (V (Proc.devRef .tc main_arg8) : FVec Ideal S1024x16 .f32) (ix2 e f) = ((P.Wf e f : ℝ) : EReal)
  a9 : ∀ f, (V (Proc.devRef .tc main_arg9) : FVec Ideal S16 .f32) (ix1 f) = ((P.De f : ℝ) : EReal)

section
variable {P}
variable (m : (ℓ : Loc nD τ sig) → Buf (Elt Ideal) ℓ) (ρ : Dev nD → PrngReg) (c : Dev nD)
variable (R : Reads P (W0 m ρ c))
include R

theorem k0 (b : Fin 2) (s e : Fin 1024) : (V1 m ρ c main_arg0 : FVec Ideal S2x1024x1024 .f32) (ix3 b s e) = ((P.X b s e : ℝ) : EReal) := by
  have e1 : V1 m ρ c main_arg0 = W0 m ρ c (Proc.devRef .tc main_arg0) := W1_of m ρ c main_arg0 (by decide +kernel)
  rw [e1]; exact R.a0 b s e
theorem k1 (e : Fin 1024) (f : Fin 3072) : (V1 m ρ c main_v0 : FVec Ideal S1024x3072 .f32) (ix2 e f) = ((catF P e f : ℝ) : EReal) := by
  have e1 : V1 m ρ c main_v0 = kCat (W0 m ρ c (Proc.devRef .tc main_arg1)) (W0 m ρ c (Proc.devRef .tc main_arg2)) (W0 m ρ c (Proc.devRef .tc main_arg3)) := g_v0 _
  rw [e1]; exact kCat_real P _ _ _ R.a1 R.a2 R.a3 e f
theorem k2 (e : Fin 1024) (f : Fin 64) : (V1 m ρ c main_arg5 : FVec Ideal S1024x64 .f32) (ix2 e f) = ((P.W1 e f : ℝ) : EReal) := by
  have e1 : V1 m ρ c main_arg5 = W0 m ρ c (Proc.devRef .tc main_arg5) := W1_of m ρ c main_arg5 (by decide +kernel)
  rw [e1]; exact R.a5 e f
theorem k3 (e : Fin 64) (f : Fin 1024) : (V1 m ρ c main_arg6 : FVec Ideal S64x1024 .f32) (ix2 e f) = ((P.W2 e f : ℝ) : EReal) := by
  have e1 : V1 m ρ c main_arg6 = W0 m ρ c (Proc.devRef .tc main_arg6) := W1_of m ρ c main_arg6 (by decide +kernel)
  rw [e1]; exact R.a6 e f
theorem k4 (e : Fin 1024) (f : Fin 16) : (V1 m ρ c main_arg7 : FVec Ideal S1024x16 .f32) (ix2 e f) = ((P.Wb e f : ℝ) : EReal) := by
  have e1 : V1 m ρ c main_arg7 = W0 m ρ c (Proc.devRef .tc main_arg7) := W1_of m ρ c main_arg7 (by decide +kernel)
  rw [e1]; exact R.a7 e f
theorem k5 (e : Fin 1024) (f : Fin 16) : (V1 m ρ c main_arg8 : FVec Ideal S1024x16 .f32) (ix2 e f) = ((P.Wf e f : ℝ) : EReal) := by
  have e1 : V1 m ρ c main_arg8 = W0 m ρ c (Proc.devRef .tc main_arg8) := W1_of m ρ c main_arg8 (by decide +kernel)
  rw [e1]; exact R.a8 e f
theorem k6 (f : Fin 16) : (V1 m ρ c main_v1 : FVec Ideal S1x16 .f32) (ix2 0 f) = ((P.De f : ℝ) : EReal) := by
  have e1 : V1 m ρ c main_v1 = kRow (W0 m ρ c (Proc.devRef .tc main_arg9)) := g_v1 _
  rw [e1, kRow_apply]; exact R.a9 f

/-- The queries after the first part. -/
theorem v2_0 : (V2 m ρ c main_v2_0 : FVec Ideal S32x1024x64 .f32) = fun j => ((qS P (j 0) (j 1) (j 2) : ℝ) : EReal) := by
  have e1 : V2 m ρ c main_v2_0 = (dat0 (V1 m ρ) c).arrAt 7 cfg0.N := W2_arr m ρ c 7
  rw [e1, ← qF_cat]; exact arr0_7 (V1 m ρ) c P.X (catF P) (k0 m ρ c R) (k1 m ρ c R)
/-- The keys after the first part. -/
theorem v2_1 : (V2 m ρ c main_v2_1 : FVec Ideal S32x1024x64 .f32) = fun j => ((kS P (j 0) (j 1) (j 2) : ℝ) : EReal) := by
  have e1 : V2 m ρ c main_v2_1 = (dat0 (V1 m ρ) c).arrAt 8 cfg0.N := W2_arr m ρ c 8
  rw [e1, ← kF_cat]; exact arr0_8 (V1 m ρ) c P.X (catF P) (k0 m ρ c R) (k1 m ρ c R)
/-- The values after the first part. -/
theorem v2_2 : (V2 m ρ c main_v2_2 : FVec Ideal S32x1024x65 .f32) = fun j => ((vS P (j 0) (j 1) (j 2) : ℝ) : EReal) := by
  have e1 : V2 m ρ c main_v2_2 = (dat0 (V1 m ρ) c).arrAt 9 cfg0.N := W2_arr m ρ c 9
  rw [e1, ← vF_cat]; exact arr0_9 (V1 m ρ) c P.X (catF P) (k0 m ρ c R) (k1 m ρ c R)
/-- The write directions after the first part. -/
theorem v2_3 : (V2 m ρ c main_v2_3 : FVec Ideal S32x1024x64 .f32) = fun j => ((wS P (j 0) (j 1) (j 2) : ℝ) : EReal) := by
  have e1 : V2 m ρ c main_v2_3 = (dat0 (V1 m ρ) c).arrAt 10 cfg0.N := W2_arr m ρ c 10
  rw [e1]; exact arr0_10 (V1 m ρ) c P.X P.W1 P.W2 (k0 m ρ c R) (k2 m ρ c R) (k3 m ρ c R)
/-- The rates after the first part. -/
theorem v2_4 (b : Fin 2) (h : Fin 16) (s : Fin 1024) : (V2 m ρ c main_v2_4 : FVec Ideal S2x16x1x1024 .f32) (ix4 b h 0 s) = ((tS P (bh b h) s : ℝ) : EReal) := by
  have e1 : V2 m ρ c main_v2_4 = (dat0 (V1 m ρ) c).arrAt 11 cfg0.N := W2_arr m ρ c 11
  rw [e1, arr0_11 (V1 m ρ) c P.X P.Wb (k0 m ρ c R) (k4 m ρ c R)]
  unfold tS
  rw [bOf_bh, hOf_bh]
  rfl
/-- The log gates after the first part. -/
theorem v2_5 (b : Fin 2) (h : Fin 16) (s : Fin 1024) : (V2 m ρ c main_v2_5 : FVec Ideal S2x16x1x1024 .f32) (ix4 b h 0 s) = ((lS P (bh b h) s : ℝ) : EReal) := by
  have e1 : V2 m ρ c main_v2_5 = (dat0 (V1 m ρ) c).arrAt 12 cfg0.N := W2_arr m ρ c 12
  rw [e1, arr0_12 (V1 m ρ) c P.X P.Wf P.De (k0 m ρ c R) (k5 m ρ c R) (k6 m ρ c R)]
  unfold lS
  rw [bOf_bh, hOf_bh]
  rfl

/-- What the second part reads of the first part's rows. -/
theorem r2_0 (g : Fin 32) (s : Fin 1024) (d : Fin 64) : (V2 m ρ c main_v2_0 : FVec Ideal S32x1024x64 .f32) (ix3 g s d) = ((qS P g s d : ℝ) : EReal) := by
  rw [v2_0 m ρ c R]; rfl
theorem r2_1 (g : Fin 32) (s : Fin 1024) (d : Fin 64) : (V2 m ρ c main_v2_1 : FVec Ideal S32x1024x64 .f32) (ix3 g s d) = ((kS P g s d : ℝ) : EReal) := by
  rw [v2_1 m ρ c R]; rfl
theorem r2_3 (g : Fin 32) (s : Fin 1024) (d : Fin 64) : (V2 m ρ c main_v2_3 : FVec Ideal S32x1024x64 .f32) (ix3 g s d) = ((wS P g s d : ℝ) : EReal) := by
  rw [v2_3 m ρ c R]; rfl

/-- The values the third part reads. -/
theorem r4_2 (g : Fin 32) (s : Fin 1024) (d : Fin 65) : (V4 m ρ c main_v2_2 : FVec Ideal S32x1024x65 .f32) (ix3 g s d) = ((vS P g s d : ℝ) : EReal) := by
  have e1 : V4 m ρ c main_v2_2 = V2 m ρ c main_v2_2 :=
    (W4_of m ρ c main_v2_2 (by decide +kernel)).trans (W3_of m ρ c main_v2_2 (by decide +kernel))
  rw [e1, v2_2 m ρ c R]; rfl
/-- The log gates the third part reads. -/
theorem r4_4 (b : Fin 2) (h : Fin 16) (r : Fin 8) (a : Fin 128) : (V4 m ρ c main_v4 : FVec Ideal S2x16x8x128 .f32) (ix4 b h r a) = ((lS P (bh b h) (ch r a) : ℝ) : EReal) := by
  have e1 : V4 m ρ c main_v4 = kChunk (W3 m ρ c (Proc.devRef .tc main_v2_5)) := g_v4 _
  have e2 : W3 m ρ c (Proc.devRef .tc main_v2_5) = V2 m ρ c main_v2_5 := W3_of m ρ c main_v2_5 (by decide +kernel)
  rw [e1, kChunk_apply, e2]; exact v2_5 m ρ c R b h (ch r a)

/-- The heads' results after the third part. -/
theorem v5_5 : (V5 m ρ c main_v5 : FVec Ideal S32x1024x64 .f32)
    = fun j => ((rowF (qS P) (kS P) (wS P) (tS P) (CS P) (vS P) (lS P) (j 0) (j 1) (j 2) : ℝ) : EReal) := by
  have e1 : V5 m ρ c main_v5 = (dat2 (V4 m ρ) c).arrAt 6 cfg2.N := W5_arr m ρ c 6
  rw [e1]
  have q4 : V4 m ρ c main_v3_0 = (dat1 (V2 m ρ) c).arrAt 4 cfg1.N := (W4_of m ρ c main_v3_0 (by decide +kernel)).trans (W3_arr m ρ c 4)
  have q5 : V4 m ρ c main_v3_1 = (dat1 (V2 m ρ) c).arrAt 5 cfg1.N := (W4_of m ρ c main_v3_1 (by decide +kernel)).trans (W3_arr m ρ c 5)
  have q6 : V4 m ρ c main_v3_2 = (dat1 (V2 m ρ) c).arrAt 6 cfg1.N := (W4_of m ρ c main_v3_2 (by decide +kernel)).trans (W3_arr m ρ c 6)
  have q7 : V4 m ρ c main_v3_3 = (dat1 (V2 m ρ) c).arrAt 7 cfg1.N := (W4_of m ρ c main_v3_3 (by decide +kernel)).trans (W3_arr m ρ c 7)
  exact arr2_6 (V4 m ρ) c (qS P) (kS P) (wS P) (tS P) (CS P) (vS P) (lS P)
    (q4.trans (arr1_4 (V2 m ρ) c (qS P) (wS P) (tS P) (r2_0 m ρ c R) (r2_3 m ρ c R) (v2_4 m ρ c R)))
    (q5.trans (arr1_5 (V2 m ρ) c (kS P) (wS P) (tS P) (r2_1 m ρ c R) (r2_3 m ρ c R) (v2_4 m ρ c R)))
    (q6.trans (arr1_6 (V2 m ρ) c (qS P) (kS P) (wS P) (tS P) (r2_0 m ρ c R) (r2_1 m ρ c R) (r2_3 m ρ c R) (v2_4 m ρ c R)))
    (q7.trans (arr1_7 (V2 m ρ) c (wS P) (tS P) (r2_3 m ρ c R) (v2_4 m ρ c R)))
    (r4_2 m ρ c R) (r4_4 m ρ c R) (fun h j => dif_neg (by decide)) (CS_solves P)

/-- The kernel's result. -/
theorem ker_val : (dat3 (V5 m ρ) c).arrAt 2 cfg3.N = fun j : S2x1024x1024.Idx => ((resS P (j 0) (j 1) (j 2) : ℝ) : EReal) := by
  refine arr3_2 (V5 m ρ) c (rowF (qS P) (kS P) (wS P) (tS P) (CS P) (vS P) (lS P)) P.Wo (fun g s d => ?_) (fun e f => ?_)
  · rw [v5_5 m ρ c R]; rfl
  · have e1 : V5 m ρ c main_arg4 = W0 m ρ c (Proc.devRef .tc main_arg4) := W5_args m ρ c main_arg4 (by decide)
    rw [e1]; exact R.a4 e f

end

end Cert.Val.Ker
-- ==== Proof.V.RefMax.lean ====
module
public import proofs.«01_k».proof.Proof.V.RefOps

/-! The reference's row maxima. -/

@[expose] public section

set_option maxRecDepth 16384

noncomputable section

namespace Cert.Val.Ref

open Cert.ReferenceIdeal Cert.ReferenceIdeal.Gen Cert.Val
open Idealize.ShloMosaic Idealize.ShloMosaic.TcCoe

/-- A maximum over a set that holds a real and nothing infinite above is a real. -/
theorem fold_real {ι : Type} (op : EReal → EReal → EReal) [Std.Commutative op] [Std.Associative op] (hop : ∀ a b, op a b = max a b)
    (S : Finset ι) (f : ι → EReal) (b : EReal) (hb : b = ⊥) (i0 : ι) (hi : i0 ∈ S) (h0 : f i0 ≠ ⊥) (ht : ∀ i, f i ≠ ⊤) :
    ∃ μ : ℝ, S.fold op b f = ((μ : ℝ) : EReal) := by
  obtain rfl : op = max := funext fun a => funext fun b => hop a b
  subst hb
  have hlo : (⊥ : EReal) < S.fold max ⊥ f := (Finset.lt_fold_max _).2 (Or.inr ⟨i0, hi, bot_lt_iff_ne_bot.2 h0⟩)
  have hhi : S.fold max ⊥ f < (⊤ : EReal) := (Finset.fold_max_lt _).2 ⟨bot_lt_top, fun i _ => lt_top_iff_ne_top.2 (ht i)⟩
  exact ⟨_, (EReal.coe_toReal hhi.ne hlo.ne').symm⟩

instance : Std.Commutative (FloatOps.maximumf : Ideal .f32 → Ideal .f32 → Ideal .f32) := ⟨fun a b => max_comm (α := EReal) a b⟩
instance : Std.Associative (FloatOps.maximumf : Ideal .f32 → Ideal .f32 → Ideal .f32) := ⟨fun a b c => max_assoc (α := EReal) a b c⟩

/-- The maximum with the array of `⊥`. -/
theorem max_bot_apply (r : FVec Ideal S2x16x1024 .f32) (b : Fin 2) (h : Fin 16) (s : Fin 1024) :
    maximumf (broadcastInDim S2x16x1024 ![] bcast_S_S2x16x1024 (constant S_ .f32 0xFF800000#32)) r (ix3 b h s) = r (ix3 b h s) := by
  pointwise []
  rw [negInf_bits]
  exact max_bot_left _

/-- A row's maximum is a real when the row holds a real and nothing infinite above. -/
theorem rMax_real (y : FVec Ideal S2x16x1024x1024 .f32) (hlt : ∀ b h s t, y (ix4 b h s t) ≠ (⊤ : EReal)) (b : Fin 2) (h : Fin 16) (s t : Fin 1024)
    (hr : y (ix4 b h s t) ≠ (⊥ : EReal)) : ∃ μ : ℝ, rMax y (ix3 b h s) = ((μ : ℝ) : EReal) := by
  unfold rMax
  rw [max_bot_apply, Host.reduce_eq_fold]
  refine fold_real _ (fun a b => rfl) _ _ _ negInf_bits (ix4 b h s t) ?_ hr (fun i => ?_)
  · rw [Finset.mem_filter]
    exact ⟨Finset.mem_univ _, (Shape.ReducesTo.fiber_r4_a3 _ _ _).2 ⟨t, rfl⟩⟩
  · have : i = ix4 (i 0) (i 1) (i 2) (i 3) := by funext a; fin_cases a <;> rfl
    rw [this]
    exact hlt _ _ _ _

end Cert.Val.Ref
-- ==== Proof.V.RefCum.lean ====
module
public import proofs.«01_k».proof.Proof.V.RefOps

/-! The reference's running sums and row maxima. -/

@[expose] public section

set_option maxRecDepth 16384

noncomputable section

namespace Cert.Val.Ref

open Cert.ReferenceIdeal Cert.ReferenceIdeal.Gen Cert.Val
open Idealize.ShloMosaic Idealize.ShloMosaic.TcCoe

/-- A left fold of additions is the start plus the sum. -/
theorem foldl_add_sum {n : ℕ} (g : Fin n → EReal) (v : EReal) :
    (List.finRange n).foldl (fun r k => r + g k) v = v + ∑ k, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, ← List.ofFn_eq_map, List.sum_ofFn]

/-- The window's shape. -/
abbrev wS : Shape := ⟨3, ![1, 1, 1024]⟩

/-- A sum over the window's positions is a sum over the steps. -/
theorem sum_win (g : wS.Idx → EReal) : ∑ n : Fin wS.numel, g (wS.rowMajor.symm n) = ∑ k : Fin 1024, g (ix3 (0 : Fin 1) (0 : Fin 1) k) := by
  rw [Equiv.sum_comp wS.rowMajor.symm g]
  refine (Finset.sum_bij' (fun (k : Fin 1024) _ => (ix3 (0 : Fin 1) (0 : Fin 1) k : wS.Idx)) (fun i _ => i 2) (fun _ _ => Finset.mem_univ _) (fun _ _ => Finset.mem_univ _)
    (fun _ _ => rfl) (fun i _ => ?_) (fun _ _ => rfl)).symm
  funext a
  fin_cases a
  · exact Subsingleton.elim (α := Fin 1) _ _
  · exact Subsingleton.elim (α := Fin 1) _ _
  · rfl

/-- The sum over a window that ends at a step is the sum up to the step. -/
theorem sum_shift (Y : Fin 1024 → ℝ) (s : Fin 1024) :
    (∑ k : Fin 1024, if h : 1023 ≤ s.val + k.val then Y ⟨s.val + k.val - 1023, by omega⟩ else 0) = ∑ t : Fin 1024, if t ≤ s then Y t else 0 := by
  refine Finset.sum_bij_ne_zero (fun k _ h0 => ⟨s.val + k.val - 1023, by omega⟩) (fun _ _ _ => Finset.mem_univ _) ?_ ?_ ?_
  · intro k1 _ h1 k2 _ h2 he
    have g1 : 1023 ≤ s.val + k1.val := by by_contra hn; exact h1 (dif_neg hn)
    have g2 : 1023 ≤ s.val + k2.val := by by_contra hn; exact h2 (dif_neg hn)
    have := congrArg Fin.val he
    exact Fin.ext (by simp only at this; omega)
  · intro t _ h0
    have ht : t ≤ s := by by_contra hn; exact h0 (if_neg hn)
    have ht' : t.val ≤ s.val := ht
    have hg : 1023 ≤ s.val + (t.val + 1023 - s.val) := by omega
    have he : (⟨s.val + (t.val + 1023 - s.val) - 1023, by omega⟩ : Fin 1024) = t := Fin.ext (by show s.val + (t.val + 1023 - s.val) - 1023 = t.val; omega)
    refine ⟨⟨t.val + 1023 - s.val, by omega⟩, Finset.mem_univ _, ?_, he⟩
    rw [if_pos ht] at h0
    show (if h : 1023 ≤ s.val + (t.val + 1023 - s.val) then Y ⟨s.val + (t.val + 1023 - s.val) - 1023, by omega⟩ else 0) ≠ 0
    rw [dif_pos hg, he]; exact h0
  · intro k _ h0
    have g1 : 1023 ≤ s.val + k.val := by by_contra hn; exact h0 (dif_neg hn)
    rw [dif_pos g1, if_pos (by show s.val + k.val - 1023 ≤ s.val; omega)]

/-- The running sums, element by element. -/
theorem rCum_real (y : FVec Ideal S2x16x1024 .f32) (Y : Fin 2 → Fin 16 → Fin 1024 → ℝ)
    (hy : ∀ b h s, y (ix3 b h s) = ((Y b h s : ℝ) : EReal)) (b : Fin 2) (h : Fin 16) (s : Fin 1024) :
    rCum y (ix3 b h s) = ((∑ t : Fin 1024, if t ≤ s then Y b h t else 0 : ℝ) : EReal) := by
  have hv : (broadcastInDim S_ ![] bcast_S_S_ (constant S_ .f32 0x00000000#32) : FVec Ideal S_ .f32) (Shape.Idx.first h_S_) = 0 := by
    pointwise []
  unfold rCum Host.reduceWindowAdd
  generalize (broadcastInDim S_ ![] bcast_S_S_ (constant S_ .f32 0x00000000#32) : FVec Ideal S_ .f32) (Shape.Idx.first h_S_) = v at hv ⊢
  show Ideal.hostReduceWindowAdd ![1, 1, 1024] ![1, 1, 1] ![0, 0, 1023] ![0, 0, 0] reduceWindows_S2x16x1024_S2x16x1024_w1s1p0_0_w1s1p0_0_w1024s1p1023_0 y v (ix3 b h s) = _
  unfold Ideal.hostReduceWindowAdd Host.reduceWindow
  dsimp only
  rw [foldl_add_sum, hv, zero_add]
  refine (Finset.sum_congr rfl fun n _ => dite_congr rfl (fun _ => rfl) (fun _ => rfl)).trans ((sum_win (fun w => if hin : ∀ a : Fin 3, (![0, 0, 1023] : Fin 3 → ℕ) a ≤ ((ix3 b h s : S2x16x1024.Idx) a).val * (![1, 1, 1] : Fin 3 → ℕ) a + (w a).val
      ∧ ((ix3 b h s : S2x16x1024.Idx) a).val * (![1, 1, 1] : Fin 3 → ℕ) a + (w a).val - (![0, 0, 1023] : Fin 3 → ℕ) a < S2x16x1024.size a
      then y (fun a => ⟨((ix3 b h s : S2x16x1024.Idx) a).val * (![1, 1, 1] : Fin 3 → ℕ) a + (w a).val - (![0, 0, 1023] : Fin 3 → ℕ) a, (hin a).2⟩)
      else (0 : EReal))).trans ?_)
  rw [← sum_shift (Y b h) s, coe_sum]
  refine Finset.sum_congr rfl fun k _ => ?_
  have hk := k.isLt
  have hs := s.isLt
  by_cases hc : 1023 ≤ s.val + k.val
  · rw [dif_pos hc, ← hy, dif_pos]
    · refine congrArg y (funext fun a => ?_)
      fin_cases a
      · exact Fin.ext (by show b.val * 1 + 0 - 0 = b.val; omega)
      · exact Fin.ext (by show h.val * 1 + 0 - 0 = h.val; omega)
      · exact Fin.ext (by show s.val * 1 + k.val - 1023 = s.val + k.val - 1023; omega)
    · intro a
      have hb := b.isLt
      have hh := h.isLt
      fin_cases a
      · show 0 ≤ b.val * 1 + 0 ∧ b.val * 1 + 0 - 0 < 2; omega
      · show 0 ≤ h.val * 1 + 0 ∧ h.val * 1 + 0 - 0 < 16; omega
      · show 1023 ≤ s.val * 1 + k.val ∧ s.val * 1 + k.val - 1023 < 1024; omega
  · rw [dif_neg hc, dif_neg]
    · rfl
    · intro hall
      have h2 : 1023 ≤ s.val * 1 + k.val := (hall 2).1
      omega

end Cert.Val.Ref
-- ==== Proof.V.RefSoft.lean ====
module
public import proofs.«01_k».proof.Proof.V.RefMax
public import proofs.«01_k».proof.Proof.V.RefCum

/-! The reference's softmax over the reals. -/

@[expose] public section

set_option maxRecDepth 16384

noncomputable section

namespace Cert.Val.Ref

open Cert.ReferenceIdeal Cert.ReferenceIdeal.Gen Cert.Val
open Idealize.ShloMosaic Idealize.ShloMosaic.TcCoe

/-- The weight of a step in a row. -/
def wgt (l : Fin 1024 → ℝ) (s t : Fin 1024) : ℝ :=
  (if t.val ≤ s.val then Real.exp (l t) else 0) / (∑ j : Fin 1024, if j.val ≤ s.val then Real.exp (l j) else 0)

/-- The weighted sum is the mean. -/
theorem wgt_soft (l x : Fin 1024 → ℝ) (s : Fin 1024) : (∑ t, x t * wgt l s t) = soft l x s := by
  unfold wgt soft
  rw [Finset.sum_div]
  refine Finset.sum_congr rfl fun t _ => ?_
  split_ifs
  · ring
  · simp

/-- The softmax of the masked logits. -/
theorem rSoft_real (y : FVec Ideal S2x16x1024x1024 .f32) (l : Fin 2 → Fin 16 → Fin 1024 → Fin 1024 → ℝ)
    (hy : ∀ b h s t, y (ix4 b h s t) = ((l b h s t : ℝ) : EReal)) (b : Fin 2) (h : Fin 16) (s t : Fin 1024) :
    rDiv (rExp (rMask y) (rMax (rMask y))) (ix4 b h s t) = ((wgt (l b h s) s t : ℝ) : EReal) := by
  obtain ⟨μ, hμ⟩ := rMax_real (rMask y) (fun b h s t => by
    rw [rMask_apply]; split_ifs
    · rw [hy]; exact EReal.coe_ne_top _
    · exact bot_ne_top) b h s s (by rw [rMask_apply, if_pos le_rfl, hy]; exact EReal.coe_ne_bot _)
  have hE : ∀ t, rExp (rMask y) (rMax (rMask y)) (ix4 b h s t)
      = ((Real.exp (-μ) * (if t.val ≤ s.val then Real.exp (l b h s t) else 0) : ℝ) : EReal) := by
    intro t
    rw [rExp_apply, hμ, rMask_apply]
    split_ifs
    · rw [hy, ← EReal.coe_sub, Ideal.exp_coe, ← Real.exp_add, neg_add_eq_sub]
    · rw [EReal.bot_sub, mul_zero]
      rfl
  rw [rDiv_apply]
  simp only [hE]
  rw [← coe_sum, ← Finset.mul_sum]
  have hpos := soft_pos (l b h s) s
  rw [Ideal.div_coe (mul_pos (Real.exp_pos _) hpos).ne', ← EReal.coe_mul, mul_one_div, mul_div_mul_left _ _ (Real.exp_pos _).ne']
  rfl

/-- The values mixed by the weights, heads side by side. -/
theorem rMixSoft_real (v : FVec Ideal S2x1024x16x64 .f32) (y : FVec Ideal S2x16x1024x1024 .f32) (Vv : Fin 2 → Fin 1024 → Fin 16 → Fin 64 → ℝ)
    (l : Fin 2 → Fin 16 → Fin 1024 → Fin 1024 → ℝ)
    (hv : ∀ b s h d, v (ix4 b s h d) = ((Vv b s h d : ℝ) : EReal))
    (hy : ∀ b h s t, y (ix4 b h s t) = ((l b h s t : ℝ) : EReal)) (b : Fin 2) (s e : Fin 1024) :
    rMix v (rDiv (rExp (rMask y) (rMax (rMask y)))) (ix3 b s e)
      = ((soft (l b ⟨e.val / 64, by omega⟩ s) (fun t => Vv b t ⟨e.val / 64, by omega⟩ ⟨e.val % 64, by omega⟩) s : ℝ) : EReal) := by
  rw [rMix_real v _ Vv (fun b h s t => wgt (l b h s) s t) hv (rSoft_real y l hy), wgt_soft]

end Cert.Val.Ref
-- ==== Proof.V.RefRead.lean ====
module
public import proofs.«01_k».proof.Proof.V.RefLoop
public import proofs.«01_k».proof.Proof.V.RefSoft
public import proofs.«01_k».proof.Proof.RI.Frm

/-! What each group of the reference's operations leaves. -/

@[expose] public section

set_option maxRecDepth 16384

noncomputable section

namespace Cert.Val.Ref

open Cert.ReferenceIdeal Cert.ReferenceIdeal.Gen Cert.ReferenceIdeal.Value Cert.ReferenceIdeal.Frm Cert.Val
open Idealize.ShloMosaic Idealize.ShloMosaic.TcCoe Idealize.ShloMosaic.StableHlo

variable (V : Valuation τ sig (Elt Ideal))

theorem g_v1 : after (hostOps0 : List (HloOp τ sig (Elt Ideal))) V (Proc.devRef .tc main_v1) = rHead (V (Proc.devRef .tc main_arg0)) (V (Proc.devRef .tc main_arg1)) := by
  rfl

theorem g_v3 : after (hostOps0 : List (HloOp τ sig (Elt Ideal))) V (Proc.devRef .tc main_v3) = rHead (V (Proc.devRef .tc main_arg0)) (V (Proc.devRef .tc main_arg2)) := by
  rfl

theorem g_v5 : after (hostOps0 : List (HloOp τ sig (Elt Ideal))) V (Proc.devRef .tc main_v5) = rHead (V (Proc.devRef .tc main_arg0)) (V (Proc.devRef .tc main_arg3)) := by
  rfl

theorem g_v16 : after (hostOps0 : List (HloOp τ sig (Elt Ideal))) V (Proc.devRef .tc main_v16) = rNrm (rWr (V (Proc.devRef .tc main_arg0)) (V (Proc.devRef .tc main_arg5)) (V (Proc.devRef .tc main_arg6))) := by
  rfl

theorem g_v25 : after (hostOps0 : List (HloOp τ sig (Elt Ideal))) V (Proc.devRef .tc main_v25) = rRate (rLin (V (Proc.devRef .tc main_arg0)) (V (Proc.devRef .tc main_arg7))) := by
  rfl

theorem g_v29 : after (hostOps0 : List (HloOp τ sig (Elt Ideal))) V (Proc.devRef .tc main_v29) = rZ (rLin (V (Proc.devRef .tc main_arg0)) (V (Proc.devRef .tc main_arg8))) (V (Proc.devRef .tc main_arg9)) := by
  rfl

theorem g_1_v30 : after (hostOps0_1 : List (HloOp τ sig (Elt Ideal))) V (Proc.devRef .tc main_v30) = rLg (V (Proc.devRef .tc main_v29)) := by
  rfl

theorem g_2_v31 : after (hostOps0_2 : List (HloOp τ sig (Elt Ideal))) V (Proc.devRef .tc main_v31) = rTr (V (Proc.devRef .tc main_v25)) := by
  rfl

theorem g_2_v32 : after (hostOps0_2 : List (HloOp τ sig (Elt Ideal))) V (Proc.devRef .tc main_v32) = rGram (V (Proc.devRef .tc main_v16)) (V (Proc.devRef .tc main_v16)) := by
  rfl

theorem g_3_v33 : after (hostOps0_3 : List (HloOp τ sig (Elt Ideal))) V (Proc.devRef .tc main_v33) = rPick rTrilS (V (Proc.devRef .tc main_v32)) := by
  after_results_simp_entrywise
  simp only [TRef.ofBuf_toBuf]
  unfold rPick rTrilS
  generalize (cmpi CmpIPredicate.sge (addi (iotaInDim S1024x1024 32 0) (broadcastInDim S1024x1024 ![] bcast_S_S1024x1024 (constantI S_ 32 4294967295#32))) (iotaInDim S1024x1024 32 1) : IVec S1024x1024 1) = p
  rfl

theorem g_4_v36 : after (hostOps0_4 : List (HloOp τ sig (Elt Ideal))) V (Proc.devRef .tc main_v36) = mulf (V (Proc.devRef .tc main_v33)) (rRow (V (Proc.devRef .tc main_v31))) := by
  rfl

theorem g_4_v37 : after (hostOps0_4 : List (HloOp τ sig (Elt Ideal))) V (Proc.devRef .tc main_v37) = rGram (V (Proc.devRef .tc main_v16)) (V (Proc.devRef .tc main_v3)) := by
  rfl

theorem g_5_v38 : after (hostOps0_5 : List (HloOp τ sig (Elt Ideal))) V (Proc.devRef .tc main_v38) = rPick rTrilS (V (Proc.devRef .tc main_v37)) := by
  after_results_simp_entrywise
  simp only [TRef.ofBuf_toBuf]
  unfold rPick rTrilS
  generalize (cmpi CmpIPredicate.sge (addi (iotaInDim S1024x1024 32 0) (broadcastInDim S1024x1024 ![] bcast_S_S1024x1024 (constantI S_ 32 4294967295#32))) (iotaInDim S1024x1024 32 1) : IVec S1024x1024 1) = p
  rfl

theorem g_6_v40_0 : after (hostOps0_6 : List (HloOp τ sig (Elt Ideal))) V (Proc.devRef .tc main_v40_0) = (V (Proc.devRef .tc main_v36)) := by
  rfl

theorem g_6_v40_1 : after (hostOps0_6 : List (HloOp τ sig (Elt Ideal))) V (Proc.devRef .tc main_v40_1) = (V (Proc.devRef .tc main_v38)) := by
  rfl

theorem g_6_v40_3 : after (hostOps0_6 : List (HloOp τ sig (Elt Ideal))) V (Proc.devRef .tc main_v40_3) = constantI S_ 32 0#32 := by
  rfl

theorem g_6_v40_4 : after (hostOps0_6 : List (HloOp τ sig (Elt Ideal))) V (Proc.devRef .tc main_v40_4) = (broadcastInDim S2x16x1024x1024 ![] bcast_S_S2x16x1024x1024 (constant S_ .f32 0x00000000#32) : FVec Ideal S2x16x1024x1024 .f32) := by
  rfl

theorem g_7_v44 : after (hostOps0_7 : List (HloOp τ sig (Elt Ideal))) V (Proc.devRef .tc main_v44) = mulf (rGram (V (Proc.devRef .tc main_v1)) (V (Proc.devRef .tc main_v16))) (rRow (V (Proc.devRef .tc main_v31))) := by
  rfl

theorem g_8_v45 : after (hostOps0_8 : List (HloOp τ sig (Elt Ideal))) V (Proc.devRef .tc main_v45) = rLow 0#32 (V (Proc.devRef .tc main_v44)) := by
  rfl

theorem g_9_v48 : after (hostOps0_9 : List (HloOp τ sig (Elt Ideal))) V (Proc.devRef .tc main_v48) = subf (rGram (V (Proc.devRef .tc main_v1)) (V (Proc.devRef .tc main_v3))) (rMM (V (Proc.devRef .tc main_v45)) (V (Proc.devRef .tc main_v40_4))) := by
  rfl

theorem g_9_v49 : after (hostOps0_9 : List (HloOp τ sig (Elt Ideal))) V (Proc.devRef .tc main_v49) = rTr (V (Proc.devRef .tc main_v30)) := by
  rfl

theorem g_10_v50 : after (hostOps0_10 : List (HloOp τ sig (Elt Ideal))) V (Proc.devRef .tc main_v50) = rCum (V (Proc.devRef .tc main_v49)) := by
  rfl

theorem g_11_v58 : after (hostOps0_11 : List (HloOp τ sig (Elt Ideal))) V (Proc.devRef .tc main_v58) = rLog (V (Proc.devRef .tc main_v48)) (V (Proc.devRef .tc main_v50)) := by
  rfl

theorem g_11_v59 : after (hostOps0_11 : List (HloOp τ sig (Elt Ideal))) V (Proc.devRef .tc main_v59) = broadcastInDim S1024x1024 ![] bcast_S_S1024x1024 (constantI S_ 1 1#1) := by
  rfl

theorem g_12_v60 : after (hostOps0_12 : List (HloOp τ sig (Elt Ideal))) V (Proc.devRef .tc main_v60) = select (rTril 0#32) (V (Proc.devRef .tc main_v59)) (broadcastInDim S1024x1024 ![] bcast_S_S1024x1024 (constantI S_ 1 0#1)) := by
  rfl

theorem g_13_cst_8 : after (hostOps0_13 : List (HloOp τ sig (Elt Ideal))) V (Proc.devRef .tc main_cst_8) = (constant S_ .f32 0xFF800000#32 : FVec Ideal S_ .f32) := by
  rfl

theorem g_14_v61 : after (hostOps0_14 : List (HloOp τ sig (Elt Ideal))) V (Proc.devRef .tc main_v61) = select (broadcastInDim S2x16x1024x1024 ![2, 3] bcast_S1024x1024_S2x16x1024x1024_2_3 (V (Proc.devRef .tc main_v60))) (V (Proc.devRef .tc main_v58)) (broadcastInDim S2x16x1024x1024 ![] bcast_S_S2x16x1024x1024 (id (V (Proc.devRef .tc main_cst_8)))) := by
  rfl

theorem g_15_v76 : after (hostOps0_15 : List (HloOp τ sig (Elt Ideal))) V (Proc.devRef .tc main_v76) = rProj (rMix (V (Proc.devRef .tc main_v5)) (rDiv (rExp (V (Proc.devRef .tc main_v61)) (rMax (V (Proc.devRef .tc main_v61)))))) (V (Proc.devRef .tc main_arg4)) := by
  after_results_entrywise [cast_eq]

end Cert.Val.Ref
-- ==== Proof.V.RefPre.lean ====
module
public import proofs.«01_k».proof.Proof.V.RefRead
public import proofs.«01_k».proof.Proof.V.RefCum

/-! The reference's result over the reals. -/

@[expose] public section

set_option maxRecDepth 16384

noncomputable section

namespace Cert.Val.Ref

open Cert.ReferenceIdeal Cert.ReferenceIdeal.Gen Cert.ReferenceIdeal.Value Cert.ReferenceIdeal.Frm Cert.Val
open Idealize.ShloMosaic Idealize.ShloMosaic.TcCoe Idealize.ShloMosaic.StableHlo

/-- An array's entries along its transposed axes. -/
theorem rTr_apply (y : FVec Ideal S2x1024x16 .f32) (b : Fin 2) (h : Fin 16) (s : Fin 1024) : rTr y (ix3 b h s) = y (ix3 b s h) := by
  unfold rTr
  pointwise []

/-- A row's number at every entry of the column. -/
theorem rRow_apply (y : FVec Ideal S2x16x1024 .f32) (b : Fin 2) (h : Fin 16) (s t : Fin 1024) : rRow y (ix4 b h s t) = y (ix3 b h t) := by
  unfold rRow
  pointwise []

section
variable (V : Valuation τ sig (Elt Ideal))

/-- What the operations before the loop leave in `v1`. -/
theorem pre_v1 : afterL preI V (Proc.devRef .tc main_v1) = rHead (V (Proc.devRef .tc main_arg0)) (V (Proc.devRef .tc main_arg1)) := by
  simp only [preI, afterL_cons, afterL_nil]
  rw [after_of_writes_sub hostOps0_6 _ hostOps0_6_writes (show main_v1 ∉ hostOps0_6_W by decide +kernel), after_of_writes_sub hostOps0_5 _ hostOps0_5_writes (show main_v1 ∉ hostOps0_5_W by decide +kernel), after_of_writes_sub hostOps0_4 _ hostOps0_4_writes (show main_v1 ∉ hostOps0_4_W by decide +kernel), after_of_writes_sub hostOps0_3 _ hostOps0_3_writes (show main_v1 ∉ hostOps0_3_W by decide +kernel), after_of_writes_sub hostOps0_2 _ hostOps0_2_writes (show main_v1 ∉ hostOps0_2_W by decide +kernel), after_of_writes_sub hostOps0_1 _ hostOps0_1_writes (show main_v1 ∉ hostOps0_1_W by decide +kernel), g_v1]

/-- What the operations before the loop leave in `v3`. -/
theorem pre_v3 : afterL preI V (Proc.devRef .tc main_v3) = rHead (V (Proc.devRef .tc main_arg0)) (V (Proc.devRef .tc main_arg2)) := by
  simp only [preI, afterL_cons, afterL_nil]
  rw [after_of_writes_sub hostOps0_6 _ hostOps0_6_writes (show main_v3 ∉ hostOps0_6_W by decide +kernel), after_of_writes_sub hostOps0_5 _ hostOps0_5_writes (show main_v3 ∉ hostOps0_5_W by decide +kernel), after_of_writes_sub hostOps0_4 _ hostOps0_4_writes (show main_v3 ∉ hostOps0_4_W by decide +kernel), after_of_writes_sub hostOps0_3 _ hostOps0_3_writes (show main_v3 ∉ hostOps0_3_W by decide +kernel), after_of_writes_sub hostOps0_2 _ hostOps0_2_writes (show main_v3 ∉ hostOps0_2_W by decide +kernel), after_of_writes_sub hostOps0_1 _ hostOps0_1_writes (show main_v3 ∉ hostOps0_1_W by decide +kernel), g_v3]

/-- What the operations before the loop leave in `v5`. -/
theorem pre_v5 : afterL preI V (Proc.devRef .tc main_v5) = rHead (V (Proc.devRef .tc main_arg0)) (V (Proc.devRef .tc main_arg3)) := by
  simp only [preI, afterL_cons, afterL_nil]
  rw [after_of_writes_sub hostOps0_6 _ hostOps0_6_writes (show main_v5 ∉ hostOps0_6_W by decide +kernel), after_of_writes_sub hostOps0_5 _ hostOps0_5_writes (show main_v5 ∉ hostOps0_5_W by decide +kernel), after_of_writes_sub hostOps0_4 _ hostOps0_4_writes (show main_v5 ∉ hostOps0_4_W by decide +kernel), after_of_writes_sub hostOps0_3 _ hostOps0_3_writes (show main_v5 ∉ hostOps0_3_W by decide +kernel), after_of_writes_sub hostOps0_2 _ hostOps0_2_writes (show main_v5 ∉ hostOps0_2_W by decide +kernel), after_of_writes_sub hostOps0_1 _ hostOps0_1_writes (show main_v5 ∉ hostOps0_1_W by decide +kernel), g_v5]

/-- What the operations before the loop leave in `v16`. -/
theorem pre_v16 : afterL preI V (Proc.devRef .tc main_v16) = rNrm (rWr (V (Proc.devRef .tc main_arg0)) (V (Proc.devRef .tc main_arg5)) (V (Proc.devRef .tc main_arg6))) := by
  simp only [preI, afterL_cons, afterL_nil]
  rw [after_of_writes_sub hostOps0_6 _ hostOps0_6_writes (show main_v16 ∉ hostOps0_6_W by decide +kernel), after_of_writes_sub hostOps0_5 _ hostOps0_5_writes (show main_v16 ∉ hostOps0_5_W by decide +kernel), after_of_writes_sub hostOps0_4 _ hostOps0_4_writes (show main_v16 ∉ hostOps0_4_W by decide +kernel), after_of_writes_sub hostOps0_3 _ hostOps0_3_writes (show main_v16 ∉ hostOps0_3_W by decide +kernel), after_of_writes_sub hostOps0_2 _ hostOps0_2_writes (show main_v16 ∉ hostOps0_2_W by decide +kernel), after_of_writes_sub hostOps0_1 _ hostOps0_1_writes (show main_v16 ∉ hostOps0_1_W by decide +kernel), g_v16]

/-- What the operations before the loop leave in `v30`. -/
theorem pre_v30 : afterL preI V (Proc.devRef .tc main_v30) = rLg (rZ (rLin (V (Proc.devRef .tc main_arg0)) (V (Proc.devRef .tc main_arg8))) (V (Proc.devRef .tc main_arg9))) := by
  simp only [preI, afterL_cons, afterL_nil]
  rw [after_of_writes_sub hostOps0_6 _ hostOps0_6_writes (show main_v30 ∉ hostOps0_6_W by decide +kernel), after_of_writes_sub hostOps0_5 _ hostOps0_5_writes (show main_v30 ∉ hostOps0_5_W by decide +kernel), after_of_writes_sub hostOps0_4 _ hostOps0_4_writes (show main_v30 ∉ hostOps0_4_W by decide +kernel), after_of_writes_sub hostOps0_3 _ hostOps0_3_writes (show main_v30 ∉ hostOps0_3_W by decide +kernel), after_of_writes_sub hostOps0_2 _ hostOps0_2_writes (show main_v30 ∉ hostOps0_2_W by decide +kernel), g_1_v30, g_v29]

/-- What the operations before the loop leave in `v31`. -/
theorem pre_v31 : afterL preI V (Proc.devRef .tc main_v31) = rTr (rRate (rLin (V (Proc.devRef .tc main_arg0)) (V (Proc.devRef .tc main_arg7)))) := by
  simp only [preI, afterL_cons, afterL_nil]
  rw [after_of_writes_sub hostOps0_6 _ hostOps0_6_writes (show main_v31 ∉ hostOps0_6_W by decide +kernel), after_of_writes_sub hostOps0_5 _ hostOps0_5_writes (show main_v31 ∉ hostOps0_5_W by decide +kernel), after_of_writes_sub hostOps0_4 _ hostOps0_4_writes (show main_v31 ∉ hostOps0_4_W by decide +kernel), after_of_writes_sub hostOps0_3 _ hostOps0_3_writes (show main_v31 ∉ hostOps0_3_W by decide +kernel), g_2_v31, after_of_writes_sub hostOps0_1 _ hostOps0_1_writes (show main_v25 ∉ hostOps0_1_W by decide +kernel), g_v25]

/-- What the operations before the loop leave in `v40_0`. -/
theorem pre_v40_0 : afterL preI V (Proc.devRef .tc main_v40_0) = mulf (rPick rTrilS (rGram (rNrm (rWr (V (Proc.devRef .tc main_arg0)) (V (Proc.devRef .tc main_arg5)) (V (Proc.devRef .tc main_arg6)))) (rNrm (rWr (V (Proc.devRef .tc main_arg0)) (V (Proc.devRef .tc main_arg5)) (V (Proc.devRef .tc main_arg6)))))) (rRow (rTr (rRate (rLin (V (Proc.devRef .tc main_arg0)) (V (Proc.devRef .tc main_arg7)))))) := by
  simp only [preI, afterL_cons, afterL_nil]
  rw [g_6_v40_0, after_of_writes_sub hostOps0_5 _ hostOps0_5_writes (show main_v36 ∉ hostOps0_5_W by decide +kernel), g_4_v36, g_3_v33, g_2_v32, after_of_writes_sub hostOps0_1 _ hostOps0_1_writes (show main_v16 ∉ hostOps0_1_W by decide +kernel), g_v16, after_of_writes_sub hostOps0_3 _ hostOps0_3_writes (show main_v31 ∉ hostOps0_3_W by decide +kernel), g_2_v31, after_of_writes_sub hostOps0_1 _ hostOps0_1_writes (show main_v25 ∉ hostOps0_1_W by decide +kernel), g_v25]

/-- What the operations before the loop leave in `v40_1`. -/
theorem pre_v40_1 : afterL preI V (Proc.devRef .tc main_v40_1) = rPick rTrilS (rGram (rNrm (rWr (V (Proc.devRef .tc main_arg0)) (V (Proc.devRef .tc main_arg5)) (V (Proc.devRef .tc main_arg6)))) (rHead (V (Proc.devRef .tc main_arg0)) (V (Proc.devRef .tc main_arg2)))) := by
  simp only [preI, afterL_cons, afterL_nil]
  rw [g_6_v40_1, g_5_v38, g_4_v37, after_of_writes_sub hostOps0_3 _ hostOps0_3_writes (show main_v16 ∉ hostOps0_3_W by decide +kernel), after_of_writes_sub hostOps0_2 _ hostOps0_2_writes (show main_v16 ∉ hostOps0_2_W by decide +kernel), after_of_writes_sub hostOps0_1 _ hostOps0_1_writes (show main_v16 ∉ hostOps0_1_W by decide +kernel), g_v16, after_of_writes_sub hostOps0_3 _ hostOps0_3_writes (show main_v3 ∉ hostOps0_3_W by decide +kernel), after_of_writes_sub hostOps0_2 _ hostOps0_2_writes (show main_v3 ∉ hostOps0_2_W by decide +kernel), after_of_writes_sub hostOps0_1 _ hostOps0_1_writes (show main_v3 ∉ hostOps0_1_W by decide +kernel), g_v3]

/-- What the operations before the loop leave in `v40_3`. -/
theorem pre_v40_3 : afterL preI V (Proc.devRef .tc main_v40_3) = constantI S_ 32 0#32 := by
  simp only [preI, afterL_cons, afterL_nil]
  rw [g_6_v40_3]

/-- What the operations before the loop leave in `v40_4`. -/
theorem pre_v40_4 : afterL preI V (Proc.devRef .tc main_v40_4) = (broadcastInDim S2x16x1024x1024 ![] bcast_S_S2x16x1024x1024 (constant S_ .f32 0x00000000#32) : FVec Ideal S2x16x1024x1024 .f32) := by
  simp only [preI, afterL_cons, afterL_nil]
  rw [g_6_v40_4]

/-- What the operations after the loop leave in the result. -/
theorem post_v76 : afterL postI V (Proc.devRef .tc main_v76)
    = rProj (rMix (V (Proc.devRef .tc main_v5)) (rDiv (rExp (rMask (rLog (subf (rGram (V (Proc.devRef .tc main_v1)) (V (Proc.devRef .tc main_v3))) (rMM (rLow 0#32 (mulf (rGram (V (Proc.devRef .tc main_v1)) (V (Proc.devRef .tc main_v16))) (rRow (V (Proc.devRef .tc main_v31))))) (V (Proc.devRef .tc main_v40_4)))) (rCum (rTr (V (Proc.devRef .tc main_v30)))))) (rMax (rMask (rLog (subf (rGram (V (Proc.devRef .tc main_v1)) (V (Proc.devRef .tc main_v3))) (rMM (rLow 0#32 (mulf (rGram (V (Proc.devRef .tc main_v1)) (V (Proc.devRef .tc main_v16))) (rRow (V (Proc.devRef .tc main_v31))))) (V (Proc.devRef .tc main_v40_4)))) (rCum (rTr (V (Proc.devRef .tc main_v30)))))))))) (V (Proc.devRef .tc main_arg4)) := by
  simp only [postI, afterL_cons, afterL_nil]
  rw [g_15_v76, after_of_writes_sub hostOps0_14 _ hostOps0_14_writes (show main_v5 ∉ hostOps0_14_W by decide +kernel), after_of_writes_sub hostOps0_13 _ hostOps0_13_writes (show main_v5 ∉ hostOps0_13_W by decide +kernel), after_of_writes_sub hostOps0_12 _ hostOps0_12_writes (show main_v5 ∉ hostOps0_12_W by decide +kernel), after_of_writes_sub hostOps0_11 _ hostOps0_11_writes (show main_v5 ∉ hostOps0_11_W by decide +kernel), after_of_writes_sub hostOps0_10 _ hostOps0_10_writes (show main_v5 ∉ hostOps0_10_W by decide +kernel), after_of_writes_sub hostOps0_9 _ hostOps0_9_writes (show main_v5 ∉ hostOps0_9_W by decide +kernel), after_of_writes_sub hostOps0_8 _ hostOps0_8_writes (show main_v5 ∉ hostOps0_8_W by decide +kernel), after_of_writes_sub hostOps0_7 _ hostOps0_7_writes (show main_v5 ∉ hostOps0_7_W by decide +kernel), after_of_writes_sub hostOps0_14 _ hostOps0_14_writes (show main_arg4 ∉ hostOps0_14_W by decide +kernel), after_of_writes_sub hostOps0_13 _ hostOps0_13_writes (show main_arg4 ∉ hostOps0_13_W by decide +kernel), after_of_writes_sub hostOps0_12 _ hostOps0_12_writes (show main_arg4 ∉ hostOps0_12_W by decide +kernel), after_of_writes_sub hostOps0_11 _ hostOps0_11_writes (show main_arg4 ∉ hostOps0_11_W by decide +kernel), after_of_writes_sub hostOps0_10 _ hostOps0_10_writes (show main_arg4 ∉ hostOps0_10_W by decide +kernel), after_of_writes_sub hostOps0_9 _ hostOps0_9_writes (show main_arg4 ∉ hostOps0_9_W by decide +kernel), after_of_writes_sub hostOps0_8 _ hostOps0_8_writes (show main_arg4 ∉ hostOps0_8_W by decide +kernel), after_of_writes_sub hostOps0_7 _ hostOps0_7_writes (show main_arg4 ∉ hostOps0_7_W by decide +kernel), g_14_v61, g_13_cst_8, after_of_writes_sub hostOps0_13 _ hostOps0_13_writes (show main_v60 ∉ hostOps0_13_W by decide +kernel), g_12_v60, after_of_writes_sub hostOps0_13 _ hostOps0_13_writes (show main_v58 ∉ hostOps0_13_W by decide +kernel), after_of_writes_sub hostOps0_12 _ hostOps0_12_writes (show main_v58 ∉ hostOps0_12_W by decide +kernel), g_11_v58, g_11_v59, after_of_writes_sub hostOps0_10 _ hostOps0_10_writes (show main_v48 ∉ hostOps0_10_W by decide +kernel), g_9_v48, after_of_writes_sub hostOps0_8 _ hostOps0_8_writes (show main_v1 ∉ hostOps0_8_W by decide +kernel), after_of_writes_sub hostOps0_7 _ hostOps0_7_writes (show main_v1 ∉ hostOps0_7_W by decide +kernel), after_of_writes_sub hostOps0_8 _ hostOps0_8_writes (show main_v3 ∉ hostOps0_8_W by decide +kernel), after_of_writes_sub hostOps0_7 _ hostOps0_7_writes (show main_v3 ∉ hostOps0_7_W by decide +kernel), g_8_v45, g_7_v44, after_of_writes_sub hostOps0_8 _ hostOps0_8_writes (show main_v40_4 ∉ hostOps0_8_W by decide +kernel), after_of_writes_sub hostOps0_7 _ hostOps0_7_writes (show main_v40_4 ∉ hostOps0_7_W by decide +kernel), g_10_v50, g_9_v49, after_of_writes_sub hostOps0_8 _ hostOps0_8_writes (show main_v30 ∉ hostOps0_8_W by decide +kernel), after_of_writes_sub hostOps0_7 _ hostOps0_7_writes (show main_v30 ∉ hostOps0_7_W by decide +kernel)]
  unfold rMask
  with_reducible rfl

end

/-- The loop's buffers before trip `k`. -/
theorem loop_vals (V0 : Valuation τ sig (Elt Ideal)) (L M : Fin 2 → Fin 16 → Fin 1024 → Fin 1024 → ℝ)
    (h0 : ∀ b h s t, (V0 (Proc.devRef .tc main_v40_0) : FVec Ideal S2x16x1024x1024 .f32) (ix4 b h s t) = ((L b h s t : ℝ) : EReal))
    (h1 : ∀ b h s t, (V0 (Proc.devRef .tc main_v40_1) : FVec Ideal S2x16x1024x1024 .f32) (ix4 b h s t) = ((M b h s t : ℝ) : EReal))
    (h3 : V0 (Proc.devRef .tc main_v40_3) = constantI S_ 32 0#32)
    (h4 : ∀ b h s t, (V0 (Proc.devRef .tc main_v40_4) : FVec Ideal S2x16x1024x1024 .f32) (ix4 b h s t) = ((0 : ℝ) : EReal)) :
    ∀ k : ℕ, k ≤ 1024 → STEP^[k] V0 (Proc.devRef .tc main_v40_0) = V0 (Proc.devRef .tc main_v40_0)
      ∧ STEP^[k] V0 (Proc.devRef .tc main_v40_1) = V0 (Proc.devRef .tc main_v40_1)
      ∧ STEP^[k] V0 (Proc.devRef .tc main_v40_3) = constantI S_ 32 (BitVec.ofNat 32 k)
      ∧ ∀ b h s t, (STEP^[k] V0 (Proc.devRef .tc main_v40_4) : FVec Ideal S2x16x1024x1024 .f32) (ix4 b h s t) = ((seqR L M k b h s t : ℝ) : EReal)
  | 0, _ => ⟨rfl, rfl, h3, h4⟩
  | k + 1, hk => by
    obtain ⟨i0, i1, i3, i4⟩ := loop_vals V0 L M h0 h1 h3 h4 k (by omega)
    rw [Function.iterate_succ_apply']
    refine ⟨(STEP_main_v40_0 _).trans i0, (STEP_main_v40_1 _).trans i1, ?_, fun b h s t => ?_⟩
    · rw [STEP_main_v40_3]
      unfold step_main_v40_3
      rw [i3]
      funext j
      show BitVec.ofNat 32 k + 1#32 = BitVec.ofNat 32 (k + 1)
      rw [BitVec.ofNat_add]
    · rw [STEP_main_v40_4]
      show rStep (STEP^[k] V0 (Proc.devRef .tc main_v40_0)) (STEP^[k] V0 (Proc.devRef .tc main_v40_1)) (STEP^[k] V0 (Proc.devRef .tc main_v40_4)) (STEP^[k] V0 (Proc.devRef .tc main_v40_3)) (ix4 b h s t) = _
      have e : seqR L M (k + 1) = stepR L M (seqR L M k) ⟨k, by omega⟩ := dif_pos (by omega)
      rw [e]
      exact rStep_real _ _ _ L M _ (fun b h s t => by rw [i0]; exact h0 b h s t) (fun b h s t => by rw [i1]; exact h1 b h s t) i4 _ ⟨k, by omega⟩ i3 b h s t

end Cert.Val.Ref
-- ==== Proof.V.RefEntry.lean ====
module
public import proofs.«01_k».proof.Proof.V.RefPre
public import proofs.«01_k».proof.Proof.V.Spec

/-! The reference's result over the reals. -/

@[expose] public section

set_option maxRecDepth 16384

noncomputable section

namespace Cert.Val

variable (P : Prm)

namespace Ref

open Cert.ReferenceIdeal Cert.ReferenceIdeal.Gen Cert.ReferenceIdeal.Value Cert.ReferenceIdeal.Frm Cert.Val
open Idealize.ShloMosaic Idealize.ShloMosaic.TcCoe Idealize.ShloMosaic.StableHlo

/-- A product's entry. -/
theorem mulf_at (x y : FVec Ideal S2x16x1024x1024 .f32) (i : S2x16x1024x1024.Idx) : mulf x y i = x i * y i := rfl
/-- A difference's entry. -/
theorem subf_at (x y : FVec Ideal S2x16x1024x1024 .f32) (i : S2x16x1024x1024.Idx) : subf x y i = x i - y i := rfl

/-- The arguments' contents are the real arguments. -/
structure Reads (V : Valuation τ sig (Elt Ideal)) : Prop where
  a0 : ∀ b s e, (V (Proc.devRef .tc main_arg0) : FVec Ideal S2x1024x1024 .f32) (ix3 b s e) = ((P.X b s e : ℝ) : EReal)
  a1 : ∀ e f, (V (Proc.devRef .tc main_arg1) : FVec Ideal S1024x1024 .f32) (ix2 e f) = ((P.Wq e f : ℝ) : EReal)
  a2 : ∀ e f, (V (Proc.devRef .tc main_arg2) : FVec Ideal S1024x1024 .f32) (ix2 e f) = ((P.Wk e f : ℝ) : EReal)
  a3 : ∀ e f, (V (Proc.devRef .tc main_arg3) : FVec Ideal S1024x1024 .f32) (ix2 e f) = ((P.Wv e f : ℝ) : EReal)
  a4 : ∀ e f, (V (Proc.devRef .tc main_arg4) : FVec Ideal S1024x1024 .f32) (ix2 e f) = ((P.Wo e f : ℝ) : EReal)
  a5 : ∀ e f, (V (Proc.devRef .tc main_arg5) : FVec Ideal S1024x64 .f32) (ix2 e f) = ((P.W1 e f : ℝ) : EReal)
  a6 : ∀ e f, (V (Proc.devRef .tc main_arg6) : FVec Ideal S64x1024 .f32) (ix2 e f) = ((P.W2 e f : ℝ) : EReal)
  a7 : ∀ e f, (V (Proc.devRef .tc main_arg7) : FVec Ideal S1024x16 .f32) (ix2 e f) = ((P.Wb e f : ℝ) : EReal)
  a8 : ∀ e f, (V (Proc.devRef .tc main_arg8) : FVec Ideal S1024x16 .f32) (ix2 e f) = ((P.Wf e f : ℝ) : EReal)
  a9 : ∀ f, (V (Proc.devRef .tc main_arg9) : FVec Ideal S16 .f32) (ix1 f) = ((P.De f : ℝ) : EReal)

section
variable {P}
variable {V : Valuation τ sig (Elt Ideal)} (R : Reads P V)
include R

theorem e_v1 (b : Fin 2) (s : Fin 1024) (h : Fin 16) (d : Fin 64) :
    (afterL preI V (Proc.devRef .tc main_v1) : FVec Ideal S2x1024x16x64 .f32) (ix4 b s h d) = ((qB P b s h d : ℝ) : EReal) := by
  rw [pre_v1]; exact rHead_real P.X _ R.a0 _ P.Wq R.a1 b s h d
theorem e_v3 (b : Fin 2) (s : Fin 1024) (h : Fin 16) (d : Fin 64) :
    (afterL preI V (Proc.devRef .tc main_v3) : FVec Ideal S2x1024x16x64 .f32) (ix4 b s h d) = ((kB P b s h d : ℝ) : EReal) := by
  rw [pre_v3]; exact rHead_real P.X _ R.a0 _ P.Wk R.a2 b s h d
theorem e_v5 (b : Fin 2) (s : Fin 1024) (h : Fin 16) (d : Fin 64) :
    (afterL preI V (Proc.devRef .tc main_v5) : FVec Ideal S2x1024x16x64 .f32) (ix4 b s h d) = ((vB P b s h d : ℝ) : EReal) := by
  rw [pre_v5]; exact rHead_real P.X _ R.a0 _ P.Wv R.a3 b s h d
theorem e_w (b : Fin 2) (s : Fin 1024) (h : Fin 16) (d : Fin 64) :
    rNrm (rWr (V (Proc.devRef .tc main_arg0)) (V (Proc.devRef .tc main_arg5)) (V (Proc.devRef .tc main_arg6))) (ix4 b s h d) = ((wB P b s h d : ℝ) : EReal) :=
  rNrm_real _ (fun b s h d => wraw P.X P.W1 P.W2 b s (col h d)) (rWr_real P.X _ R.a0 _ P.W1 R.a5 _ P.W2 R.a6) b s h d
theorem e_v16 (b : Fin 2) (s : Fin 1024) (h : Fin 16) (d : Fin 64) :
    (afterL preI V (Proc.devRef .tc main_v16) : FVec Ideal S2x1024x16x64 .f32) (ix4 b s h d) = ((wB P b s h d : ℝ) : EReal) := by
  rw [pre_v16]; exact e_w R b s h d
theorem e_t (b : Fin 2) (h : Fin 16) (s : Fin 1024) :
    rTr (rRate (rLin (V (Proc.devRef .tc main_arg0)) (V (Proc.devRef .tc main_arg7)))) (ix3 b h s) = ((tB P b s h : ℝ) : EReal) := by
  rw [rTr_apply]
  exact rRate_real _ _ (rLin_real P.X _ R.a0 _ P.Wb R.a7) b s h
theorem e_v31 (b : Fin 2) (h : Fin 16) (s : Fin 1024) :
    (afterL preI V (Proc.devRef .tc main_v31) : FVec Ideal S2x16x1024 .f32) (ix3 b h s) = ((tB P b s h : ℝ) : EReal) := by
  rw [pre_v31]; exact e_t R b h s
theorem e_v30 (b : Fin 2) (s : Fin 1024) (h : Fin 16) :
    (afterL preI V (Proc.devRef .tc main_v30) : FVec Ideal S2x1024x16 .f32) (ix3 b s h) = ((lB P b s h : ℝ) : EReal) := by
  rw [pre_v30]; exact rLg_real _ _ (rZ_real _ _ (rLin_real P.X _ R.a0 _ P.Wf R.a8) _ P.De R.a9) b s h
theorem e_v40_0 (b : Fin 2) (h : Fin 16) (s t : Fin 1024) :
    (afterL preI V (Proc.devRef .tc main_v40_0) : FVec Ideal S2x16x1024x1024 .f32) (ix4 b h s t) = ((LB P b h s t : ℝ) : EReal) := by
  rw [pre_v40_0]
  rw [mulf_at, rLow_real _ _ (rGram_real _ _ _ _ (e_w R) (e_w R)), rRow_apply, e_t R, ← EReal.coe_mul]
  rfl
theorem e_v40_1 (b : Fin 2) (h : Fin 16) (s t : Fin 1024) :
    (afterL preI V (Proc.devRef .tc main_v40_1) : FVec Ideal S2x16x1024x1024 .f32) (ix4 b h s t) = ((MB P b h s t : ℝ) : EReal) := by
  rw [pre_v40_1]
  exact rLow_real _ _ (rGram_real _ _ _ _ (e_w R) (rHead_real P.X _ R.a0 _ P.Wk R.a2)) b h s t
omit R in
theorem e_v40_4 (V : Valuation τ sig (Elt Ideal)) (b : Fin 2) (h : Fin 16) (s t : Fin 1024) :
    (afterL preI V (Proc.devRef .tc main_v40_4) : FVec Ideal S2x16x1024x1024 .f32) (ix4 b h s t) = ((0 : ℝ) : EReal) := by
  rw [pre_v40_4]
  exact zero_bits

end

end Ref

end Cert.Val
-- ==== Proof.V.RefVal.lean ====
module
public import proofs.«01_k».proof.Proof.V.RefEntry

/-! The reference's result over the reals. -/

@[expose] public section

set_option maxRecDepth 16384

noncomputable section

namespace Cert.Val

variable (P : Prm)

namespace Ref

open Cert.ReferenceIdeal Cert.ReferenceIdeal.Gen Cert.ReferenceIdeal.Value Cert.ReferenceIdeal.Frm Cert.Val
open Idealize.ShloMosaic Idealize.ShloMosaic.TcCoe Idealize.ShloMosaic.StableHlo

section
variable (m : (ℓ : Loc nD τ sig) → Buf (Elt Ideal) ℓ) (c : Dev nD)
variable (R : Reads P (fun b => m ((c : Dev nD), b)))

/-- A buffer the loop writes nowhere holds after the loop what it held before. -/
theorem z_keep (r : Ref sig .tc) (h : r ∉ condOps_W) (h' : r ∉ while0Ops0_W) :
    after condOps (atK m 1024 c) (Proc.devRef .tc r) = afterL preI (fun b => m ((c : Dev nD), b)) (Proc.devRef .tc r) := by
  rw [after_of_writes_sub condOps _ condOps_writes h, loop_keep m c r h h']

include R in
/-- The coefficients after the loop. -/
theorem z_v40_4 (b : Fin 2) (h : Fin 16) (s t : Fin 1024) :
    (after condOps (atK m 1024 c) (Proc.devRef .tc main_v40_4) : FVec Ideal S2x16x1024x1024 .f32) (ix4 b h s t) = ((CB P b h s t : ℝ) : EReal) := by
  rw [cond_keeps _ main_v40_4 (by decide), atK_agree m c 1024 main_v40_4 (by decide)]
  have key := fun k hk => (loop_vals (afterL preI (fun b => m ((c : Dev nD), b))) (LB P) (MB P) (e_v40_0 R) (e_v40_1 R) (pre_v40_3 _) (e_v40_4 _) k hk).2.2.2 b h s t
  unfold CB
  exact key 1024 (Nat.le_refl 1024)

/-- The result is what the operations after the loop leave. -/
theorem fin_eq : finalContents condOps preI bodyI postI 1024 m c (Proc.devRef .tc main_v76)
    = afterL postI (after condOps (atK m 1024 c)) (Proc.devRef .tc main_v76) := by
  unfold finalContents
  with_reducible rfl

include R in
/-- The reference's result. -/
theorem ref_val (b : Fin 2) (s e : Fin 1024) :
    (finalContents condOps preI bodyI postI 1024 m c (Proc.devRef .tc main_v76) : FVec Ideal S2x1024x1024 .f32) (ix3 b s e) = ((resS P b s e : ℝ) : EReal) := by
  rw [fin_eq, post_v76]
  have k1 := z_keep m c main_v1 (by decide +kernel) (by decide +kernel)
  have k3 := z_keep m c main_v3 (by decide +kernel) (by decide +kernel)
  have k5 := z_keep m c main_v5 (by decide +kernel) (by decide +kernel)
  have k16 := z_keep m c main_v16 (by decide +kernel) (by decide +kernel)
  have k30 := z_keep m c main_v30 (by decide +kernel) (by decide +kernel)
  have k31 := z_keep m c main_v31 (by decide +kernel) (by decide +kernel)
  have k4 := (z_keep m c main_arg4 (by decide +kernel) (by decide +kernel)).trans (pre_keep main_arg4 _ (by decide +kernel))
  rw [k1, k3, k5, k16, k30, k31, k4, resS_eq]
  have hC := z_v40_4 P m c R
  generalize (after condOps (atK m 1024 c) (Proc.devRef .tc main_v40_4)) = zC at hC ⊢
  refine rProj_real (mB P) _ ?_ _ P.Wo R.a4 b s e
  refine rMixSoft_real _ _ (vB P) (logB P) (e_v5 R) ?_
  refine rLog_real _ _ (sB P) (cB P) ?_ ?_
  · intro b h s t
    rw [subf_at, rGram_real _ _ _ _ (e_v1 R) (e_v3 R),
      rMM_real _ _ (fun b h s r => if r.val ≤ s.val then (∑ d, qB P b s h d * wB P b r h d) * tB P b r h else 0) (CB P) ?_ hC, ← EReal.coe_sub]
    · rfl
    · refine rLow0_real _ (fun b h s r => (∑ d, qB P b s h d * wB P b r h d) * tB P b r h) ?_
      intro b h s r
      rw [mulf_at, rGram_real _ _ _ _ (e_v1 R) (e_v16 R), rRow_apply, e_v31 R, ← EReal.coe_mul]
  · refine rCum_real _ (fun b h s => lB P b s h) ?_
    intro b h s
    rw [rTr_apply]
    exact e_v30 R b s h

end

end Ref

end Cert.Val
-- ==== Proof.V.Finite.lean ====
module
public import proofs.«01_k».proof.Defs
public import proofs.«01_k».proof.Proof.V.KVal
public import proofs.«01_k».proof.Proof.V.RefVal

/-! Finite arguments are real arguments. -/

@[expose] public section

set_option maxRecDepth 16384

noncomputable section

namespace Cert.Val

open Idealize.ShloMosaic Idealize.ShloMosaic.TcCoe

theorem posInf_bits : Ideal.ofBits .f32 0x7F800000#32 = (⊤ : EReal) := by
  simp [Ideal.ofBits, Ideal.ieee]

/-- A number whose absolute value is less than infinity is real. -/
theorem real_of_abs_lt (x : EReal) (h : max x (-x) < ⊤) : x = ((x.toReal : ℝ) : EReal) := by
  rw [max_lt_iff] at h
  refine (EReal.coe_toReal (ne_of_lt h.1) ?_).symm
  intro e
  rw [e, EReal.neg_bot] at h
  exact absurd h.2 (lt_irrefl _)

/-- An array that passes the test is real. -/
theorem real_of_test {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    x i = (((x i).toReal : ℝ) : EReal) := by
  have hi := congrFun h i
  have hi' : BitVec.ofBool (decide (max (x i) (-(x i)) < Ideal.ofBits .f32 0x7F800000#32)) = 1#1 := hi
  rw [posInf_bits] at hi'
  refine real_of_abs_lt _ ?_
  by_contra hn
  rw [decide_eq_false hn] at hi'
  exact absurd hi' (by decide)

end Cert.Val
-- ==== Proof.V.Alg.lean ====
module
public import proofs.«01_k».proof.Proof.V.Finite

/-! The idealized kernel and the reference end with the same result. -/

@[expose] public section

set_option maxRecDepth 16384

noncomputable section

namespace Cert.Val

open Idealize.ShloMosaic Idealize.ShloMosaic.TcCoe Idealize.SL.Sem

/-- The precondition's shapes. -/
theorem preFacts : Cert.Pre_finite_args.Facts :=
  ⟨⟨fun a => a.elim0, fun a => a.elim0⟩, ⟨fun a => a.elim0, fun a => a.elim0⟩, ⟨fun a => a.elim0, fun a => a.elim0⟩, ⟨fun a => a.elim0, fun a => a.elim0⟩, ⟨fun a => a.elim0, fun a => a.elim0⟩, ⟨fun a => a.elim0, fun a => a.elim0⟩⟩

section
variable (m : (ℓ : Loc Cert.KernelIdeal.nD Cert.KernelIdeal.τ Cert.KernelIdeal.sig) → Buf (Elt Ideal) ℓ) (c : Dev Cert.KernelIdeal.nD)

/-- Argument 0 as launched. -/
def in0 : FVec Ideal Cert.KernelIdeal.S2x1024x1024 .f32 := m ((c.tc : Thread Cert.KernelIdeal.nD Cert.KernelIdeal.τ).loc Cert.KernelIdeal.main_arg0)
/-- Argument 1 as launched. -/
def in1 : FVec Ideal Cert.KernelIdeal.S1024x1024 .f32 := m ((c.tc : Thread Cert.KernelIdeal.nD Cert.KernelIdeal.τ).loc Cert.KernelIdeal.main_arg1)
/-- Argument 2 as launched. -/
def in2 : FVec Ideal Cert.KernelIdeal.S1024x1024 .f32 := m ((c.tc : Thread Cert.KernelIdeal.nD Cert.KernelIdeal.τ).loc Cert.KernelIdeal.main_arg2)
/-- Argument 3 as launched. -/
def in3 : FVec Ideal Cert.KernelIdeal.S1024x1024 .f32 := m ((c.tc : Thread Cert.KernelIdeal.nD Cert.KernelIdeal.τ).loc Cert.KernelIdeal.main_arg3)
/-- Argument 4 as launched. -/
def in4 : FVec Ideal Cert.KernelIdeal.S1024x1024 .f32 := m ((c.tc : Thread Cert.KernelIdeal.nD Cert.KernelIdeal.τ).loc Cert.KernelIdeal.main_arg4)
/-- Argument 5 as launched. -/
def in5 : FVec Ideal Cert.KernelIdeal.S1024x64 .f32 := m ((c.tc : Thread Cert.KernelIdeal.nD Cert.KernelIdeal.τ).loc Cert.KernelIdeal.main_arg5)
/-- Argument 6 as launched. -/
def in6 : FVec Ideal Cert.KernelIdeal.S64x1024 .f32 := m ((c.tc : Thread Cert.KernelIdeal.nD Cert.KernelIdeal.τ).loc Cert.KernelIdeal.main_arg6)
/-- Argument 7 as launched. -/
def in7 : FVec Ideal Cert.KernelIdeal.S1024x16 .f32 := m ((c.tc : Thread Cert.KernelIdeal.nD Cert.KernelIdeal.τ).loc Cert.KernelIdeal.main_arg7)
/-- Argument 8 as launched. -/
def in8 : FVec Ideal Cert.KernelIdeal.S1024x16 .f32 := m ((c.tc : Thread Cert.KernelIdeal.nD Cert.KernelIdeal.τ).loc Cert.KernelIdeal.main_arg8)
/-- Argument 9 as launched. -/
def in9 : FVec Ideal Cert.KernelIdeal.S16 .f32 := m ((c.tc : Thread Cert.KernelIdeal.nD Cert.KernelIdeal.τ).loc Cert.KernelIdeal.main_arg9)

/-- The real arguments. -/
def prm : Prm where
  X i j k := (in0 m c (ix3 i j k)).toReal
  Wq i j := (in1 m c (ix2 i j)).toReal
  Wk i j := (in2 m c (ix2 i j)).toReal
  Wv i j := (in3 m c (ix2 i j)).toReal
  Wo i j := (in4 m c (ix2 i j)).toReal
  W1 i j := (in5 m c (ix2 i j)).toReal
  W2 i j := (in6 m c (ix2 i j)).toReal
  Wb i j := (in7 m c (ix2 i j)).toReal
  Wf i j := (in8 m c (ix2 i j)).toReal
  De i := (in9 m c (ix1 i)).toReal

/-- Under the precondition the kernel's arguments are the real arguments. -/
theorem ker_reads (hpre : Cert.Pre_KernelIdeal_finite_args (hPre_finite_args := preFacts) m) (ρ : Dev Cert.KernelIdeal.nD → PrngReg) :
    Ker.Reads (prm m c) (Cert.KernelIdeal.Frm.W0 m ρ c) := by
  obtain ⟨h0, h1, h2, h3, h4, h5, h6, h7, h8, h9⟩ := hpre c
  exact ⟨fun i j k => real_of_test (in0 m c) _ h0 (ix3 i j k),
    fun i j => real_of_test (in1 m c) _ h1 (ix2 i j),
    fun i j => real_of_test (in2 m c) _ h2 (ix2 i j),
    fun i j => real_of_test (in3 m c) _ h3 (ix2 i j),
    fun i j => real_of_test (in4 m c) _ h4 (ix2 i j),
    fun i j => real_of_test (in5 m c) _ h5 (ix2 i j),
    fun i j => real_of_test (in6 m c) _ h6 (ix2 i j),
    fun i j => real_of_test (in7 m c) _ h7 (ix2 i j),
    fun i j => real_of_test (in8 m c) _ h8 (ix2 i j),
    fun i => real_of_test (in9 m c) _ h9 (ix1 i)⟩

/-- The reference's arguments are the same real arguments. -/
theorem ref_reads (ρ : Dev Cert.KernelIdeal.nD → PrngReg) (R : Ker.Reads (prm m c) (Cert.KernelIdeal.Frm.W0 m ρ c))
    (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5) ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6) ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7) ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8) ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Ref.Reads (prm m c) (fun b => m' ((c : Dev Cert.ReferenceIdeal.nD), b)) := by
  obtain ⟨h0, h1, h2, h3, h4, h5, h6, h7, h8, h9⟩ := h
  exact ⟨fun i j k => (congrFun h0 (ix3 i j k)).trans (R.a0 i j k),
    fun i j => (congrFun h1 (ix2 i j)).trans (R.a1 i j),
    fun i j => (congrFun h2 (ix2 i j)).trans (R.a2 i j),
    fun i j => (congrFun h3 (ix2 i j)).trans (R.a3 i j),
    fun i j => (congrFun h4 (ix2 i j)).trans (R.a4 i j),
    fun i j => (congrFun h5 (ix2 i j)).trans (R.a5 i j),
    fun i j => (congrFun h6 (ix2 i j)).trans (R.a6 i j),
    fun i j => (congrFun h7 (ix2 i j)).trans (R.a7 i j),
    fun i j => (congrFun h8 (ix2 i j)).trans (R.a8 i j),
    fun i => (congrFun h9 (ix1 i)).trans (R.a9 i)⟩

end

/-- Rank-three indices are their coordinates. -/
theorem idx3_eta (j : Cert.ReferenceIdeal.S2x1024x1024.Idx) : j = ix3 (j 0) (j 1) (j 2) := by
  funext a
  fin_cases a <;> rfl

/-- From finite arguments the idealized kernel and the reference end with the same result. -/
theorem algebraic : Cert.algebraic_KernelIdeal_ReferenceIdeal_pre_finite_args (hKernelIdeal := Cert.KernelIdeal.Gen.facts)
    (hReferenceIdeal := Cert.ReferenceIdeal.Gen.facts) (hPre_finite_args := preFacts) := by
  intro m g m' g' hpre hagree
  refine ⟨fun c => (Cert.KernelIdeal.Frm.dat3 (Cert.KernelIdeal.Frm.V5 m g) c).arrAt 2 Cert.KernelIdeal.cfg3.N, ?_, ?_⟩
  · exact (θ_run Cert.KernelIdeal.defs _ _).mono (fun r h c => h.1 c) (Cert.KernelIdeal.Frm.run_main m g)
  · refine (θ_run Cert.ReferenceIdeal.defs _ _).mono (fun r h c => ⟨(h c).1.trans ?_, (h c).2⟩) (Cert.ReferenceIdeal.Frm.run_main m' g')
    have R := ker_reads m c hpre g
    have R' := ref_reads m c g R m' (hagree c)
    refine Eq.trans ?_ (Ker.ker_val m g c R).symm
    funext j
    rw [idx3_eta j]
    exact Ref.ref_val (prm m c) m' c R' _ _ _

end Cert.Val
-- ==== Proof.lean ====
module

public import proofs.«01_k».proof.Defs
public import proofs.«01_k».proof.Proof.K.Run
public import proofs.«01_k».proof.Proof.KI.Run
public import proofs.«01_k».proof.Proof.RI.Frm
public import proofs.«01_k».proof.Proof.V.Alg

@[expose] public section

noncomputable section

namespace Cert.Proof

open Idealize.ShloMosaic Idealize.ShloMosaic.TcCoe Idealize.SL.Sem

/-- The kernel's frame. -/
theorem quiescent_Kernel : Cert.quiescent_Kernel := fun m g _ => Cert.Kernel.Frm.frame m g

/-- The idealized kernel's frame. -/
theorem quiescent_KernelIdeal : Cert.quiescent_KernelIdeal := fun m g _ => Cert.KernelIdeal.Frm.frame m g

/-- The idealized kernel's frame from finite arguments. -/
theorem quiescent_KernelIdeal_pre :
    Cert.quiescent_KernelIdeal_pre_finite_args (hPre_finite_args := Cert.Val.preFacts) :=
  fun m g _ => Cert.KernelIdeal.Frm.frame m g

/-- The reference's frame: its signature has no semaphore, so every counter is zero. -/
theorem quiescent_ReferenceIdeal : Cert.quiescent_ReferenceIdeal := fun m g _ =>
  (θ_run Cert.ReferenceIdeal.defs _ _).mono
    (fun r h => ⟨fun c => (h c).2, sem_eq_zero_of_no_sems (by decide) r.2⟩) (Cert.ReferenceIdeal.Frm.run_main m g)

/-- The reference's frame from finite arguments. -/
theorem quiescent_ReferenceIdeal_pre :
    Cert.quiescent_ReferenceIdeal_pre_finite_args (hPre_finite_args := Cert.Val.preFacts) :=
  fun m g _ => quiescent_ReferenceIdeal m g trivial

/-- The two named constants are what the ledger says. -/
theorem preserves : Cert.preserves_Kernel_KernelIdeal :=
  ⟨IdealRules.named_const.statement Cert.KernelIdeal.κ "unset" .f32 0x7149F2CA#32 ⊤ rfl,
   IdealRules.named_const.statement Cert.KernelIdeal.κ "masked" .f32 0xF149F2CA#32 ⊥ rfl⟩

/-- The certificate's claim. -/
theorem claim : Cert.Claim :=
  ⟨Cert.Kernel.Gen.facts, Cert.KernelIdeal.Gen.facts, Cert.ReferenceIdeal.Gen.facts, Cert.Val.preFacts,
   quiescent_Kernel, quiescent_KernelIdeal, quiescent_KernelIdeal_pre, quiescent_ReferenceIdeal,
   quiescent_ReferenceIdeal_pre, preserves, Cert.Val.algebraic⟩

end Cert.Proof

end
